-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_nonneg [hPre_scales_nonneg : Cert.Pre_scales_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_scales_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_nonneg [hPre_scales_nonneg : Cert.Pre_scales_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnReferenceIdeal (m : (ℓ : Loc Cert.LnReferenceIdeal.nD Cert.LnReferenceIdeal.τ Cert.LnReferenceIdeal.sig) → Buf (Elt Ideal) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherReferenceIdeal (m : (ℓ : Loc Cert.GatherReferenceIdeal.nD Cert.GatherReferenceIdeal.τ Cert.GatherReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_scales_nonneg [hKernelIdeal : Cert.KernelIdeal.Facts] [hPre_scales_nonneg : Cert.Pre_scales_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_scales_nonneg [hReferenceIdeal : Cert.ReferenceIdeal.Facts] [hPre_scales_nonneg : Cert.Pre_scales_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2))
      ∧ r.2.sem = fun _ => 0)

def quiescent_LnReferenceIdeal [hLnReferenceIdeal : Cert.LnReferenceIdeal.Facts] : Prop :=
  ∀ (m : (ℓ : Loc Cert.LnReferenceIdeal.nD Cert.LnReferenceIdeal.τ Cert.LnReferenceIdeal.sig) → Buf (Elt Ideal) ℓ) (g : Dev Cert.LnReferenceIdeal.nD → PrngReg), Pre_LnReferenceIdeal m →
    θ_run (Cert.LnReferenceIdeal.defs (F := Ideal)) (onTc (τ := Cert.LnReferenceIdeal.τ) (Cert.LnReferenceIdeal.main (F := Ideal))) ⟨m, fun _ => 0, g⟩ (fun r => (∀ c : Dev Cert.LnReferenceIdeal.nD,
      r.2.mem ((c.tc : Thread Cert.LnReferenceIdeal.nD Cert.LnReferenceIdeal.τ).loc Cert.LnReferenceIdeal.main_arg0) = m ((c.tc : Thread Cert.LnReferenceIdeal.nD Cert.LnReferenceIdeal.τ).loc Cert.LnReferenceIdeal.main_arg0)
      ∧ r.2.mem ((c.tc : Thread Cert.LnReferenceIdeal.nD Cert.LnReferenceIdeal.τ).loc Cert.LnReferenceIdeal.main_arg1) = m ((c.tc : Thread Cert.LnReferenceIdeal.nD Cert.LnReferenceIdeal.τ).loc Cert.LnReferenceIdeal.main_arg1)
      ∧ r.2.mem ((c.tc : Thread Cert.LnReferenceIdeal.nD Cert.LnReferenceIdeal.τ).loc Cert.LnReferenceIdeal.main_arg2) = m ((c.tc : Thread Cert.LnReferenceIdeal.nD Cert.LnReferenceIdeal.τ).loc Cert.LnReferenceIdeal.main_arg2))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def preserves_Kernel_KernelIdeal : Prop :=
  True

def algebraic_KernelIdeal_ReferenceIdeal_pre_scales_nonneg [hKernelIdeal : Cert.KernelIdeal.Facts] [hReferenceIdeal : Cert.ReferenceIdeal.Facts] [hPre_scales_nonneg : Cert.Pre_scales_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Ln_LnIdeal : Prop :=
  True

def algebraic_LnIdeal_LnReferenceIdeal [hLnIdeal : Cert.LnIdeal.Facts] [hLnReferenceIdeal : Cert.LnReferenceIdeal.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnReferenceIdeal.nD Cert.LnReferenceIdeal.τ Cert.LnReferenceIdeal.sig) → Buf (Elt Ideal) ℓ) (g' : Dev Cert.LnReferenceIdeal.nD → PrngReg), Pre_LnIdeal m →
    (∀ c : Dev Cert.LnIdeal.nD,
      m' ((c.tc : Thread Cert.LnReferenceIdeal.nD Cert.LnReferenceIdeal.τ).loc Cert.LnReferenceIdeal.main_arg0) = m ((c.tc : Thread Cert.LnIdeal.nD Cert.LnIdeal.τ).loc Cert.LnIdeal.main_arg0)
      ∧ m' ((c.tc : Thread Cert.LnReferenceIdeal.nD Cert.LnReferenceIdeal.τ).loc Cert.LnReferenceIdeal.main_arg1) = m ((c.tc : Thread Cert.LnIdeal.nD Cert.LnIdeal.τ).loc Cert.LnIdeal.main_arg1)
      ∧ m' ((c.tc : Thread Cert.LnReferenceIdeal.nD Cert.LnReferenceIdeal.τ).loc Cert.LnReferenceIdeal.main_arg2) = m ((c.tc : Thread Cert.LnIdeal.nD Cert.LnIdeal.τ).loc Cert.LnIdeal.main_arg2)) →
    ∃ (v0 : (c : Dev Cert.LnIdeal.nD) → Buf (Elt Ideal) ((c.tc : Thread Cert.LnIdeal.nD Cert.LnIdeal.τ).loc Cert.LnIdeal.main_v2_0)) (v1 : (c : Dev Cert.LnIdeal.nD) → Buf (Elt Ideal) ((c.tc : Thread Cert.LnIdeal.nD Cert.LnIdeal.τ).loc Cert.LnIdeal.main_v2_1)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v2_0) = v0 c
          ∧ r.2.mem ((c.tc : Thread Cert.LnIdeal.nD Cert.LnIdeal.τ).loc Cert.LnIdeal.main_v2_1) = v1 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2))
      ∧ θ_run (Cert.LnReferenceIdeal.defs (F := Ideal)) (onTc (τ := Cert.LnReferenceIdeal.τ) (Cert.LnReferenceIdeal.main (F := Ideal))) ⟨m', fun _ => 0, g'⟩ (fun r => ∀ c : Dev Cert.LnReferenceIdeal.nD,
          r.2.mem ((c.tc : Thread Cert.LnReferenceIdeal.nD Cert.LnReferenceIdeal.τ).loc Cert.LnReferenceIdeal.main_v0_0) = v0 c
          ∧ r.2.mem ((c.tc : Thread Cert.LnReferenceIdeal.nD Cert.LnReferenceIdeal.τ).loc Cert.LnReferenceIdeal.main_v0_1) = v1 c
          ∧ r.2.mem ((c.tc : Thread Cert.LnReferenceIdeal.nD Cert.LnReferenceIdeal.τ).loc Cert.LnReferenceIdeal.main_arg0) = m' ((c.tc : Thread Cert.LnReferenceIdeal.nD Cert.LnReferenceIdeal.τ).loc Cert.LnReferenceIdeal.main_arg0)
          ∧ r.2.mem ((c.tc : Thread Cert.LnReferenceIdeal.nD Cert.LnReferenceIdeal.τ).loc Cert.LnReferenceIdeal.main_arg1) = m' ((c.tc : Thread Cert.LnReferenceIdeal.nD Cert.LnReferenceIdeal.τ).loc Cert.LnReferenceIdeal.main_arg1)
          ∧ r.2.mem ((c.tc : Thread Cert.LnReferenceIdeal.nD Cert.LnReferenceIdeal.τ).loc Cert.LnReferenceIdeal.main_arg2) = m' ((c.tc : Thread Cert.LnReferenceIdeal.nD Cert.LnReferenceIdeal.τ).loc Cert.LnReferenceIdeal.main_arg2))

def preserves_Gather_GatherIdeal : Prop :=
  True

def algebraic_GatherIdeal_GatherReferenceIdeal [hGatherIdeal : Cert.GatherIdeal.Facts] [hGatherReferenceIdeal : Cert.GatherReferenceIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m' ((c.tc : Thread Cert.GatherReferenceIdeal.nD Cert.GatherReferenceIdeal.τ).loc Cert.GatherReferenceIdeal.main_arg0) = m ((c.tc : Thread Cert.GatherIdeal.nD Cert.GatherIdeal.τ).loc Cert.GatherIdeal.main_arg0)
      ∧ m' ((c.tc : Thread Cert.GatherReferenceIdeal.nD Cert.GatherReferenceIdeal.τ).loc Cert.GatherReferenceIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v0) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherReferenceIdeal.defs (F := Ideal)) (onTc (τ := Cert.GatherReferenceIdeal.τ) (Cert.GatherReferenceIdeal.main (F := Ideal))) ⟨m', fun _ => 0, g'⟩ (fun r => ∀ c : Dev Cert.GatherReferenceIdeal.nD,
          r.2.mem ((c.tc : Thread Cert.GatherReferenceIdeal.nD Cert.GatherReferenceIdeal.τ).loc Cert.GatherReferenceIdeal.main_v1) = v0 c
          ∧ r.2.mem ((c.tc : Thread Cert.GatherReferenceIdeal.nD Cert.GatherReferenceIdeal.τ).loc Cert.GatherReferenceIdeal.main_arg0) = m' ((c.tc : Thread Cert.GatherReferenceIdeal.nD Cert.GatherReferenceIdeal.τ).loc Cert.GatherReferenceIdeal.main_arg0)
          ∧ r.2.mem ((c.tc : Thread Cert.GatherReferenceIdeal.nD Cert.GatherReferenceIdeal.τ).loc Cert.GatherReferenceIdeal.main_arg1) = m' ((c.tc : Thread Cert.GatherReferenceIdeal.nD Cert.GatherReferenceIdeal.τ).loc Cert.GatherReferenceIdeal.main_arg1))

def Claim : Prop :=
  ∃ (hKernel : Cert.Kernel.Facts) (hKernelIdeal : Cert.KernelIdeal.Facts) (hReferenceIdeal : Cert.ReferenceIdeal.Facts) (hLn : Cert.Ln.Facts) (hLnIdeal : Cert.LnIdeal.Facts) (hLnReferenceIdeal : Cert.LnReferenceIdeal.Facts) (hGather : Cert.Gather.Facts) (hGatherIdeal : Cert.GatherIdeal.Facts) (hGatherReferenceIdeal : Cert.GatherReferenceIdeal.Facts) (hPre_scales_nonneg : Cert.Pre_scales_nonneg.Facts),
    quiescent_Kernel (hKernel := hKernel)
    ∧ quiescent_KernelIdeal (hKernelIdeal := hKernelIdeal)
    ∧ quiescent_KernelIdeal_pre_scales_nonneg (hKernelIdeal := hKernelIdeal) (hPre_scales_nonneg := hPre_scales_nonneg)
    ∧ quiescent_ReferenceIdeal (hReferenceIdeal := hReferenceIdeal)
    ∧ quiescent_ReferenceIdeal_pre_scales_nonneg (hReferenceIdeal := hReferenceIdeal) (hPre_scales_nonneg := hPre_scales_nonneg)
    ∧ quiescent_Ln (hLn := hLn)
    ∧ quiescent_LnIdeal (hLnIdeal := hLnIdeal)
    ∧ quiescent_LnReferenceIdeal (hLnReferenceIdeal := hLnReferenceIdeal)
    ∧ quiescent_Gather (hGather := hGather)
    ∧ quiescent_GatherIdeal (hGatherIdeal := hGatherIdeal)
    ∧ quiescent_GatherReferenceIdeal (hGatherReferenceIdeal := hGatherReferenceIdeal)
    ∧ preserves_Kernel_KernelIdeal
    ∧ algebraic_KernelIdeal_ReferenceIdeal_pre_scales_nonneg (hKernelIdeal := hKernelIdeal) (hReferenceIdeal := hReferenceIdeal) (hPre_scales_nonneg := hPre_scales_nonneg)
    ∧ preserves_Ln_LnIdeal
    ∧ algebraic_LnIdeal_LnReferenceIdeal (hLnIdeal := hLnIdeal) (hLnReferenceIdeal := hLnReferenceIdeal)
    ∧ preserves_Gather_GatherIdeal
    ∧ algebraic_GatherIdeal_GatherReferenceIdeal (hGatherIdeal := hGatherIdeal) (hGatherReferenceIdeal := hGatherReferenceIdeal)
-- ==== Pre_scales_nonneg.lean ====
abbrev S1280x81920 : Shape := ⟨2, ![1280, 81920]⟩
abbrev S640x128 : Shape := ⟨2, ![640, 128]⟩
abbrev S20x32x64 : Shape := ⟨3, ![20, 32, 64]⟩
abbrev S1280x4608 : Shape := ⟨2, ![1280, 4608]⟩
abbrev S40x128 : Shape := ⟨2, ![40, 128]⟩
abbrev S8x128 : Shape := ⟨2, ![8, 128]⟩
abbrev S_ : Shape := ⟨0, ![]⟩

class Facts : Prop where
  bcast_S_S40x128 : S_.BroadcastsInDim S40x128 (![] : Fin 0 → Fin S40x128.rank)

variable [Facts]

def fn {F : FTy → Type} [FloatOps F] (main_arg0 : FVec F S1280x81920 .fp8e4m3) (main_arg1 : FVec F S640x128 .f32) (main_arg2 : FVec F S20x32x64 .f32) (main_arg3 : FVec F S1280x4608 .fp8e4m3) (main_arg4 : FVec F S40x128 .f32) (main_arg5 : IVec S40x128 32) (main_arg6 : IVec S8x128 32) : IVec S40x128 1 :=
  let main_cst : FVec F S_ .f32 := constant S_ .f32 0x00000000#32
  let main_v0 : FVec F S40x128 .f32 := broadcastInDim S40x128 ![] bcast_S_S40x128 main_cst
  let main_v1 : IVec S40x128 1 := cmpf .oge main_arg4 main_v0
  main_v1
-- ==== Kernel.lean ====
abbrev S1280x81920 : Shape := ⟨2, ![1280, 81920]⟩
abbrev S640x128 : Shape := ⟨2, ![640, 128]⟩
abbrev S20x32x64 : Shape := ⟨3, ![20, 32, 64]⟩
abbrev S1280x4608 : Shape := ⟨2, ![1280, 4608]⟩
abbrev S40x128 : Shape := ⟨2, ![40, 128]⟩
abbrev S8x128 : Shape := ⟨2, ![8, 128]⟩
abbrev S32x20x16x64x352 : Shape := ⟨5, ![32, 20, 16, 64, 352]⟩
abbrev S32x20x16x352 : Shape := ⟨4, ![32, 20, 16, 352]⟩
abbrev S1280x256 : Shape := ⟨2, ![1280, 256]⟩
abbrev S1x4x16x64x352 : Shape := ⟨5, ![1, 4, 16, 64, 352]⟩
abbrev S1x4x16x352 : Shape := ⟨4, ![1, 4, 16, 352]⟩
abbrev S256x1280 : Shape := ⟨2, ![256, 1280]⟩
abbrev S256x128 : Shape := ⟨2, ![256, 128]⟩
abbrev S4x36x64x128 : Shape := ⟨4, ![4, 36, 64, 128]⟩
abbrev S4x320x128 : Shape := ⟨3, ![4, 320, 128]⟩
abbrev S4x40x128 : Shape := ⟨3, ![4, 40, 128]⟩
abbrev S1x128 : Shape := ⟨2, ![1, 128]⟩
abbrev S128x128 : Shape := ⟨2, ![128, 128]⟩
abbrev S256x256 : Shape := ⟨2, ![256, 256]⟩
abbrev S64x128 : Shape := ⟨2, ![64, 128]⟩
abbrev S1x1x64x128 : Shape := ⟨4, ![1, 1, 64, 128]⟩
abbrev S8x8x128 : Shape := ⟨3, ![8, 8, 128]⟩
abbrev S1x8x128 : Shape := ⟨3, ![1, 8, 128]⟩
abbrev S4x128 : Shape := ⟨2, ![4, 128]⟩
abbrev S8x128x1 : Shape := ⟨3, ![8, 128, 1]⟩
abbrev S1x1x8x128 : Shape := ⟨4, ![1, 1, 8, 128]⟩
abbrev S8x96 : Shape := ⟨2, ![8, 96]⟩
abbrev S1x1x8x96 : Shape := ⟨4, ![1, 1, 8, 96]⟩
abbrev S16x128 : Shape := ⟨2, ![16, 128]⟩
abbrev S1x1x128 : Shape := ⟨3, ![1, 1, 128]⟩
abbrev S16x128x1 : Shape := ⟨3, ![16, 128, 1]⟩
abbrev S1x1x1x64x128 : Shape := ⟨5, ![1, 1, 1, 64, 128]⟩
abbrev S64x96 : Shape := ⟨2, ![64, 96]⟩
abbrev S1x1x1x64x96 : Shape := ⟨5, ![1, 1, 1, 64, 96]⟩
abbrev S1x1x64 : Shape := ⟨3, ![1, 1, 64]⟩
abbrev S1x64 : Shape := ⟨2, ![1, 64]⟩
abbrev S128x64 : Shape := ⟨2, ![128, 64]⟩

abbrev nBuf : Space → Nat
  | .hbm => 11
  | .vmem => 24
  | .smem => 0
  | _ => 0

abbrev bufTy : (tb : Table) → Fin (tcTables nBuf tb) → BufTy
  | .hbm, ⟨0, _⟩ => ⟨S1280x81920, .fp8e4m3⟩
  | .hbm, ⟨1, _⟩ => ⟨S640x128, .f32⟩
  | .hbm, ⟨2, _⟩ => ⟨S20x32x64, .f32⟩
  | .hbm, ⟨3, _⟩ => ⟨S1280x4608, .fp8e4m3⟩
  | .hbm, ⟨4, _⟩ => ⟨S40x128, .f32⟩
  | .hbm, ⟨5, _⟩ => ⟨S40x128, .i32⟩
  | .hbm, ⟨6, _⟩ => ⟨S8x128, .i32⟩
  | .hbm, ⟨7, _⟩ => ⟨S32x20x16x64x352, .i8⟩
  | .hbm, ⟨8, _⟩ => ⟨S32x20x16x352, .f32⟩
  | .hbm, ⟨9, _⟩ => ⟨S32x20x16x64x352, .i8⟩
  | .hbm, ⟨10, _⟩ => ⟨S32x20x16x352, .f32⟩
  | .local _ .vmem, ⟨0, _⟩ => ⟨S1280x256, .fp8e4m3⟩
  | .local _ .vmem, ⟨1, _⟩ => ⟨S1280x256, .fp8e4m3⟩
  | .local _ .vmem, ⟨2, _⟩ => ⟨S1280x256, .fp8e4m3⟩
  | .local _ .vmem, ⟨3, _⟩ => ⟨S1280x256, .fp8e4m3⟩
  | .local _ .vmem, ⟨4, _⟩ => ⟨S640x128, .f32⟩
  | .local _ .vmem, ⟨5, _⟩ => ⟨S20x32x64, .f32⟩
  | .local _ .vmem, ⟨6, _⟩ => ⟨S1280x4608, .fp8e4m3⟩
  | .local _ .vmem, ⟨7, _⟩ => ⟨S40x128, .f32⟩
  | .local _ .vmem, ⟨8, _⟩ => ⟨S40x128, .i32⟩
  | .local _ .vmem, ⟨9, _⟩ => ⟨S8x128, .i32⟩
  | .local _ .vmem, ⟨10, _⟩ => ⟨S1x4x16x64x352, .i8⟩
  | .local _ .vmem, ⟨11, _⟩ => ⟨S1x4x16x64x352, .i8⟩
  | .local _ .vmem, ⟨12, _⟩ => ⟨S1x4x16x352, .f32⟩
  | .local _ .vmem, ⟨13, _⟩ => ⟨S1x4x16x352, .f32⟩
  | .local _ .vmem, ⟨14, _⟩ => ⟨S1x4x16x64x352, .i8⟩
  | .local _ .vmem, ⟨15, _⟩ => ⟨S1x4x16x64x352, .i8⟩
  | .local _ .vmem, ⟨16, _⟩ => ⟨S1x4x16x352, .f32⟩
  | .local _ .vmem, ⟨17, _⟩ => ⟨S1x4x16x352, .f32⟩
  | .local _ .vmem, ⟨18, _⟩ => ⟨S256x1280, .fp8e4m3⟩
  | .local _ .vmem, ⟨19, _⟩ => ⟨S256x128, .f32⟩
  | .local _ .vmem, ⟨20, _⟩ => ⟨S256x128, .f32⟩
  | .local _ .vmem, ⟨21, _⟩ => ⟨S4x36x64x128, .f32⟩
  | .local _ .vmem, ⟨22, _⟩ => ⟨S4x320x128, .f32⟩
  | .local _ .vmem, ⟨23, _⟩ => ⟨S4x40x128, .f32⟩
  | _, _ => ⟨S1280x81920, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![32, 5], ![false, false]⟩

def k0_off1 (i : grid0.Coords) (c0_i32_9 : BitVec 32) (c0_i32_11 : BitVec 32) : Fin 2 → Nat :=
  let arg0 : BitVec 32 := BitVec.ofNat 32 (i 0).val
  let c2_i32 : BitVec 32 := 2#32
  let v13 : BitVec 32 := Scalar.muli arg0 c2_i32
  let v14 : BitVec 32 := Scalar.addi v13 c0_i32_9
  let c10_i32 : BitVec 32 := 10#32
  let v15 : BitVec 32 := Scalar.muli v14 c10_i32
  let arg1 : BitVec 32 := BitVec.ofNat 32 (i 1).val
  let c2_i32_10 : BitVec 32 := 2#32
  let v16 : BitVec 32 := Scalar.muli arg1 c2_i32_10
  let v17 : BitVec 32 := Scalar.addi v15 v16
  let v18 : BitVec 32 := Scalar.addi v17 c0_i32_11
  let v19 : Index := Scalar.indexCast v18
  let c0_12 : Index := 0#32
  ![v19.toNat, 0]
def k0_off2 (i : grid0.Coords) (c0_i32_5599 : BitVec 32) : Fin 3 → Nat :=
  let arg1 : BitVec 32 := BitVec.ofNat 32 (i 1).val
  let c4_i32_5598 : BitVec 32 := 4#32
  let v9438 : BitVec 32 := Scalar.muli arg1 c4_i32_5598
  let v9439 : BitVec 32 := Scalar.addi v9438 c0_i32_5599
  let v9440 : Index := Scalar.indexCast v9439
  let arg0 : BitVec 32 := BitVec.ofNat 32 (i 0).val
  let v9441 : Index := Scalar.indexCast arg0
  let c0_5600 : Index := 0#32
  ![v9440.toNat, v9441.toNat, 0]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c5_i32 : BitVec 32 := 5#32
  let v1 : BitVec 32 := Scalar.muli v0 c5_i32
  let v2 : BitVec 32 := Scalar.addi v1 arg1
  let c0_i32 : BitVec 32 := 0#32
  let c0_i32_0 : BitVec 32 := 0#32
  ![c0_i32.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c5_i32 : BitVec 32 := 5#32
  let v2 : BitVec 32 := Scalar.muli v1 c5_i32
  let v3 : BitVec 32 := Scalar.addi v2 arg1
  let c0_i32 : BitVec 32 := 0#32
  let c0_i32_0 : BitVec 32 := 0#32
  ![c0_i32.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1280x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1280x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S640x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S20x32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1280x4608 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S40x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S40x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4x16x64x352 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x16x352 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x16x64x352 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x16x352 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S1280x81920 : Shape := ⟨2, ![1280, 81920]⟩
abbrev S640x128 : Shape := ⟨2, ![640, 128]⟩
abbrev S20x32x64 : Shape := ⟨3, ![20, 32, 64]⟩
abbrev S1280x4608 : Shape := ⟨2, ![1280, 4608]⟩
abbrev S40x128 : Shape := ⟨2, ![40, 128]⟩
abbrev S8x128 : Shape := ⟨2, ![8, 128]⟩
abbrev S32x20x16x64x352 : Shape := ⟨5, ![32, 20, 16, 64, 352]⟩
abbrev S32x20x16x352 : Shape := ⟨4, ![32, 20, 16, 352]⟩
abbrev S81920x1280 : Shape := ⟨2, ![81920, 1280]⟩
abbrev S81920x4608 : Shape := ⟨2, ![81920, 4608]⟩
abbrev S640x128x36x128 : Shape := ⟨4, ![640, 128, 36, 128]⟩
abbrev S1x128 : Shape := ⟨2, ![1, 128]⟩
abbrev S4x128 : Shape := ⟨2, ![4, 128]⟩
abbrev S36x128 : Shape := ⟨2, ![36, 128]⟩
abbrev S1x1x36x128 : Shape := ⟨4, ![1, 1, 36, 128]⟩
abbrev S640x128x1x1 : Shape := ⟨4, ![640, 128, 1, 1]⟩
abbrev S32x2x20x64x36x128 : Shape := ⟨6, ![32, 2, 20, 64, 36, 128]⟩
abbrev S32x20x64 : Shape := ⟨3, ![32, 20, 64]⟩
abbrev S2x128 : Shape := ⟨2, ![2, 128]⟩
abbrev S32x1x20x64x36x128 : Shape := ⟨6, ![32, 1, 20, 64, 36, 128]⟩
abbrev S32x20x64x36x128 : Shape := ⟨5, ![32, 20, 64, 36, 128]⟩
abbrev S32x20x64x1x1 : Shape := ⟨5, ![32, 20, 64, 1, 1]⟩
abbrev S32x20x36x128 : Shape := ⟨4, ![32, 20, 36, 128]⟩
abbrev S32x20x1x36x128 : Shape := ⟨5, ![32, 20, 1, 36, 128]⟩
abbrev S1x1x1x36x128 : Shape := ⟨5, ![1, 1, 1, 36, 128]⟩
abbrev S32x20x64x32x128 : Shape := ⟨5, ![32, 20, 64, 32, 128]⟩
abbrev S32x20x64x16x2x128 : Shape := ⟨6, ![32, 20, 64, 16, 2, 128]⟩
abbrev S1x1x1x1x2x128 : Shape := ⟨6, ![1, 1, 1, 1, 2, 128]⟩
abbrev S32x20x64x16x256 : Shape := ⟨5, ![32, 20, 64, 16, 256]⟩
abbrev S32x20x64x16x1x128 : Shape := ⟨6, ![32, 20, 64, 16, 1, 128]⟩
abbrev S32x20x64x16x128 : Shape := ⟨5, ![32, 20, 64, 16, 128]⟩
abbrev S32x20x64x4x128 : Shape := ⟨5, ![32, 20, 64, 4, 128]⟩
abbrev S163840x128 : Shape := ⟨2, ![163840, 128]⟩
abbrev S163840x128x1 : Shape := ⟨3, ![163840, 128, 1]⟩
abbrev S32x20x64x4x1x128 : Shape := ⟨6, ![32, 20, 64, 4, 1, 128]⟩
abbrev S32x20x64x4x4x128 : Shape := ⟨6, ![32, 20, 64, 4, 4, 128]⟩
abbrev S655360x128 : Shape := ⟨2, ![655360, 128]⟩
abbrev S655360x128x1 : Shape := ⟨3, ![655360, 128, 1]⟩
abbrev S1x1x1x1x128 : Shape := ⟨5, ![1, 1, 1, 1, 128]⟩
abbrev S32x20x64x16x96 : Shape := ⟨5, ![32, 20, 64, 16, 96]⟩
abbrev S32x20x16x64x256 : Shape := ⟨5, ![32, 20, 16, 64, 256]⟩
abbrev S32x20x16x64x96 : Shape := ⟨5, ![32, 20, 16, 64, 96]⟩
abbrev S32x20x32x128 : Shape := ⟨4, ![32, 20, 32, 128]⟩
abbrev S32x20x16x2x128 : Shape := ⟨5, ![32, 20, 16, 2, 128]⟩
abbrev S1x1x1x2x128 : Shape := ⟨5, ![1, 1, 1, 2, 128]⟩
abbrev S32x20x16x256 : Shape := ⟨4, ![32, 20, 16, 256]⟩
abbrev S32x20x16x1x128 : Shape := ⟨5, ![32, 20, 16, 1, 128]⟩
abbrev S32x20x16x128 : Shape := ⟨4, ![32, 20, 16, 128]⟩
abbrev S32x20x4x128 : Shape := ⟨4, ![32, 20, 4, 128]⟩
abbrev S2560x128 : Shape := ⟨2, ![2560, 128]⟩
abbrev S2560x128x1 : Shape := ⟨3, ![2560, 128, 1]⟩
abbrev S32x20x4x1x128 : Shape := ⟨5, ![32, 20, 4, 1, 128]⟩
abbrev S32x20x4x4x128 : Shape := ⟨5, ![32, 20, 4, 4, 128]⟩
abbrev S10240x128 : Shape := ⟨2, ![10240, 128]⟩
abbrev S10240x128x1 : Shape := ⟨3, ![10240, 128, 1]⟩
abbrev S1x1x1x128 : Shape := ⟨4, ![1, 1, 1, 128]⟩
abbrev S32x20x16x96 : Shape := ⟨4, ![32, 20, 16, 96]⟩

abbrev nBuf : Space → Nat
  | .hbm => 11
  | .vmem => 11
  | .smem => 0
  | _ => 0

abbrev bufTy : (tb : Table) → Fin (tcTables nBuf tb) → BufTy
  | .hbm, ⟨0, _⟩ => ⟨S1280x81920, .fp8e4m3⟩
  | .hbm, ⟨1, _⟩ => ⟨S640x128, .f32⟩
  | .hbm, ⟨2, _⟩ => ⟨S20x32x64, .f32⟩
  | .hbm, ⟨3, _⟩ => ⟨S1280x4608, .fp8e4m3⟩
  | .hbm, ⟨4, _⟩ => ⟨S40x128, .f32⟩
  | .hbm, ⟨5, _⟩ => ⟨S40x128, .i32⟩
  | .hbm, ⟨6, _⟩ => ⟨S8x128, .i32⟩
  | .hbm, ⟨7, _⟩ => ⟨S32x20x16x64x352, .i8⟩
  | .hbm, ⟨8, _⟩ => ⟨S32x20x16x352, .f32⟩
  | .hbm, ⟨9, _⟩ => ⟨S32x20x16x64x352, .i8⟩
  | .hbm, ⟨10, _⟩ => ⟨S32x20x16x352, .f32⟩
  | .local _ .vmem, ⟨0, _⟩ => ⟨S1280x81920, .fp8e4m3⟩
  | .local _ .vmem, ⟨1, _⟩ => ⟨S640x128, .f32⟩
  | .local _ .vmem, ⟨2, _⟩ => ⟨S20x32x64, .f32⟩
  | .local _ .vmem, ⟨3, _⟩ => ⟨S1280x4608, .fp8e4m3⟩
  | .local _ .vmem, ⟨4, _⟩ => ⟨S40x128, .f32⟩
  | .local _ .vmem, ⟨5, _⟩ => ⟨S40x128, .i32⟩
  | .local _ .vmem, ⟨6, _⟩ => ⟨S8x128, .i32⟩
  | .local _ .vmem, ⟨7, _⟩ => ⟨S32x20x16x64x352, .i8⟩
  | .local _ .vmem, ⟨8, _⟩ => ⟨S32x20x16x352, .f32⟩
  | .local _ .vmem, ⟨9, _⟩ => ⟨S32x20x16x64x352, .i8⟩
  | .local _ .vmem, ⟨10, _⟩ => ⟨S32x20x16x352, .f32⟩
  | _, _ => ⟨S1280x81920, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1280x81920 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S640x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20x32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280x4608 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S40x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S40x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x20x16x64x352 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x20x16x352 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x20x16x64x352 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x20x16x352 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Ln.lean ====
abbrev S3x1500x1280 : Shape := ⟨3, ![3, 1500, 1280]⟩
abbrev S1280 : Shape := ⟨1, ![1280]⟩
abbrev S1x1280 : Shape := ⟨2, ![1, 1280]⟩
abbrev S3x1500x1 : Shape := ⟨3, ![3, 1500, 1]⟩
abbrev S4608x1280 : Shape := ⟨2, ![4608, 1280]⟩
abbrev S1x1500x1280 : Shape := ⟨3, ![1, 1500, 1280]⟩
abbrev S1x1500x1 : Shape := ⟨3, ![1, 1500, 1]⟩
abbrev S1536x1280 : Shape := ⟨2, ![1536, 1280]⟩
abbrev S1500x1280 : Shape := ⟨2, ![1500, 1280]⟩
abbrev S1500 : Shape := ⟨1, ![1500]⟩
abbrev S1500x1 : Shape := ⟨2, ![1500, 1]⟩

abbrev nBuf : Space → Nat
  | .hbm => 8
  | .vmem => 10
  | .smem => 0
  | _ => 0

abbrev bufTy : (tb : Table) → Fin (tcTables nBuf tb) → BufTy
  | .hbm, ⟨0, _⟩ => ⟨S3x1500x1280, .bf16⟩
  | .hbm, ⟨1, _⟩ => ⟨S1280, .f32⟩
  | .hbm, ⟨2, _⟩ => ⟨S1280, .f32⟩
  | .hbm, ⟨3, _⟩ => ⟨S1x1280, .f32⟩
  | .hbm, ⟨4, _⟩ => ⟨S1x1280, .f32⟩
  | .hbm, ⟨5, _⟩ => ⟨S3x1500x1280, .fp8e4m3⟩
  | .hbm, ⟨6, _⟩ => ⟨S3x1500x1, .f32⟩
  | .hbm, ⟨7, _⟩ => ⟨S4608x1280, .fp8e4m3⟩
  | .local _ .vmem, ⟨0, _⟩ => ⟨S1x1500x1280, .bf16⟩
  | .local _ .vmem, ⟨1, _⟩ => ⟨S1x1500x1280, .bf16⟩
  | .local _ .vmem, ⟨2, _⟩ => ⟨S1x1280, .f32⟩
  | .local _ .vmem, ⟨3, _⟩ => ⟨S1x1280, .f32⟩
  | .local _ .vmem, ⟨4, _⟩ => ⟨S1x1500x1280, .fp8e4m3⟩
  | .local _ .vmem, ⟨5, _⟩ => ⟨S1x1500x1280, .fp8e4m3⟩
  | .local _ .vmem, ⟨6, _⟩ => ⟨S1x1500x1, .f32⟩
  | .local _ .vmem, ⟨7, _⟩ => ⟨S1x1500x1, .f32⟩
  | .local _ .vmem, ⟨8, _⟩ => ⟨S1536x1280, .fp8e4m3⟩
  | .local _ .vmem, ⟨9, _⟩ => ⟨S1536x1280, .fp8e4m3⟩
  | _, _ => ⟨S3x1500x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1500x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1500x1280 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1500x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1536x1280 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LnReferenceIdeal.lean ====
abbrev S3x1500x1280 : Shape := ⟨3, ![3, 1500, 1280]⟩
abbrev S1280 : Shape := ⟨1, ![1280]⟩
abbrev S3x1500x1 : Shape := ⟨3, ![3, 1500, 1]⟩
abbrev S3x1500 : Shape := ⟨2, ![3, 1500]⟩
abbrev S1x1x1280 : Shape := ⟨3, ![1, 1, 1280]⟩

abbrev nBuf : Space → Nat
  | .hbm => 5
  | .vmem => 5
  | .smem => 0
  | _ => 0

abbrev bufTy : (tb : Table) → Fin (tcTables nBuf tb) → BufTy
  | .hbm, ⟨0, _⟩ => ⟨S3x1500x1280, .bf16⟩
  | .hbm, ⟨1, _⟩ => ⟨S1280, .f32⟩
  | .hbm, ⟨2, _⟩ => ⟨S1280, .f32⟩
  | .hbm, ⟨3, _⟩ => ⟨S3x1500x1280, .fp8e4m3⟩
  | .hbm, ⟨4, _⟩ => ⟨S3x1500x1, .f32⟩
  | .local _ .vmem, ⟨0, _⟩ => ⟨S3x1500x1280, .bf16⟩
  | .local _ .vmem, ⟨1, _⟩ => ⟨S1280, .f32⟩
  | .local _ .vmem, ⟨2, _⟩ => ⟨S1280, .f32⟩
  | .local _ .vmem, ⟨3, _⟩ => ⟨S3x1500x1280, .fp8e4m3⟩
  | .local _ .vmem, ⟨4, _⟩ => ⟨S3x1500x1, .f32⟩
  | _, _ => ⟨S3x1500x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S3x1500x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x1500x1280 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x1500x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Gather.lean ====
abbrev S4608x1 : Shape := ⟨2, ![4608, 1]⟩
abbrev S4608x1280 : Shape := ⟨2, ![4608, 1280]⟩
abbrev S1280x4608 : Shape := ⟨2, ![1280, 4608]⟩
abbrev S256x1 : Shape := ⟨2, ![256, 1]⟩
abbrev S1280x256 : Shape := ⟨2, ![1280, 256]⟩
abbrev S256x4608 : Shape := ⟨2, ![256, 4608]⟩
abbrev S256x1280 : Shape := ⟨2, ![256, 1280]⟩

abbrev nBuf : Space → Nat
  | .hbm => 3
  | .vmem => 5
  | .smem => 0
  | _ => 0

abbrev bufTy : (tb : Table) → Fin (tcTables nBuf tb) → BufTy
  | .hbm, ⟨0, _⟩ => ⟨S4608x1, .i32⟩
  | .hbm, ⟨1, _⟩ => ⟨S4608x1280, .fp8e4m3⟩
  | .hbm, ⟨2, _⟩ => ⟨S1280x4608, .fp8e4m3⟩
  | .local _ .vmem, ⟨0, _⟩ => ⟨S256x1, .i32⟩
  | .local _ .vmem, ⟨1, _⟩ => ⟨S256x1, .i32⟩
  | .local _ .vmem, ⟨2, _⟩ => ⟨S4608x1280, .fp8e4m3⟩
  | .local _ .vmem, ⟨3, _⟩ => ⟨S1280x256, .fp8e4m3⟩
  | .local _ .vmem, ⟨4, _⟩ => ⟨S1280x256, .fp8e4m3⟩
  | _, _ => ⟨S4608x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4608x1280 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1280x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GatherReferenceIdeal.lean ====
abbrev S4608x1 : Shape := ⟨2, ![4608, 1]⟩
abbrev S4608x1280 : Shape := ⟨2, ![4608, 1280]⟩
abbrev S1280x4608 : Shape := ⟨2, ![1280, 4608]⟩

abbrev nBuf : Space → Nat
  | .hbm => 4
  | .vmem => 3
  | .smem => 0
  | _ => 0

abbrev bufTy : (tb : Table) → Fin (tcTables nBuf tb) → BufTy
  | .hbm, ⟨0, _⟩ => ⟨S4608x1, .i32⟩
  | .hbm, ⟨1, _⟩ => ⟨S4608x1280, .fp8e4m3⟩
  | .hbm, ⟨2, _⟩ => ⟨S4608x1280, .fp8e4m3⟩
  | .hbm, ⟨3, _⟩ => ⟨S1280x4608, .fp8e4m3⟩
  | .local _ .vmem, ⟨0, _⟩ => ⟨S4608x1, .i32⟩
  | .local _ .vmem, ⟨1, _⟩ => ⟨S4608x1280, .fp8e4m3⟩
  | .local _ .vmem, ⟨2, _⟩ => ⟨S1280x4608, .fp8e4m3⟩
  | _, _ => ⟨S4608x1, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4608x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x1280 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280x4608 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Rolled.lean ====
/-
  The kernel's body with its unrolled loops rolled up again. The printed program writes out every trip of the Python
  loops over the head, the tile and the slot; here each loop body is one definition over its counters, and the program is
  a list of these. `Proof/Same*.lean` prove that the printed program is this one.
-/
module

public import proofs.«01_k».proof.Proof.Gen.KernelIdeal
public import Idealize.ShloMosaic.Lib.Tactic

@[expose] public section

noncomputable section

namespace Cert.KernelIdeal.Roll

open Cert.KernelIdeal Idealize.ShloMosaic Idealize.SL.Sem
open Cert.KernelIdeal.Facts Cert.KernelIdeal.Shapes1.Facts₀ Cert.KernelIdeal.Shapes2.Facts₀ Cert.KernelIdeal.K0.Facts₀

variable {F : FTy → Type} [FloatOps F]

/-- The kernel's operands: eight inputs, four results, six scratch buffers, each a whole buffer. -/
structure Mems where
  a2 : Memref sig .tc .vmem S1280x256 .fp8e4m3
  h2 : a2.IsWhole
  a3 : Memref sig .tc .vmem S1280x256 .fp8e4m3
  h3 : a3.IsWhole
  a4 : Memref sig .tc .vmem S640x128 .f32
  h4 : a4.IsWhole
  a5 : Memref sig .tc .vmem S20x32x64 .f32
  h5 : a5.IsWhole
  a6 : Memref sig .tc .vmem S1280x4608 .fp8e4m3
  h6 : a6.IsWhole
  a7 : Memref sig .tc .vmem S40x128 .f32
  h7 : a7.IsWhole
  a8 : Memref sig .tc .vmem S40x128 .i32
  h8 : a8.IsWhole
  a9 : Memref sig .tc .vmem S8x128 .i32
  h9 : a9.IsWhole
  a10 : Memref sig .tc .vmem S1x4x16x64x352 .i8
  h10 : a10.IsWhole
  a11 : Memref sig .tc .vmem S1x4x16x352 .f32
  h11 : a11.IsWhole
  a12 : Memref sig .tc .vmem S1x4x16x64x352 .i8
  h12 : a12.IsWhole
  a13 : Memref sig .tc .vmem S1x4x16x352 .f32
  h13 : a13.IsWhole
  a14 : Memref sig .tc .vmem S256x1280 .fp8e4m3
  h14 : a14.IsWhole
  a15 : Memref sig .tc .vmem S256x128 .f32
  h15 : a15.IsWhole
  a16 : Memref sig .tc .vmem S256x128 .f32
  h16 : a16.IsWhole
  a17 : Memref sig .tc .vmem S4x36x64x128 .f32
  h17 : a17.IsWhole
  a18 : Memref sig .tc .vmem S4x320x128 .f32
  h18 : a18.IsWhole
  a19 : Memref sig .tc .vmem S4x40x128 .f32
  h19 : a19.IsWhole

/-- Programs of the kernel's effects. -/
abbrev Pg (F : FTy → Type) (α : Type) : Type 1 := Prog (TpuEff nD τ sig (Elt F) Λ₀ .tc) α

/-- A load through a rectangle. -/
abbrev ld {s : Shape} {e : EltTy} (m : Memref sig .tc .vmem s e) (r : LoadRect s) (h : 0 < r.shape.numel) :
    Pg F (r.shape.Idx → Elt F e) := Prog.lift (.load m r (View.loadsAt_vmem h))

/-- An unmasked store through a rectangle of unit strides. -/
abbrev st {s : Shape} {e : EltTy} (m : Memref sig .tc .vmem s e) (r : Rect s) (w : r.shape.Idx → Elt F e)
    (h : (m.access r).Stores Finset.univ) : Pg F PUnit := Prog.lift (.store m r w Finset.univ h (.inl rfl))

/-! ## The rectangles -/

abbrev rWt : Rect S256x1280 := Rect.unit (s := S256x1280) ![0, 0] S256x1280.size inb_S256x1280_S256x1280_0_0
theorem inbHalf (j : Fin 2) : ∀ a, (![128 * j.val, 0] : Fin 2 → Nat) a + S128x128.size a ≤ S256x128.size a := by revert j; decide
theorem inbHead (h : Fin 4) : ∀ a, (![64 * h.val, 0] : Fin 2 → Nat) a + S64x128.size a ≤ S256x128.size a := by revert h; decide
theorem inbXt (n : Fin 18) : ∀ a, (![0, 256 * n.val] : Fin 2 → Nat) a + S1280x256.size a ≤ S1280x4608.size a := by revert n; decide
theorem inbU (h : Fin 4) (t : Fin 36) : ∀ a, (![h.val, t.val, 0, 0] : Fin 4 → Nat) a + S1x1x64x128.size a ≤ S4x36x64x128.size a := by
  revert h t; decide
theorem inbPm (h : Fin 4) (t : Fin 40) : ∀ a, (![h.val, 8 * t.val, 0] : Fin 3 → Nat) a + S1x8x128.size a ≤ S4x320x128.size a := by
  revert h t; decide
theorem inbPs (h : Fin 4) (b : Fin 5) (k : Fin 8) : ∀ a, S1x8x128.size a = 0 ∨
    (![h.val, 64 * b.val + k.val, 0] : Fin 3 → Nat) a + (![1, 8, 1] : Fin 3 → Nat) a * (S1x8x128.size a - 1) < S4x320x128.size a := by
  revert h b k; decide
theorem inbXs1 (t : Fin 40) : ∀ a, (![t.val, 0] : Fin 2 → Nat) a + S1x128.size a ≤ S40x128.size a := by revert t; decide
theorem inbXs8 (b : Fin 5) : ∀ a, (![8 * b.val, 0] : Fin 2 → Nat) a + S8x128.size a ≤ S40x128.size a := by revert b; decide
theorem inbR8 (h : Fin 4) (b : Fin 5) : ∀ a, (![h.val, 8 * b.val, 0] : Fin 3 → Nat) a + S1x8x128.size a ≤ S4x40x128.size a := by
  revert h b; decide
theorem inbR1 (h : Fin 4) (t : Fin 40) : ∀ a, (![h.val, t.val, 0] : Fin 3 → Nat) a + S1x1x128.size a ≤ S4x40x128.size a := by
  revert h t; decide
theorem inbSo (h : Fin 4) (b : Fin 2) (c : Fin 2) :
    ∀ a, (![0, h.val, 8 * b.val, 128 * c.val] : Fin 4 → Nat) a + S1x1x8x128.size a ≤ S1x4x16x352.size a := by
  revert h b c; decide
theorem inbSoT (h : Fin 4) (b : Fin 2) :
    ∀ a, (![0, h.val, 8 * b.val, 256] : Fin 4 → Nat) a + S1x1x8x96.size a ≤ S1x4x16x352.size a := by
  revert h b; decide
theorem inbO (h : Fin 4) (s : Fin 16) (c : Fin 2) :
    ∀ a, (![0, h.val, s.val, 0, 128 * c.val] : Fin 5 → Nat) a + S1x1x1x64x128.size a ≤ S1x4x16x64x352.size a := by
  revert h s c; decide
theorem inbOT (h : Fin 4) (s : Fin 16) :
    ∀ a, (![0, h.val, s.val, 0, 256] : Fin 5 → Nat) a + S1x1x1x64x96.size a ≤ S1x4x16x64x352.size a := by
  revert h s; decide

/-- Rows `128 j …` of the weight scales' scratch. -/
abbrev rHalf (j : Fin 2) : Rect S256x128 := Rect.unit (s := S256x128) ![128 * j.val, 0] S128x128.size (inbHalf j)
/-- Head `h`'s rows of a scratch of one row per weight column. -/
abbrev rHead (h : Fin 4) : Rect S256x128 := Rect.unit (s := S256x128) ![64 * h.val, 0] S64x128.size (inbHead h)
/-- Column block `n` of the activations. -/
abbrev rXt (n : Fin 18) : Rect S1280x4608 := Rect.unit (s := S1280x4608) ![0, 256 * n.val] S1280x256.size (inbXt n)
/-- Head `h`'s tile `t` of the projections. -/
abbrev rU (h : Fin 4) (t : Fin 36) : Rect S4x36x64x128 := Rect.unit (s := S4x36x64x128) ![h.val, t.val, 0, 0] S1x1x64x128.size (inbU h t)
/-- The eight partial maxima of head `h`'s tile `t`. -/
abbrev rPm (h : Fin 4) (t : Fin 40) : Rect S4x320x128 := Rect.unit (s := S4x320x128) ![h.val, 8 * t.val, 0] S1x8x128.size (inbPm h t)
/-- Partial maximum `k` of each of the eight tiles from `8 b` on. -/
abbrev rPs (h : Fin 4) (b : Fin 5) (k : Fin 8) : LoadRect S4x320x128 :=
  ⟨![h.val, 64 * b.val + k.val, 0], S1x8x128.size, ![1, 8, 1], inbPs h b k⟩
abbrev rXs1 (t : Fin 40) : Rect S40x128 := Rect.unit (s := S40x128) ![t.val, 0] S1x128.size (inbXs1 t)
abbrev rXs8 (b : Fin 5) : Rect S40x128 := Rect.unit (s := S40x128) ![8 * b.val, 0] S8x128.size (inbXs8 b)
abbrev rR8 (h : Fin 4) (b : Fin 5) : Rect S4x40x128 := Rect.unit (s := S4x40x128) ![h.val, 8 * b.val, 0] S1x8x128.size (inbR8 h b)
abbrev rR1 (h : Fin 4) (t : Fin 40) : Rect S4x40x128 := Rect.unit (s := S4x40x128) ![h.val, t.val, 0] S1x1x128.size (inbR1 h t)
abbrev rSo (h : Fin 4) (b : Fin 2) (c : Fin 2) : Rect S1x4x16x352 :=
  Rect.unit (s := S1x4x16x352) ![0, h.val, 8 * b.val, 128 * c.val] S1x1x8x128.size (inbSo h b c)
abbrev rSoT (h : Fin 4) (b : Fin 2) : Rect S1x4x16x352 :=
  Rect.unit (s := S1x4x16x352) ![0, h.val, 8 * b.val, 256] S1x1x8x96.size (inbSoT h b)
abbrev rO (h : Fin 4) (s : Fin 16) (c : Fin 2) : Rect S1x4x16x64x352 :=
  Rect.unit (s := S1x4x16x64x352) ![0, h.val, s.val, 0, 128 * c.val] S1x1x1x64x128.size (inbO h s c)
abbrev rOT (h : Fin 4) (s : Fin 16) : Rect S1x4x16x64x352 :=
  Rect.unit (s := S1x4x16x64x352) ![0, h.val, s.val, 0, 256] S1x1x1x64x96.size (inbOT h s)

theorem packedO (h : Fin 4) (s : Fin 16) (c : Fin 2) : (rO h s c).PackedRows (EltTy.packing .i8) := by
  revert h s c; decide
theorem packedOT (h : Fin 4) (s : Fin 16) : (rOT h s).PackedRows (EltTy.packing .i8) := by revert h s; decide

/-! ## The page tables' rows -/

/-- What the kernel keeps of the page tables: which slots of the two tails are the request's own, the list a copied page
    comes from, its index there. -/
structure Ix where
  ownA : IVec S1x128 1
  ownB : IVec S1x128 1
  src : IVec S1x128 32
  lidx : IVec S1x128 32

def ownOf (v : IVec S1x128 32) : IVec S1x128 1 := cmpi .ne v (broadcast S1x128 (0#32 : BitVec 32))

def readIx (M : Mems) : Pg F Ix := do
  let v0 : Vec F S1x128 .i32 ← ld M.a9 (Rect.unit (s := S8x128) ![0, 0] S1x128.size inb_S8x128_S1x128_0_0).toLoadRect h_S1x128
  let v3 : Vec F S1x128 .i32 ← ld M.a9 (Rect.unit (s := S8x128) ![1, 0] S1x128.size inb_S8x128_S1x128_1_0).toLoadRect h_S1x128
  let v6 : Vec F S1x128 .i32 ← ld M.a9 (Rect.unit (s := S8x128) ![2, 0] S1x128.size inb_S8x128_S1x128_2_0).toLoadRect h_S1x128
  let v7 : Vec F S1x128 .i32 ← ld M.a9 (Rect.unit (s := S8x128) ![3, 0] S1x128.size inb_S8x128_S1x128_3_0).toLoadRect h_S1x128
  pure ⟨ownOf v0, ownOf v3, v6, v7⟩

/-! ## The weights: block, scales, biases -/

/-- The weight block turned round. -/
def wtP (x : FVec F S1280x256 .fp8e4m3) : FVec F S256x1280 .fp8e4m3 :=
  shapeCast S256x1280 (transpose S256x1280 [1, 0] x transposes_S1280x256_p1_0_S256x1280) shapeCasts_S256x1280_S256x1280
/-- A row of weight scales turned into a column and repeated along the lanes. -/
def wsP (x : FVec F S1x128 .f32) : FVec F S128x128 .f32 :=
  shapeCast S128x128 (transpose S128x128 [1, 0] (broadcastTo S128x128 (shapeCast S1x128 x shapeCasts_S1x128_S1x128)
    broadcasts_S1x128_S128x128) transposes_S128x128_p1_0_S128x128) shapeCasts_S128x128_S128x128
/-- A head's biases likewise. -/
def bP (x : FVec F S1x1x64 .f32) : FVec F S64x128 .f32 :=
  shapeCast S64x128 (transpose S64x128 [1, 0] (broadcastTo S128x64 (shapeCast S1x64 (shapeCast S1x64 x shapeCasts_S1x1x64_S1x64)
    shapeCasts_S1x64_S1x64) broadcasts_S1x64_S128x64) transposes_S128x64_p1_0_S64x128) shapeCasts_S64x128_S64x128

def loadW (M : Mems) (a : Memref sig .tc .vmem S1280x256 .fp8e4m3) : Pg F PUnit := do
  let v8 : Vec F S1280x256 .fp8e4m3 ← ld a (Rect.unit (s := S1280x256) ![0, 0] S1280x256.size inb_S1280x256_S1280x256_0_0).toLoadRect h_S1280x256
  let _ : Vec F S256x1280 .fp8e4m3 ← ld M.a14 rWt.toLoadRect h_S256x1280
  st M.a14 rWt (wtP v8) (View.stores_vmem h_S256x1280 (M.h14.storeExact_slice rfl _ packedfp8e4m3_S256x1280_S256x1280_0_0) (fun _ => rfl))

def loadWs (M : Mems) (i : grid0.Coords) (t j : Fin 2) : Pg F PUnit := do
  let v20 : Vec F S1x128 .f32 ← ld M.a4 (Rect.unit (s := S640x128) (k0_off1 i (BitVec.ofNat 32 t.val) (BitVec.ofNat 32 j.val)) S1x128.size (k0_off1_inb i t j)).toLoadRect h_S1x128
  let _ : Vec F S128x128 .f32 ← ld M.a15 (rHalf j).toLoadRect h_S128x128
  st M.a15 (rHalf j) (wsP v20) (View.stores_vmem_bits_univ h_S128x128 rfl)

def loadB (M : Mems) (i : grid0.Coords) (h : Fin 4) : Pg F PUnit := do
  let v : Vec F S1x1x64 .f32 ← ld M.a5 (Rect.unit (s := S20x32x64) (k0_off2 i (BitVec.ofNat 32 h.val)) S1x1x64.size (k0_off2_inb i h)).toLoadRect h_S1x1x64
  let _ : Vec F S64x128 .f32 ← ld M.a16 (rHead h).toLoadRect h_S64x128
  st M.a16 (rHead h) (bP v) (View.stores_vmem_bits_univ h_S64x128 rfl)

/-! ## The projection of one column block -/

/-- The product of the weight block with column block `n`. -/
def accP (w : FVec F S256x1280 .fp8e4m3) (x : FVec F S1280x256 .fp8e4m3) : FVec F S256x256 .f32 :=
  matmul dot_S256x1280_S1280x256_S256x256_1_0_0_1_n_n none w x (constant S256x256 .f32 0x00000000#32)

theorem slAcc (h : Fin 4) (q : Fin 2) : S256x256.Slices ![64 * h.val, 128 * q.val] S64x128 := by revert h q; decide

/-- Head `h`'s rows of half `q` of the product. -/
def aP (acc : FVec F S256x256 .f32) (h : Fin 4) (q : Fin 2) : FVec F S64x128 .f32 :=
  extractStridedSlice S64x128 ![64 * h.val, 128 * q.val] acc (slAcc h q)
def uK (a w : FVec F S64x128 .f32) : FVec F S64x128 .f32 := mulf a w
def uV (a w : FVec F S64x128 .f32) (xs : FVec F S1x128 .f32) (b : FVec F S64x128 .f32) : FVec F S64x128 .f32 :=
  addf (mulf (mulf a (broadcastTo S64x128 xs broadcasts_S1x128_S64x128)) w) b
/-- The eight partial maxima of a head's tile. -/
def pmP (u : FVec F S64x128 .f32) : FVec F S8x128 .f32 :=
  multiReduction .maximumf [0] S8x128 (shapeCast S8x8x128 (absf u) shapeCasts_S64x128_S8x8x128) 0xFF800000#32 reduces_S8x8x128_S8x128 (.inl rfl) rfl

/-- The tile that half `q` of column block `n` is. -/
def tileOf (n : Fin 18) (q : Fin 2) : Fin 36 :=
  ⟨if n.val < 16 then q.val * 16 + n.val else 32 + 2 * (n.val - 16) + q.val, by have := n.2; have := q.2; split <;> omega⟩
def up36 (t : Fin 36) : Fin 40 := ⟨t.val, by have := t.2; omega⟩

def mm (M : Mems) (n : Fin 18) : Pg F (FVec F S256x256 .f32) := do
  let w : Vec F S256x1280 .fp8e4m3 ← ld M.a14 rWt.toLoadRect h_S256x1280
  let x : Vec F S1280x256 .fp8e4m3 ← ld M.a6 (rXt n).toLoadRect h_S1280x256
  pure (accP w x)

def ldWsr (M : Mems) (h : Fin 4) : Pg F (FVec F S64x128 .f32) := ld M.a15 (rHead h).toLoadRect h_S64x128
def ldBr (M : Mems) (h : Fin 4) : Pg F (FVec F S64x128 .f32) := ld M.a16 (rHead h).toLoadRect h_S64x128
def ldXs1 (M : Mems) (t : Fin 40) : Pg F (FVec F S1x128 .f32) := ld M.a7 (rXs1 t).toLoadRect h_S1x128

def stU (M : Mems) (h : Fin 4) (t : Fin 36) (u : FVec F S64x128 .f32) : Pg F PUnit := do
  let _ : Vec F S1x1x64x128 .f32 ← ld M.a17 (rU h t).toLoadRect h_S1x1x64x128
  st M.a17 (rU h t) (shapeCast S1x1x64x128 u shapeCasts_S64x128_S1x1x64x128) (View.stores_vmem_bits_univ h_S1x1x64x128 rfl)
def stPm (M : Mems) (h : Fin 4) (t : Fin 36) (u : FVec F S64x128 .f32) : Pg F PUnit := do
  let _ : Vec F S1x8x128 .f32 ← ld M.a18 (rPm h (up36 t)).toLoadRect h_S1x8x128
  st M.a18 (rPm h (up36 t)) (shapeCast S1x8x128 (pmP u) shapeCasts_S8x128_S1x8x128) (View.stores_vmem_bits_univ h_S1x8x128 rfl)

def tileK (M : Mems) (acc : FVec F S256x256 .f32) (n : Fin 18) (q : Fin 2) (h : Fin 4) : Pg F PUnit := do
  let w ← ldWsr M h
  stU M h (tileOf n q) (uK (aP acc h q) w)
  stPm M h (tileOf n q) (uK (aP acc h q) w)
def tileV (M : Mems) (acc : FVec F S256x256 .f32) (n : Fin 18) (q : Fin 2) (h : Fin 4) : Pg F PUnit := do
  let w ← ldWsr M h
  let xs ← ldXs1 M (up36 (tileOf n q))
  let b ← ldBr M h
  stU M h (tileOf n q) (uV (aP acc h q) w xs b)
  stPm M h (tileOf n q) (uV (aP acc h q) w xs b)
def tile (M : Mems) (t : Fin 2) (acc : FVec F S256x256 .f32) (n : Fin 18) (q : Fin 2) (h : Fin 4) : Pg F PUnit :=
  match t with | 0 => tileK M acc n q h | 1 => tileV M acc n q h

/-- The trips of a list of counters, in order. -/
def each {α : Type} (f : α → Pg F PUnit) : List α → Pg F PUnit
  | [] => pure ⟨⟩
  | x :: l => do f x; each f l

theorem each_append {α : Type} (f : α → Pg F PUnit) (l l' : List α) :
    each f (l ++ l') = (do each f l; each f l') := by
  induction l with
  | nil => rfl
  | cons x l ih => simp only [List.cons_append, each, ih, bind_assoc]

def qh : List (Fin 2 × Fin 4) := [(0, 0), (0, 1), (0, 2), (0, 3), (1, 0), (1, 1), (1, 2), (1, 3)]

def proj (M : Mems) (t : Fin 2) (n : Fin 18) : Pg F PUnit := do
  let acc ← mm M n
  each (fun p => tile M t acc n p.1 p.2) qh

/-! ## The scales -/

def z8 : FVec F S8x128 .f32 := broadcast S8x128 (Scalar.ofBits .f32 0x00000000#32)
def one8 : FVec F S8x128 .f32 := broadcast S8x128 (Scalar.ofBits .f32 0x3F800000#32)
def okP (v : IVec S8x128 32) : IVec S8x128 1 := cmpi .ne v (broadcast S8x128 (0#32 : BitVec 32))
/-- The scale of a largest magnitude. -/
def scP (a : FVec F S8x128 .f32) : FVec F S8x128 .f32 :=
  select (cmpf .oeq a z8) one8 (divf a (broadcast S8x128 (Scalar.ofBits .f32 0x42FE0000#32)))

def ldPs (M : Mems) (h : Fin 4) (b : Fin 5) (k : Fin 8) : Pg F (FVec F S8x128 .f32) := do
  let v : Vec F S1x8x128 .f32 ← ld M.a18 (rPs h b k) h_S1x8x128
  pure (shapeCast S8x128 v shapeCasts_S1x8x128_S8x128)
def ldXs8 (M : Mems) (b : Fin 5) : Pg F (FVec F S8x128 .f32) := ld M.a7 (rXs8 b).toLoadRect h_S8x128
def ldVal (M : Mems) (b : Fin 5) : Pg F (IVec S8x128 32) := ld M.a8 (rXs8 b).toLoadRect h_S8x128
def stR (M : Mems) (h : Fin 4) (b : Fin 5) (r : FVec F S8x128 .f32) : Pg F PUnit := do
  let _ : Vec F S1x8x128 .f32 ← ld M.a19 (rR8 h b).toLoadRect h_S1x8x128
  st M.a19 (rR8 h b) (shapeCast S1x8x128 r shapeCasts_S8x128_S1x8x128) (View.stores_vmem_bits_univ h_S1x8x128 rfl)

/-- The largest magnitude of each of the eight tiles from `8 b` on. -/
def ldMax (M : Mems) (h : Fin 4) (b : Fin 5) : Pg F (FVec F S8x128 .f32) := do
  let m0 ← ldPs M h b 0
  let m1 ← ldPs M h b 1
  let m2 ← ldPs M h b 2
  let m3 ← ldPs M h b 3
  let m4 ← ldPs M h b 4
  let m5 ← ldPs M h b 5
  let m6 ← ldPs M h b 6
  let m7 ← ldPs M h b 7
  pure (maximumf (maximumf (maximumf (maximumf (maximumf (maximumf (maximumf m0 m1) m2) m3) m4) m5) m6) m7)

def scaleK (M : Mems) (h : Fin 4) (b : Fin 5) : Pg F (FVec F S8x128 .f32) := do
  let m ← ldMax M h b
  let xs ← ldXs8 M b
  let v ← ldVal M b
  stR M h b (select (okP v) (divf xs (scP (mulf m xs))) z8)
  pure (select (okP v) (scP (mulf m xs)) z8)
def scaleV (M : Mems) (h : Fin 4) (b : Fin 5) : Pg F (FVec F S8x128 .f32) := do
  let m ← ldMax M h b
  let v ← ldVal M b
  stR M h b (select (okP v) (divf one8 (scP m)) z8)
  pure (select (okP v) (scP m) z8)
def scale (M : Mems) (t : Fin 2) (h : Fin 4) (b : Fin 5) : Pg F (FVec F S8x128 .f32) :=
  match t with | 0 => scaleK M h b | 1 => scaleV M h b

theorem slSc (b i : Fin 2) : S8x128.Slices ![2 * b.val + i.val, 0] S1x128 := by revert b i; decide

/-- Rows `2 b` and `2 b + 1`, four times each. -/
def cP (sc : FVec F S8x128 .f32) (b : Fin 2) : FVec F S8x128 .f32 :=
  concatenate S8x128 0
    [⟨S4x128, broadcastTo S4x128 (shapeCast S1x128 (extractStridedSlice S1x128 ![2 * b.val + (0 : Fin 2).val, 0] sc (slSc b 0))
        shapeCasts_S1x128_S1x128) broadcasts_S1x128_S4x128⟩,
     ⟨S4x128, broadcastTo S4x128 (shapeCast S1x128 (extractStridedSlice S1x128 ![2 * b.val + (1 : Fin 2).val, 0] sc (slSc b 1))
        shapeCasts_S1x128_S1x128) broadcasts_S1x128_S4x128⟩] concatenates_S4x128_S4x128_S8x128_d0

def lid8 (x : Ix) : IVec S8x128 32 := broadcastTo S8x128 (shapeCast S1x128 x.lidx shapeCasts_S1x128_S1x128) broadcasts_S1x128_S8x128

/-- `32 (k mod 4)` in row `k`, as the program computes it. -/
def off8 : IVec S8x128 32 :=
  let v2037 : IVec S8x128 32 := iota .tc S8x128 32 [0] iota_S8x128_d0_w32
  let v2039 : BitVec 32 := Scalar.select (Scalar.cmpi .eq (4#32 : BitVec 32) 0#32) 1#32 4#32
  let v2041 : IVec S8x128 32 := remsi v2037 (broadcast S8x128 v2039)
  let v2043 : IVec S8x128 1 := cmpi .ne v2041 (broadcast S8x128 (0#32 : BitVec 32))
  let v2045 : IVec S8x128 1 := cmpi .slt v2041 (broadcast S8x128 (0#32 : BitVec 32))
  let v2048 : IVec S8x128 1 := broadcastTo S8x128 (broadcast S8x128 (Scalar.cmpi .slt v2039 0#32) : IVec S8x128 1) broadcasts_S8x128_S8x128
  let v2050 : IVec S8x128 1 := andi (xori v2045 v2048) v2043
  let v2053 : IVec S8x128 32 := select v2050 (addi v2041 (broadcast S8x128 v2039)) v2041
  muli v2053 (broadcast S8x128 (32#32 : BitVec 32))

/-- A row of lane indices, a negative one counted from the end. -/
def wrap8 (v : IVec S8x128 32) : IVec S8x128 32 :=
  shapeCast S8x128 (shapeCast S8x128x1 (select (cmpi .slt v (broadcast S8x128 (0#32 : BitVec 32)))
    (addi v (broadcast S8x128 (128#32 : BitVec 32))) v) shapeCasts_S8x128_S8x128x1) shapeCasts_S8x128x1_S8x128

def isSrc (x : Ix) (k : BitVec 32) : IVec S1x128 1 := cmpi .eq x.src (broadcast S1x128 k)
def bc8 (c : IVec S1x128 1) : IVec S8x128 1 := broadcastTo S8x128 (shapeCast S1x128 c shapeCasts_S1x128_S1x128) broadcasts_S1x128_S8x128

/-- The scales of the copied pages' slots: picked from the tails or the list. -/
def s2P (x : Ix) (sa sb c : FVec F S8x128 .f32) : FVec F S8x128 .f32 :=
  select (bc8 (isSrc x 0#32)) (dynamicGather 1 sa (wrap8 (lid8 x)))
    (select (bc8 (isSrc x 1#32)) (dynamicGather 1 sb (wrap8 (lid8 x)))
      (select (bc8 (isSrc x 2#32))
        (dynamicGather 1 c (wrap8 (andi (addi (lid8 x) off8) (broadcast S8x128 (127#32 : BitVec 32))))) z8))

def stSo (a : Memref sig .tc .vmem S1x4x16x352 .f32) (h : Fin 4) (b c : Fin 2) (v : FVec F S8x128 .f32) : Pg F PUnit := do
  let _ : Vec F S1x1x8x128 .f32 ← ld a (rSo h b c).toLoadRect h_S1x1x8x128
  st a (rSo h b c) (shapeCast S1x1x8x128 v shapeCasts_S8x128_S1x1x8x128) (View.stores_vmem_bits_univ h_S1x1x8x128 rfl)
def stSoT (a : Memref sig .tc .vmem S1x4x16x352 .f32) (h : Fin 4) (b : Fin 2) (v : FVec F S8x128 .f32) : Pg F PUnit := do
  let _ : Vec F S1x1x8x96 .f32 ← ld a (rSoT h b).toLoadRect h_S1x1x8x96
  st a (rSoT h b) (shapeCast S1x1x8x96 (extractStridedSlice S8x96 ![0, 0] v slices_S8x128_o0_0_S8x96) shapeCasts_S8x96_S1x1x8x96)
    (View.stores_vmem_bits_univ h_S1x1x8x96 rfl)

def outS (x : Ix) (a : Memref sig .tc .vmem S1x4x16x352 .f32) (h : Fin 4) (b : Fin 2) (sa sb sc : FVec F S8x128 .f32) : Pg F PUnit := do
  stSo a h b 0 (select (bc8 x.ownA) sa z8)
  stSo a h b 1 (select (bc8 x.ownB) sb z8)
  stSoT a h b (s2P x sa sb (cP sc b))

/-- The scales' results of this pass. -/
def mS (M : Mems) (t : Fin 2) : Memref sig .tc .vmem S1x4x16x352 .f32 := match t with | 0 => M.a11 | 1 => M.a13

def scales (M : Mems) (x : Ix) (t : Fin 2) (h : Fin 4) : Pg F PUnit := do
  let s0 ← scale M t h 0
  let s1 ← scale M t h 1
  let s2 ← scale M t h 2
  let s3 ← scale M t h 3
  let s4 ← scale M t h 4
  outS x (mS M t) h 0 s0 s2 s4
  outS x (mS M t) h 1 s1 s3 s4

/-! ## The codes -/

/-- A tile's codes, four rows to a word. -/
def codeP (u : FVec F S64x128 .f32) (r : FVec F S1x128 .f32) : IVec S16x128 32 :=
  bitcast S16x128 32 (fptosi 8 (minimumf (broadcast S64x128 (Scalar.ofBits .f32 0x42FE0000#32))
    (maximumf (broadcast S64x128 (Scalar.ofBits .f32 0xC2FE0000#32))
      (roundeven (mulf u (broadcastTo S64x128 r broadcasts_S1x128_S64x128)))))) bitcasts_S64x128_w8_S16x128_w32

def codes (M : Mems) (h : Fin 4) (t : Fin 36) : Pg F (IVec S16x128 32) := do
  let u : Vec F S1x1x64x128 .f32 ← ld M.a17 (rU h t).toLoadRect h_S1x1x64x128
  let r : Vec F S1x1x128 .f32 ← ld M.a19 (rR1 h (up36 t)).toLoadRect h_S1x1x128
  pure (codeP (shapeCast S64x128 u shapeCasts_S1x1x64x128_S64x128) (shapeCast S1x128 r shapeCasts_S1x1x128_S1x128))

def lid16 (x : Ix) : IVec S16x128 32 := broadcastTo S16x128 (shapeCast S1x128 x.lidx shapeCasts_S1x128_S1x128) broadcasts_S1x128_S16x128
def wrap16 (v : IVec S16x128 32) : IVec S16x128 32 :=
  shapeCast S16x128 (shapeCast S16x128x1 (select (cmpi .slt v (broadcast S16x128 (0#32 : BitVec 32)))
    (addi v (broadcast S16x128 (128#32 : BitVec 32))) v) shapeCasts_S16x128_S16x128x1) shapeCasts_S16x128x1_S16x128
def bc16 (c : IVec S1x128 1) : IVec S16x128 1 := broadcastTo S16x128 (shapeCast S1x128 c shapeCasts_S1x128_S1x128) broadcasts_S1x128_S16x128
def z16 : IVec S16x128 32 := broadcast S16x128 (0#32 : BitVec 32)

/-- The codes of the copied pages' slots: picked from the tails or the list. -/
def q2P (x : Ix) (sub : Fin 4) (qa qb qc : IVec S16x128 32) : IVec S16x128 32 :=
  select (bc16 (isSrc x 0#32)) (dynamicGather 1 qa (wrap16 (lid16 x)))
    (select (bc16 (isSrc x 1#32)) (dynamicGather 1 qb (wrap16 (lid16 x)))
      (select (bc16 (isSrc x 2#32))
        (dynamicGather 1 qc (wrap16 (andi (addi (lid16 x) (broadcast S16x128 (BitVec.ofNat 32 (32 * sub.val))))
          (broadcast S16x128 (127#32 : BitVec 32))))) z16))

def unpk (q : IVec S16x128 32) : IVec S64x128 8 := bitcast S64x128 8 q bitcasts_S16x128_w32_S64x128_w8

def stO (a : Memref sig .tc .vmem S1x4x16x64x352 .i8) (ha : a.IsWhole) (h : Fin 4) (s : Fin 16) (c : Fin 2) (q : IVec S16x128 32) :
    Pg F PUnit := do
  let _ : Vec F S1x1x1x64x128 .i8 ← ld a (rO h s c).toLoadRect h_S1x1x1x64x128
  st a (rO h s c) (shapeCast S1x1x1x64x128 (unpk q) shapeCasts_S64x128_S1x1x1x64x128)
    (View.stores_vmem h_S1x1x1x64x128 (ha.storeExact_slice rfl _ (packedO h s c)) (fun _ => rfl))
def stOT (a : Memref sig .tc .vmem S1x4x16x64x352 .i8) (ha : a.IsWhole) (h : Fin 4) (s : Fin 16) (q : IVec S16x128 32) : Pg F PUnit := do
  let _ : Vec F S1x1x1x64x96 .i8 ← ld a (rOT h s).toLoadRect h_S1x1x1x64x96
  st a (rOT h s) (shapeCast S1x1x1x64x96 (extractStridedSlice S64x96 ![0, 0] (unpk q) slices_S64x128_o0_0_S64x96) shapeCasts_S64x96_S1x1x1x64x96)
    (View.stores_vmem h_S1x1x1x64x96 (ha.storeExact_slice rfl _ (packedOT h s)) (fun _ => rfl))

/-- The tiles of slot `4 c + k`: the two tails', the list's. -/
def tA (c k : Fin 4) : Fin 36 := ⟨4 * c.val + k.val, by omega⟩
def tB (c k : Fin 4) : Fin 36 := ⟨16 + (4 * c.val + k.val), by omega⟩
def tC (c : Fin 4) : Fin 36 := ⟨32 + c.val, by omega⟩
def slotOf (c k : Fin 4) : Fin 16 := ⟨4 * c.val + k.val, by omega⟩

def mO (M : Mems) (t : Fin 2) : Memref sig .tc .vmem S1x4x16x64x352 .i8 := match t with | 0 => M.a10 | 1 => M.a12
theorem hO (M : Mems) (t : Fin 2) : (mO M t).IsWhole := match t with | 0 => M.h10 | 1 => M.h12

def outO (M : Mems) (x : Ix) (t : Fin 2) (h : Fin 4) (c k : Fin 4) (qa qb qc : IVec S16x128 32) : Pg F PUnit := do
  stO (mO M t) (hO M t) h (slotOf c k) 0 (select (bc16 x.ownA) qa z16)
  stO (mO M t) (hO M t) h (slotOf c k) 1 (select (bc16 x.ownB) qb z16)
  stOT (mO M t) (hO M t) h (slotOf c k) (q2P x k qa qb qc)

def slot (M : Mems) (x : Ix) (t : Fin 2) (h : Fin 4) (c : Fin 4) (qc : IVec S16x128 32) (k : Fin 4) : Pg F PUnit := do
  let qa ← codes M h (tA c k)
  let qb ← codes M h (tB c k)
  outO M x t h c k qa qb qc

def slots (M : Mems) (x : Ix) (t : Fin 2) (h : Fin 4) (c : Fin 4) : Pg F PUnit := do
  let qc ← codes M h (tC c)
  each (slot M x t h c qc) [0, 1, 2, 3]

/-! ## The whole -/

/-- One trip of one of the body's loops. -/
inductive Item where
  | weights (t : Fin 2)
  | proj (t : Fin 2) (n : Fin 18)
  | scales (t : Fin 2) (h : Fin 4)
  | slots (t : Fin 2) (h : Fin 4) (c : Fin 4)

def weights (M : Mems) (i : grid0.Coords) (t : Fin 2) : Pg F PUnit := do
  match t with
  | 0 => loadW M M.a2
         loadWs M i 0 0
         loadWs M i 0 1
  | 1 => loadW M M.a3
         loadWs M i 1 0
         loadWs M i 1 1
         loadB M i 0
         loadB M i 1
         loadB M i 2
         loadB M i 3

def run (M : Mems) (i : grid0.Coords) (x : Ix) : Item → Pg F PUnit
  | .weights t => weights M i t
  | .proj t n => proj M t n
  | .scales t h => scales M x t h
  | .slots t h c => slots M x t h c

def projs (t : Fin 2) : List Item := (List.finRange 18).map (.proj t)
def head (t : Fin 2) (h : Fin 4) : List Item := .scales t h :: (List.finRange 4).map (.slots t h)
def pass (t : Fin 2) : List Item := .weights t :: (projs t ++ (head t 0 ++ head t 1 ++ head t 2 ++ head t 3))

/-- The kernel's body. -/
def body (M : Mems) (i : grid0.Coords) : Pg F PUnit := do
  let x ← readIx M
  each (run M i x) (pass 0 ++ pass 1)

set_option maxRecDepth 100000 in
/-- The printed body is the rolled one: the same loads and stores of the same values in the same order. -/
theorem printed_eq (M : Mems) (i : grid0.Coords) :
    cc0_kv_pages (F := F) i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 = body M i := by
  sl_kernel_rfl

end Cert.KernelIdeal.Roll

end
-- ==== Proof.Triple.lean ====
module

public import proofs.«01_k».proof.Proof.Rolled
public import Idealize.ShloMosaic.Lib.Pipeline.Kit

/-! # What the rolled body does to its buffers

A proposition `Wp p Q s`: run from buffers that hold `s`, the program ends with a value and buffers that satisfy `Q`.
The rules for loads, stores, sequencing and loops. -/

@[expose] public section

noncomputable section

namespace Cert.KernelIdeal.Roll

open Cert.KernelIdeal Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- `X` with the elements of the rectangle `r` replaced by `v`. -/
@[irreducible] def put {s : Shape} {α : Type} (X : s.Idx → α) (r : Rect s) (v : r.shape.Idx → α) : s.Idx → α :=
  fun p => if h : ∃ j, r.emb j = p then v h.choose else X p

theorem put_emb {s : Shape} {α : Type} (X : s.Idx → α) (r : Rect s) (v : r.shape.Idx → α) (j : r.shape.Idx) :
    put X r v (r.emb j) = v j := by
  unfold put
  have h : ∃ j', r.emb j' = r.emb j := ⟨j, rfl⟩
  rw [dif_pos h, r.emb.injective h.choose_spec]

theorem put_of_not {s : Shape} {α : Type} (X : s.Idx → α) (r : Rect s) (v : r.shape.Idx → α) {p : s.Idx}
    (h : ¬∃ j, r.emb j = p) : put X r v p = X p := by
  unfold put
  exact dif_neg h

/-- The program logic's statement of the body's pieces. -/
abbrev wpB (c : Dev nD) {α : Type} (p : Pg F α) (Q : α → sProp 𝕄) : sProp 𝕄 :=
  wp frame (wpE (defs₀ (F := F)) Variants.none (c : Thread nD τ) none) Set.univ p Q

/-- A load from an owned buffer. -/
theorem wp_ld (c : Dev nD) {s : Shape} {e : EltTy} (m : Memref sig .tc .vmem s e) (r : LoadRect s) (hn : 0 < r.shape.numel)
    (X : s.Idx → Elt F e) (Q : (r.shape.Idx → Elt F e) → sProp 𝕄) :
    iprop(owns (c : Thread nD τ) m fullShare X ∗ (owns (c : Thread nD τ) m fullShare X -∗ Q (fun j => X (r.idx j))))
      ⊢ wpB c (ld m r hn) Q := by
  unfold owns wpB ld Prog.lift
  iintro ⟨⟨%f, %hf, H⟩, Hk⟩
  subst hf
  sl_step
  sl_step
  rw [show m.view.readAt (Elt F) r f = fun j => m.view.read (Elt F) f (r.idx j) from rfl]
  iapply Hk
  iexists f
  isplitr
  · ipureintro; rfl
  · iexact H

/-- A store to an owned buffer. -/
theorem wp_st (c : Dev nD) {s : Shape} {e : EltTy} (m : Memref sig .tc .vmem s e) (r : Rect s) (w : r.shape.Idx → Elt F e)
    (hx : (m.access r).Stores Finset.univ) (X : s.Idx → Elt F e) (Q : PUnit → sProp 𝕄) :
    iprop(owns (c : Thread nD τ) m fullShare X ∗ (owns (c : Thread nD τ) m fullShare (put X r w) -∗ Q ⟨⟩))
      ⊢ wpB c (st m r w hx) Q := by
  unfold owns wpB st Prog.lift
  iintro ⟨⟨%f, %hf, H⟩, Hk⟩
  subst hf
  sl_step
  sl_step
  iapply Hk
  iexists _
  isplitr
  swap
  · iexact H
  · ipureintro
    funext p
    by_cases hp : ∃ j, r.emb j = p
    · obtain ⟨j, rfl⟩ := hp
      rw [put_emb]
      exact View.read_slice_write_emb r f w (Finset.mem_univ j)
    · rw [put_of_not _ _ _ hp]
      exact View.read_slice_write_of_not_mem r f w Finset.univ (fun h => hp (by
        obtain ⟨j, -, hj⟩ := Finset.mem_map.mp h
        exact ⟨j, hj⟩))

/-- The inputs' blocks at a grid point. -/
structure In (F : FTy → Type) [FloatOps F] where
  x2 : Vec F S1280x256 .fp8e4m3
  x3 : Vec F S1280x256 .fp8e4m3
  x4 : Vec F S640x128 .f32
  x5 : Vec F S20x32x64 .f32
  x6 : Vec F S1280x4608 .fp8e4m3
  x7 : Vec F S40x128 .f32
  x8 : Vec F S40x128 .i32
  x9 : Vec F S8x128 .i32

/-- The contents of the results' blocks and of the scratch. -/
structure Sc (F : FTy → Type) [FloatOps F] where
  x10 : Vec F S1x4x16x64x352 .i8
  x11 : Vec F S1x4x16x352 .f32
  x12 : Vec F S1x4x16x64x352 .i8
  x13 : Vec F S1x4x16x352 .f32
  x14 : Vec F S256x1280 .fp8e4m3
  x15 : Vec F S256x128 .f32
  x16 : Vec F S256x128 .f32
  x17 : Vec F S4x36x64x128 .f32
  x18 : Vec F S4x320x128 .f32
  x19 : Vec F S4x40x128 .f32

/-- The operands' buffers, holding the inputs `I` and the contents `s`. -/
def St (c : Dev nD) (M : Mems) (I : In F) (s : Sc F) : sProp 𝕄 :=
  iprop(owns (c : Thread nD τ) M.a2 fullShare I.x2 ∗ owns (c : Thread nD τ) M.a3 fullShare I.x3 ∗ owns (c : Thread nD τ) M.a4 fullShare I.x4 ∗ owns (c : Thread nD τ) M.a5 fullShare I.x5 ∗ owns (c : Thread nD τ) M.a6 fullShare I.x6 ∗ owns (c : Thread nD τ) M.a7 fullShare I.x7 ∗ owns (c : Thread nD τ) M.a8 fullShare I.x8 ∗ owns (c : Thread nD τ) M.a9 fullShare I.x9 ∗ owns (c : Thread nD τ) M.a10 fullShare s.x10 ∗ owns (c : Thread nD τ) M.a11 fullShare s.x11 ∗ owns (c : Thread nD τ) M.a12 fullShare s.x12 ∗ owns (c : Thread nD τ) M.a13 fullShare s.x13 ∗ owns (c : Thread nD τ) M.a14 fullShare s.x14 ∗ owns (c : Thread nD τ) M.a15 fullShare s.x15 ∗ owns (c : Thread nD τ) M.a16 fullShare s.x16 ∗ owns (c : Thread nD τ) M.a17 fullShare s.x17 ∗ owns (c : Thread nD τ) M.a18 fullShare s.x18 ∗ owns (c : Thread nD τ) M.a19 fullShare s.x19)

/-- Run from buffers that hold `s`, the program ends with a value and contents that satisfy `Q`. -/
def Wp (c : Dev nD) (M : Mems) (I : In F) {α : Type} (p : Pg F α) (Q : α → Sc F → Prop) (s : Sc F) : Prop :=
  ∀ Φ : α → sProp 𝕄, iprop(St c M I s ∗ (∀ a s', ⌜Q a s'⌝ -∗ St c M I s' -∗ Φ a)) ⊢ wpB c p Φ

section
variable {c : Dev nD} {M : Mems} {I : In F}

theorem Wp.pure {α : Type} {a : α} {Q : α → Sc F → Prop} {s : Sc F} (h : Q a s) : Wp c M I (Pure.pure a) Q s := by
  intro Φ
  iintro ⟨H, Hk⟩
  unfold wpB
  sl_step
  iapply Hk $$ %a %s %h H

theorem Wp.mono {α : Type} {p : Pg F α} {Q Q' : α → Sc F → Prop} {s : Sc F} (h : Wp c M I p Q s)
    (hQ : ∀ a s', Q a s' → Q' a s') : Wp c M I p Q' s := by
  intro Φ
  iintro ⟨H, Hk⟩
  iapply (h Φ)
  isplitl [H]
  · iexact H
  · iintro %a %s' %hq H
    have hq' := hQ a s' hq
    iapply Hk $$ %a %s' %hq' H

theorem Wp.bind {α β : Type} {p : Pg F α} {k : α → Pg F β} {Q : β → Sc F → Prop} {s : Sc F}
    (h : Wp c M I p (fun a s' => Wp c M I (k a) Q s') s) : Wp c M I (p >>= k) Q s := by
  intro Φ
  unfold wpB
  rw [wp_bind]
  iintro ⟨H, Hk⟩
  iapply (h _)
  isplitl [H]
  · iexact H
  · iintro %a %s' %hq H
    iapply (hq Φ)
    isplitl [H]
    · iexact H
    · iexact Hk

theorem Wp.ld2 {r : LoadRect S1280x256} {hn : 0 < r.shape.numel} {Q : _ → Sc F → Prop} {s : Sc F}
    (h : Q (fun j => I.x2 (r.idx j)) s) : Wp c M I (ld M.a2 r hn) Q s := by
  intro Φ
  unfold St
  iintro ⟨⟨H2, H3, H4, H5, H6, H7, H8, H9, H10, H11, H12, H13, H14, H15, H16, H17, H18, H19⟩, Hk⟩
  iapply (wp_ld c M.a2 r hn I.x2 Φ)
  isplitl [H2]; · iexact H2
  iintro H2
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld3 {r : LoadRect S1280x256} {hn : 0 < r.shape.numel} {Q : _ → Sc F → Prop} {s : Sc F}
    (h : Q (fun j => I.x3 (r.idx j)) s) : Wp c M I (ld M.a3 r hn) Q s := by
  intro Φ
  unfold St
  iintro ⟨⟨H2, H3, H4, H5, H6, H7, H8, H9, H10, H11, H12, H13, H14, H15, H16, H17, H18, H19⟩, Hk⟩
  iapply (wp_ld c M.a3 r hn I.x3 Φ)
  isplitl [H3]; · iexact H3
  iintro H3
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld4 {r : LoadRect S640x128} {hn : 0 < r.shape.numel} {Q : _ → Sc F → Prop} {s : Sc F}
    (h : Q (fun j => I.x4 (r.idx j)) s) : Wp c M I (ld M.a4 r hn) Q s := by
  intro Φ
  unfold St
  iintro ⟨⟨H2, H3, H4, H5, H6, H7, H8, H9, H10, H11, H12, H13, H14, H15, H16, H17, H18, H19⟩, Hk⟩
  iapply (wp_ld c M.a4 r hn I.x4 Φ)
  isplitl [H4]; · iexact H4
  iintro H4
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld5 {r : LoadRect S20x32x64} {hn : 0 < r.shape.numel} {Q : _ → Sc F → Prop} {s : Sc F}
    (h : Q (fun j => I.x5 (r.idx j)) s) : Wp c M I (ld M.a5 r hn) Q s := by
  intro Φ
  unfold St
  iintro ⟨⟨H2, H3, H4, H5, H6, H7, H8, H9, H10, H11, H12, H13, H14, H15, H16, H17, H18, H19⟩, Hk⟩
  iapply (wp_ld c M.a5 r hn I.x5 Φ)
  isplitl [H5]; · iexact H5
  iintro H5
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld6 {r : LoadRect S1280x4608} {hn : 0 < r.shape.numel} {Q : _ → Sc F → Prop} {s : Sc F}
    (h : Q (fun j => I.x6 (r.idx j)) s) : Wp c M I (ld M.a6 r hn) Q s := by
  intro Φ
  unfold St
  iintro ⟨⟨H2, H3, H4, H5, H6, H7, H8, H9, H10, H11, H12, H13, H14, H15, H16, H17, H18, H19⟩, Hk⟩
  iapply (wp_ld c M.a6 r hn I.x6 Φ)
  isplitl [H6]; · iexact H6
  iintro H6
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld7 {r : LoadRect S40x128} {hn : 0 < r.shape.numel} {Q : _ → Sc F → Prop} {s : Sc F}
    (h : Q (fun j => I.x7 (r.idx j)) s) : Wp c M I (ld M.a7 r hn) Q s := by
  intro Φ
  unfold St
  iintro ⟨⟨H2, H3, H4, H5, H6, H7, H8, H9, H10, H11, H12, H13, H14, H15, H16, H17, H18, H19⟩, Hk⟩
  iapply (wp_ld c M.a7 r hn I.x7 Φ)
  isplitl [H7]; · iexact H7
  iintro H7
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld8 {r : LoadRect S40x128} {hn : 0 < r.shape.numel} {Q : _ → Sc F → Prop} {s : Sc F}
    (h : Q (fun j => I.x8 (r.idx j)) s) : Wp c M I (ld M.a8 r hn) Q s := by
  intro Φ
  unfold St
  iintro ⟨⟨H2, H3, H4, H5, H6, H7, H8, H9, H10, H11, H12, H13, H14, H15, H16, H17, H18, H19⟩, Hk⟩
  iapply (wp_ld c M.a8 r hn I.x8 Φ)
  isplitl [H8]; · iexact H8
  iintro H8
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld9 {r : LoadRect S8x128} {hn : 0 < r.shape.numel} {Q : _ → Sc F → Prop} {s : Sc F}
    (h : Q (fun j => I.x9 (r.idx j)) s) : Wp c M I (ld M.a9 r hn) Q s := by
  intro Φ
  unfold St
  iintro ⟨⟨H2, H3, H4, H5, H6, H7, H8, H9, H10, H11, H12, H13, H14, H15, H16, H17, H18, H19⟩, Hk⟩
  iapply (wp_ld c M.a9 r hn I.x9 Φ)
  isplitl [H9]; · iexact H9
  iintro H9
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld10 {r : LoadRect S1x4x16x64x352} {hn : 0 < r.shape.numel} {Q : _ → Sc F → Prop} {s : Sc F}
    (h : Q (fun j => s.x10 (r.idx j)) s) : Wp c M I (ld M.a10 r hn) Q s := by
  intro Φ
  unfold St
  iintro ⟨⟨H2, H3, H4, H5, H6, H7, H8, H9, H10, H11, H12, H13, H14, H15, H16, H17, H18, H19⟩, Hk⟩
  iapply (wp_ld c M.a10 r hn s.x10 Φ)
  isplitl [H10]; · iexact H10
  iintro H10
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.st10 {r : Rect S1x4x16x64x352} {w : r.shape.Idx → Elt F .i8} {hx : (M.a10.access r).Stores Finset.univ}
    {Q : PUnit → Sc F → Prop} {s : Sc F} (h : Q ⟨⟩ { s with x10 := put s.x10 r w }) : Wp c M I (st M.a10 r w hx) Q s := by
  intro Φ
  unfold St
  iintro ⟨⟨H2, H3, H4, H5, H6, H7, H8, H9, H10, H11, H12, H13, H14, H15, H16, H17, H18, H19⟩, Hk⟩
  iapply (wp_st c M.a10 r w hx s.x10 Φ)
  isplitl [H10]; · iexact H10
  iintro H10
  iapply Hk $$ %_ %_ %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld11 {r : LoadRect S1x4x16x352} {hn : 0 < r.shape.numel} {Q : _ → Sc F → Prop} {s : Sc F}
    (h : Q (fun j => s.x11 (r.idx j)) s) : Wp c M I (ld M.a11 r hn) Q s := by
  intro Φ
  unfold St
  iintro ⟨⟨H2, H3, H4, H5, H6, H7, H8, H9, H10, H11, H12, H13, H14, H15, H16, H17, H18, H19⟩, Hk⟩
  iapply (wp_ld c M.a11 r hn s.x11 Φ)
  isplitl [H11]; · iexact H11
  iintro H11
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.st11 {r : Rect S1x4x16x352} {w : r.shape.Idx → Elt F .f32} {hx : (M.a11.access r).Stores Finset.univ}
    {Q : PUnit → Sc F → Prop} {s : Sc F} (h : Q ⟨⟩ { s with x11 := put s.x11 r w }) : Wp c M I (st M.a11 r w hx) Q s := by
  intro Φ
  unfold St
  iintro ⟨⟨H2, H3, H4, H5, H6, H7, H8, H9, H10, H11, H12, H13, H14, H15, H16, H17, H18, H19⟩, Hk⟩
  iapply (wp_st c M.a11 r w hx s.x11 Φ)
  isplitl [H11]; · iexact H11
  iintro H11
  iapply Hk $$ %_ %_ %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld12 {r : LoadRect S1x4x16x64x352} {hn : 0 < r.shape.numel} {Q : _ → Sc F → Prop} {s : Sc F}
    (h : Q (fun j => s.x12 (r.idx j)) s) : Wp c M I (ld M.a12 r hn) Q s := by
  intro Φ
  unfold St
  iintro ⟨⟨H2, H3, H4, H5, H6, H7, H8, H9, H10, H11, H12, H13, H14, H15, H16, H17, H18, H19⟩, Hk⟩
  iapply (wp_ld c M.a12 r hn s.x12 Φ)
  isplitl [H12]; · iexact H12
  iintro H12
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.st12 {r : Rect S1x4x16x64x352} {w : r.shape.Idx → Elt F .i8} {hx : (M.a12.access r).Stores Finset.univ}
    {Q : PUnit → Sc F → Prop} {s : Sc F} (h : Q ⟨⟩ { s with x12 := put s.x12 r w }) : Wp c M I (st M.a12 r w hx) Q s := by
  intro Φ
  unfold St
  iintro ⟨⟨H2, H3, H4, H5, H6, H7, H8, H9, H10, H11, H12, H13, H14, H15, H16, H17, H18, H19⟩, Hk⟩
  iapply (wp_st c M.a12 r w hx s.x12 Φ)
  isplitl [H12]; · iexact H12
  iintro H12
  iapply Hk $$ %_ %_ %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld13 {r : LoadRect S1x4x16x352} {hn : 0 < r.shape.numel} {Q : _ → Sc F → Prop} {s : Sc F}
    (h : Q (fun j => s.x13 (r.idx j)) s) : Wp c M I (ld M.a13 r hn) Q s := by
  intro Φ
  unfold St
  iintro ⟨⟨H2, H3, H4, H5, H6, H7, H8, H9, H10, H11, H12, H13, H14, H15, H16, H17, H18, H19⟩, Hk⟩
  iapply (wp_ld c M.a13 r hn s.x13 Φ)
  isplitl [H13]; · iexact H13
  iintro H13
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.st13 {r : Rect S1x4x16x352} {w : r.shape.Idx → Elt F .f32} {hx : (M.a13.access r).Stores Finset.univ}
    {Q : PUnit → Sc F → Prop} {s : Sc F} (h : Q ⟨⟩ { s with x13 := put s.x13 r w }) : Wp c M I (st M.a13 r w hx) Q s := by
  intro Φ
  unfold St
  iintro ⟨⟨H2, H3, H4, H5, H6, H7, H8, H9, H10, H11, H12, H13, H14, H15, H16, H17, H18, H19⟩, Hk⟩
  iapply (wp_st c M.a13 r w hx s.x13 Φ)
  isplitl [H13]; · iexact H13
  iintro H13
  iapply Hk $$ %_ %_ %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld14 {r : LoadRect S256x1280} {hn : 0 < r.shape.numel} {Q : _ → Sc F → Prop} {s : Sc F}
    (h : Q (fun j => s.x14 (r.idx j)) s) : Wp c M I (ld M.a14 r hn) Q s := by
  intro Φ
  unfold St
  iintro ⟨⟨H2, H3, H4, H5, H6, H7, H8, H9, H10, H11, H12, H13, H14, H15, H16, H17, H18, H19⟩, Hk⟩
  iapply (wp_ld c M.a14 r hn s.x14 Φ)
  isplitl [H14]; · iexact H14
  iintro H14
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.st14 {r : Rect S256x1280} {w : r.shape.Idx → Elt F .fp8e4m3} {hx : (M.a14.access r).Stores Finset.univ}
    {Q : PUnit → Sc F → Prop} {s : Sc F} (h : Q ⟨⟩ { s with x14 := put s.x14 r w }) : Wp c M I (st M.a14 r w hx) Q s := by
  intro Φ
  unfold St
  iintro ⟨⟨H2, H3, H4, H5, H6, H7, H8, H9, H10, H11, H12, H13, H14, H15, H16, H17, H18, H19⟩, Hk⟩
  iapply (wp_st c M.a14 r w hx s.x14 Φ)
  isplitl [H14]; · iexact H14
  iintro H14
  iapply Hk $$ %_ %_ %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld15 {r : LoadRect S256x128} {hn : 0 < r.shape.numel} {Q : _ → Sc F → Prop} {s : Sc F}
    (h : Q (fun j => s.x15 (r.idx j)) s) : Wp c M I (ld M.a15 r hn) Q s := by
  intro Φ
  unfold St
  iintro ⟨⟨H2, H3, H4, H5, H6, H7, H8, H9, H10, H11, H12, H13, H14, H15, H16, H17, H18, H19⟩, Hk⟩
  iapply (wp_ld c M.a15 r hn s.x15 Φ)
  isplitl [H15]; · iexact H15
  iintro H15
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.st15 {r : Rect S256x128} {w : r.shape.Idx → Elt F .f32} {hx : (M.a15.access r).Stores Finset.univ}
    {Q : PUnit → Sc F → Prop} {s : Sc F} (h : Q ⟨⟩ { s with x15 := put s.x15 r w }) : Wp c M I (st M.a15 r w hx) Q s := by
  intro Φ
  unfold St
  iintro ⟨⟨H2, H3, H4, H5, H6, H7, H8, H9, H10, H11, H12, H13, H14, H15, H16, H17, H18, H19⟩, Hk⟩
  iapply (wp_st c M.a15 r w hx s.x15 Φ)
  isplitl [H15]; · iexact H15
  iintro H15
  iapply Hk $$ %_ %_ %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld16 {r : LoadRect S256x128} {hn : 0 < r.shape.numel} {Q : _ → Sc F → Prop} {s : Sc F}
    (h : Q (fun j => s.x16 (r.idx j)) s) : Wp c M I (ld M.a16 r hn) Q s := by
  intro Φ
  unfold St
  iintro ⟨⟨H2, H3, H4, H5, H6, H7, H8, H9, H10, H11, H12, H13, H14, H15, H16, H17, H18, H19⟩, Hk⟩
  iapply (wp_ld c M.a16 r hn s.x16 Φ)
  isplitl [H16]; · iexact H16
  iintro H16
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.st16 {r : Rect S256x128} {w : r.shape.Idx → Elt F .f32} {hx : (M.a16.access r).Stores Finset.univ}
    {Q : PUnit → Sc F → Prop} {s : Sc F} (h : Q ⟨⟩ { s with x16 := put s.x16 r w }) : Wp c M I (st M.a16 r w hx) Q s := by
  intro Φ
  unfold St
  iintro ⟨⟨H2, H3, H4, H5, H6, H7, H8, H9, H10, H11, H12, H13, H14, H15, H16, H17, H18, H19⟩, Hk⟩
  iapply (wp_st c M.a16 r w hx s.x16 Φ)
  isplitl [H16]; · iexact H16
  iintro H16
  iapply Hk $$ %_ %_ %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld17 {r : LoadRect S4x36x64x128} {hn : 0 < r.shape.numel} {Q : _ → Sc F → Prop} {s : Sc F}
    (h : Q (fun j => s.x17 (r.idx j)) s) : Wp c M I (ld M.a17 r hn) Q s := by
  intro Φ
  unfold St
  iintro ⟨⟨H2, H3, H4, H5, H6, H7, H8, H9, H10, H11, H12, H13, H14, H15, H16, H17, H18, H19⟩, Hk⟩
  iapply (wp_ld c M.a17 r hn s.x17 Φ)
  isplitl [H17]; · iexact H17
  iintro H17
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.st17 {r : Rect S4x36x64x128} {w : r.shape.Idx → Elt F .f32} {hx : (M.a17.access r).Stores Finset.univ}
    {Q : PUnit → Sc F → Prop} {s : Sc F} (h : Q ⟨⟩ { s with x17 := put s.x17 r w }) : Wp c M I (st M.a17 r w hx) Q s := by
  intro Φ
  unfold St
  iintro ⟨⟨H2, H3, H4, H5, H6, H7, H8, H9, H10, H11, H12, H13, H14, H15, H16, H17, H18, H19⟩, Hk⟩
  iapply (wp_st c M.a17 r w hx s.x17 Φ)
  isplitl [H17]; · iexact H17
  iintro H17
  iapply Hk $$ %_ %_ %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld18 {r : LoadRect S4x320x128} {hn : 0 < r.shape.numel} {Q : _ → Sc F → Prop} {s : Sc F}
    (h : Q (fun j => s.x18 (r.idx j)) s) : Wp c M I (ld M.a18 r hn) Q s := by
  intro Φ
  unfold St
  iintro ⟨⟨H2, H3, H4, H5, H6, H7, H8, H9, H10, H11, H12, H13, H14, H15, H16, H17, H18, H19⟩, Hk⟩
  iapply (wp_ld c M.a18 r hn s.x18 Φ)
  isplitl [H18]; · iexact H18
  iintro H18
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.st18 {r : Rect S4x320x128} {w : r.shape.Idx → Elt F .f32} {hx : (M.a18.access r).Stores Finset.univ}
    {Q : PUnit → Sc F → Prop} {s : Sc F} (h : Q ⟨⟩ { s with x18 := put s.x18 r w }) : Wp c M I (st M.a18 r w hx) Q s := by
  intro Φ
  unfold St
  iintro ⟨⟨H2, H3, H4, H5, H6, H7, H8, H9, H10, H11, H12, H13, H14, H15, H16, H17, H18, H19⟩, Hk⟩
  iapply (wp_st c M.a18 r w hx s.x18 Φ)
  isplitl [H18]; · iexact H18
  iintro H18
  iapply Hk $$ %_ %_ %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld19 {r : LoadRect S4x40x128} {hn : 0 < r.shape.numel} {Q : _ → Sc F → Prop} {s : Sc F}
    (h : Q (fun j => s.x19 (r.idx j)) s) : Wp c M I (ld M.a19 r hn) Q s := by
  intro Φ
  unfold St
  iintro ⟨⟨H2, H3, H4, H5, H6, H7, H8, H9, H10, H11, H12, H13, H14, H15, H16, H17, H18, H19⟩, Hk⟩
  iapply (wp_ld c M.a19 r hn s.x19 Φ)
  isplitl [H19]; · iexact H19
  iintro H19
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.st19 {r : Rect S4x40x128} {w : r.shape.Idx → Elt F .f32} {hx : (M.a19.access r).Stores Finset.univ}
    {Q : PUnit → Sc F → Prop} {s : Sc F} (h : Q ⟨⟩ { s with x19 := put s.x19 r w }) : Wp c M I (st M.a19 r w hx) Q s := by
  intro Φ
  unfold St
  iintro ⟨⟨H2, H3, H4, H5, H6, H7, H8, H9, H10, H11, H12, H13, H14, H15, H16, H17, H18, H19⟩, Hk⟩
  iapply (wp_st c M.a19 r w hx s.x19 Φ)
  isplitl [H19]; · iexact H19
  iintro H19
  iapply Hk $$ %_ %_ %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- A loop: each trip keeps an invariant, establishes its own fact and keeps the other trips' facts. -/
theorem Wp.each {α : Type} {f : α → Pg F PUnit} (Inv : Sc F → Prop) (Post : α → Sc F → Prop) :
    ∀ (l : List α) (_ : ∀ x ∈ l, ∀ s, Inv s → Wp c M I (f x) (fun _ s' => Inv s' ∧ Post x s' ∧ ∀ y, Post y s → Post y s') s)
      (s : Sc F), Inv s → Wp c M I (Roll.each f l) (fun _ s' => Inv s' ∧ (∀ x ∈ l, Post x s') ∧ ∀ y, Post y s → Post y s') s
  | [], _, s, hi => Wp.pure ⟨hi, fun _ h => absurd h (by simp), fun _ h => h⟩
  | x :: l, hf, s, hi => by
    refine Wp.bind ((hf x (by simp) s hi).mono fun _ s' h => ?_)
    refine (Wp.each Inv Post l (fun y hy => hf y (by simp [hy])) s' h.1).mono fun _ s'' h' => ⟨h'.1, ?_, ?_⟩
    · intro y hy
      rcases List.mem_cons.mp hy with rfl | hy
      · exact h'.2.2 _ h.2.1
      · exact h'.2.1 y hy
    · exact fun y hy => h'.2.2 y (h.2.2 y hy)

end

end Cert.KernelIdeal.Roll

end
-- ==== Proof.Body.lean ====
module

public import proofs.«01_k».proof.Proof.Triple
public import Idealize.ShloMosaic.Lib.Pipeline.ValueKit
public import Idealize.ShloMosaic.Lib.ValueIdxCore
public import Idealize.ShloMosaic.Lib.Pointwise

/-! # What the body writes

The blocks of the results after one run of the body, as functions of the inputs' blocks, and the proof that the rolled
body leaves exactly these. -/

@[expose] public section

noncomputable section

namespace Cert.KernelIdeal.Roll

open Cert.KernelIdeal Idealize.ShloMosaic Idealize.SL.Sem
open Cert.KernelIdeal.Facts Cert.KernelIdeal.Shapes1.Facts₀ Cert.KernelIdeal.Shapes2.Facts₀ Cert.KernelIdeal.K0.Facts₀

variable {F : FTy → Type} [FloatOps F]

/-! ## Reading what a store wrote -/

section put
variable {s : Shape} {α : Type}

theorem put_in (X : s.Idx → α) {off size : Fin s.rank → Nat} {inb} (v : (Rect.unit (s := s) off size inb).shape.Idx → α)
    {p : s.Idx} (j : (Rect.unit (s := s) off size inb).shape.Idx) (h : ∀ a, (p a : Nat) = off a + j a) :
    put X (Rect.unit off size inb) v p = v j := by
  have : p = (Rect.unit off size inb).emb j := funext fun a => Fin.ext (by rw [ValueKit.rect_emb_unit_val, h a])
  rw [this, put_emb]

theorem put_out (X : s.Idx → α) {off size : Fin s.rank → Nat} {inb} (v : (Rect.unit (s := s) off size inb).shape.Idx → α)
    {p : s.Idx} (a : Fin s.rank) (h : (p a : Nat) < off a ∨ off a + size a ≤ p a) :
    put X (Rect.unit off size inb) v p = X p := by
  refine put_of_not X _ v ?_
  rintro ⟨j, rfl⟩
  rw [ValueKit.rect_emb_unit_val] at h
  have : (j a : Nat) < size a := (j a).isLt
  omega

theorem put_ld (X : s.Idx → α) (r : Rect s) (v : r.shape.Idx → α) : (fun j => put X r v (r.toLoadRect.idx j)) = v :=
  funext fun j => put_emb X r v j

theorem put_ld_out (X : s.Idx → α) {off size off' size' : Fin s.rank → Nat} {inb inb'}
    (v : (Rect.unit (s := s) off size inb).shape.Idx → α) (a : Fin s.rank)
    (h : off' a + size' a ≤ off a ∨ off a + size a ≤ off' a) :
    (fun j => put X (Rect.unit off size inb) v ((Rect.unit (s := s) off' size' inb').toLoadRect.idx j)) =
      fun j => X ((Rect.unit (s := s) off' size' inb').toLoadRect.idx j) := by
  funext j
  refine put_out X v a ?_
  have e : (((Rect.unit (s := s) off' size' inb').toLoadRect.idx j) a : Nat) = off' a + j a := ValueKit.rect_emb_unit_val off' size' inb' j a
  have : (j a : Nat) < size' a := (j a).isLt
  rw [e]
  omega

end put

/-! ## The values -/

def xw (I : In F) : Fin 2 → FVec F S1280x256 .fp8e4m3 | 0 => I.x2 | 1 => I.x3
abbrev rW : Rect S1280x256 := Rect.unit (s := S1280x256) ![0, 0] S1280x256.size inb_S1280x256_S1280x256_0_0
abbrev rWs (i : grid0.Coords) (t j : Fin 2) : Rect S640x128 :=
  Rect.unit (s := S640x128) (k0_off1 i (BitVec.ofNat 32 t.val) (BitVec.ofNat 32 j.val)) S1x128.size (k0_off1_inb i t j)
abbrev rB (i : grid0.Coords) (h : Fin 4) : Rect S20x32x64 :=
  Rect.unit (s := S20x32x64) (k0_off2 i (BitVec.ofNat 32 h.val)) S1x1x64.size (k0_off2_inb i h)
/-- The weight block of a pass. -/
def vW (I : In F) (t : Fin 2) : FVec F S256x1280 .fp8e4m3 := wtP (fun j => xw I t (rW.toLoadRect.idx j))
/-- Half `j` of a pass's weight scales. -/
def vWs (I : In F) (i : grid0.Coords) (t j : Fin 2) : FVec F S128x128 .f32 := wsP (fun k => I.x4 ((rWs i t j).toLoadRect.idx k))
/-- Head `h`'s weight scales. -/
def vWh (I : In F) (i : grid0.Coords) (t : Fin 2) (h : Fin 4) : FVec F S64x128 .f32 := fun k =>
  vWs I i t ⟨h.val / 2, by omega⟩ (ix2 ⟨64 * (h.val % 2) + (k 0).val, by have := ValueIdx.idx2_lt0 k; omega⟩ (k 1))
/-- Head `h`'s biases. -/
def vB (I : In F) (i : grid0.Coords) (h : Fin 4) : FVec F S64x128 .f32 := bP (fun k => I.x5 ((rB i h).toLoadRect.idx k))
/-- The product with column block `n`. -/
def vAcc (I : In F) (t : Fin 2) (n : Fin 18) : FVec F S256x256 .f32 := accP (vW I t) (fun j => I.x6 ((rXt n).toLoadRect.idx j))
/-- The projection of half `q` of column block `n`. -/
def vU (I : In F) (i : grid0.Coords) (t : Fin 2) (h : Fin 4) (n : Fin 18) (q : Fin 2) : FVec F S64x128 .f32 :=
  match t with
  | 0 => uK (aP (vAcc I 0 n) h q) (vWh I i 0 h)
  | 1 => uV (aP (vAcc I 1 n) h q) (vWh I i 1 h) (fun j => I.x7 ((rXs1 (up36 (tileOf n q))).toLoadRect.idx j)) (vB I i h)

/-- The column block of a tile, and the half it is. -/
def nOf (T : Fin 36) : Fin 18 := ⟨if T.val < 16 then T.val else if T.val < 32 then T.val - 16 else 16 + (T.val - 32) / 2, by
  have := T.2; split; omega; split <;> omega⟩
def qOf (T : Fin 36) : Fin 2 := ⟨if T.val < 16 then 0 else if T.val < 32 then 1 else (T.val - 32) % 2, by split; omega; split <;> omega⟩
theorem tileOf_nq (T : Fin 36) : tileOf (nOf T) (qOf T) = T := by revert T; decide
theorem tileOf_inj {n n' : Fin 18} {q q' : Fin 2} (h : tileOf n q = tileOf n' q') : n = n' ∧ q = q' := by
  revert n n' q q'; decide

def vT (I : In F) (i : grid0.Coords) (t : Fin 2) (h : Fin 4) (T : Fin 36) : FVec F S64x128 .f32 := vU I i t h (nOf T) (qOf T)

/-- The largest magnitude of a token's head: over the eight partial maxima. -/
def vMax (I : In F) (i : grid0.Coords) (t : Fin 2) (h : Fin 4) (T : Fin 36) (l : Fin 128) : F .f32 :=
  let m (k : Fin 8) : FVec F S8x128 .f32 := fun _ => pmP (vT I i t h T) (ix2 k l)
  maximumf (maximumf (maximumf (maximumf (maximumf (maximumf (maximumf (m 0) (m 1)) (m 2)) (m 3)) (m 4)) (m 5)) (m 6)) (m 7) (ix2 0 0)

/-- The scale of a token's head, from its largest magnitude `m`, its activation scale `x` and its flag `v`. -/
def scOf (t : Fin 2) (m x : F .f32) (v : BitVec 32) : F .f32 :=
  match t with
  | 0 => select (okP fun _ => v) (scP (mulf (fun _ => m) (fun _ => x))) z8 (ix2 0 0)
  | 1 => select (okP fun _ => v) (scP (fun _ => m)) z8 (ix2 0 0)
/-- The factor its codes are rounded from. -/
def rOf (t : Fin 2) (m x : F .f32) (v : BitVec 32) : F .f32 :=
  match t with
  | 0 => select (okP fun _ => v) (divf (fun _ => x) (scP (mulf (fun _ => m) (fun _ => x)))) z8 (ix2 0 0)
  | 1 => select (okP fun _ => v) (divf one8 (scP (fun _ => m))) z8 (ix2 0 0)

def vSc (I : In F) (i : grid0.Coords) (t : Fin 2) (h : Fin 4) (T : Fin 36) (l : Fin 128) : F .f32 :=
  scOf t (vMax I i t h T l) (I.x7 (ix2 (up36 T) l)) (I.x8 (ix2 (up36 T) l))
def vR (I : In F) (i : grid0.Coords) (t : Fin 2) (h : Fin 4) (T : Fin 36) (l : Fin 128) : F .f32 :=
  rOf t (vMax I i t h T l) (I.x7 (ix2 (up36 T) l)) (I.x8 (ix2 (up36 T) l))

/-- The scales of the eight tiles from `8 b` on; past the last tile, zeros. -/
def vS8 (I : In F) (i : grid0.Coords) (t : Fin 2) (h : Fin 4) (b : Fin 5) : FVec F S8x128 .f32 := fun j =>
  if hj : 8 * b.val + (j 0).val < 36 then vSc I i t h ⟨8 * b.val + (j 0).val, hj⟩ (j 1) else z8 j

/-- A tile's codes. -/
def vQ (I : In F) (i : grid0.Coords) (t : Fin 2) (h : Fin 4) (T : Fin 36) : IVec S16x128 32 :=
  codeP (vT I i t h T) (fun j => vR I i t h T (j 1))

def vIx (I : In F) : Ix :=
  ⟨ownOf (fun j => I.x9 ((Rect.unit (s := S8x128) ![0, 0] S1x128.size inb_S8x128_S1x128_0_0).toLoadRect.idx j)),
   ownOf (fun j => I.x9 ((Rect.unit (s := S8x128) ![1, 0] S1x128.size inb_S8x128_S1x128_1_0).toLoadRect.idx j)),
   fun j => I.x9 ((Rect.unit (s := S8x128) ![2, 0] S1x128.size inb_S8x128_S1x128_2_0).toLoadRect.idx j),
   fun j => I.x9 ((Rect.unit (s := S8x128) ![3, 0] S1x128.size inb_S8x128_S1x128_3_0).toLoadRect.idx j)⟩

/-- The scale of page `p`'s slot `s`, head `h`. -/
def oS (I : In F) (i : grid0.Coords) (t : Fin 2) (h : Fin 4) (s : Fin 16) (p : Fin 352) : F .f32 :=
  let b : Fin 2 := ⟨s.val / 8, by omega⟩
  let k : Fin 8 := ⟨s.val % 8, by omega⟩
  let sa := vS8 I i t h ⟨b.val, by omega⟩
  let sb := vS8 I i t h ⟨2 + b.val, by omega⟩
  if h0 : p.val < 128 then select (bc8 (vIx I).ownA) sa z8 (ix2 k ⟨p.val, h0⟩)
  else if h1 : p.val < 256 then select (bc8 (vIx I).ownB) sb z8 (ix2 k ⟨p.val - 128, by omega⟩)
  else s2P (vIx I) sa sb (cP (vS8 I i t h 4) b) (ix2 k ⟨p.val - 256, by omega⟩)

/-- The code of row `d` of page `p`'s slot `s`, head `h`. -/
def oQ (I : In F) (i : grid0.Coords) (t : Fin 2) (h : Fin 4) (s : Fin 16) (d : Fin 64) (p : Fin 352) : BitVec 8 :=
  let c : Fin 4 := ⟨s.val / 4, by omega⟩
  let k : Fin 4 := ⟨s.val % 4, by omega⟩
  let qa := vQ I i t h (tA c k)
  let qb := vQ I i t h (tB c k)
  if h0 : p.val < 128 then unpk (select (bc16 (vIx I).ownA) qa z16) (ix2 d ⟨p.val, h0⟩)
  else if h1 : p.val < 256 then unpk (select (bc16 (vIx I).ownB) qb z16) (ix2 d ⟨p.val - 128, by omega⟩)
  else unpk (q2P (vIx I) k qa qb (vQ I i t h (tC c))) (ix2 d ⟨p.val - 256, by omega⟩)

/-- The block of scales and the block of codes that a pass leaves. -/
def outSc (I : In F) (i : grid0.Coords) (t : Fin 2) : Vec F S1x4x16x352 .f32 := fun p => oS I i t (p 1) (p 2) (p 3)
def outQ (I : In F) (i : grid0.Coords) (t : Fin 2) : Vec F S1x4x16x64x352 .i8 := fun p => oQ I i t (p 1) (p 2) (p 3) (p 4)

/-! ## The weights -/

variable {c : Dev nD} {M : Mems} {I : In F} {i : grid0.Coords}

/-- The weights' scratch holds a pass's values. -/
structure Ws (I : In F) (i : grid0.Coords) (t : Fin 2) (s : Sc F) : Prop where
  w : (fun j => s.x14 (rWt.toLoadRect.idx j)) = vW I t
  ws : ∀ j : Fin 2, (fun k => s.x15 ((rHalf j).toLoadRect.idx k)) = vWs I i t j
  b : t = 1 → ∀ h, (fun k => s.x16 ((rHead h).toLoadRect.idx k)) = vB I i h

/-- The results' blocks, and nothing else, are the same. -/
def SameOut (s s' : Sc F) : Prop := s'.x10 = s.x10 ∧ s'.x11 = s.x11 ∧ s'.x12 = s.x12 ∧ s'.x13 = s.x13

theorem SameOut.rfl' {s : Sc F} : SameOut s s := ⟨rfl, rfl, rfl, rfl⟩

theorem half_out {j j' : Fin 2} (h : j ≠ j') (X : S256x128.Idx → F .f32) (v) :
    (fun k => put X (rHalf j) v ((rHalf j').toLoadRect.idx k)) = fun k => X ((rHalf j').toLoadRect.idx k) :=
  put_ld_out X v 0 (by
    show 128 * j'.val + 128 ≤ 128 * j.val ∨ 128 * j.val + 128 ≤ 128 * j'.val
    have : j.val ≠ j'.val := fun e => h (Fin.ext e)
    omega)

theorem head_out {j j' : Fin 4} (h : j ≠ j') (X : S256x128.Idx → F .f32) (v) :
    (fun k => put X (rHead j) v ((rHead j').toLoadRect.idx k)) = fun k => X ((rHead j').toLoadRect.idx k) :=
  put_ld_out X v 0 (by
    show 64 * j'.val + 64 ≤ 64 * j.val ∨ 64 * j.val + 64 ≤ 64 * j'.val
    have : j.val ≠ j'.val := fun e => h (Fin.ext e)
    omega)

theorem wp_loadW2 (s : Sc F) : Wp c M I (loadW M M.a2) (fun _ s' => s' = { s with x14 := put s.x14 rWt (vW I 0) }) s := by
  unfold loadW
  exact Wp.bind (Wp.ld2 (Wp.bind (Wp.ld14 (Wp.st14 rfl))))
theorem wp_loadW3 (s : Sc F) : Wp c M I (loadW M M.a3) (fun _ s' => s' = { s with x14 := put s.x14 rWt (vW I 1) }) s := by
  unfold loadW
  exact Wp.bind (Wp.ld3 (Wp.bind (Wp.ld14 (Wp.st14 rfl))))
theorem wp_loadWs (t j : Fin 2) (s : Sc F) :
    Wp c M I (loadWs M i t j) (fun _ s' => s' = { s with x15 := put s.x15 (rHalf j) (vWs I i t j) }) s := by
  unfold loadWs
  exact Wp.bind (Wp.ld4 (Wp.bind (Wp.ld15 (Wp.st15 rfl))))
theorem wp_loadB (h : Fin 4) (s : Sc F) :
    Wp c M I (loadB M i h) (fun _ s' => s' = { s with x16 := put s.x16 (rHead h) (vB I i h) }) s := by
  unfold loadB
  exact Wp.bind (Wp.ld5 (Wp.bind (Wp.ld16 (Wp.st16 rfl))))

theorem wp_weights (t : Fin 2) (s : Sc F) : Wp c M I (weights M i t) (fun _ s' => Ws I i t s' ∧ SameOut s s') s := by
  match t with
  | 0 =>
    refine Wp.bind ((wp_loadW2 s).mono ?_)
    rintro _ _ rfl
    refine Wp.bind ((wp_loadWs 0 0 _).mono ?_)
    rintro _ _ rfl
    refine (wp_loadWs 0 1 _).mono ?_
    rintro _ _ rfl
    refine ⟨⟨put_ld _ _ _, fun j => ?_, fun h => absurd h (by decide)⟩, rfl, rfl, rfl, rfl⟩
    match j with
    | 0 => exact (half_out (by decide) _ _).trans (put_ld _ _ _)
    | 1 => exact put_ld _ _ _
  | 1 =>
    refine Wp.bind ((wp_loadW3 s).mono ?_)
    rintro _ _ rfl
    refine Wp.bind ((wp_loadWs 1 0 _).mono ?_)
    rintro _ _ rfl
    refine Wp.bind ((wp_loadWs 1 1 _).mono ?_)
    rintro _ _ rfl
    refine Wp.bind ((wp_loadB 0 _).mono ?_)
    rintro _ _ rfl
    refine Wp.bind ((wp_loadB 1 _).mono ?_)
    rintro _ _ rfl
    refine Wp.bind ((wp_loadB 2 _).mono ?_)
    rintro _ _ rfl
    refine (wp_loadB 3 _).mono ?_
    rintro _ _ rfl
    refine ⟨⟨put_ld _ _ _, fun j => ?_, fun _ h => ?_⟩, rfl, rfl, rfl, rfl⟩
    · match j with
      | 0 => exact (half_out (by decide) _ _).trans (put_ld _ _ _)
      | 1 => exact put_ld _ _ _
    · match h with
      | 0 => exact (head_out (by decide) _ _).trans ((head_out (by decide) _ _).trans ((head_out (by decide) _ _).trans (put_ld _ _ _)))
      | 1 => exact (head_out (by decide) _ _).trans ((head_out (by decide) _ _).trans (put_ld _ _ _))
      | 2 => exact (head_out (by decide) _ _).trans (put_ld _ _ _)
      | 3 => exact put_ld _ _ _

theorem Ws.head {t : Fin 2} {s : Sc F} (w : Ws I i t s) (h : Fin 4) :
    (fun k => s.x15 ((rHead h).toLoadRect.idx k)) = vWh I i t h := by
  funext k
  have := congrFun (w.ws ⟨h.val / 2, by omega⟩) (ix2 ⟨64 * (h.val % 2) + (k 0).val, by have : (k 0).val < 64 := (k 0).isLt; omega⟩ (k 1))
  refine Eq.trans ?_ this
  refine congrArg s.x15 (funext fun a => Fin.ext ?_)
  refine (ValueKit.rect_emb_unit_val _ _ _ k a).trans (Eq.trans ?_ (ValueKit.rect_emb_unit_val _ _ _ _ a).symm)
  match a with
  | ⟨0, _⟩ => show 64 * h.val + (k 0).val = 128 * (h.val / 2) + (64 * (h.val % 2) + (k 0).val); omega
  | ⟨1, _⟩ => rfl

end Cert.KernelIdeal.Roll

end
-- ==== Proof.Passes.lean ====
module

public import proofs.«01_k».proof.Proof.Body

/-! # One run of the body

The rolled body's loops: the projections, the scales, the codes; then the two passes. -/

@[expose] public section

noncomputable section

namespace Cert.KernelIdeal.Roll

open Cert.KernelIdeal Idealize.ShloMosaic Idealize.SL.Sem
open Cert.KernelIdeal.Facts Cert.KernelIdeal.Shapes1.Facts₀ Cert.KernelIdeal.Shapes2.Facts₀ Cert.KernelIdeal.K0.Facts₀

variable {F : FTy → Type} [FloatOps F]
variable {c : Dev nD} {M : Mems} {I : In F} {i : grid0.Coords}

/-! ## The projections -/

/-- The scratch holds tile `T` of head `h`, and its partial maxima. -/
def HasT (I : In F) (i : grid0.Coords) (t : Fin 2) (h : Fin 4) (T : Fin 36) (s : Sc F) : Prop :=
  (fun j => s.x17 ((rU h T).toLoadRect.idx j)) = shapeCast S1x1x64x128 (vT I i t h T) shapeCasts_S64x128_S1x1x64x128 ∧
  (fun j => s.x18 ((rPm h (up36 T)).toLoadRect.idx j)) = shapeCast S1x8x128 (pmP (vT I i t h T)) shapeCasts_S8x128_S1x8x128

theorem u_out {h h' : Fin 4} {T T' : Fin 36} (e : h ≠ h' ∨ T ≠ T') (X : S4x36x64x128.Idx → F .f32) (v) :
    (fun k => put X (rU h T) v ((rU h' T').toLoadRect.idx k)) = fun k => X ((rU h' T').toLoadRect.idx k) := by
  rcases e with e | e
  · refine put_ld_out X v 0 ?_
    show h'.val + 1 ≤ h.val ∨ h.val + 1 ≤ h'.val
    have : h.val ≠ h'.val := fun e' => e (Fin.ext e')
    omega
  · refine put_ld_out X v 1 ?_
    show T'.val + 1 ≤ T.val ∨ T.val + 1 ≤ T'.val
    have : T.val ≠ T'.val := fun e' => e (Fin.ext e')
    omega

theorem pm_out {h h' : Fin 4} {T T' : Fin 36} (e : h ≠ h' ∨ T ≠ T') (X : S4x320x128.Idx → F .f32) (v) :
    (fun k => put X (rPm h (up36 T)) v ((rPm h' (up36 T')).toLoadRect.idx k)) = fun k => X ((rPm h' (up36 T')).toLoadRect.idx k) := by
  rcases e with e | e
  · refine put_ld_out X v 0 ?_
    show h'.val + 1 ≤ h.val ∨ h.val + 1 ≤ h'.val
    have : h.val ≠ h'.val := fun e' => e (Fin.ext e')
    omega
  · refine put_ld_out X v 1 ?_
    show 8 * T'.val + 8 ≤ 8 * T.val ∨ 8 * T.val + 8 ≤ 8 * T'.val
    have : T.val ≠ T'.val := fun e' => e (Fin.ext e')
    omega

theorem wp_mm {t : Fin 2} {s : Sc F} (w : Ws I i t s) (n : Fin 18) : Wp c M I (mm M n) (fun a s' => a = vAcc I t n ∧ s' = s) s := by
  refine Wp.bind (Wp.ld14 (Wp.bind (Wp.ld6 (Wp.pure ⟨?_, rfl⟩))))
  rw [w.w]; rfl

theorem wp_stU (h : Fin 4) (T : Fin 36) (u : FVec F S64x128 .f32) (s : Sc F) : Wp c M I (stU M h T u)
    (fun _ s' => s' = { s with x17 := put s.x17 (rU h T) (shapeCast S1x1x64x128 u shapeCasts_S64x128_S1x1x64x128) }) s :=
  Wp.bind (Wp.ld17 (Wp.st17 rfl))
theorem wp_stPm (h : Fin 4) (T : Fin 36) (u : FVec F S64x128 .f32) (s : Sc F) : Wp c M I (stPm M h T u)
    (fun _ s' => s' = { s with x18 := put s.x18 (rPm h (up36 T)) (shapeCast S1x8x128 (pmP u) shapeCasts_S8x128_S1x8x128) }) s :=
  Wp.bind (Wp.ld18 (Wp.st18 rfl))

theorem vU_tile (t : Fin 2) (h : Fin 4) (n : Fin 18) (q : Fin 2) : vT I i t h (tileOf n q) = vU I i t h n q := by
  have := tileOf_inj (tileOf_nq (tileOf n q))
  unfold vT
  rw [this.1, this.2]

theorem wp_tile {t : Fin 2} {s : Sc F} (w : Ws I i t s) (n : Fin 18) (q : Fin 2) (h : Fin 4) :
    Wp c M I (tile M t (vAcc I t n) n q h) (fun _ s' => s' = { s with
      x17 := put s.x17 (rU h (tileOf n q)) (shapeCast S1x1x64x128 (vT I i t h (tileOf n q)) shapeCasts_S64x128_S1x1x64x128)
      x18 := put s.x18 (rPm h (up36 (tileOf n q))) (shapeCast S1x8x128 (pmP (vT I i t h (tileOf n q))) shapeCasts_S8x128_S1x8x128) }) s := by
  rw [vU_tile]
  match t with
  | 0 =>
    refine Wp.bind (Wp.ld15 (hn := h_S64x128) ?_)
    rw [w.head h]
    refine Wp.bind ((wp_stU _ _ _ _).mono ?_)
    rintro _ _ rfl
    exact wp_stPm _ _ _ _
  | 1 =>
    refine Wp.bind (Wp.ld15 (hn := h_S64x128) (Wp.bind (Wp.ld7 (hn := h_S1x128) (Wp.bind (Wp.ld16 (hn := h_S64x128) ?_)))))
    rw [w.head h, w.b rfl h]
    refine Wp.bind ((wp_stU _ _ _ _).mono ?_)
    rintro _ _ rfl
    exact wp_stPm _ _ _ _

theorem HasT.step {t : Fin 2} {s : Sc F} {h : Fin 4} {T : Fin 36} {s' : Sc F}
    (e : s' = { s with
      x17 := put s.x17 (rU h T) (shapeCast S1x1x64x128 (vT I i t h T) shapeCasts_S64x128_S1x1x64x128)
      x18 := put s.x18 (rPm h (up36 T)) (shapeCast S1x8x128 (pmP (vT I i t h T)) shapeCasts_S8x128_S1x8x128) }) :
    HasT I i t h T s' ∧ ∀ h' T', HasT I i t h' T' s → HasT I i t h' T' s' := by
  subst e
  have e17 := put_ld s.x17 (rU h T) (shapeCast S1x1x64x128 (vT I i t h T) shapeCasts_S64x128_S1x1x64x128)
  have e18 := put_ld s.x18 (rPm h (up36 T)) (shapeCast S1x8x128 (pmP (vT I i t h T)) shapeCasts_S8x128_S1x8x128)
  refine ⟨⟨e17, e18⟩, fun h' T' k => ?_⟩
  by_cases e : h = h' ∧ T = T'
  · obtain ⟨rfl, rfl⟩ := e
    exact ⟨e17, e18⟩
  · have e' : h ≠ h' ∨ T ≠ T' := by by_cases eh : h = h'; exact .inr fun eT => e ⟨eh, eT⟩; exact .inl eh
    have o17 := u_out e' s.x17 (shapeCast S1x1x64x128 (vT I i t h T) shapeCasts_S64x128_S1x1x64x128)
    have o18 := pm_out e' s.x18 (shapeCast S1x8x128 (pmP (vT I i t h T)) shapeCasts_S8x128_S1x8x128)
    exact ⟨o17.trans k.1, o18.trans k.2⟩

theorem wp_proj {t : Fin 2} {s : Sc F} (w : Ws I i t s) (n : Fin 18) : Wp c M I (proj M t n) (fun _ s' =>
    Ws I i t s' ∧ SameOut s s' ∧ (∀ q h, HasT I i t h (tileOf n q) s') ∧ ∀ h' T', HasT I i t h' T' s → HasT I i t h' T' s') s := by
  refine Wp.bind ((wp_mm w n).mono ?_)
  rintro a s1 ⟨ea, es⟩
  rw [ea, es]
  refine (Wp.each (fun s' => Ws I i t s' ∧ SameOut s s' ∧ ∀ h' T', HasT I i t h' T' s → HasT I i t h' T' s')
    (fun p s' => HasT I i t p.2 (tileOf n p.1) s') qh ?_ s ⟨w, SameOut.rfl', fun _ _ h => h⟩).mono ?_
  · rintro ⟨q, h⟩ _ s' ⟨w', so, k⟩
    refine (wp_tile w' n q h).mono fun _ s'' e => ?_
    have st := HasT.step e
    subst e
    exact ⟨⟨⟨w'.w, w'.ws, w'.b⟩, so, fun h' T' x => st.2 _ _ (k _ _ x)⟩, st.1, fun y x => st.2 _ _ x⟩
  · rintro _ s' ⟨⟨w', so, k⟩, p, -⟩
    refine ⟨w', so, fun q h => p (q, h) ?_, k⟩
    revert q h; decide

/-- The scratch holds every tile. -/
def AllT (I : In F) (i : grid0.Coords) (t : Fin 2) (s : Sc F) : Prop := ∀ h T, HasT I i t h T s

theorem wp_projs {t : Fin 2} {x : Ix} {s : Sc F} (w : Ws I i t s) :
    Wp c M I (each (run M i x) (projs t)) (fun _ s' => AllT I i t s' ∧ SameOut s s') s := by
  refine (Wp.each (fun s' => Ws I i t s' ∧ SameOut s s')
    (fun y s' => match y with | .proj t' n => t' = t → ∀ q h, HasT I i t h (tileOf n q) s' | _ => True) _ ?_ s ⟨w, SameOut.rfl'⟩).mono ?_
  · intro y hy s' ⟨w', so⟩
    obtain ⟨n, _, rfl⟩ := List.mem_map.mp hy
    refine (wp_proj w' n).mono fun _ s'' ⟨w'', so', p, k⟩ => ⟨⟨w'', ?_⟩, fun _ => p, fun y x => ?_⟩
    · exact ⟨so'.1.trans so.1, so'.2.1.trans so.2.1, so'.2.2.1.trans so.2.2.1, so'.2.2.2.trans so.2.2.2⟩
    · cases y <;> first | trivial | exact fun e q h => k _ _ (x e q h)
  · rintro _ s' ⟨⟨w', so⟩, p, -⟩
    refine ⟨fun h T => ?_, so⟩
    have := p (.proj t (nOf T)) (List.mem_map.mpr ⟨_, List.mem_finRange _, rfl⟩) rfl (qOf T) h
    rwa [tileOf_nq] at this

/-! ## The scales -/

theorem cast_8 {α : Type} (v : S8x128.Idx → α) (h) (k : Fin 8) (l : Fin 128) : shapeCast S1x8x128 v h (ix3 0 k l) = v (ix2 k l) := by
  pointwise
theorem cast_8' {α : Type} (v : S1x8x128.Idx → α) (h) (k : Fin 8) (l : Fin 128) : shapeCast S8x128 v h (ix2 k l) = v (ix3 0 k l) := by
  pointwise

theorem HasT.pm {t : Fin 2} {h : Fin 4} {T : Fin 36} {s : Sc F} (w : HasT I i t h T s) (b : Fin 5) (k r : Fin 8) (l : Fin 128)
    (hr : 8 * b.val + r.val = T.val) : s.x18 ((rPs h b k).idx (ix3 0 r l)) = pmP (vT I i t h T) (ix2 k l) := by
  rw [← cast_8 (pmP (vT I i t h T)) shapeCasts_S8x128_S1x8x128 k l, ← w.2]
  refine congrArg s.x18 (funext fun a => Fin.ext ?_)
  refine Eq.trans ?_ (ValueKit.rect_emb_unit_val _ _ _ _ a).symm
  match a with
  | ⟨0, _⟩ => rfl
  | ⟨1, _⟩ => show 64 * b.val + k.val + 8 * r.val = 8 * T.val + k.val; omega
  | ⟨2, _⟩ => show 0 + 1 * l.val = 0 + l.val; omega

theorem wp_ldPs {t : Fin 2} {s : Sc F} (w : AllT I i t s) (h : Fin 4) (b : Fin 5) (k : Fin 8) : Wp c M I (ldPs M h b k)
    (fun v s' => s' = s ∧ ∀ (r : Fin 8) (l : Fin 128) (T : Fin 36), 8 * b.val + r.val = T.val → v (ix2 r l) = pmP (vT I i t h T) (ix2 k l)) s := by
  refine Wp.bind (Wp.ld18 (Wp.pure ⟨rfl, fun r l T hr => ?_⟩))
  exact (cast_8' _ _ r l).trans ((w h T).pm b k r l hr)

theorem wp_ldMax {t : Fin 2} {s : Sc F} (w : AllT I i t s) (h : Fin 4) (b : Fin 5) : Wp c M I (ldMax M h b)
    (fun v s' => s' = s ∧ ∀ (r : Fin 8) (l : Fin 128) (T : Fin 36), 8 * b.val + r.val = T.val → v (ix2 r l) = vMax I i t h T l) s := by
  unfold ldMax
  refine Wp.bind ((wp_ldPs w h b 0).mono ?_); rintro m0 _ ⟨rfl, h0⟩
  refine Wp.bind ((wp_ldPs w h b 1).mono ?_); rintro m1 _ ⟨rfl, h1⟩
  refine Wp.bind ((wp_ldPs w h b 2).mono ?_); rintro m2 _ ⟨rfl, h2⟩
  refine Wp.bind ((wp_ldPs w h b 3).mono ?_); rintro m3 _ ⟨rfl, h3⟩
  refine Wp.bind ((wp_ldPs w h b 4).mono ?_); rintro m4 _ ⟨rfl, h4⟩
  refine Wp.bind ((wp_ldPs w h b 5).mono ?_); rintro m5 _ ⟨rfl, h5⟩
  refine Wp.bind ((wp_ldPs w h b 6).mono ?_); rintro m6 _ ⟨rfl, h6⟩
  refine Wp.bind ((wp_ldPs w h b 7).mono ?_); rintro m7 _ ⟨rfl, h7⟩
  refine Wp.pure ⟨rfl, fun r l T hr => ?_⟩
  simp only [vMax, maximumf, h0 r l T hr, h1 r l T hr, h2 r l T hr, h3 r l T hr, h4 r l T hr, h5 r l T hr, h6 r l T hr, h7 r l T hr]

/-- The scratch of factors holds those of the tiles from `8 b` on. -/
def HasR (I : In F) (i : grid0.Coords) (t : Fin 2) (h : Fin 4) (b : Fin 5) (s : Sc F) : Prop :=
  ∀ T : Fin 36, T.val / 8 = b.val → (fun j => s.x19 ((rR1 h (up36 T)).toLoadRect.idx j)) = fun j => vR I i t h T (j 2)

theorem r_out {h : Fin 4} {b : Fin 5} {T : Fin 36} (e : T.val / 8 ≠ b.val) (X : S4x40x128.Idx → F .f32) (v) :
    (fun k => put X (rR8 h b) v ((rR1 h (up36 T)).toLoadRect.idx k)) = fun k => X ((rR1 h (up36 T)).toLoadRect.idx k) := by
  refine put_ld_out X v 1 ?_
  show T.val + 1 ≤ 8 * b.val ∨ 8 * b.val + 8 ≤ T.val
  omega

theorem HasR.step {t : Fin 2} {h : Fin 4} {b : Fin 5} {s s' : Sc F} {r : FVec F S8x128 .f32}
    (hr : ∀ (k : Fin 8) (l : Fin 128) (T : Fin 36), 8 * b.val + k.val = T.val → r (ix2 k l) = vR I i t h T l)
    (e : s' = { s with x19 := put s.x19 (rR8 h b) (shapeCast S1x8x128 r shapeCasts_S8x128_S1x8x128) }) :
    HasR I i t h b s' ∧ ∀ b', HasR I i t h b' s → HasR I i t h b' s' := by
  subst e
  have hb : HasR I i t h b { s with x19 := put s.x19 (rR8 h b) (shapeCast S1x8x128 r shapeCasts_S8x128_S1x8x128) } := by
    intro T hT
    funext j
    have hj0 : (j 0).val < 1 := (j 0).isLt
    have hj1 : (j 1).val < 1 := (j 1).isLt
    have hk : T.val % 8 < 8 := by omega
    refine (put_in _ _ (ix3 0 ⟨T.val % 8, hk⟩ (j 2)) fun a => ?_).trans ?_
    · refine (ValueKit.rect_emb_unit_val _ _ _ j a).trans ?_
      match a with
      | ⟨0, _⟩ => show h.val + (j 0).val = h.val + 0; omega
      | ⟨1, _⟩ => show T.val + (j 1).val = 8 * b.val + T.val % 8; omega
      | ⟨2, _⟩ => show 0 + (j 2).val = 0 + (j 2).val; rfl
    · exact (cast_8 r _ _ _).trans (hr ⟨T.val % 8, hk⟩ (j 2) T (by show 8 * b.val + T.val % 8 = T.val; omega))
  refine ⟨hb, fun b' k => ?_⟩
  by_cases e : b' = b
  · exact e ▸ hb
  · intro T hT
    have o := r_out (h := h) (T := T) (b := b) (fun e' => e (Fin.ext (hT.symm.trans e'))) s.x19 (shapeCast S1x8x128 r shapeCasts_S8x128_S1x8x128)
    exact o.trans (k T hT)

theorem wp_stR (h : Fin 4) (b : Fin 5) (r : FVec F S8x128 .f32) (s : Sc F) : Wp c M I (stR M h b r)
    (fun _ s' => s' = { s with x19 := put s.x19 (rR8 h b) (shapeCast S1x8x128 r shapeCasts_S8x128_S1x8x128) }) s :=
  Wp.bind (Wp.ld19 (Wp.st19 rfl))

theorem wp_ldXs8 (b : Fin 5) (s : Sc F) : Wp c M I (ldXs8 M b) (fun v s' => v = (fun j => I.x7 ((rXs8 b).toLoadRect.idx j)) ∧ s' = s) s :=
  Wp.ld7 (hn := h_S8x128) ⟨rfl, rfl⟩
theorem wp_ldVal (b : Fin 5) (s : Sc F) : Wp c M I (ldVal M b) (fun v s' => v = (fun j => I.x8 ((rXs8 b).toLoadRect.idx j)) ∧ s' = s) s :=
  Wp.ld8 (hn := h_S8x128) ⟨rfl, rfl⟩

theorem xs8_at {α : Type} (X : S40x128.Idx → α) (b : Fin 5) (k : Fin 8) (l : Fin 128) (T : Fin 36) (hr : 8 * b.val + k.val = T.val) :
    X ((rXs8 b).toLoadRect.idx (ix2 k l)) = X (ix2 (up36 T) l) := by
  refine congrArg X (funext fun a => Fin.ext ?_)
  refine (ValueKit.rect_emb_unit_val _ _ _ _ a).trans ?_
  match a with
  | ⟨0, _⟩ => exact hr
  | ⟨1, _⟩ => show 0 + l.val = l.val; omega

/-- The results' scales and codes of a pass; and the other pass's. -/
def getS (t : Fin 2) (s : Sc F) : Vec F S1x4x16x352 .f32 := match t with | 0 => s.x11 | 1 => s.x13
def getQ (t : Fin 2) (s : Sc F) : Vec F S1x4x16x64x352 .i8 := match t with | 0 => s.x10 | 1 => s.x12
def setS (t : Fin 2) (s : Sc F) (X : Vec F S1x4x16x352 .f32) : Sc F := match t with | 0 => { s with x11 := X } | 1 => { s with x13 := X }
def setQ (t : Fin 2) (s : Sc F) (X : Vec F S1x4x16x64x352 .i8) : Sc F := match t with | 0 => { s with x10 := X } | 1 => { s with x12 := X }

theorem wp_scale {t : Fin 2} {s : Sc F} (w : AllT I i t s) (h : Fin 4) (b : Fin 5) : Wp c M I (scale M t h b)
    (fun v s' => (∀ (k : Fin 8) (l : Fin 128) (T : Fin 36), 8 * b.val + k.val = T.val → v (ix2 k l) = vSc I i t h T l) ∧
      (∃ X, s' = { s with x19 := X }) ∧ HasR I i t h b s' ∧ ∀ b', HasR I i t h b' s → HasR I i t h b' s') s := by
  match t with
  | 0 =>
    refine Wp.bind ((wp_ldMax w h b).mono ?_)
    rintro m _ ⟨rfl, hm⟩
    refine Wp.bind ((wp_ldXs8 b _).mono ?_)
    rintro _ _ ⟨rfl, rfl⟩
    refine Wp.bind ((wp_ldVal b _).mono ?_)
    rintro _ _ ⟨rfl, rfl⟩
    refine Wp.bind ((wp_stR _ _ _ _).mono ?_)
    intro _ s' e
    have st := HasR.step (I := I) (i := i) (t := 0) ?_ e
    · refine Wp.pure ⟨?_, ⟨_, e⟩, st⟩
      intro k l T hT
      have h7 := xs8_at I.x7 b k l T hT
      have h8 := xs8_at I.x8 b k l T hT
      simp only [vSc, scOf, select, okP, cmpi, scP, mulf, z8, one8, broadcast, divf, cmpf, ← h7, ← h8, ← hm k l T hT]
    · intro k l T hT
      have h7 := xs8_at I.x7 b k l T hT
      have h8 := xs8_at I.x8 b k l T hT
      simp only [vR, rOf, select, okP, cmpi, scP, mulf, z8, one8, broadcast, divf, cmpf, ← h7, ← h8, ← hm k l T hT]
  | 1 =>
    refine Wp.bind ((wp_ldMax w h b).mono ?_)
    rintro m _ ⟨rfl, hm⟩
    refine Wp.bind ((wp_ldVal b _).mono ?_)
    rintro _ _ ⟨rfl, rfl⟩
    refine Wp.bind ((wp_stR _ _ _ _).mono ?_)
    intro _ s' e
    have st := HasR.step (I := I) (i := i) (t := 1) ?_ e
    · refine Wp.pure ⟨?_, ⟨_, e⟩, st⟩
      intro k l T hT
      have h8 := xs8_at I.x8 b k l T hT
      simp only [vSc, scOf, select, okP, cmpi, scP, mulf, z8, one8, broadcast, divf, cmpf, ← h8, ← hm k l T hT]
    · intro k l T hT
      have h8 := xs8_at I.x8 b k l T hT
      simp only [vR, rOf, select, okP, cmpi, scP, mulf, z8, one8, broadcast, divf, cmpf, ← h8, ← hm k l T hT]

end Cert.KernelIdeal.Roll

end
-- ==== Proof.Heads.lean ====
module

public import proofs.«01_k».proof.Proof.Passes

/-! # One run of the body, continued

What a head's trips store, what a pass stores, and what the whole body stores. -/

@[expose] public section

noncomputable section

namespace Cert.KernelIdeal.Roll

open Cert.KernelIdeal Idealize.ShloMosaic Idealize.SL.Sem
open Cert.KernelIdeal.Facts Cert.KernelIdeal.Shapes1.Facts₀ Cert.KernelIdeal.Shapes2.Facts₀ Cert.KernelIdeal.K0.Facts₀

variable {F : FTy → Type} [FloatOps F]
variable {c : Dev nD} {M : Mems} {I : In F} {i : grid0.Coords}

/-! ## The results of a pass, and the other pass's -/

def Oth (t : Fin 2) (s : Sc F) : Vec F S1x4x16x64x352 .i8 × Vec F S1x4x16x352 .f32 :=
  match t with | 0 => (s.x12, s.x13) | 1 => (s.x10, s.x11)

theorem getS_setS (t : Fin 2) (s : Sc F) (X) : getS t (setS t s X) = X := by match t with | 0 => rfl | 1 => rfl
theorem getQ_setS (t : Fin 2) (s : Sc F) (X) : getQ t (setS t s X) = getQ t s := by match t with | 0 => rfl | 1 => rfl
theorem Oth_setS (t : Fin 2) (s : Sc F) (X) : Oth t (setS t s X) = Oth t s := by match t with | 0 => rfl | 1 => rfl
theorem getQ_setQ (t : Fin 2) (s : Sc F) (X) : getQ t (setQ t s X) = X := by match t with | 0 => rfl | 1 => rfl
theorem getS_setQ (t : Fin 2) (s : Sc F) (X) : getS t (setQ t s X) = getS t s := by match t with | 0 => rfl | 1 => rfl
theorem Oth_setQ (t : Fin 2) (s : Sc F) (X) : Oth t (setQ t s X) = Oth t s := by match t with | 0 => rfl | 1 => rfl
theorem AllT.setS {t : Fin 2} {s : Sc F} (w : AllT I i t s) (t' : Fin 2) (X) : AllT I i t (setS t' s X) := by match t' with | 0 => exact w | 1 => exact w
theorem AllT.setQ {t : Fin 2} {s : Sc F} (w : AllT I i t s) (t' : Fin 2) (X) : AllT I i t (setQ t' s X) := by match t' with | 0 => exact w | 1 => exact w
theorem HasR.setS {t : Fin 2} {h : Fin 4} {b : Fin 5} {s : Sc F} (w : HasR I i t h b s) (t' : Fin 2) (X) : HasR I i t h b (setS t' s X) := by
  match t' with | 0 => exact w | 1 => exact w
theorem HasR.setQ {t : Fin 2} {h : Fin 4} {b : Fin 5} {s : Sc F} (w : HasR I i t h b s) (t' : Fin 2) (X) : HasR I i t h b (setQ t' s X) := by
  match t' with | 0 => exact w | 1 => exact w

/-! ## The stores of the scales -/

theorem cast_11_8 {α : Type} (v : S8x128.Idx → α) (h) (k : Fin 8) (l : Fin 128) : shapeCast S1x1x8x128 v h (ix4 0 0 k l) = v (ix2 k l) := by
  pointwise
theorem cast_11_8t {α : Type} (v : S8x128.Idx → α) (h) (h') (k : Fin 8) (l : Fin 96) :
    shapeCast S1x1x8x96 (extractStridedSlice S8x96 ![0, 0] v h') h (ix4 0 0 k l) = v (ix2 k ⟨l.val, by omega⟩) := by
  pointwise
theorem cast_111_64 {α : Type} (v : S64x128.Idx → α) (h) (k : Fin 64) (l : Fin 128) : shapeCast S1x1x1x64x128 v h (ix5 0 0 0 k l) = v (ix2 k l) := by
  pointwise
theorem cast_111_64t {α : Type} (v : S64x128.Idx → α) (h) (h') (k : Fin 64) (l : Fin 96) :
    shapeCast S1x1x1x64x96 (extractStridedSlice S64x96 ![0, 0] v h') h (ix5 0 0 0 k l) = v (ix2 k ⟨l.val, by omega⟩) := by
  pointwise

theorem so_in (X : S1x4x16x352.Idx → F .f32) (h : Fin 4) (b c : Fin 2) (v : FVec F S8x128 .f32) (p : S1x4x16x352.Idx) (k : Fin 8) (l : Fin 128)
    (e1 : (p 1).val = h.val) (e2 : (p 2).val = 8 * b.val + k.val) (e3 : (p 3).val = 128 * c.val + l.val) :
    put X (rSo h b c) (shapeCast S1x1x8x128 v shapeCasts_S8x128_S1x1x8x128) p = v (ix2 k l) := by
  have p0 : (p 0).val < 1 := (p 0).isLt
  have e := put_in X (off := ![0, h.val, 8 * b.val, 128 * c.val]) (size := S1x1x8x128.size) (inb := inbSo h b c)
    (shapeCast S1x1x8x128 v shapeCasts_S8x128_S1x1x8x128) (p := p) (ix4 (0 : Fin 1) (0 : Fin 1) k l) (fun a => by
      match a with
      | ⟨0, _⟩ => show (p 0).val = 0 + 0; omega
      | ⟨1, _⟩ => show (p 1).val = h.val + 0; omega
      | ⟨2, _⟩ => exact e2
      | ⟨3, _⟩ => exact e3)
  exact e.trans (cast_11_8 v _ k l)

theorem soT_in (X : S1x4x16x352.Idx → F .f32) (h : Fin 4) (b : Fin 2) (v : FVec F S8x128 .f32) (p : S1x4x16x352.Idx) (k : Fin 8) (l : Fin 96)
    (e1 : (p 1).val = h.val) (e2 : (p 2).val = 8 * b.val + k.val) (e3 : (p 3).val = 256 + l.val) :
    put X (rSoT h b) (shapeCast S1x1x8x96 (extractStridedSlice S8x96 ![0, 0] v slices_S8x128_o0_0_S8x96) shapeCasts_S8x96_S1x1x8x96) p =
      v (ix2 k ⟨l.val, by omega⟩) := by
  have p0 : (p 0).val < 1 := (p 0).isLt
  have e := put_in X (off := ![0, h.val, 8 * b.val, 256]) (size := S1x1x8x96.size) (inb := inbSoT h b)
    (shapeCast S1x1x8x96 (extractStridedSlice S8x96 ![0, 0] v slices_S8x128_o0_0_S8x96) shapeCasts_S8x96_S1x1x8x96) (p := p)
    (ix4 (0 : Fin 1) (0 : Fin 1) k l) (fun a => by
      match a with
      | ⟨0, _⟩ => show (p 0).val = 0 + 0; omega
      | ⟨1, _⟩ => show (p 1).val = h.val + 0; omega
      | ⟨2, _⟩ => exact e2
      | ⟨3, _⟩ => exact e3)
  exact e.trans (cast_11_8t v _ _ k l)

theorem o_in (X : S1x4x16x64x352.Idx → BitVec 8) (h : Fin 4) (n : Fin 16) (c : Fin 2) (v : IVec S64x128 8) (p : S1x4x16x64x352.Idx)
    (k : Fin 64) (l : Fin 128)
    (e1 : (p 1).val = h.val) (e2 : (p 2).val = n.val) (e3 : (p 3).val = k.val) (e4 : (p 4).val = 128 * c.val + l.val) :
    put X (rO h n c) (shapeCast S1x1x1x64x128 v shapeCasts_S64x128_S1x1x1x64x128) p = v (ix2 k l) := by
  have p0 : (p 0).val < 1 := (p 0).isLt
  have e := put_in X (off := ![0, h.val, n.val, 0, 128 * c.val]) (size := S1x1x1x64x128.size) (inb := inbO h n c)
    (shapeCast S1x1x1x64x128 v shapeCasts_S64x128_S1x1x1x64x128) (p := p) (ix5 (0 : Fin 1) (0 : Fin 1) (0 : Fin 1) k l) (fun a => by
      match a with
      | ⟨0, _⟩ => show (p 0).val = 0 + 0; omega
      | ⟨1, _⟩ => show (p 1).val = h.val + 0; omega
      | ⟨2, _⟩ => show (p 2).val = n.val + 0; omega
      | ⟨3, _⟩ => show (p 3).val = 0 + k.val; omega
      | ⟨4, _⟩ => exact e4)
  exact e.trans (cast_111_64 v _ k l)

theorem oT_in (X : S1x4x16x64x352.Idx → BitVec 8) (h : Fin 4) (n : Fin 16) (v : IVec S64x128 8) (p : S1x4x16x64x352.Idx)
    (k : Fin 64) (l : Fin 96)
    (e1 : (p 1).val = h.val) (e2 : (p 2).val = n.val) (e3 : (p 3).val = k.val) (e4 : (p 4).val = 256 + l.val) :
    put X (rOT h n) (shapeCast S1x1x1x64x96 (extractStridedSlice S64x96 ![0, 0] v slices_S64x128_o0_0_S64x96) shapeCasts_S64x96_S1x1x1x64x96) p =
      v (ix2 k ⟨l.val, by omega⟩) := by
  have p0 : (p 0).val < 1 := (p 0).isLt
  have e := put_in X (off := ![0, h.val, n.val, 0, 256]) (size := S1x1x1x64x96.size) (inb := inbOT h n)
    (shapeCast S1x1x1x64x96 (extractStridedSlice S64x96 ![0, 0] v slices_S64x128_o0_0_S64x96) shapeCasts_S64x96_S1x1x1x64x96) (p := p)
    (ix5 (0 : Fin 1) (0 : Fin 1) (0 : Fin 1) k l) (fun a => by
      match a with
      | ⟨0, _⟩ => show (p 0).val = 0 + 0; omega
      | ⟨1, _⟩ => show (p 1).val = h.val + 0; omega
      | ⟨2, _⟩ => show (p 2).val = n.val + 0; omega
      | ⟨3, _⟩ => show (p 3).val = 0 + k.val; omega
      | ⟨4, _⟩ => exact e4)
  exact e.trans (cast_111_64t v _ _ k l)

/-- The three stores of eight slots' scales, one after another. -/
def putS (X : S1x4x16x352.Idx → F .f32) (h : Fin 4) (b : Fin 2) (v0 v1 v2 : FVec F S8x128 .f32) : S1x4x16x352.Idx → F .f32 :=
  put (put (put X (rSo h b 0) (shapeCast S1x1x8x128 v0 shapeCasts_S8x128_S1x1x8x128))
    (rSo h b 1) (shapeCast S1x1x8x128 v1 shapeCasts_S8x128_S1x1x8x128))
    (rSoT h b) (shapeCast S1x1x8x96 (extractStridedSlice S8x96 ![0, 0] v2 slices_S8x128_o0_0_S8x96) shapeCasts_S8x96_S1x1x8x96)

theorem putS_out (X : S1x4x16x352.Idx → F .f32) (h : Fin 4) (b : Fin 2) (v0 v1 v2 : FVec F S8x128 .f32) (p : S1x4x16x352.Idx)
    (e : (p 1).val ≠ h.val ∨ (p 2).val / 8 ≠ b.val) : putS X h b v0 v1 v2 p = X p := by
  unfold putS
  rcases e with e | e
  · have e' : (p 1).val < h.val ∨ h.val + 1 ≤ (p 1).val := by omega
    rw [put_out _ _ 1 e', put_out _ _ 1 e', put_out _ _ 1 e']
  · have e' : (p 2).val < 8 * b.val ∨ 8 * b.val + 8 ≤ (p 2).val := by omega
    rw [put_out _ _ 2 e', put_out _ _ 2 e', put_out _ _ 2 e']

theorem putS_at (X : S1x4x16x352.Idx → F .f32) (h : Fin 4) (b : Fin 2) (v0 v1 v2 : FVec F S8x128 .f32) (p : S1x4x16x352.Idx)
    (e1 : (p 1).val = h.val) (e2 : (p 2).val / 8 = b.val) : putS X h b v0 v1 v2 p =
      if h0 : (p 3).val < 128 then v0 (ix2 ⟨(p 2).val % 8, by omega⟩ ⟨(p 3).val, h0⟩)
      else if h1 : (p 3).val < 256 then v1 (ix2 ⟨(p 2).val % 8, by omega⟩ ⟨(p 3).val - 128, by omega⟩)
      else v2 (ix2 ⟨(p 2).val % 8, by omega⟩ ⟨(p 3).val - 256, by have : (p 3).val < 352 := (p 3).isLt; omega⟩) := by
  have p0 : (p 0).val < 1 := (p 0).isLt
  have p3 : (p 3).val < 352 := (p 3).isLt
  unfold putS
  split
  · next h0 =>
    have o2 : (p 3).val < 256 ∨ 256 + 96 ≤ (p 3).val := by omega
    have o1 : (p 3).val < 128 * (1 : Fin 2).val ∨ 128 * (1 : Fin 2).val + 128 ≤ (p 3).val := .inl (by show (p 3).val < 128 * 1; omega)
    rw [put_out _ _ 3 o2, put_out _ _ 3 o1]
    exact so_in X h b 0 v0 p ⟨(p 2).val % 8, by omega⟩ ⟨(p 3).val, h0⟩ e1 (by show (p 2).val = 8 * b.val + (p 2).val % 8; omega)
      (by show (p 3).val = 128 * 0 + (p 3).val; omega)
  · next h0 =>
    split
    · next h1 =>
      have o2 : (p 3).val < 256 ∨ 256 + 96 ≤ (p 3).val := by omega
      rw [put_out _ _ 3 o2]
      exact so_in _ h b 1 v1 p ⟨(p 2).val % 8, by omega⟩ ⟨(p 3).val - 128, by omega⟩ e1 (by show (p 2).val = 8 * b.val + (p 2).val % 8; omega)
        (by show (p 3).val = 128 * 1 + ((p 3).val - 128); omega)
    · next h1 =>
      exact soT_in _ h b v2 p ⟨(p 2).val % 8, by omega⟩ ⟨(p 3).val - 256, by omega⟩ e1 (by show (p 2).val = 8 * b.val + (p 2).val % 8; omega)
        (by show (p 3).val = 256 + ((p 3).val - 256); omega)

theorem wp_outS (x : Ix) (t : Fin 2) (h : Fin 4) (b : Fin 2) (sa sb sc : FVec F S8x128 .f32) (s : Sc F) :
    Wp c M I (outS x (mS M t) h b sa sb sc) (fun _ s' => s' = setS t s (putS (getS t s) h b
      (select (bc8 x.ownA) sa z8) (select (bc8 x.ownB) sb z8) (s2P x sa sb (cP sc b)))) s := by
  match t with
  | 0 => exact Wp.bind (Wp.bind (Wp.ld11 (Wp.st11 (Wp.bind (Wp.bind (Wp.ld11 (Wp.st11 (Wp.bind (Wp.ld11 (Wp.st11 rfl))))))))))
  | 1 => exact Wp.bind (Wp.bind (Wp.ld13 (Wp.st13 (Wp.bind (Wp.bind (Wp.ld13 (Wp.st13 (Wp.bind (Wp.ld13 (Wp.st13 rfl))))))))))

/-! ## The stores of the codes -/

/-- The three stores of a slot's codes, one after another. -/
def putQ (X : S1x4x16x64x352.Idx → BitVec 8) (h : Fin 4) (n : Fin 16) (v0 v1 v2 : IVec S16x128 32) : S1x4x16x64x352.Idx → BitVec 8 :=
  put (put (put X (rO h n 0) (shapeCast S1x1x1x64x128 (unpk v0) shapeCasts_S64x128_S1x1x1x64x128))
    (rO h n 1) (shapeCast S1x1x1x64x128 (unpk v1) shapeCasts_S64x128_S1x1x1x64x128))
    (rOT h n) (shapeCast S1x1x1x64x96 (extractStridedSlice S64x96 ![0, 0] (unpk v2) slices_S64x128_o0_0_S64x96) shapeCasts_S64x96_S1x1x1x64x96)

theorem putQ_out (X : S1x4x16x64x352.Idx → BitVec 8) (h : Fin 4) (n : Fin 16) (v0 v1 v2 : IVec S16x128 32) (p : S1x4x16x64x352.Idx)
    (e : (p 1).val ≠ h.val ∨ (p 2).val ≠ n.val) : putQ X h n v0 v1 v2 p = X p := by
  unfold putQ
  rcases e with e | e
  · have e' : (p 1).val < h.val ∨ h.val + 1 ≤ (p 1).val := by omega
    rw [put_out _ _ 1 e', put_out _ _ 1 e', put_out _ _ 1 e']
  · have e' : (p 2).val < n.val ∨ n.val + 1 ≤ (p 2).val := by omega
    rw [put_out _ _ 2 e', put_out _ _ 2 e', put_out _ _ 2 e']

theorem putQ_at (X : S1x4x16x64x352.Idx → BitVec 8) (h : Fin 4) (n : Fin 16) (v0 v1 v2 : IVec S16x128 32) (p : S1x4x16x64x352.Idx)
    (e1 : (p 1).val = h.val) (e2 : (p 2).val = n.val) : putQ X h n v0 v1 v2 p =
      if h0 : (p 4).val < 128 then unpk v0 (ix2 (p 3) ⟨(p 4).val, h0⟩)
      else if h1 : (p 4).val < 256 then unpk v1 (ix2 (p 3) ⟨(p 4).val - 128, by omega⟩)
      else unpk v2 (ix2 (p 3) ⟨(p 4).val - 256, by have : (p 4).val < 352 := (p 4).isLt; omega⟩) := by
  have p0 : (p 0).val < 1 := (p 0).isLt
  have p4 : (p 4).val < 352 := (p 4).isLt
  unfold putQ
  split
  · next h0 =>
    have o2 : (p 4).val < 256 ∨ 256 + 96 ≤ (p 4).val := by omega
    have o1 : (p 4).val < 128 * (1 : Fin 2).val ∨ 128 * (1 : Fin 2).val + 128 ≤ (p 4).val := .inl (by show (p 4).val < 128 * 1; omega)
    rw [put_out _ _ 4 o2, put_out _ _ 4 o1]
    exact o_in X h n 0 (unpk v0) p (p 3) ⟨(p 4).val, h0⟩ e1 e2 rfl (by show (p 4).val = 128 * 0 + (p 4).val; omega)
  · next h0 =>
    split
    · next h1 =>
      have o2 : (p 4).val < 256 ∨ 256 + 96 ≤ (p 4).val := by omega
      rw [put_out _ _ 4 o2]
      exact o_in _ h n 1 (unpk v1) p (p 3) ⟨(p 4).val - 128, by omega⟩ e1 e2 rfl (by show (p 4).val = 128 * 1 + ((p 4).val - 128); omega)
    · next h1 =>
      exact oT_in _ h n (unpk v2) p (p 3) ⟨(p 4).val - 256, by omega⟩ e1 e2 rfl (by show (p 4).val = 256 + ((p 4).val - 256); omega)

theorem wp_outO (x : Ix) (t : Fin 2) (h k' k : Fin 4) (qa qb qc : IVec S16x128 32) (s : Sc F) :
    Wp c M I (outO M x t h k' k qa qb qc) (fun _ s' => s' = setQ t s (putQ (getQ t s) h (slotOf k' k)
      (select (bc16 x.ownA) qa z16) (select (bc16 x.ownB) qb z16) (q2P x k qa qb qc))) s := by
  match t with
  | 0 => exact Wp.bind (Wp.bind (Wp.ld10 (Wp.st10 (Wp.bind (Wp.bind (Wp.ld10 (Wp.st10 (Wp.bind (Wp.ld10 (Wp.st10 rfl))))))))))
  | 1 => exact Wp.bind (Wp.bind (Wp.ld12 (Wp.st12 (Wp.bind (Wp.bind (Wp.ld12 (Wp.st12 (Wp.bind (Wp.ld12 (Wp.st12 rfl))))))))))

/-! ## A head's scales -/

/-- Head `h`'s eight slots from `8 b` on hold their scales. -/
def HasS (I : In F) (i : grid0.Coords) (t : Fin 2) (h : Fin 4) (b : Fin 2) (s : Sc F) : Prop :=
  ∀ p : S1x4x16x352.Idx, (p 1).val = h.val → (p 2).val / 8 = b.val → getS t s p = outSc I i t p
/-- Head `h`'s slot `n` holds its codes. -/
def HasQ (I : In F) (i : grid0.Coords) (t : Fin 2) (h : Fin 4) (n : Fin 16) (s : Sc F) : Prop :=
  ∀ p : S1x4x16x64x352.Idx, (p 1).val = h.val → (p 2).val = n.val → getQ t s p = outQ I i t p

theorem vS8_eq {t : Fin 2} {h : Fin 4} {b : Fin 5} (hb : b.val < 4) {v : FVec F S8x128 .f32}
    (hv : ∀ (k : Fin 8) (l : Fin 128) (T : Fin 36), 8 * b.val + k.val = T.val → v (ix2 k l) = vSc I i t h T l) : v = vS8 I i t h b := by
  funext j
  have hj : (j 0).val < 8 := (j 0).isLt
  have hT : 8 * b.val + (j 0).val < 36 := by omega
  unfold vS8
  rw [dif_pos hT, ← hv (j 0) (j 1) ⟨_, hT⟩ rfl]
  exact congrArg v (eq_ix2 j)

theorem cP_eq {t : Fin 2} {h : Fin 4} (b : Fin 2) {v : FVec F S8x128 .f32}
    (hv : ∀ (k : Fin 8) (l : Fin 128) (T : Fin 36), 8 * (4 : Fin 5).val + k.val = T.val → v (ix2 k l) = vSc I i t h T l) :
    cP v b = cP (vS8 I i t h 4) b := by
  have key : ∀ i' : Fin 2, extractStridedSlice S1x128 ![2 * b.val + i'.val, 0] v (slSc b i') =
      extractStridedSlice S1x128 ![2 * b.val + i'.val, 0] (vS8 I i t h 4) (slSc b i') := by
    intro i'
    funext j
    have hk : 2 * b.val + i'.val < 8 := by omega
    have hj0 : (j 0).val < 1 := (j 0).isLt
    have hT : 8 * (4 : Fin 5).val + (2 * b.val + i'.val) < 36 := by show 8 * 4 + _ < 36; omega
    obtain ⟨l, hl⟩ : ∃ l : Fin 128, l = j 1 := ⟨_, rfl⟩
    have e : ∀ w : FVec F S8x128 .f32, extractStridedSlice S1x128 ![2 * b.val + i'.val, 0] w (slSc b i') j = w (ix2 ⟨2 * b.val + i'.val, hk⟩ l) := fun w =>
      extractStridedSlice_apply _ _ _ _ _ fun a => by
        match a with
        | ⟨0, _⟩ => show 2 * b.val + i'.val = 2 * b.val + i'.val + (j 0).val; omega
        | ⟨1, _⟩ => show l.val = 0 + (j 1).val; rw [hl]; omega
    rw [e, e, hv ⟨2 * b.val + i'.val, hk⟩ l ⟨_, hT⟩ rfl]
    unfold vS8
    rw [dif_pos (show 8 * (4 : Fin 5).val + ((ix2 (⟨2 * b.val + i'.val, hk⟩ : Fin 8) l : S8x128.Idx) 0).val < 36 from hT)]
    rfl
  unfold cP
  rw [key 0, key 1]

theorem oS_at (I : In F) (i : grid0.Coords) (t : Fin 2) (X : S1x4x16x352.Idx → F .f32) (h : Fin 4) (b : Fin 2) (p : S1x4x16x352.Idx)
    (e1 : (p 1).val = h.val) (e2 : (p 2).val / 8 = b.val) {ba bb : Fin 5} (ha : ba.val = b.val) (hb : bb.val = 2 + b.val) :
    putS X h b (select (bc8 (vIx I).ownA) (vS8 I i t h ba) z8) (select (bc8 (vIx I).ownB) (vS8 I i t h bb) z8)
      (s2P (vIx I) (vS8 I i t h ba) (vS8 I i t h bb) (cP (vS8 I i t h 4) b)) p = outSc I i t p := by
  rw [putS_at X h b _ _ _ p e1 e2]
  have hb' : (p 2).val / 8 < 2 := by have : (p 2).val < 16 := (p 2).isLt; omega
  obtain rfl : h = p 1 := Fin.ext e1.symm
  obtain rfl : b = ⟨(p 2).val / 8, hb'⟩ := Fin.ext e2.symm
  have q1 : (p 2).val / 8 < 5 := by omega
  have q2 : 2 + (p 2).val / 8 < 5 := by omega
  have q3 : ba = ⟨(p 2).val / 8, q1⟩ := Fin.ext ha
  have q4 : bb = ⟨2 + (p 2).val / 8, q2⟩ := Fin.ext hb
  subst q3 q4
  rfl

theorem wp_scales {t : Fin 2} {s : Sc F} (w : AllT I i t s) (h : Fin 4) : Wp c M I (scales M (vIx I) t h) (fun _ s' =>
    AllT I i t s' ∧ Oth t s' = Oth t s ∧ getQ t s' = getQ t s ∧ (∀ b, HasR I i t h b s') ∧ (∀ b, HasS I i t h b s') ∧
    ∀ h' b, HasS I i t h' b s → HasS I i t h' b s') s := by
  unfold scales
  refine Wp.bind ((wp_scale w h 0).mono ?_); rintro v0 s0 ⟨e0, ⟨X0, x0⟩, r0, k0⟩
  have w0 : AllT I i t s0 := by subst x0; exact w
  refine Wp.bind ((wp_scale w0 h 1).mono ?_); rintro v1 s1 ⟨e1, ⟨X1, x1⟩, r1, k1⟩
  have w1 : AllT I i t s1 := by subst x1; exact w0
  refine Wp.bind ((wp_scale w1 h 2).mono ?_); rintro v2 s2 ⟨e2, ⟨X2, x2⟩, r2, k2⟩
  have w2 : AllT I i t s2 := by subst x2; exact w1
  refine Wp.bind ((wp_scale w2 h 3).mono ?_); rintro v3 s3 ⟨e3, ⟨X3, x3⟩, r3, k3⟩
  have w3 : AllT I i t s3 := by subst x3; exact w2
  refine Wp.bind ((wp_scale w3 h 4).mono ?_); rintro v4 s4 ⟨e4, ⟨X4, x4⟩, r4, k4⟩
  have w4 : AllT I i t s4 := by subst x4; exact w3
  have same : Oth t s4 = Oth t s ∧ getQ t s4 = getQ t s ∧ getS t s4 = getS t s := by
    subst x4 x3 x2 x1 x0
    match t with | 0 => exact ⟨rfl, rfl, rfl⟩ | 1 => exact ⟨rfl, rfl, rfl⟩
  have r : ∀ b, HasR I i t h b s4 := fun b => match b with
    | 0 => k4 _ (k3 _ (k2 _ (k1 _ r0))) | 1 => k4 _ (k3 _ (k2 _ r1)) | 2 => k4 _ (k3 _ r2) | 3 => k4 _ r3 | 4 => r4
  obtain rfl := vS8_eq (by decide) e0
  obtain rfl := vS8_eq (by decide) e1
  obtain rfl := vS8_eq (by decide) e2
  obtain rfl := vS8_eq (by decide) e3
  refine Wp.bind ((wp_outS _ t h 0 _ _ _ s4).mono ?_); rintro _ s5 x5
  refine (wp_outS _ t h 1 _ _ _ s5).mono ?_; rintro _ s6 x6
  rw [cP_eq 0 e4] at x5
  rw [cP_eq 1 e4] at x6
  have g := (congrArg (getS t) x6).trans (getS_setS t s5 _)
  have g5 := (congrArg (getS t) x5).trans (getS_setS t s4 _)
  have S : ∀ b, HasS I i t h b s6 := by
    intro b p p1 p2
    rw [g]
    match b with
    | 1 => exact oS_at I i t _ h 1 p p1 p2 rfl rfl
    | 0 =>
      rw [putS_out _ _ _ _ _ _ _ (.inr (by rw [p2]; decide)), g5]
      exact oS_at I i t _ h 0 p p1 p2 rfl rfl
  refine ⟨?_, ?_, ?_, ?_, S, ?_⟩
  · rw [x6, x5]; exact (w4.setS t _).setS t _
  · rw [x6, x5, Oth_setS, Oth_setS, same.1]
  · rw [x6, x5, getQ_setS, getQ_setS, same.2.1]
  · intro b; rw [x6, x5]; exact ((r b).setS t _).setS t _
  · intro h' b k
    by_cases e : h' = h
    · exact e ▸ S b
    · intro p p1 p2
      have ne : (p 1).val ≠ h.val := fun e' => e (Fin.ext (p1.symm.trans e'))
      rw [g, putS_out _ _ _ _ _ _ _ (.inl ne), g5, putS_out _ _ _ _ _ _ _ (.inl ne), same.2.2]
      exact k p p1 p2

/-! ## A head's codes -/

theorem cast_r {α : Type} (v : S1x1x128.Idx → α) (h) : shapeCast S1x128 v h = fun j => v (ix3 0 0 (j 1)) := by
  funext j; pointwise

theorem wp_codes {t : Fin 2} {s : Sc F} (w : AllT I i t s) {h : Fin 4} (r : ∀ b, HasR I i t h b s) (T : Fin 36) :
    Wp c M I (codes M h T) (fun v s' => v = vQ I i t h T ∧ s' = s) s := by
  unfold codes
  refine Wp.bind (Wp.ld17 (hn := h_S1x1x64x128) (Wp.bind (Wp.ld19 (hn := h_S1x1x128) (Wp.pure ⟨?_, rfl⟩))))
  rw [(w h T).1, r ⟨T.val / 8, by omega⟩ T rfl, cast_r]
  unfold vQ
  rw [shapeCast_shapeCast]
  rfl

theorem oQ_at (I : In F) (i : grid0.Coords) (t : Fin 2) (X : S1x4x16x64x352.Idx → BitVec 8) (h k' k : Fin 4) (p : S1x4x16x64x352.Idx)
    (e1 : (p 1).val = h.val) (e2 : (p 2).val = (slotOf k' k).val) :
    putQ X h (slotOf k' k) (select (bc16 (vIx I).ownA) (vQ I i t h (tA k' k)) z16) (select (bc16 (vIx I).ownB) (vQ I i t h (tB k' k)) z16)
      (q2P (vIx I) k (vQ I i t h (tA k' k)) (vQ I i t h (tB k' k)) (vQ I i t h (tC k'))) p = outQ I i t p := by
  rw [putQ_at X h _ _ _ _ p e1 e2]
  have e2' : (p 2).val = 4 * k'.val + k.val := e2
  obtain rfl : h = p 1 := Fin.ext e1.symm
  have q1 : (p 2).val / 4 < 4 := by have : (p 2).val < 16 := (p 2).isLt; omega
  have q2 : (p 2).val % 4 < 4 := Nat.mod_lt _ (by decide)
  have q3 : k' = ⟨(p 2).val / 4, q1⟩ := Fin.ext (by show k'.val = (p 2).val / 4; omega)
  have q4 : k = ⟨(p 2).val % 4, q2⟩ := Fin.ext (by show k.val = (p 2).val % 4; omega)
  subst q3 q4
  rfl

theorem wp_slot {t : Fin 2} {s : Sc F} (w : AllT I i t s) {h : Fin 4} (r : ∀ b, HasR I i t h b s) (k' k : Fin 4) :
    Wp c M I (slot M (vIx I) t h k' (vQ I i t h (tC k')) k) (fun _ s' =>
      AllT I i t s' ∧ (∀ b, HasR I i t h b s') ∧ Oth t s' = Oth t s ∧ getS t s' = getS t s ∧ HasQ I i t h (slotOf k' k) s' ∧
      ∀ h' n, HasQ I i t h' n s → HasQ I i t h' n s') s := by
  unfold slot
  refine Wp.bind ((wp_codes w r _).mono ?_); rintro qa s1 ⟨rfl, e⟩; rw [e]
  refine Wp.bind ((wp_codes w r _).mono ?_); rintro qb s2 ⟨rfl, e⟩; rw [e]
  refine (wp_outO _ t h k' k _ _ _ s).mono ?_
  rintro _ s' x
  have g := (congrArg (getQ t) x).trans (getQ_setQ t s _)
  have Q : HasQ I i t h (slotOf k' k) s' := by
    intro p p1 p2
    rw [g]
    exact oQ_at I i t _ h k' k p p1 p2
  refine ⟨?_, ?_, ?_, ?_, Q, ?_⟩
  · rw [x]; exact w.setQ t _
  · intro b; rw [x]; exact (r b).setQ t _
  · rw [x, Oth_setQ]
  · rw [x, getS_setQ]
  · intro h' n q
    by_cases e : h' = h ∧ n = slotOf k' k
    · obtain ⟨rfl, rfl⟩ := e; exact Q
    · intro p p1 p2
      have ne : (p 1).val ≠ h.val ∨ (p 2).val ≠ (slotOf k' k).val := by
        by_cases eh : (p 1).val = h.val
        · exact .inr fun en => e ⟨Fin.ext (p1.symm.trans eh), Fin.ext (p2.symm.trans en)⟩
        · exact .inl eh
      rw [g, putQ_out _ _ _ _ _ _ _ ne]
      exact q p p1 p2

theorem wp_slots {t : Fin 2} {s : Sc F} (w : AllT I i t s) {h : Fin 4} (r : ∀ b, HasR I i t h b s) (k' : Fin 4) :
    Wp c M I (slots M (vIx I) t h k') (fun _ s' =>
      AllT I i t s' ∧ (∀ b, HasR I i t h b s') ∧ Oth t s' = Oth t s ∧ getS t s' = getS t s ∧ (∀ k, HasQ I i t h (slotOf k' k) s') ∧
      ∀ h' n, HasQ I i t h' n s → HasQ I i t h' n s') s := by
  unfold slots
  refine Wp.bind ((wp_codes w r _).mono ?_); rintro qc s1 ⟨rfl, e⟩; rw [e]
  refine (Wp.each (fun s' => AllT I i t s' ∧ (∀ b, HasR I i t h b s') ∧ Oth t s' = Oth t s ∧ getS t s' = getS t s ∧
      ∀ h' n, HasQ I i t h' n s → HasQ I i t h' n s') (fun k s' => HasQ I i t h (slotOf k' k) s') _ ?_ s ⟨w, r, rfl, rfl, fun _ _ x => x⟩).mono ?_
  · rintro k - s' ⟨w', r', o, g, q⟩
    refine (wp_slot w' r' k' k).mono ?_
    rintro _ s'' ⟨w'', r'', o', g', Q, q'⟩
    exact ⟨⟨w'', r'', o'.trans o, g'.trans g, fun h' n x => q' _ _ (q _ _ x)⟩, Q, fun y x => q' _ _ x⟩
  · rintro _ s' ⟨⟨w', r', o, g, q⟩, Q, -⟩
    refine ⟨w', r', o, g, fun k => Q k ?_, q⟩
    revert k; decide

/-! ## A head, a pass, the body -/

/-- Head `h`'s results of a pass are in place. -/
def HasH (I : In F) (i : grid0.Coords) (t : Fin 2) (h : Fin 4) (s : Sc F) : Prop :=
  (∀ b, HasS I i t h b s) ∧ ∀ n, HasQ I i t h n s

theorem wp_head {t : Fin 2} {s : Sc F} (w : AllT I i t s) (h : Fin 4) : Wp c M I (each (run M i (vIx I)) (head t h)) (fun _ s' =>
    AllT I i t s' ∧ Oth t s' = Oth t s ∧ HasH I i t h s' ∧ ∀ h', HasH I i t h' s → HasH I i t h' s') s := by
  refine Wp.bind ((wp_scales w h).mono ?_)
  rintro _ s1 ⟨w1, o1, g1, r1, S1, k1⟩
  refine (Wp.each (fun s' => AllT I i t s' ∧ (∀ b, HasR I i t h b s') ∧ Oth t s' = Oth t s1 ∧ getS t s' = getS t s1 ∧
      ∀ h' n, HasQ I i t h' n s1 → HasQ I i t h' n s')
    (fun y s' => match y with | .slots t' h' k' => t' = t → h' = h → ∀ k, HasQ I i t h (slotOf k' k) s' | _ => True) _ ?_ s1
    ⟨w1, r1, rfl, rfl, fun _ _ x => x⟩).mono ?_
  · intro y hy s' ⟨w', r', o, g, q⟩
    obtain ⟨k', _, rfl⟩ := List.mem_map.mp hy
    refine (wp_slots w' r' k').mono ?_
    rintro _ s'' ⟨w'', r'', o', g', Q, q'⟩
    refine ⟨⟨w'', r'', o'.trans o, g'.trans g, fun h' n x => q' _ _ (q _ _ x)⟩, fun _ _ => Q, fun y x => ?_⟩
    cases y <;> first | trivial | exact fun e1 e2 k => q' _ _ (x e1 e2 k)
  · rintro _ s' ⟨⟨w', r', o, g, q⟩, Q, -⟩
    have HS : ∀ h' b, HasS I i t h' b s1 → HasS I i t h' b s' := fun h' b x p p1 p2 => by rw [g]; exact x p p1 p2
    refine ⟨w', o.trans o1, ⟨fun b => HS _ _ (S1 b), fun n => ?_⟩, fun h' x => ⟨fun b => HS _ _ (k1 _ _ (x.1 b)), fun n => q _ _ ?_⟩⟩
    · have := Q (.slots t h ⟨n.val / 4, by omega⟩) (List.mem_map.mpr ⟨_, List.mem_finRange _, rfl⟩) rfl rfl ⟨n.val % 4, by omega⟩
      have e : slotOf ⟨n.val / 4, by omega⟩ ⟨n.val % 4, by omega⟩ = n := Fin.ext (by show 4 * (n.val / 4) + n.val % 4 = n.val; omega)
      rwa [e] at this
    · intro p p1 p2; rw [g1]; exact x.2 n p p1 p2

theorem wp_append {s : Sc F} {Q : PUnit → Sc F → Prop} (f : Item → Pg F PUnit) (l l' : List Item)
    (h : Wp c M I (each f l) (fun _ s' => Wp c M I (each f l') Q s') s) : Wp c M I (each f (l ++ l')) Q s := by
  rw [each_append]
  exact Wp.bind h

theorem wp_pass (t : Fin 2) (s : Sc F) : Wp c M I (each (run M i (vIx I)) (pass t)) (fun _ s' =>
    Oth t s' = Oth t s ∧ getS t s' = outSc I i t ∧ getQ t s' = outQ I i t) s := by
  refine Wp.bind ((wp_weights t s).mono ?_)
  rintro _ s1 ⟨w1, o1⟩
  refine wp_append _ _ _ ((wp_projs w1).mono ?_)
  rintro _ s2 ⟨w2, o2⟩
  have o : Oth t s2 = Oth t s := by
    match t with
    | 0 => exact Prod.ext (o2.2.2.1.trans o1.2.2.1) (o2.2.2.2.trans o1.2.2.2)
    | 1 => exact Prod.ext (o2.1.trans o1.1) (o2.2.1.trans o1.2.1)
  refine wp_append _ _ _ (wp_append _ _ _ (wp_append _ _ _ ((wp_head w2 0).mono ?_)))
  rintro _ s3 ⟨w3, o3, h3, -⟩
  refine (wp_head w3 1).mono ?_
  rintro _ s4 ⟨w4, o4, h4, k4⟩
  refine (wp_head w4 2).mono ?_
  rintro _ s5 ⟨w5, o5, h5, k5⟩
  refine (wp_head w5 3).mono ?_
  rintro _ s6 ⟨w6, o6, h6, k6⟩
  have H : ∀ h, HasH I i t h s6 := fun h => match h with
    | 0 => k6 _ (k5 _ (k4 _ h3)) | 1 => k6 _ (k5 _ h4) | 2 => k6 _ h5 | 3 => h6
  refine ⟨o6.trans (o5.trans (o4.trans (o3.trans o))), ?_, ?_⟩
  · funext p
    have : (p 2).val < 16 := (p 2).isLt
    exact (H (p 1)).1 ⟨(p 2).val / 8, by omega⟩ p rfl rfl
  · funext p
    exact (H (p 1)).2 (p 2) p rfl rfl

theorem wp_readIx (s : Sc F) : Wp c M I (readIx M) (fun x s' => x = vIx I ∧ s' = s) s := by
  unfold readIx
  exact Wp.bind (Wp.ld9 (hn := h_S1x128) (Wp.bind (Wp.ld9 (hn := h_S1x128) (Wp.bind (Wp.ld9 (hn := h_S1x128) (Wp.bind (Wp.ld9 (hn := h_S1x128)
    (Wp.pure ⟨rfl, rfl⟩))))))))

/-- **What one run of the body leaves in the results' blocks**, whatever was there before. -/
theorem wp_body (s : Sc F) : Wp c M I (body M i) (fun _ s' =>
    s'.x10 = outQ I i 0 ∧ s'.x11 = outSc I i 0 ∧ s'.x12 = outQ I i 1 ∧ s'.x13 = outSc I i 1) s := by
  unfold body
  refine Wp.bind ((wp_readIx s).mono ?_)
  rintro x s0 ⟨rfl, rfl⟩
  refine wp_append _ _ _ ((wp_pass 0 _).mono ?_)
  rintro _ s1 ⟨-, a, b⟩
  refine (wp_pass 1 _).mono ?_
  rintro _ s2 ⟨o, a', b'⟩
  have o1 : s2.x10 = s1.x10 := congrArg Prod.fst o
  have o2 : s2.x11 = s1.x11 := congrArg Prod.snd o
  exact ⟨o1.trans b, o2.trans a, b', a'⟩

end Cert.KernelIdeal.Roll

end
-- ==== Proof.KernelRun.lean ====
module

public import proofs.«01_k».proof.Proof.Heads
public import proofs.«01_k».proof.Proof.Gen.KernelIdeal.Frame
public import Idealize.ShloMosaic.Lib.Pipeline.Frame

/-! # The kernel's run

The body's triple at every grid point, from which: the program terminates, leaves its arguments as they were and every
counter at zero, and its result arrays are what the pipeline writes back of `outQ` and `outSc`. -/

@[expose] public section

noncomputable section

namespace Cert.KernelIdeal.Roll

open Cert.KernelIdeal Cert.KernelIdeal.Gen Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The operands at grid point `t`: the windows' staging buffers of the point, and the scratch. -/
abbrev mems (t : Fin cfg0.N) : Mems where
  a2 := win0_0.stage (cfg0.slots t 0)
  h2 := hstage0_0 ((cfg0.slots t 0).cast nbuf0_0)
  a3 := win0_1.stage (cfg0.slots t 1)
  h3 := hstage0_1 ((cfg0.slots t 1).cast nbuf0_1)
  a4 := win0_2.stage (cfg0.slots t 2)
  h4 := hstage0_2 ((cfg0.slots t 2).cast nbuf0_2)
  a5 := win0_3.stage (cfg0.slots t 3)
  h5 := hstage0_3 ((cfg0.slots t 3).cast nbuf0_3)
  a6 := win0_4.stage (cfg0.slots t 4)
  h6 := hstage0_4 ((cfg0.slots t 4).cast nbuf0_4)
  a7 := win0_5.stage (cfg0.slots t 5)
  h7 := hstage0_5 ((cfg0.slots t 5).cast nbuf0_5)
  a8 := win0_6.stage (cfg0.slots t 6)
  h8 := hstage0_6 ((cfg0.slots t 6).cast nbuf0_6)
  a9 := win0_7.stage (cfg0.slots t 7)
  h9 := hstage0_7 ((cfg0.slots t 7).cast nbuf0_7)
  a10 := win0_8.stage (cfg0.slots t 8)
  h10 := hstage0_8 ((cfg0.slots t 8).cast nbuf0_8)
  a11 := win0_9.stage (cfg0.slots t 9)
  h11 := hstage0_9 ((cfg0.slots t 9).cast nbuf0_9)
  a12 := win0_10.stage (cfg0.slots t 10)
  h12 := hstage0_10 ((cfg0.slots t 10).cast nbuf0_10)
  a13 := win0_11.stage (cfg0.slots t 11)
  h13 := hstage0_11 ((cfg0.slots t 11).cast nbuf0_11)
  a14 := Memref.whole cc0_scratch0
  h14 := Memref.isWhole_whole _
  a15 := Memref.whole cc0_scratch1
  h15 := Memref.isWhole_whole _
  a16 := Memref.whole cc0_scratch2
  h16 := Memref.isWhole_whole _
  a17 := Memref.whole cc0_scratch3
  h17 := Memref.isWhole_whole _
  a18 := Memref.whole cc0_scratch4
  h18 := Memref.isWhole_whole _
  a19 := Memref.whole cc0_scratch5
  h19 := Memref.isWhole_whole _

/-- The input blocks of grid point `t`. -/
abbrev ins (c : Dev nD) (t : Fin cfg0.N) : In F where
  x2 := iblk m c 0 t
  x3 := iblk m c 1 t
  x4 := iblk m c 2 t
  x5 := iblk m c 3 t
  x6 := iblk m c 4 t
  x7 := iblk m c 5 t
  x8 := iblk m c 6 t
  x9 := iblk m c 7 t

/-- The pipeline's proof data on core `c`: the arrays as launched; after the body each input's buffer still holds its
    block and the results' hold `outQ` and `outSc` of the point's inputs; the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outQ (ins m c t) (grid0.coords t) 0
    | ⟨9, _⟩ => outSc (ins m c t) (grid0.coords t) 0
    | ⟨10, _⟩ => outQ (ins m c t) (grid0.coords t) 1
    | ⟨11, _⟩ => outSc (ins m c t) (grid0.coords t) 1
  Φ _ := Pipeline.ΦA spec0 c
  q := Pipeline.shareOf spec0
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outQ (ins m c t) (grid0.coords t) 0 := by dsimp only [dats]
theorem after_9 (c : Dev nD) (t : Fin cfg0.N) : (dats m 0 c).after 9 t = outSc (ins m c t) (grid0.coords t) 0 := by dsimp only [dats]
theorem after_10 (c : Dev nD) (t : Fin cfg0.N) : (dats m 0 c).after 10 t = outQ (ins m c t) (grid0.coords t) 1 := by dsimp only [dats]
theorem after_11 (c : Dev nD) (t : Fin cfg0.N) : (dats m 0 c).after 11 t = outSc (ins m c t) (grid0.coords t) 1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mems t).a2 fullShare ((dats m 0 c).before 0 t d))
    ∗ (∃ d, owns (c : Thread nD τ) (mems t).a3 fullShare ((dats m 0 c).before 1 t d))
    ∗ (∃ d, owns (c : Thread nD τ) (mems t).a4 fullShare ((dats m 0 c).before 2 t d))
    ∗ (∃ d, owns (c : Thread nD τ) (mems t).a5 fullShare ((dats m 0 c).before 3 t d))
    ∗ (∃ d, owns (c : Thread nD τ) (mems t).a6 fullShare ((dats m 0 c).before 4 t d))
    ∗ (∃ d, owns (c : Thread nD τ) (mems t).a7 fullShare ((dats m 0 c).before 5 t d))
    ∗ (∃ d, owns (c : Thread nD τ) (mems t).a8 fullShare ((dats m 0 c).before 6 t d))
    ∗ (∃ d, owns (c : Thread nD τ) (mems t).a9 fullShare ((dats m 0 c).before 7 t d))
    ∗ (∃ d, owns (c : Thread nD τ) (mems t).a10 fullShare ((dats m 0 c).before 8 t d))
    ∗ (∃ d, owns (c : Thread nD τ) (mems t).a11 fullShare ((dats m 0 c).before 9 t d))
    ∗ (∃ d, owns (c : Thread nD τ) (mems t).a12 fullShare ((dats m 0 c).before 10 t d))
    ∗ (∃ d, owns (c : Thread nD τ) (mems t).a13 fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (mems t).a2 fullShare ((dats m 0 c).after 0 t)
    ∗ owns (c : Thread nD τ) (mems t).a3 fullShare ((dats m 0 c).after 1 t)
    ∗ owns (c : Thread nD τ) (mems t).a4 fullShare ((dats m 0 c).after 2 t)
    ∗ owns (c : Thread nD τ) (mems t).a5 fullShare ((dats m 0 c).after 3 t)
    ∗ owns (c : Thread nD τ) (mems t).a6 fullShare ((dats m 0 c).after 4 t)
    ∗ owns (c : Thread nD τ) (mems t).a7 fullShare ((dats m 0 c).after 5 t)
    ∗ owns (c : Thread nD τ) (mems t).a8 fullShare ((dats m 0 c).after 6 t)
    ∗ owns (c : Thread nD τ) (mems t).a9 fullShare ((dats m 0 c).after 7 t)
    ∗ owns (c : Thread nD τ) (mems t).a10 fullShare ((dats m 0 c).after 8 t)
    ∗ owns (c : Thread nD τ) (mems t).a11 fullShare ((dats m 0 c).after 9 t)
    ∗ owns (c : Thread nD τ) (mems t).a12 fullShare ((dats m 0 c).after 10 t)
    ∗ owns (c : Thread nD τ) (mems t).a13 fullShare ((dats m 0 c).after 11 t))

/-- The scoped rest is the scratch, each buffer owned whole. -/
theorem scratch_eq (c : Dev nD) :
    (Pipeline.scopedRest (Ix := Unit) (Name := ℕ) (U := UR sig nD τ) (Lvl := ℕ) (Val := Elt F) spec0 c : sProp 𝕄)
      = iprop((∃ f : cc0_scratch0.ty.Contents (Elt F), owns (c : Thread nD τ) (Memref.whole cc0_scratch0) fullShare f) ∗ (∃ f : cc0_scratch1.ty.Contents (Elt F), owns (c : Thread nD τ) (Memref.whole cc0_scratch1) fullShare f) ∗ (∃ f : cc0_scratch2.ty.Contents (Elt F), owns (c : Thread nD τ) (Memref.whole cc0_scratch2) fullShare f) ∗ (∃ f : cc0_scratch3.ty.Contents (Elt F), owns (c : Thread nD τ) (Memref.whole cc0_scratch3) fullShare f) ∗ (∃ f : cc0_scratch4.ty.Contents (Elt F), owns (c : Thread nD τ) (Memref.whole cc0_scratch4) fullShare f) ∗ (∃ f : cc0_scratch5.ty.Contents (Elt F), owns (c : Thread nD τ) (Memref.whole cc0_scratch5) fullShare f)) := by
  rw [scopedRest0_eq]
  simp only [owns_whole]

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show cc0_kv_pages (F := F) (grid0.coords t) _ _ _ _ _ _ _ _ _ _ _ _ _ _ _ _ _ _ _ _ _ _ _ _ _ _ _ _ _ _ _ _ _ _ _ _ = body (mems t) (grid0.coords t) from printed_eq (mems t) (grid0.coords t)]
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11,
    show (dats m 0 c).Φ t.castSucc = Pipeline.ΦA spec0 c from rfl]
  unfold Pipeline.ΦA
  rw [scratch_eq]
  iintro ⟨⟨⟨⟨%f0, S0⟩, ⟨%f1, S1⟩, ⟨%f2, S2⟩, ⟨%f3, S3⟩, ⟨%f4, S4⟩, ⟨%f5, S5⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (wp_body (c := c) (M := mems t) (I := ins m c t) (i := grid0.coords t)
    (⟨(dats m 0 c).before 8 t d8, (dats m 0 c).before 9 t d9, (dats m 0 c).before 10 t d10, (dats m 0 c).before 11 t d11, f0, f1, f2, f3, f4, f5⟩ : Sc F) _)
  unfold St
  isplitl [H0 H1 H2 H3 H4 H5 H6 H7 H8 H9 H10 H11 S0 S1 S2 S3 S4 S5]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    iexact S5
  iintro %a %s' %hs ⟨H0, H1, H2, H3, H4, H5, H6, H7, H8, H9, H10, H11, S0, S1, S2, S3, S4, S5⟩
  obtain ⟨h10, h11, h12, h13⟩ := hs
  rw [h10, h11, h12, h13]
  isplitl [Hr S0 S1 S2 S3 S4 S5]
  · isplitr [Hr]; swap; · iexact Hr
    isplitl [S0]; · iexists _; iexact S0
    isplitl [S1]; · iexists _; iexact S1
    isplitl [S2]; · iexists _; iexact S2
    isplitl [S3]; · iexists _; iexact S3
    isplitl [S4]; · iexists _; iexact S4
    iexists _; iexact S5
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run terminates with the arrays at what the pipeline writes back and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.KernelIdeal.Roll

end
-- ==== Proof.K.Rolled.lean ====
/-
  The kernel's body with its unrolled loops rolled up again. The printed program writes out every trip of the Python
  loops over the head, the tile and the slot; here each loop body is one definition over its counters, and the program is
  a list of these. `Proof/Same*.lean` prove that the printed program is this one.
-/
module

public import proofs.«01_k».proof.Proof.Gen.Kernel
public import Idealize.ShloMosaic.Lib.Tactic

@[expose] public section

noncomputable section

namespace Cert.Kernel.Roll

open Cert.Kernel Idealize.ShloMosaic Idealize.SL.Sem
open Cert.Kernel.Facts Cert.Kernel.Shapes1.Facts₀ Cert.Kernel.Shapes2.Facts₀ Cert.Kernel.K0.Facts₀

variable {F : FTy → Type} [FloatOps F]

/-- The kernel's operands: eight inputs, four results, six scratch buffers, each a whole buffer. -/
structure Mems where
  a2 : Memref sig .tc .vmem S1280x256 .fp8e4m3
  h2 : a2.IsWhole
  a3 : Memref sig .tc .vmem S1280x256 .fp8e4m3
  h3 : a3.IsWhole
  a4 : Memref sig .tc .vmem S640x128 .f32
  h4 : a4.IsWhole
  a5 : Memref sig .tc .vmem S20x32x64 .f32
  h5 : a5.IsWhole
  a6 : Memref sig .tc .vmem S1280x4608 .fp8e4m3
  h6 : a6.IsWhole
  a7 : Memref sig .tc .vmem S40x128 .f32
  h7 : a7.IsWhole
  a8 : Memref sig .tc .vmem S40x128 .i32
  h8 : a8.IsWhole
  a9 : Memref sig .tc .vmem S8x128 .i32
  h9 : a9.IsWhole
  a10 : Memref sig .tc .vmem S1x4x16x64x352 .i8
  h10 : a10.IsWhole
  a11 : Memref sig .tc .vmem S1x4x16x352 .f32
  h11 : a11.IsWhole
  a12 : Memref sig .tc .vmem S1x4x16x64x352 .i8
  h12 : a12.IsWhole
  a13 : Memref sig .tc .vmem S1x4x16x352 .f32
  h13 : a13.IsWhole
  a14 : Memref sig .tc .vmem S256x1280 .fp8e4m3
  h14 : a14.IsWhole
  a15 : Memref sig .tc .vmem S256x128 .f32
  h15 : a15.IsWhole
  a16 : Memref sig .tc .vmem S256x128 .f32
  h16 : a16.IsWhole
  a17 : Memref sig .tc .vmem S4x36x64x128 .f32
  h17 : a17.IsWhole
  a18 : Memref sig .tc .vmem S4x320x128 .f32
  h18 : a18.IsWhole
  a19 : Memref sig .tc .vmem S4x40x128 .f32
  h19 : a19.IsWhole

/-- Programs of the kernel's effects. -/
abbrev Pg (F : FTy → Type) (α : Type) : Type 1 := Prog (TpuEff nD τ sig (Elt F) Λ₀ .tc) α

/-- A load through a rectangle. -/
abbrev ld {s : Shape} {e : EltTy} (m : Memref sig .tc .vmem s e) (r : LoadRect s) (h : 0 < r.shape.numel) :
    Pg F (r.shape.Idx → Elt F e) := Prog.lift (.load m r (View.loadsAt_vmem h))

/-- An unmasked store through a rectangle of unit strides. -/
abbrev st {s : Shape} {e : EltTy} (m : Memref sig .tc .vmem s e) (r : Rect s) (w : r.shape.Idx → Elt F e)
    (h : (m.access r).Stores Finset.univ) : Pg F PUnit := Prog.lift (.store m r w Finset.univ h (.inl rfl))

/-! ## The rectangles -/

abbrev rWt : Rect S256x1280 := Rect.unit (s := S256x1280) ![0, 0] S256x1280.size inb_S256x1280_S256x1280_0_0
theorem inbHalf (j : Fin 2) : ∀ a, (![128 * j.val, 0] : Fin 2 → Nat) a + S128x128.size a ≤ S256x128.size a := by revert j; decide
theorem inbHead (h : Fin 4) : ∀ a, (![64 * h.val, 0] : Fin 2 → Nat) a + S64x128.size a ≤ S256x128.size a := by revert h; decide
theorem inbXt (n : Fin 18) : ∀ a, (![0, 256 * n.val] : Fin 2 → Nat) a + S1280x256.size a ≤ S1280x4608.size a := by revert n; decide
theorem inbU (h : Fin 4) (t : Fin 36) : ∀ a, (![h.val, t.val, 0, 0] : Fin 4 → Nat) a + S1x1x64x128.size a ≤ S4x36x64x128.size a := by
  revert h t; decide
theorem inbPm (h : Fin 4) (t : Fin 40) : ∀ a, (![h.val, 8 * t.val, 0] : Fin 3 → Nat) a + S1x8x128.size a ≤ S4x320x128.size a := by
  revert h t; decide
theorem inbPs (h : Fin 4) (b : Fin 5) (k : Fin 8) : ∀ a, S1x8x128.size a = 0 ∨
    (![h.val, 64 * b.val + k.val, 0] : Fin 3 → Nat) a + (![1, 8, 1] : Fin 3 → Nat) a * (S1x8x128.size a - 1) < S4x320x128.size a := by
  revert h b k; decide
theorem inbXs1 (t : Fin 40) : ∀ a, (![t.val, 0] : Fin 2 → Nat) a + S1x128.size a ≤ S40x128.size a := by revert t; decide
theorem inbXs8 (b : Fin 5) : ∀ a, (![8 * b.val, 0] : Fin 2 → Nat) a + S8x128.size a ≤ S40x128.size a := by revert b; decide
theorem inbR8 (h : Fin 4) (b : Fin 5) : ∀ a, (![h.val, 8 * b.val, 0] : Fin 3 → Nat) a + S1x8x128.size a ≤ S4x40x128.size a := by
  revert h b; decide
theorem inbR1 (h : Fin 4) (t : Fin 40) : ∀ a, (![h.val, t.val, 0] : Fin 3 → Nat) a + S1x1x128.size a ≤ S4x40x128.size a := by
  revert h t; decide
theorem inbSo (h : Fin 4) (b : Fin 2) (c : Fin 2) :
    ∀ a, (![0, h.val, 8 * b.val, 128 * c.val] : Fin 4 → Nat) a + S1x1x8x128.size a ≤ S1x4x16x352.size a := by
  revert h b c; decide
theorem inbSoT (h : Fin 4) (b : Fin 2) :
    ∀ a, (![0, h.val, 8 * b.val, 256] : Fin 4 → Nat) a + S1x1x8x96.size a ≤ S1x4x16x352.size a := by
  revert h b; decide
theorem inbO (h : Fin 4) (s : Fin 16) (c : Fin 2) :
    ∀ a, (![0, h.val, s.val, 0, 128 * c.val] : Fin 5 → Nat) a + S1x1x1x64x128.size a ≤ S1x4x16x64x352.size a := by
  revert h s c; decide
theorem inbOT (h : Fin 4) (s : Fin 16) :
    ∀ a, (![0, h.val, s.val, 0, 256] : Fin 5 → Nat) a + S1x1x1x64x96.size a ≤ S1x4x16x64x352.size a := by
  revert h s; decide

/-- Rows `128 j …` of the weight scales' scratch. -/
abbrev rHalf (j : Fin 2) : Rect S256x128 := Rect.unit (s := S256x128) ![128 * j.val, 0] S128x128.size (inbHalf j)
/-- Head `h`'s rows of a scratch of one row per weight column. -/
abbrev rHead (h : Fin 4) : Rect S256x128 := Rect.unit (s := S256x128) ![64 * h.val, 0] S64x128.size (inbHead h)
/-- Column block `n` of the activations. -/
abbrev rXt (n : Fin 18) : Rect S1280x4608 := Rect.unit (s := S1280x4608) ![0, 256 * n.val] S1280x256.size (inbXt n)
/-- Head `h`'s tile `t` of the projections. -/
abbrev rU (h : Fin 4) (t : Fin 36) : Rect S4x36x64x128 := Rect.unit (s := S4x36x64x128) ![h.val, t.val, 0, 0] S1x1x64x128.size (inbU h t)
/-- The eight partial maxima of head `h`'s tile `t`. -/
abbrev rPm (h : Fin 4) (t : Fin 40) : Rect S4x320x128 := Rect.unit (s := S4x320x128) ![h.val, 8 * t.val, 0] S1x8x128.size (inbPm h t)
/-- Partial maximum `k` of each of the eight tiles from `8 b` on. -/
abbrev rPs (h : Fin 4) (b : Fin 5) (k : Fin 8) : LoadRect S4x320x128 :=
  ⟨![h.val, 64 * b.val + k.val, 0], S1x8x128.size, ![1, 8, 1], inbPs h b k⟩
abbrev rXs1 (t : Fin 40) : Rect S40x128 := Rect.unit (s := S40x128) ![t.val, 0] S1x128.size (inbXs1 t)
abbrev rXs8 (b : Fin 5) : Rect S40x128 := Rect.unit (s := S40x128) ![8 * b.val, 0] S8x128.size (inbXs8 b)
abbrev rR8 (h : Fin 4) (b : Fin 5) : Rect S4x40x128 := Rect.unit (s := S4x40x128) ![h.val, 8 * b.val, 0] S1x8x128.size (inbR8 h b)
abbrev rR1 (h : Fin 4) (t : Fin 40) : Rect S4x40x128 := Rect.unit (s := S4x40x128) ![h.val, t.val, 0] S1x1x128.size (inbR1 h t)
abbrev rSo (h : Fin 4) (b : Fin 2) (c : Fin 2) : Rect S1x4x16x352 :=
  Rect.unit (s := S1x4x16x352) ![0, h.val, 8 * b.val, 128 * c.val] S1x1x8x128.size (inbSo h b c)
abbrev rSoT (h : Fin 4) (b : Fin 2) : Rect S1x4x16x352 :=
  Rect.unit (s := S1x4x16x352) ![0, h.val, 8 * b.val, 256] S1x1x8x96.size (inbSoT h b)
abbrev rO (h : Fin 4) (s : Fin 16) (c : Fin 2) : Rect S1x4x16x64x352 :=
  Rect.unit (s := S1x4x16x64x352) ![0, h.val, s.val, 0, 128 * c.val] S1x1x1x64x128.size (inbO h s c)
abbrev rOT (h : Fin 4) (s : Fin 16) : Rect S1x4x16x64x352 :=
  Rect.unit (s := S1x4x16x64x352) ![0, h.val, s.val, 0, 256] S1x1x1x64x96.size (inbOT h s)

theorem packedO (h : Fin 4) (s : Fin 16) (c : Fin 2) : (rO h s c).PackedRows (EltTy.packing .i8) := by
  revert h s c; decide
theorem packedOT (h : Fin 4) (s : Fin 16) : (rOT h s).PackedRows (EltTy.packing .i8) := by revert h s; decide

/-! ## The page tables' rows -/

/-- What the kernel keeps of the page tables: which slots of the two tails are the request's own, the list a copied page
    comes from, its index there. -/
structure Ix where
  ownA : IVec S1x128 1
  ownB : IVec S1x128 1
  src : IVec S1x128 32
  lidx : IVec S1x128 32

def ownOf (v : IVec S1x128 32) : IVec S1x128 1 := cmpi .ne v (broadcast S1x128 (0#32 : BitVec 32))

def readIx (M : Mems) : Pg F Ix := do
  let v0 : Vec F S1x128 .i32 ← ld M.a9 (Rect.unit (s := S8x128) ![0, 0] S1x128.size inb_S8x128_S1x128_0_0).toLoadRect h_S1x128
  let v3 : Vec F S1x128 .i32 ← ld M.a9 (Rect.unit (s := S8x128) ![1, 0] S1x128.size inb_S8x128_S1x128_1_0).toLoadRect h_S1x128
  let v6 : Vec F S1x128 .i32 ← ld M.a9 (Rect.unit (s := S8x128) ![2, 0] S1x128.size inb_S8x128_S1x128_2_0).toLoadRect h_S1x128
  let v7 : Vec F S1x128 .i32 ← ld M.a9 (Rect.unit (s := S8x128) ![3, 0] S1x128.size inb_S8x128_S1x128_3_0).toLoadRect h_S1x128
  pure ⟨ownOf v0, ownOf v3, v6, v7⟩

/-! ## The weights: block, scales, biases -/

/-- The weight block turned round. -/
def wtP (x : FVec F S1280x256 .fp8e4m3) : FVec F S256x1280 .fp8e4m3 :=
  shapeCast S256x1280 (transpose S256x1280 [1, 0] x transposes_S1280x256_p1_0_S256x1280) shapeCasts_S256x1280_S256x1280
/-- A row of weight scales turned into a column and repeated along the lanes. -/
def wsP (x : FVec F S1x128 .f32) : FVec F S128x128 .f32 :=
  shapeCast S128x128 (transpose S128x128 [1, 0] (broadcastTo S128x128 (shapeCast S1x128 x shapeCasts_S1x128_S1x128)
    broadcasts_S1x128_S128x128) transposes_S128x128_p1_0_S128x128) shapeCasts_S128x128_S128x128
/-- A head's biases likewise. -/
def bP (x : FVec F S1x1x64 .f32) : FVec F S64x128 .f32 :=
  shapeCast S64x128 (transpose S64x128 [1, 0] (broadcastTo S128x64 (shapeCast S1x64 (shapeCast S1x64 x shapeCasts_S1x1x64_S1x64)
    shapeCasts_S1x64_S1x64) broadcasts_S1x64_S128x64) transposes_S128x64_p1_0_S64x128) shapeCasts_S64x128_S64x128

def loadW (M : Mems) (a : Memref sig .tc .vmem S1280x256 .fp8e4m3) : Pg F PUnit := do
  let v8 : Vec F S1280x256 .fp8e4m3 ← ld a (Rect.unit (s := S1280x256) ![0, 0] S1280x256.size inb_S1280x256_S1280x256_0_0).toLoadRect h_S1280x256
  let _ : Vec F S256x1280 .fp8e4m3 ← ld M.a14 rWt.toLoadRect h_S256x1280
  st M.a14 rWt (wtP v8) (View.stores_vmem h_S256x1280 (M.h14.storeExact_slice rfl _ packedfp8e4m3_S256x1280_S256x1280_0_0) (fun _ => rfl))

def loadWs (M : Mems) (i : grid0.Coords) (t j : Fin 2) : Pg F PUnit := do
  let v20 : Vec F S1x128 .f32 ← ld M.a4 (Rect.unit (s := S640x128) (k0_off1 i (BitVec.ofNat 32 t.val) (BitVec.ofNat 32 j.val)) S1x128.size (k0_off1_inb i t j)).toLoadRect h_S1x128
  let _ : Vec F S128x128 .f32 ← ld M.a15 (rHalf j).toLoadRect h_S128x128
  st M.a15 (rHalf j) (wsP v20) (View.stores_vmem_bits_univ h_S128x128 rfl)

def loadB (M : Mems) (i : grid0.Coords) (h : Fin 4) : Pg F PUnit := do
  let v : Vec F S1x1x64 .f32 ← ld M.a5 (Rect.unit (s := S20x32x64) (k0_off2 i (BitVec.ofNat 32 h.val)) S1x1x64.size (k0_off2_inb i h)).toLoadRect h_S1x1x64
  let _ : Vec F S64x128 .f32 ← ld M.a16 (rHead h).toLoadRect h_S64x128
  st M.a16 (rHead h) (bP v) (View.stores_vmem_bits_univ h_S64x128 rfl)

/-! ## The projection of one column block -/

/-- The product of the weight block with column block `n`. -/
def accP (w : FVec F S256x1280 .fp8e4m3) (x : FVec F S1280x256 .fp8e4m3) : FVec F S256x256 .f32 :=
  matmul dot_S256x1280_S1280x256_S256x256_1_0_0_1_n_n none w x (constant S256x256 .f32 0x00000000#32)

theorem slAcc (h : Fin 4) (q : Fin 2) : S256x256.Slices ![64 * h.val, 128 * q.val] S64x128 := by revert h q; decide

/-- Head `h`'s rows of half `q` of the product. -/
def aP (acc : FVec F S256x256 .f32) (h : Fin 4) (q : Fin 2) : FVec F S64x128 .f32 :=
  extractStridedSlice S64x128 ![64 * h.val, 128 * q.val] acc (slAcc h q)
def uK (a w : FVec F S64x128 .f32) : FVec F S64x128 .f32 := mulf a w
def uV (a w : FVec F S64x128 .f32) (xs : FVec F S1x128 .f32) (b : FVec F S64x128 .f32) : FVec F S64x128 .f32 :=
  addf (mulf (mulf a (broadcastTo S64x128 xs broadcasts_S1x128_S64x128)) w) b
/-- The eight partial maxima of a head's tile. -/
def pmP (u : FVec F S64x128 .f32) : FVec F S8x128 .f32 :=
  multiReduction .maximumf [0] S8x128 (shapeCast S8x8x128 (absf u) shapeCasts_S64x128_S8x8x128) 0xFF800000#32 reduces_S8x8x128_S8x128 (.inl rfl) rfl

/-- The tile that half `q` of column block `n` is. -/
def tileOf (n : Fin 18) (q : Fin 2) : Fin 36 :=
  ⟨if n.val < 16 then q.val * 16 + n.val else 32 + 2 * (n.val - 16) + q.val, by have := n.2; have := q.2; split <;> omega⟩
def up36 (t : Fin 36) : Fin 40 := ⟨t.val, by have := t.2; omega⟩

def mm (M : Mems) (n : Fin 18) : Pg F (FVec F S256x256 .f32) := do
  let w : Vec F S256x1280 .fp8e4m3 ← ld M.a14 rWt.toLoadRect h_S256x1280
  let x : Vec F S1280x256 .fp8e4m3 ← ld M.a6 (rXt n).toLoadRect h_S1280x256
  pure (accP w x)

def ldWsr (M : Mems) (h : Fin 4) : Pg F (FVec F S64x128 .f32) := ld M.a15 (rHead h).toLoadRect h_S64x128
def ldBr (M : Mems) (h : Fin 4) : Pg F (FVec F S64x128 .f32) := ld M.a16 (rHead h).toLoadRect h_S64x128
def ldXs1 (M : Mems) (t : Fin 40) : Pg F (FVec F S1x128 .f32) := ld M.a7 (rXs1 t).toLoadRect h_S1x128

def stU (M : Mems) (h : Fin 4) (t : Fin 36) (u : FVec F S64x128 .f32) : Pg F PUnit := do
  let _ : Vec F S1x1x64x128 .f32 ← ld M.a17 (rU h t).toLoadRect h_S1x1x64x128
  st M.a17 (rU h t) (shapeCast S1x1x64x128 u shapeCasts_S64x128_S1x1x64x128) (View.stores_vmem_bits_univ h_S1x1x64x128 rfl)
def stPm (M : Mems) (h : Fin 4) (t : Fin 36) (u : FVec F S64x128 .f32) : Pg F PUnit := do
  let _ : Vec F S1x8x128 .f32 ← ld M.a18 (rPm h (up36 t)).toLoadRect h_S1x8x128
  st M.a18 (rPm h (up36 t)) (shapeCast S1x8x128 (pmP u) shapeCasts_S8x128_S1x8x128) (View.stores_vmem_bits_univ h_S1x8x128 rfl)

def tileK (M : Mems) (acc : FVec F S256x256 .f32) (n : Fin 18) (q : Fin 2) (h : Fin 4) : Pg F PUnit := do
  let w ← ldWsr M h
  stU M h (tileOf n q) (uK (aP acc h q) w)
  stPm M h (tileOf n q) (uK (aP acc h q) w)
def tileV (M : Mems) (acc : FVec F S256x256 .f32) (n : Fin 18) (q : Fin 2) (h : Fin 4) : Pg F PUnit := do
  let w ← ldWsr M h
  let xs ← ldXs1 M (up36 (tileOf n q))
  let b ← ldBr M h
  stU M h (tileOf n q) (uV (aP acc h q) w xs b)
  stPm M h (tileOf n q) (uV (aP acc h q) w xs b)
def tile (M : Mems) (t : Fin 2) (acc : FVec F S256x256 .f32) (n : Fin 18) (q : Fin 2) (h : Fin 4) : Pg F PUnit :=
  match t with | 0 => tileK M acc n q h | 1 => tileV M acc n q h

/-- The trips of a list of counters, in order. -/
def each {α : Type} (f : α → Pg F PUnit) : List α → Pg F PUnit
  | [] => pure ⟨⟩
  | x :: l => do f x; each f l

theorem each_append {α : Type} (f : α → Pg F PUnit) (l l' : List α) :
    each f (l ++ l') = (do each f l; each f l') := by
  induction l with
  | nil => rfl
  | cons x l ih => simp only [List.cons_append, each, ih, bind_assoc]

def qh : List (Fin 2 × Fin 4) := [(0, 0), (0, 1), (0, 2), (0, 3), (1, 0), (1, 1), (1, 2), (1, 3)]

def proj (M : Mems) (t : Fin 2) (n : Fin 18) : Pg F PUnit := do
  let acc ← mm M n
  each (fun p => tile M t acc n p.1 p.2) qh

/-! ## The scales -/

def z8 : FVec F S8x128 .f32 := broadcast S8x128 (Scalar.ofBits .f32 0x00000000#32)
def one8 : FVec F S8x128 .f32 := broadcast S8x128 (Scalar.ofBits .f32 0x3F800000#32)
def okP (v : IVec S8x128 32) : IVec S8x128 1 := cmpi .ne v (broadcast S8x128 (0#32 : BitVec 32))
/-- The scale of a largest magnitude. -/
def scP (a : FVec F S8x128 .f32) : FVec F S8x128 .f32 :=
  select (cmpf .oeq a z8) one8 (divf a (broadcast S8x128 (Scalar.ofBits .f32 0x42FE0000#32)))

def ldPs (M : Mems) (h : Fin 4) (b : Fin 5) (k : Fin 8) : Pg F (FVec F S8x128 .f32) := do
  let v : Vec F S1x8x128 .f32 ← ld M.a18 (rPs h b k) h_S1x8x128
  pure (shapeCast S8x128 v shapeCasts_S1x8x128_S8x128)
def ldXs8 (M : Mems) (b : Fin 5) : Pg F (FVec F S8x128 .f32) := ld M.a7 (rXs8 b).toLoadRect h_S8x128
def ldVal (M : Mems) (b : Fin 5) : Pg F (IVec S8x128 32) := ld M.a8 (rXs8 b).toLoadRect h_S8x128
def stR (M : Mems) (h : Fin 4) (b : Fin 5) (r : FVec F S8x128 .f32) : Pg F PUnit := do
  let _ : Vec F S1x8x128 .f32 ← ld M.a19 (rR8 h b).toLoadRect h_S1x8x128
  st M.a19 (rR8 h b) (shapeCast S1x8x128 r shapeCasts_S8x128_S1x8x128) (View.stores_vmem_bits_univ h_S1x8x128 rfl)

/-- The largest magnitude of each of the eight tiles from `8 b` on. -/
def ldMax (M : Mems) (h : Fin 4) (b : Fin 5) : Pg F (FVec F S8x128 .f32) := do
  let m0 ← ldPs M h b 0
  let m1 ← ldPs M h b 1
  let m2 ← ldPs M h b 2
  let m3 ← ldPs M h b 3
  let m4 ← ldPs M h b 4
  let m5 ← ldPs M h b 5
  let m6 ← ldPs M h b 6
  let m7 ← ldPs M h b 7
  pure (maximumf (maximumf (maximumf (maximumf (maximumf (maximumf (maximumf m0 m1) m2) m3) m4) m5) m6) m7)

def scaleK (M : Mems) (h : Fin 4) (b : Fin 5) : Pg F (FVec F S8x128 .f32) := do
  let m ← ldMax M h b
  let xs ← ldXs8 M b
  let v ← ldVal M b
  stR M h b (select (okP v) (divf xs (scP (mulf m xs))) z8)
  pure (select (okP v) (scP (mulf m xs)) z8)
def scaleV (M : Mems) (h : Fin 4) (b : Fin 5) : Pg F (FVec F S8x128 .f32) := do
  let m ← ldMax M h b
  let v ← ldVal M b
  stR M h b (select (okP v) (divf one8 (scP m)) z8)
  pure (select (okP v) (scP m) z8)
def scale (M : Mems) (t : Fin 2) (h : Fin 4) (b : Fin 5) : Pg F (FVec F S8x128 .f32) :=
  match t with | 0 => scaleK M h b | 1 => scaleV M h b

theorem slSc (b i : Fin 2) : S8x128.Slices ![2 * b.val + i.val, 0] S1x128 := by revert b i; decide

/-- Rows `2 b` and `2 b + 1`, four times each. -/
def cP (sc : FVec F S8x128 .f32) (b : Fin 2) : FVec F S8x128 .f32 :=
  concatenate S8x128 0
    [⟨S4x128, broadcastTo S4x128 (shapeCast S1x128 (extractStridedSlice S1x128 ![2 * b.val + (0 : Fin 2).val, 0] sc (slSc b 0))
        shapeCasts_S1x128_S1x128) broadcasts_S1x128_S4x128⟩,
     ⟨S4x128, broadcastTo S4x128 (shapeCast S1x128 (extractStridedSlice S1x128 ![2 * b.val + (1 : Fin 2).val, 0] sc (slSc b 1))
        shapeCasts_S1x128_S1x128) broadcasts_S1x128_S4x128⟩] concatenates_S4x128_S4x128_S8x128_d0

def lid8 (x : Ix) : IVec S8x128 32 := broadcastTo S8x128 (shapeCast S1x128 x.lidx shapeCasts_S1x128_S1x128) broadcasts_S1x128_S8x128

/-- `32 (k mod 4)` in row `k`, as the program computes it. -/
def off8 : IVec S8x128 32 :=
  let v2037 : IVec S8x128 32 := iota .tc S8x128 32 [0] iota_S8x128_d0_w32
  let v2039 : BitVec 32 := Scalar.select (Scalar.cmpi .eq (4#32 : BitVec 32) 0#32) 1#32 4#32
  let v2041 : IVec S8x128 32 := remsi v2037 (broadcast S8x128 v2039)
  let v2043 : IVec S8x128 1 := cmpi .ne v2041 (broadcast S8x128 (0#32 : BitVec 32))
  let v2045 : IVec S8x128 1 := cmpi .slt v2041 (broadcast S8x128 (0#32 : BitVec 32))
  let v2048 : IVec S8x128 1 := broadcastTo S8x128 (broadcast S8x128 (Scalar.cmpi .slt v2039 0#32) : IVec S8x128 1) broadcasts_S8x128_S8x128
  let v2050 : IVec S8x128 1 := andi (xori v2045 v2048) v2043
  let v2053 : IVec S8x128 32 := select v2050 (addi v2041 (broadcast S8x128 v2039)) v2041
  muli v2053 (broadcast S8x128 (32#32 : BitVec 32))

/-- A row of lane indices, a negative one counted from the end. -/
def wrap8 (v : IVec S8x128 32) : IVec S8x128 32 :=
  shapeCast S8x128 (shapeCast S8x128x1 (select (cmpi .slt v (broadcast S8x128 (0#32 : BitVec 32)))
    (addi v (broadcast S8x128 (128#32 : BitVec 32))) v) shapeCasts_S8x128_S8x128x1) shapeCasts_S8x128x1_S8x128

def isSrc (x : Ix) (k : BitVec 32) : IVec S1x128 1 := cmpi .eq x.src (broadcast S1x128 k)
def bc8 (c : IVec S1x128 1) : IVec S8x128 1 := broadcastTo S8x128 (shapeCast S1x128 c shapeCasts_S1x128_S1x128) broadcasts_S1x128_S8x128

/-- The scales of the copied pages' slots: picked from the tails or the list. -/
def s2P (x : Ix) (sa sb c : FVec F S8x128 .f32) : FVec F S8x128 .f32 :=
  select (bc8 (isSrc x 0#32)) (dynamicGather 1 sa (wrap8 (lid8 x)))
    (select (bc8 (isSrc x 1#32)) (dynamicGather 1 sb (wrap8 (lid8 x)))
      (select (bc8 (isSrc x 2#32))
        (dynamicGather 1 c (wrap8 (andi (addi (lid8 x) off8) (broadcast S8x128 (127#32 : BitVec 32))))) z8))

def stSo (a : Memref sig .tc .vmem S1x4x16x352 .f32) (h : Fin 4) (b c : Fin 2) (v : FVec F S8x128 .f32) : Pg F PUnit := do
  let _ : Vec F S1x1x8x128 .f32 ← ld a (rSo h b c).toLoadRect h_S1x1x8x128
  st a (rSo h b c) (shapeCast S1x1x8x128 v shapeCasts_S8x128_S1x1x8x128) (View.stores_vmem_bits_univ h_S1x1x8x128 rfl)
def stSoT (a : Memref sig .tc .vmem S1x4x16x352 .f32) (h : Fin 4) (b : Fin 2) (v : FVec F S8x128 .f32) : Pg F PUnit := do
  let _ : Vec F S1x1x8x96 .f32 ← ld a (rSoT h b).toLoadRect h_S1x1x8x96
  st a (rSoT h b) (shapeCast S1x1x8x96 (extractStridedSlice S8x96 ![0, 0] v slices_S8x128_o0_0_S8x96) shapeCasts_S8x96_S1x1x8x96)
    (View.stores_vmem_bits_univ h_S1x1x8x96 rfl)

def outS (x : Ix) (a : Memref sig .tc .vmem S1x4x16x352 .f32) (h : Fin 4) (b : Fin 2) (sa sb sc : FVec F S8x128 .f32) : Pg F PUnit := do
  stSo a h b 0 (select (bc8 x.ownA) sa z8)
  stSo a h b 1 (select (bc8 x.ownB) sb z8)
  stSoT a h b (s2P x sa sb (cP sc b))

/-- The scales' results of this pass. -/
def mS (M : Mems) (t : Fin 2) : Memref sig .tc .vmem S1x4x16x352 .f32 := match t with | 0 => M.a11 | 1 => M.a13

def scales (M : Mems) (x : Ix) (t : Fin 2) (h : Fin 4) : Pg F PUnit := do
  let s0 ← scale M t h 0
  let s1 ← scale M t h 1
  let s2 ← scale M t h 2
  let s3 ← scale M t h 3
  let s4 ← scale M t h 4
  outS x (mS M t) h 0 s0 s2 s4
  outS x (mS M t) h 1 s1 s3 s4

/-! ## The codes -/

/-- A tile's codes, four rows to a word. -/
def codeP (u : FVec F S64x128 .f32) (r : FVec F S1x128 .f32) : IVec S16x128 32 :=
  bitcast S16x128 32 (fptosi 8 (minimumf (broadcast S64x128 (Scalar.ofBits .f32 0x42FE0000#32))
    (maximumf (broadcast S64x128 (Scalar.ofBits .f32 0xC2FE0000#32))
      (roundeven (mulf u (broadcastTo S64x128 r broadcasts_S1x128_S64x128)))))) bitcasts_S64x128_w8_S16x128_w32

def codes (M : Mems) (h : Fin 4) (t : Fin 36) : Pg F (IVec S16x128 32) := do
  let u : Vec F S1x1x64x128 .f32 ← ld M.a17 (rU h t).toLoadRect h_S1x1x64x128
  let r : Vec F S1x1x128 .f32 ← ld M.a19 (rR1 h (up36 t)).toLoadRect h_S1x1x128
  pure (codeP (shapeCast S64x128 u shapeCasts_S1x1x64x128_S64x128) (shapeCast S1x128 r shapeCasts_S1x1x128_S1x128))

def lid16 (x : Ix) : IVec S16x128 32 := broadcastTo S16x128 (shapeCast S1x128 x.lidx shapeCasts_S1x128_S1x128) broadcasts_S1x128_S16x128
def wrap16 (v : IVec S16x128 32) : IVec S16x128 32 :=
  shapeCast S16x128 (shapeCast S16x128x1 (select (cmpi .slt v (broadcast S16x128 (0#32 : BitVec 32)))
    (addi v (broadcast S16x128 (128#32 : BitVec 32))) v) shapeCasts_S16x128_S16x128x1) shapeCasts_S16x128x1_S16x128
def bc16 (c : IVec S1x128 1) : IVec S16x128 1 := broadcastTo S16x128 (shapeCast S1x128 c shapeCasts_S1x128_S1x128) broadcasts_S1x128_S16x128
def z16 : IVec S16x128 32 := broadcast S16x128 (0#32 : BitVec 32)

/-- The codes of the copied pages' slots: picked from the tails or the list. -/
def q2P (x : Ix) (sub : Fin 4) (qa qb qc : IVec S16x128 32) : IVec S16x128 32 :=
  select (bc16 (isSrc x 0#32)) (dynamicGather 1 qa (wrap16 (lid16 x)))
    (select (bc16 (isSrc x 1#32)) (dynamicGather 1 qb (wrap16 (lid16 x)))
      (select (bc16 (isSrc x 2#32))
        (dynamicGather 1 qc (wrap16 (andi (addi (lid16 x) (broadcast S16x128 (BitVec.ofNat 32 (32 * sub.val))))
          (broadcast S16x128 (127#32 : BitVec 32))))) z16))

def unpk (q : IVec S16x128 32) : IVec S64x128 8 := bitcast S64x128 8 q bitcasts_S16x128_w32_S64x128_w8

def stO (a : Memref sig .tc .vmem S1x4x16x64x352 .i8) (ha : a.IsWhole) (h : Fin 4) (s : Fin 16) (c : Fin 2) (q : IVec S16x128 32) :
    Pg F PUnit := do
  let _ : Vec F S1x1x1x64x128 .i8 ← ld a (rO h s c).toLoadRect h_S1x1x1x64x128
  st a (rO h s c) (shapeCast S1x1x1x64x128 (unpk q) shapeCasts_S64x128_S1x1x1x64x128)
    (View.stores_vmem h_S1x1x1x64x128 (ha.storeExact_slice rfl _ (packedO h s c)) (fun _ => rfl))
def stOT (a : Memref sig .tc .vmem S1x4x16x64x352 .i8) (ha : a.IsWhole) (h : Fin 4) (s : Fin 16) (q : IVec S16x128 32) : Pg F PUnit := do
  let _ : Vec F S1x1x1x64x96 .i8 ← ld a (rOT h s).toLoadRect h_S1x1x1x64x96
  st a (rOT h s) (shapeCast S1x1x1x64x96 (extractStridedSlice S64x96 ![0, 0] (unpk q) slices_S64x128_o0_0_S64x96) shapeCasts_S64x96_S1x1x1x64x96)
    (View.stores_vmem h_S1x1x1x64x96 (ha.storeExact_slice rfl _ (packedOT h s)) (fun _ => rfl))

/-- The tiles of slot `4 c + k`: the two tails', the list's. -/
def tA (c k : Fin 4) : Fin 36 := ⟨4 * c.val + k.val, by omega⟩
def tB (c k : Fin 4) : Fin 36 := ⟨16 + (4 * c.val + k.val), by omega⟩
def tC (c : Fin 4) : Fin 36 := ⟨32 + c.val, by omega⟩
def slotOf (c k : Fin 4) : Fin 16 := ⟨4 * c.val + k.val, by omega⟩

def mO (M : Mems) (t : Fin 2) : Memref sig .tc .vmem S1x4x16x64x352 .i8 := match t with | 0 => M.a10 | 1 => M.a12
theorem hO (M : Mems) (t : Fin 2) : (mO M t).IsWhole := match t with | 0 => M.h10 | 1 => M.h12

def outO (M : Mems) (x : Ix) (t : Fin 2) (h : Fin 4) (c k : Fin 4) (qa qb qc : IVec S16x128 32) : Pg F PUnit := do
  stO (mO M t) (hO M t) h (slotOf c k) 0 (select (bc16 x.ownA) qa z16)
  stO (mO M t) (hO M t) h (slotOf c k) 1 (select (bc16 x.ownB) qb z16)
  stOT (mO M t) (hO M t) h (slotOf c k) (q2P x k qa qb qc)

def slot (M : Mems) (x : Ix) (t : Fin 2) (h : Fin 4) (c : Fin 4) (qc : IVec S16x128 32) (k : Fin 4) : Pg F PUnit := do
  let qa ← codes M h (tA c k)
  let qb ← codes M h (tB c k)
  outO M x t h c k qa qb qc

def slots (M : Mems) (x : Ix) (t : Fin 2) (h : Fin 4) (c : Fin 4) : Pg F PUnit := do
  let qc ← codes M h (tC c)
  each (slot M x t h c qc) [0, 1, 2, 3]

/-! ## The whole -/

/-- One trip of one of the body's loops. -/
inductive Item where
  | weights (t : Fin 2)
  | proj (t : Fin 2) (n : Fin 18)
  | scales (t : Fin 2) (h : Fin 4)
  | slots (t : Fin 2) (h : Fin 4) (c : Fin 4)

def weights (M : Mems) (i : grid0.Coords) (t : Fin 2) : Pg F PUnit := do
  match t with
  | 0 => loadW M M.a2
         loadWs M i 0 0
         loadWs M i 0 1
  | 1 => loadW M M.a3
         loadWs M i 1 0
         loadWs M i 1 1
         loadB M i 0
         loadB M i 1
         loadB M i 2
         loadB M i 3

def run (M : Mems) (i : grid0.Coords) (x : Ix) : Item → Pg F PUnit
  | .weights t => weights M i t
  | .proj t n => proj M t n
  | .scales t h => scales M x t h
  | .slots t h c => slots M x t h c

def projs (t : Fin 2) : List Item := (List.finRange 18).map (.proj t)
def head (t : Fin 2) (h : Fin 4) : List Item := .scales t h :: (List.finRange 4).map (.slots t h)
def pass (t : Fin 2) : List Item := .weights t :: (projs t ++ (head t 0 ++ head t 1 ++ head t 2 ++ head t 3))

/-- The kernel's body. -/
def body (M : Mems) (i : grid0.Coords) : Pg F PUnit := do
  let x ← readIx M
  each (run M i x) (pass 0 ++ pass 1)

set_option maxRecDepth 100000 in
/-- The printed body is the rolled one: the same loads and stores of the same values in the same order. -/
theorem printed_eq (M : Mems) (i : grid0.Coords) :
    cc0_kv_pages (F := F) i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 = body M i := by
  sl_kernel_rfl

end Cert.Kernel.Roll

end
-- ==== Proof.K.Triple.lean ====
module

public import proofs.«01_k».proof.Proof.K.Rolled
public import Idealize.ShloMosaic.Lib.Pipeline.Kit

/-! # What the rolled body does to its buffers

A proposition `Wp p Q s`: run from buffers that hold `s`, the program ends with a value and buffers that satisfy `Q`.
The rules for loads, stores, sequencing and loops. -/

@[expose] public section

noncomputable section

namespace Cert.Kernel.Roll

open Cert.Kernel Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- `X` with the elements of the rectangle `r` replaced by `v`. -/
@[irreducible] def put {s : Shape} {α : Type} (X : s.Idx → α) (r : Rect s) (v : r.shape.Idx → α) : s.Idx → α :=
  fun p => if h : ∃ j, r.emb j = p then v h.choose else X p

theorem put_emb {s : Shape} {α : Type} (X : s.Idx → α) (r : Rect s) (v : r.shape.Idx → α) (j : r.shape.Idx) :
    put X r v (r.emb j) = v j := by
  unfold put
  have h : ∃ j', r.emb j' = r.emb j := ⟨j, rfl⟩
  rw [dif_pos h, r.emb.injective h.choose_spec]

theorem put_of_not {s : Shape} {α : Type} (X : s.Idx → α) (r : Rect s) (v : r.shape.Idx → α) {p : s.Idx}
    (h : ¬∃ j, r.emb j = p) : put X r v p = X p := by
  unfold put
  exact dif_neg h

/-- The program logic's statement of the body's pieces. -/
abbrev wpB (c : Dev nD) {α : Type} (p : Pg F α) (Q : α → sProp 𝕄) : sProp 𝕄 :=
  wp frame (wpE (defs₀ (F := F)) Variants.none (c : Thread nD τ) none) Set.univ p Q

/-- A load from an owned buffer. -/
theorem wp_ld (c : Dev nD) {s : Shape} {e : EltTy} (m : Memref sig .tc .vmem s e) (r : LoadRect s) (hn : 0 < r.shape.numel)
    (X : s.Idx → Elt F e) (Q : (r.shape.Idx → Elt F e) → sProp 𝕄) :
    iprop(owns (c : Thread nD τ) m fullShare X ∗ (owns (c : Thread nD τ) m fullShare X -∗ Q (fun j => X (r.idx j))))
      ⊢ wpB c (ld m r hn) Q := by
  unfold owns wpB ld Prog.lift
  iintro ⟨⟨%f, %hf, H⟩, Hk⟩
  subst hf
  sl_step
  sl_step
  rw [show m.view.readAt (Elt F) r f = fun j => m.view.read (Elt F) f (r.idx j) from rfl]
  iapply Hk
  iexists f
  isplitr
  · ipureintro; rfl
  · iexact H

/-- A store to an owned buffer. -/
theorem wp_st (c : Dev nD) {s : Shape} {e : EltTy} (m : Memref sig .tc .vmem s e) (r : Rect s) (w : r.shape.Idx → Elt F e)
    (hx : (m.access r).Stores Finset.univ) (X : s.Idx → Elt F e) (Q : PUnit → sProp 𝕄) :
    iprop(owns (c : Thread nD τ) m fullShare X ∗ (owns (c : Thread nD τ) m fullShare (put X r w) -∗ Q ⟨⟩))
      ⊢ wpB c (st m r w hx) Q := by
  unfold owns wpB st Prog.lift
  iintro ⟨⟨%f, %hf, H⟩, Hk⟩
  subst hf
  sl_step
  sl_step
  iapply Hk
  iexists _
  isplitr
  swap
  · iexact H
  · ipureintro
    funext p
    by_cases hp : ∃ j, r.emb j = p
    · obtain ⟨j, rfl⟩ := hp
      rw [put_emb]
      exact View.read_slice_write_emb r f w (Finset.mem_univ j)
    · rw [put_of_not _ _ _ hp]
      exact View.read_slice_write_of_not_mem r f w Finset.univ (fun h => hp (by
        obtain ⟨j, -, hj⟩ := Finset.mem_map.mp h
        exact ⟨j, hj⟩))

/-- The inputs' blocks at a grid point. -/
structure In (F : FTy → Type) [FloatOps F] where
  x2 : Vec F S1280x256 .fp8e4m3
  x3 : Vec F S1280x256 .fp8e4m3
  x4 : Vec F S640x128 .f32
  x5 : Vec F S20x32x64 .f32
  x6 : Vec F S1280x4608 .fp8e4m3
  x7 : Vec F S40x128 .f32
  x8 : Vec F S40x128 .i32
  x9 : Vec F S8x128 .i32

/-- The contents of the results' blocks and of the scratch. -/
structure Sc (F : FTy → Type) [FloatOps F] where
  x10 : Vec F S1x4x16x64x352 .i8
  x11 : Vec F S1x4x16x352 .f32
  x12 : Vec F S1x4x16x64x352 .i8
  x13 : Vec F S1x4x16x352 .f32
  x14 : Vec F S256x1280 .fp8e4m3
  x15 : Vec F S256x128 .f32
  x16 : Vec F S256x128 .f32
  x17 : Vec F S4x36x64x128 .f32
  x18 : Vec F S4x320x128 .f32
  x19 : Vec F S4x40x128 .f32

/-- The operands' buffers, holding the inputs `I` and the contents `s`. -/
def St (c : Dev nD) (M : Mems) (I : In F) (s : Sc F) : sProp 𝕄 :=
  iprop(owns (c : Thread nD τ) M.a2 fullShare I.x2 ∗ owns (c : Thread nD τ) M.a3 fullShare I.x3 ∗ owns (c : Thread nD τ) M.a4 fullShare I.x4 ∗ owns (c : Thread nD τ) M.a5 fullShare I.x5 ∗ owns (c : Thread nD τ) M.a6 fullShare I.x6 ∗ owns (c : Thread nD τ) M.a7 fullShare I.x7 ∗ owns (c : Thread nD τ) M.a8 fullShare I.x8 ∗ owns (c : Thread nD τ) M.a9 fullShare I.x9 ∗ owns (c : Thread nD τ) M.a10 fullShare s.x10 ∗ owns (c : Thread nD τ) M.a11 fullShare s.x11 ∗ owns (c : Thread nD τ) M.a12 fullShare s.x12 ∗ owns (c : Thread nD τ) M.a13 fullShare s.x13 ∗ owns (c : Thread nD τ) M.a14 fullShare s.x14 ∗ owns (c : Thread nD τ) M.a15 fullShare s.x15 ∗ owns (c : Thread nD τ) M.a16 fullShare s.x16 ∗ owns (c : Thread nD τ) M.a17 fullShare s.x17 ∗ owns (c : Thread nD τ) M.a18 fullShare s.x18 ∗ owns (c : Thread nD τ) M.a19 fullShare s.x19)

/-- Run from buffers that hold `s`, the program ends with a value and contents that satisfy `Q`. -/
def Wp (c : Dev nD) (M : Mems) (I : In F) {α : Type} (p : Pg F α) (Q : α → Sc F → Prop) (s : Sc F) : Prop :=
  ∀ Φ : α → sProp 𝕄, iprop(St c M I s ∗ (∀ a s', ⌜Q a s'⌝ -∗ St c M I s' -∗ Φ a)) ⊢ wpB c p Φ

section
variable {c : Dev nD} {M : Mems} {I : In F}

theorem Wp.pure {α : Type} {a : α} {Q : α → Sc F → Prop} {s : Sc F} (h : Q a s) : Wp c M I (Pure.pure a) Q s := by
  intro Φ
  iintro ⟨H, Hk⟩
  unfold wpB
  sl_step
  iapply Hk $$ %a %s %h H

theorem Wp.mono {α : Type} {p : Pg F α} {Q Q' : α → Sc F → Prop} {s : Sc F} (h : Wp c M I p Q s)
    (hQ : ∀ a s', Q a s' → Q' a s') : Wp c M I p Q' s := by
  intro Φ
  iintro ⟨H, Hk⟩
  iapply (h Φ)
  isplitl [H]
  · iexact H
  · iintro %a %s' %hq H
    have hq' := hQ a s' hq
    iapply Hk $$ %a %s' %hq' H

theorem Wp.bind {α β : Type} {p : Pg F α} {k : α → Pg F β} {Q : β → Sc F → Prop} {s : Sc F}
    (h : Wp c M I p (fun a s' => Wp c M I (k a) Q s') s) : Wp c M I (p >>= k) Q s := by
  intro Φ
  unfold wpB
  rw [wp_bind]
  iintro ⟨H, Hk⟩
  iapply (h _)
  isplitl [H]
  · iexact H
  · iintro %a %s' %hq H
    iapply (hq Φ)
    isplitl [H]
    · iexact H
    · iexact Hk

theorem Wp.ld2 {r : LoadRect S1280x256} {hn : 0 < r.shape.numel} {Q : _ → Sc F → Prop} {s : Sc F}
    (h : Q (fun j => I.x2 (r.idx j)) s) : Wp c M I (ld M.a2 r hn) Q s := by
  intro Φ
  unfold St
  iintro ⟨⟨H2, H3, H4, H5, H6, H7, H8, H9, H10, H11, H12, H13, H14, H15, H16, H17, H18, H19⟩, Hk⟩
  iapply (wp_ld c M.a2 r hn I.x2 Φ)
  isplitl [H2]; · iexact H2
  iintro H2
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld3 {r : LoadRect S1280x256} {hn : 0 < r.shape.numel} {Q : _ → Sc F → Prop} {s : Sc F}
    (h : Q (fun j => I.x3 (r.idx j)) s) : Wp c M I (ld M.a3 r hn) Q s := by
  intro Φ
  unfold St
  iintro ⟨⟨H2, H3, H4, H5, H6, H7, H8, H9, H10, H11, H12, H13, H14, H15, H16, H17, H18, H19⟩, Hk⟩
  iapply (wp_ld c M.a3 r hn I.x3 Φ)
  isplitl [H3]; · iexact H3
  iintro H3
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld4 {r : LoadRect S640x128} {hn : 0 < r.shape.numel} {Q : _ → Sc F → Prop} {s : Sc F}
    (h : Q (fun j => I.x4 (r.idx j)) s) : Wp c M I (ld M.a4 r hn) Q s := by
  intro Φ
  unfold St
  iintro ⟨⟨H2, H3, H4, H5, H6, H7, H8, H9, H10, H11, H12, H13, H14, H15, H16, H17, H18, H19⟩, Hk⟩
  iapply (wp_ld c M.a4 r hn I.x4 Φ)
  isplitl [H4]; · iexact H4
  iintro H4
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld5 {r : LoadRect S20x32x64} {hn : 0 < r.shape.numel} {Q : _ → Sc F → Prop} {s : Sc F}
    (h : Q (fun j => I.x5 (r.idx j)) s) : Wp c M I (ld M.a5 r hn) Q s := by
  intro Φ
  unfold St
  iintro ⟨⟨H2, H3, H4, H5, H6, H7, H8, H9, H10, H11, H12, H13, H14, H15, H16, H17, H18, H19⟩, Hk⟩
  iapply (wp_ld c M.a5 r hn I.x5 Φ)
  isplitl [H5]; · iexact H5
  iintro H5
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld6 {r : LoadRect S1280x4608} {hn : 0 < r.shape.numel} {Q : _ → Sc F → Prop} {s : Sc F}
    (h : Q (fun j => I.x6 (r.idx j)) s) : Wp c M I (ld M.a6 r hn) Q s := by
  intro Φ
  unfold St
  iintro ⟨⟨H2, H3, H4, H5, H6, H7, H8, H9, H10, H11, H12, H13, H14, H15, H16, H17, H18, H19⟩, Hk⟩
  iapply (wp_ld c M.a6 r hn I.x6 Φ)
  isplitl [H6]; · iexact H6
  iintro H6
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld7 {r : LoadRect S40x128} {hn : 0 < r.shape.numel} {Q : _ → Sc F → Prop} {s : Sc F}
    (h : Q (fun j => I.x7 (r.idx j)) s) : Wp c M I (ld M.a7 r hn) Q s := by
  intro Φ
  unfold St
  iintro ⟨⟨H2, H3, H4, H5, H6, H7, H8, H9, H10, H11, H12, H13, H14, H15, H16, H17, H18, H19⟩, Hk⟩
  iapply (wp_ld c M.a7 r hn I.x7 Φ)
  isplitl [H7]; · iexact H7
  iintro H7
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld8 {r : LoadRect S40x128} {hn : 0 < r.shape.numel} {Q : _ → Sc F → Prop} {s : Sc F}
    (h : Q (fun j => I.x8 (r.idx j)) s) : Wp c M I (ld M.a8 r hn) Q s := by
  intro Φ
  unfold St
  iintro ⟨⟨H2, H3, H4, H5, H6, H7, H8, H9, H10, H11, H12, H13, H14, H15, H16, H17, H18, H19⟩, Hk⟩
  iapply (wp_ld c M.a8 r hn I.x8 Φ)
  isplitl [H8]; · iexact H8
  iintro H8
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld9 {r : LoadRect S8x128} {hn : 0 < r.shape.numel} {Q : _ → Sc F → Prop} {s : Sc F}
    (h : Q (fun j => I.x9 (r.idx j)) s) : Wp c M I (ld M.a9 r hn) Q s := by
  intro Φ
  unfold St
  iintro ⟨⟨H2, H3, H4, H5, H6, H7, H8, H9, H10, H11, H12, H13, H14, H15, H16, H17, H18, H19⟩, Hk⟩
  iapply (wp_ld c M.a9 r hn I.x9 Φ)
  isplitl [H9]; · iexact H9
  iintro H9
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld10 {r : LoadRect S1x4x16x64x352} {hn : 0 < r.shape.numel} {Q : _ → Sc F → Prop} {s : Sc F}
    (h : Q (fun j => s.x10 (r.idx j)) s) : Wp c M I (ld M.a10 r hn) Q s := by
  intro Φ
  unfold St
  iintro ⟨⟨H2, H3, H4, H5, H6, H7, H8, H9, H10, H11, H12, H13, H14, H15, H16, H17, H18, H19⟩, Hk⟩
  iapply (wp_ld c M.a10 r hn s.x10 Φ)
  isplitl [H10]; · iexact H10
  iintro H10
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.st10 {r : Rect S1x4x16x64x352} {w : r.shape.Idx → Elt F .i8} {hx : (M.a10.access r).Stores Finset.univ}
    {Q : PUnit → Sc F → Prop} {s : Sc F} (h : Q ⟨⟩ { s with x10 := put s.x10 r w }) : Wp c M I (st M.a10 r w hx) Q s := by
  intro Φ
  unfold St
  iintro ⟨⟨H2, H3, H4, H5, H6, H7, H8, H9, H10, H11, H12, H13, H14, H15, H16, H17, H18, H19⟩, Hk⟩
  iapply (wp_st c M.a10 r w hx s.x10 Φ)
  isplitl [H10]; · iexact H10
  iintro H10
  iapply Hk $$ %_ %_ %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld11 {r : LoadRect S1x4x16x352} {hn : 0 < r.shape.numel} {Q : _ → Sc F → Prop} {s : Sc F}
    (h : Q (fun j => s.x11 (r.idx j)) s) : Wp c M I (ld M.a11 r hn) Q s := by
  intro Φ
  unfold St
  iintro ⟨⟨H2, H3, H4, H5, H6, H7, H8, H9, H10, H11, H12, H13, H14, H15, H16, H17, H18, H19⟩, Hk⟩
  iapply (wp_ld c M.a11 r hn s.x11 Φ)
  isplitl [H11]; · iexact H11
  iintro H11
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.st11 {r : Rect S1x4x16x352} {w : r.shape.Idx → Elt F .f32} {hx : (M.a11.access r).Stores Finset.univ}
    {Q : PUnit → Sc F → Prop} {s : Sc F} (h : Q ⟨⟩ { s with x11 := put s.x11 r w }) : Wp c M I (st M.a11 r w hx) Q s := by
  intro Φ
  unfold St
  iintro ⟨⟨H2, H3, H4, H5, H6, H7, H8, H9, H10, H11, H12, H13, H14, H15, H16, H17, H18, H19⟩, Hk⟩
  iapply (wp_st c M.a11 r w hx s.x11 Φ)
  isplitl [H11]; · iexact H11
  iintro H11
  iapply Hk $$ %_ %_ %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld12 {r : LoadRect S1x4x16x64x352} {hn : 0 < r.shape.numel} {Q : _ → Sc F → Prop} {s : Sc F}
    (h : Q (fun j => s.x12 (r.idx j)) s) : Wp c M I (ld M.a12 r hn) Q s := by
  intro Φ
  unfold St
  iintro ⟨⟨H2, H3, H4, H5, H6, H7, H8, H9, H10, H11, H12, H13, H14, H15, H16, H17, H18, H19⟩, Hk⟩
  iapply (wp_ld c M.a12 r hn s.x12 Φ)
  isplitl [H12]; · iexact H12
  iintro H12
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.st12 {r : Rect S1x4x16x64x352} {w : r.shape.Idx → Elt F .i8} {hx : (M.a12.access r).Stores Finset.univ}
    {Q : PUnit → Sc F → Prop} {s : Sc F} (h : Q ⟨⟩ { s with x12 := put s.x12 r w }) : Wp c M I (st M.a12 r w hx) Q s := by
  intro Φ
  unfold St
  iintro ⟨⟨H2, H3, H4, H5, H6, H7, H8, H9, H10, H11, H12, H13, H14, H15, H16, H17, H18, H19⟩, Hk⟩
  iapply (wp_st c M.a12 r w hx s.x12 Φ)
  isplitl [H12]; · iexact H12
  iintro H12
  iapply Hk $$ %_ %_ %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld13 {r : LoadRect S1x4x16x352} {hn : 0 < r.shape.numel} {Q : _ → Sc F → Prop} {s : Sc F}
    (h : Q (fun j => s.x13 (r.idx j)) s) : Wp c M I (ld M.a13 r hn) Q s := by
  intro Φ
  unfold St
  iintro ⟨⟨H2, H3, H4, H5, H6, H7, H8, H9, H10, H11, H12, H13, H14, H15, H16, H17, H18, H19⟩, Hk⟩
  iapply (wp_ld c M.a13 r hn s.x13 Φ)
  isplitl [H13]; · iexact H13
  iintro H13
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.st13 {r : Rect S1x4x16x352} {w : r.shape.Idx → Elt F .f32} {hx : (M.a13.access r).Stores Finset.univ}
    {Q : PUnit → Sc F → Prop} {s : Sc F} (h : Q ⟨⟩ { s with x13 := put s.x13 r w }) : Wp c M I (st M.a13 r w hx) Q s := by
  intro Φ
  unfold St
  iintro ⟨⟨H2, H3, H4, H5, H6, H7, H8, H9, H10, H11, H12, H13, H14, H15, H16, H17, H18, H19⟩, Hk⟩
  iapply (wp_st c M.a13 r w hx s.x13 Φ)
  isplitl [H13]; · iexact H13
  iintro H13
  iapply Hk $$ %_ %_ %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld14 {r : LoadRect S256x1280} {hn : 0 < r.shape.numel} {Q : _ → Sc F → Prop} {s : Sc F}
    (h : Q (fun j => s.x14 (r.idx j)) s) : Wp c M I (ld M.a14 r hn) Q s := by
  intro Φ
  unfold St
  iintro ⟨⟨H2, H3, H4, H5, H6, H7, H8, H9, H10, H11, H12, H13, H14, H15, H16, H17, H18, H19⟩, Hk⟩
  iapply (wp_ld c M.a14 r hn s.x14 Φ)
  isplitl [H14]; · iexact H14
  iintro H14
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.st14 {r : Rect S256x1280} {w : r.shape.Idx → Elt F .fp8e4m3} {hx : (M.a14.access r).Stores Finset.univ}
    {Q : PUnit → Sc F → Prop} {s : Sc F} (h : Q ⟨⟩ { s with x14 := put s.x14 r w }) : Wp c M I (st M.a14 r w hx) Q s := by
  intro Φ
  unfold St
  iintro ⟨⟨H2, H3, H4, H5, H6, H7, H8, H9, H10, H11, H12, H13, H14, H15, H16, H17, H18, H19⟩, Hk⟩
  iapply (wp_st c M.a14 r w hx s.x14 Φ)
  isplitl [H14]; · iexact H14
  iintro H14
  iapply Hk $$ %_ %_ %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld15 {r : LoadRect S256x128} {hn : 0 < r.shape.numel} {Q : _ → Sc F → Prop} {s : Sc F}
    (h : Q (fun j => s.x15 (r.idx j)) s) : Wp c M I (ld M.a15 r hn) Q s := by
  intro Φ
  unfold St
  iintro ⟨⟨H2, H3, H4, H5, H6, H7, H8, H9, H10, H11, H12, H13, H14, H15, H16, H17, H18, H19⟩, Hk⟩
  iapply (wp_ld c M.a15 r hn s.x15 Φ)
  isplitl [H15]; · iexact H15
  iintro H15
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.st15 {r : Rect S256x128} {w : r.shape.Idx → Elt F .f32} {hx : (M.a15.access r).Stores Finset.univ}
    {Q : PUnit → Sc F → Prop} {s : Sc F} (h : Q ⟨⟩ { s with x15 := put s.x15 r w }) : Wp c M I (st M.a15 r w hx) Q s := by
  intro Φ
  unfold St
  iintro ⟨⟨H2, H3, H4, H5, H6, H7, H8, H9, H10, H11, H12, H13, H14, H15, H16, H17, H18, H19⟩, Hk⟩
  iapply (wp_st c M.a15 r w hx s.x15 Φ)
  isplitl [H15]; · iexact H15
  iintro H15
  iapply Hk $$ %_ %_ %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld16 {r : LoadRect S256x128} {hn : 0 < r.shape.numel} {Q : _ → Sc F → Prop} {s : Sc F}
    (h : Q (fun j => s.x16 (r.idx j)) s) : Wp c M I (ld M.a16 r hn) Q s := by
  intro Φ
  unfold St
  iintro ⟨⟨H2, H3, H4, H5, H6, H7, H8, H9, H10, H11, H12, H13, H14, H15, H16, H17, H18, H19⟩, Hk⟩
  iapply (wp_ld c M.a16 r hn s.x16 Φ)
  isplitl [H16]; · iexact H16
  iintro H16
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.st16 {r : Rect S256x128} {w : r.shape.Idx → Elt F .f32} {hx : (M.a16.access r).Stores Finset.univ}
    {Q : PUnit → Sc F → Prop} {s : Sc F} (h : Q ⟨⟩ { s with x16 := put s.x16 r w }) : Wp c M I (st M.a16 r w hx) Q s := by
  intro Φ
  unfold St
  iintro ⟨⟨H2, H3, H4, H5, H6, H7, H8, H9, H10, H11, H12, H13, H14, H15, H16, H17, H18, H19⟩, Hk⟩
  iapply (wp_st c M.a16 r w hx s.x16 Φ)
  isplitl [H16]; · iexact H16
  iintro H16
  iapply Hk $$ %_ %_ %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld17 {r : LoadRect S4x36x64x128} {hn : 0 < r.shape.numel} {Q : _ → Sc F → Prop} {s : Sc F}
    (h : Q (fun j => s.x17 (r.idx j)) s) : Wp c M I (ld M.a17 r hn) Q s := by
  intro Φ
  unfold St
  iintro ⟨⟨H2, H3, H4, H5, H6, H7, H8, H9, H10, H11, H12, H13, H14, H15, H16, H17, H18, H19⟩, Hk⟩
  iapply (wp_ld c M.a17 r hn s.x17 Φ)
  isplitl [H17]; · iexact H17
  iintro H17
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.st17 {r : Rect S4x36x64x128} {w : r.shape.Idx → Elt F .f32} {hx : (M.a17.access r).Stores Finset.univ}
    {Q : PUnit → Sc F → Prop} {s : Sc F} (h : Q ⟨⟩ { s with x17 := put s.x17 r w }) : Wp c M I (st M.a17 r w hx) Q s := by
  intro Φ
  unfold St
  iintro ⟨⟨H2, H3, H4, H5, H6, H7, H8, H9, H10, H11, H12, H13, H14, H15, H16, H17, H18, H19⟩, Hk⟩
  iapply (wp_st c M.a17 r w hx s.x17 Φ)
  isplitl [H17]; · iexact H17
  iintro H17
  iapply Hk $$ %_ %_ %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld18 {r : LoadRect S4x320x128} {hn : 0 < r.shape.numel} {Q : _ → Sc F → Prop} {s : Sc F}
    (h : Q (fun j => s.x18 (r.idx j)) s) : Wp c M I (ld M.a18 r hn) Q s := by
  intro Φ
  unfold St
  iintro ⟨⟨H2, H3, H4, H5, H6, H7, H8, H9, H10, H11, H12, H13, H14, H15, H16, H17, H18, H19⟩, Hk⟩
  iapply (wp_ld c M.a18 r hn s.x18 Φ)
  isplitl [H18]; · iexact H18
  iintro H18
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.st18 {r : Rect S4x320x128} {w : r.shape.Idx → Elt F .f32} {hx : (M.a18.access r).Stores Finset.univ}
    {Q : PUnit → Sc F → Prop} {s : Sc F} (h : Q ⟨⟩ { s with x18 := put s.x18 r w }) : Wp c M I (st M.a18 r w hx) Q s := by
  intro Φ
  unfold St
  iintro ⟨⟨H2, H3, H4, H5, H6, H7, H8, H9, H10, H11, H12, H13, H14, H15, H16, H17, H18, H19⟩, Hk⟩
  iapply (wp_st c M.a18 r w hx s.x18 Φ)
  isplitl [H18]; · iexact H18
  iintro H18
  iapply Hk $$ %_ %_ %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.ld19 {r : LoadRect S4x40x128} {hn : 0 < r.shape.numel} {Q : _ → Sc F → Prop} {s : Sc F}
    (h : Q (fun j => s.x19 (r.idx j)) s) : Wp c M I (ld M.a19 r hn) Q s := by
  intro Φ
  unfold St
  iintro ⟨⟨H2, H3, H4, H5, H6, H7, H8, H9, H10, H11, H12, H13, H14, H15, H16, H17, H18, H19⟩, Hk⟩
  iapply (wp_ld c M.a19 r hn s.x19 Φ)
  isplitl [H19]; · iexact H19
  iintro H19
  iapply Hk $$ %_ %s %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem Wp.st19 {r : Rect S4x40x128} {w : r.shape.Idx → Elt F .f32} {hx : (M.a19.access r).Stores Finset.univ}
    {Q : PUnit → Sc F → Prop} {s : Sc F} (h : Q ⟨⟩ { s with x19 := put s.x19 r w }) : Wp c M I (st M.a19 r w hx) Q s := by
  intro Φ
  unfold St
  iintro ⟨⟨H2, H3, H4, H5, H6, H7, H8, H9, H10, H11, H12, H13, H14, H15, H16, H17, H18, H19⟩, Hk⟩
  iapply (wp_st c M.a19 r w hx s.x19 Φ)
  isplitl [H19]; · iexact H19
  iintro H19
  iapply Hk $$ %_ %_ %h
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- A loop: each trip keeps an invariant, establishes its own fact and keeps the other trips' facts. -/
theorem Wp.each {α : Type} {f : α → Pg F PUnit} (Inv : Sc F → Prop) (Post : α → Sc F → Prop) :
    ∀ (l : List α) (_ : ∀ x ∈ l, ∀ s, Inv s → Wp c M I (f x) (fun _ s' => Inv s' ∧ Post x s' ∧ ∀ y, Post y s → Post y s') s)
      (s : Sc F), Inv s → Wp c M I (Roll.each f l) (fun _ s' => Inv s' ∧ (∀ x ∈ l, Post x s') ∧ ∀ y, Post y s → Post y s') s
  | [], _, s, hi => Wp.pure ⟨hi, fun _ h => absurd h (by simp), fun _ h => h⟩
  | x :: l, hf, s, hi => by
    refine Wp.bind ((hf x (by simp) s hi).mono fun _ s' h => ?_)
    refine (Wp.each Inv Post l (fun y hy => hf y (by simp [hy])) s' h.1).mono fun _ s'' h' => ⟨h'.1, ?_, ?_⟩
    · intro y hy
      rcases List.mem_cons.mp hy with rfl | hy
      · exact h'.2.2 _ h.2.1
      · exact h'.2.1 y hy
    · exact fun y hy => h'.2.2 y (h.2.2 y hy)

end

end Cert.Kernel.Roll

end
-- ==== Proof.K.Body.lean ====
module

public import proofs.«01_k».proof.Proof.K.Triple
public import Idealize.ShloMosaic.Lib.Pipeline.ValueKit
public import Idealize.ShloMosaic.Lib.ValueIdxCore
public import Idealize.ShloMosaic.Lib.Pointwise

/-! # What the body writes

The blocks of the results after one run of the body, as functions of the inputs' blocks, and the proof that the rolled
body leaves exactly these. -/

@[expose] public section

noncomputable section

namespace Cert.Kernel.Roll

open Cert.Kernel Idealize.ShloMosaic Idealize.SL.Sem
open Cert.Kernel.Facts Cert.Kernel.Shapes1.Facts₀ Cert.Kernel.Shapes2.Facts₀ Cert.Kernel.K0.Facts₀

variable {F : FTy → Type} [FloatOps F]

/-! ## Reading what a store wrote -/

section put
variable {s : Shape} {α : Type}

theorem put_in (X : s.Idx → α) {off size : Fin s.rank → Nat} {inb} (v : (Rect.unit (s := s) off size inb).shape.Idx → α)
    {p : s.Idx} (j : (Rect.unit (s := s) off size inb).shape.Idx) (h : ∀ a, (p a : Nat) = off a + j a) :
    put X (Rect.unit off size inb) v p = v j := by
  have : p = (Rect.unit off size inb).emb j := funext fun a => Fin.ext (by rw [ValueKit.rect_emb_unit_val, h a])
  rw [this, put_emb]

theorem put_out (X : s.Idx → α) {off size : Fin s.rank → Nat} {inb} (v : (Rect.unit (s := s) off size inb).shape.Idx → α)
    {p : s.Idx} (a : Fin s.rank) (h : (p a : Nat) < off a ∨ off a + size a ≤ p a) :
    put X (Rect.unit off size inb) v p = X p := by
  refine put_of_not X _ v ?_
  rintro ⟨j, rfl⟩
  rw [ValueKit.rect_emb_unit_val] at h
  have : (j a : Nat) < size a := (j a).isLt
  omega

theorem put_ld (X : s.Idx → α) (r : Rect s) (v : r.shape.Idx → α) : (fun j => put X r v (r.toLoadRect.idx j)) = v :=
  funext fun j => put_emb X r v j

theorem put_ld_out (X : s.Idx → α) {off size off' size' : Fin s.rank → Nat} {inb inb'}
    (v : (Rect.unit (s := s) off size inb).shape.Idx → α) (a : Fin s.rank)
    (h : off' a + size' a ≤ off a ∨ off a + size a ≤ off' a) :
    (fun j => put X (Rect.unit off size inb) v ((Rect.unit (s := s) off' size' inb').toLoadRect.idx j)) =
      fun j => X ((Rect.unit (s := s) off' size' inb').toLoadRect.idx j) := by
  funext j
  refine put_out X v a ?_
  have e : (((Rect.unit (s := s) off' size' inb').toLoadRect.idx j) a : Nat) = off' a + j a := ValueKit.rect_emb_unit_val off' size' inb' j a
  have : (j a : Nat) < size' a := (j a).isLt
  rw [e]
  omega

end put

/-! ## The values -/

def xw (I : In F) : Fin 2 → FVec F S1280x256 .fp8e4m3 | 0 => I.x2 | 1 => I.x3
abbrev rW : Rect S1280x256 := Rect.unit (s := S1280x256) ![0, 0] S1280x256.size inb_S1280x256_S1280x256_0_0
abbrev rWs (i : grid0.Coords) (t j : Fin 2) : Rect S640x128 :=
  Rect.unit (s := S640x128) (k0_off1 i (BitVec.ofNat 32 t.val) (BitVec.ofNat 32 j.val)) S1x128.size (k0_off1_inb i t j)
abbrev rB (i : grid0.Coords) (h : Fin 4) : Rect S20x32x64 :=
  Rect.unit (s := S20x32x64) (k0_off2 i (BitVec.ofNat 32 h.val)) S1x1x64.size (k0_off2_inb i h)
/-- The weight block of a pass. -/
def vW (I : In F) (t : Fin 2) : FVec F S256x1280 .fp8e4m3 := wtP (fun j => xw I t (rW.toLoadRect.idx j))
/-- Half `j` of a pass's weight scales. -/
def vWs (I : In F) (i : grid0.Coords) (t j : Fin 2) : FVec F S128x128 .f32 := wsP (fun k => I.x4 ((rWs i t j).toLoadRect.idx k))
/-- Head `h`'s weight scales. -/
def vWh (I : In F) (i : grid0.Coords) (t : Fin 2) (h : Fin 4) : FVec F S64x128 .f32 := fun k =>
  vWs I i t ⟨h.val / 2, by omega⟩ (ix2 ⟨64 * (h.val % 2) + (k 0).val, by have := ValueIdx.idx2_lt0 k; omega⟩ (k 1))
/-- Head `h`'s biases. -/
def vB (I : In F) (i : grid0.Coords) (h : Fin 4) : FVec F S64x128 .f32 := bP (fun k => I.x5 ((rB i h).toLoadRect.idx k))
/-- The product with column block `n`. -/
def vAcc (I : In F) (t : Fin 2) (n : Fin 18) : FVec F S256x256 .f32 := accP (vW I t) (fun j => I.x6 ((rXt n).toLoadRect.idx j))
/-- The projection of half `q` of column block `n`. -/
def vU (I : In F) (i : grid0.Coords) (t : Fin 2) (h : Fin 4) (n : Fin 18) (q : Fin 2) : FVec F S64x128 .f32 :=
  match t with
  | 0 => uK (aP (vAcc I 0 n) h q) (vWh I i 0 h)
  | 1 => uV (aP (vAcc I 1 n) h q) (vWh I i 1 h) (fun j => I.x7 ((rXs1 (up36 (tileOf n q))).toLoadRect.idx j)) (vB I i h)

/-- The column block of a tile, and the half it is. -/
def nOf (T : Fin 36) : Fin 18 := ⟨if T.val < 16 then T.val else if T.val < 32 then T.val - 16 else 16 + (T.val - 32) / 2, by
  have := T.2; split; omega; split <;> omega⟩
def qOf (T : Fin 36) : Fin 2 := ⟨if T.val < 16 then 0 else if T.val < 32 then 1 else (T.val - 32) % 2, by split; omega; split <;> omega⟩
theorem tileOf_nq (T : Fin 36) : tileOf (nOf T) (qOf T) = T := by revert T; decide
theorem tileOf_inj {n n' : Fin 18} {q q' : Fin 2} (h : tileOf n q = tileOf n' q') : n = n' ∧ q = q' := by
  revert n n' q q'; decide

def vT (I : In F) (i : grid0.Coords) (t : Fin 2) (h : Fin 4) (T : Fin 36) : FVec F S64x128 .f32 := vU I i t h (nOf T) (qOf T)

/-- The largest magnitude of a token's head: over the eight partial maxima. -/
def vMax (I : In F) (i : grid0.Coords) (t : Fin 2) (h : Fin 4) (T : Fin 36) (l : Fin 128) : F .f32 :=
  let m (k : Fin 8) : FVec F S8x128 .f32 := fun _ => pmP (vT I i t h T) (ix2 k l)
  maximumf (maximumf (maximumf (maximumf (maximumf (maximumf (maximumf (m 0) (m 1)) (m 2)) (m 3)) (m 4)) (m 5)) (m 6)) (m 7) (ix2 0 0)

/-- The scale of a token's head, from its largest magnitude `m`, its activation scale `x` and its flag `v`. -/
def scOf (t : Fin 2) (m x : F .f32) (v : BitVec 32) : F .f32 :=
  match t with
  | 0 => select (okP fun _ => v) (scP (mulf (fun _ => m) (fun _ => x))) z8 (ix2 0 0)
  | 1 => select (okP fun _ => v) (scP (fun _ => m)) z8 (ix2 0 0)
/-- The factor its codes are rounded from. -/
def rOf (t : Fin 2) (m x : F .f32) (v : BitVec 32) : F .f32 :=
  match t with
  | 0 => select (okP fun _ => v) (divf (fun _ => x) (scP (mulf (fun _ => m) (fun _ => x)))) z8 (ix2 0 0)
  | 1 => select (okP fun _ => v) (divf one8 (scP (fun _ => m))) z8 (ix2 0 0)

def vSc (I : In F) (i : grid0.Coords) (t : Fin 2) (h : Fin 4) (T : Fin 36) (l : Fin 128) : F .f32 :=
  scOf t (vMax I i t h T l) (I.x7 (ix2 (up36 T) l)) (I.x8 (ix2 (up36 T) l))
def vR (I : In F) (i : grid0.Coords) (t : Fin 2) (h : Fin 4) (T : Fin 36) (l : Fin 128) : F .f32 :=
  rOf t (vMax I i t h T l) (I.x7 (ix2 (up36 T) l)) (I.x8 (ix2 (up36 T) l))

/-- The scales of the eight tiles from `8 b` on; past the last tile, zeros. -/
def vS8 (I : In F) (i : grid0.Coords) (t : Fin 2) (h : Fin 4) (b : Fin 5) : FVec F S8x128 .f32 := fun j =>
  if hj : 8 * b.val + (j 0).val < 36 then vSc I i t h ⟨8 * b.val + (j 0).val, hj⟩ (j 1) else z8 j

/-- A tile's codes. -/
def vQ (I : In F) (i : grid0.Coords) (t : Fin 2) (h : Fin 4) (T : Fin 36) : IVec S16x128 32 :=
  codeP (vT I i t h T) (fun j => vR I i t h T (j 1))

def vIx (I : In F) : Ix :=
  ⟨ownOf (fun j => I.x9 ((Rect.unit (s := S8x128) ![0, 0] S1x128.size inb_S8x128_S1x128_0_0).toLoadRect.idx j)),
   ownOf (fun j => I.x9 ((Rect.unit (s := S8x128) ![1, 0] S1x128.size inb_S8x128_S1x128_1_0).toLoadRect.idx j)),
   fun j => I.x9 ((Rect.unit (s := S8x128) ![2, 0] S1x128.size inb_S8x128_S1x128_2_0).toLoadRect.idx j),
   fun j => I.x9 ((Rect.unit (s := S8x128) ![3, 0] S1x128.size inb_S8x128_S1x128_3_0).toLoadRect.idx j)⟩

/-- The scale of page `p`'s slot `s`, head `h`. -/
def oS (I : In F) (i : grid0.Coords) (t : Fin 2) (h : Fin 4) (s : Fin 16) (p : Fin 352) : F .f32 :=
  let b : Fin 2 := ⟨s.val / 8, by omega⟩
  let k : Fin 8 := ⟨s.val % 8, by omega⟩
  let sa := vS8 I i t h ⟨b.val, by omega⟩
  let sb := vS8 I i t h ⟨2 + b.val, by omega⟩
  if h0 : p.val < 128 then select (bc8 (vIx I).ownA) sa z8 (ix2 k ⟨p.val, h0⟩)
  else if h1 : p.val < 256 then select (bc8 (vIx I).ownB) sb z8 (ix2 k ⟨p.val - 128, by omega⟩)
  else s2P (vIx I) sa sb (cP (vS8 I i t h 4) b) (ix2 k ⟨p.val - 256, by omega⟩)

/-- The code of row `d` of page `p`'s slot `s`, head `h`. -/
def oQ (I : In F) (i : grid0.Coords) (t : Fin 2) (h : Fin 4) (s : Fin 16) (d : Fin 64) (p : Fin 352) : BitVec 8 :=
  let c : Fin 4 := ⟨s.val / 4, by omega⟩
  let k : Fin 4 := ⟨s.val % 4, by omega⟩
  let qa := vQ I i t h (tA c k)
  let qb := vQ I i t h (tB c k)
  if h0 : p.val < 128 then unpk (select (bc16 (vIx I).ownA) qa z16) (ix2 d ⟨p.val, h0⟩)
  else if h1 : p.val < 256 then unpk (select (bc16 (vIx I).ownB) qb z16) (ix2 d ⟨p.val - 128, by omega⟩)
  else unpk (q2P (vIx I) k qa qb (vQ I i t h (tC c))) (ix2 d ⟨p.val - 256, by omega⟩)

/-- The block of scales and the block of codes that a pass leaves. -/
def outSc (I : In F) (i : grid0.Coords) (t : Fin 2) : Vec F S1x4x16x352 .f32 := fun p => oS I i t (p 1) (p 2) (p 3)
def outQ (I : In F) (i : grid0.Coords) (t : Fin 2) : Vec F S1x4x16x64x352 .i8 := fun p => oQ I i t (p 1) (p 2) (p 3) (p 4)

/-! ## The weights -/

variable {c : Dev nD} {M : Mems} {I : In F} {i : grid0.Coords}

/-- The weights' scratch holds a pass's values. -/
structure Ws (I : In F) (i : grid0.Coords) (t : Fin 2) (s : Sc F) : Prop where
  w : (fun j => s.x14 (rWt.toLoadRect.idx j)) = vW I t
  ws : ∀ j : Fin 2, (fun k => s.x15 ((rHalf j).toLoadRect.idx k)) = vWs I i t j
  b : t = 1 → ∀ h, (fun k => s.x16 ((rHead h).toLoadRect.idx k)) = vB I i h

/-- The results' blocks, and nothing else, are the same. -/
def SameOut (s s' : Sc F) : Prop := s'.x10 = s.x10 ∧ s'.x11 = s.x11 ∧ s'.x12 = s.x12 ∧ s'.x13 = s.x13

theorem SameOut.rfl' {s : Sc F} : SameOut s s := ⟨rfl, rfl, rfl, rfl⟩

theorem half_out {j j' : Fin 2} (h : j ≠ j') (X : S256x128.Idx → F .f32) (v) :
    (fun k => put X (rHalf j) v ((rHalf j').toLoadRect.idx k)) = fun k => X ((rHalf j').toLoadRect.idx k) :=
  put_ld_out X v 0 (by
    show 128 * j'.val + 128 ≤ 128 * j.val ∨ 128 * j.val + 128 ≤ 128 * j'.val
    have : j.val ≠ j'.val := fun e => h (Fin.ext e)
    omega)

theorem head_out {j j' : Fin 4} (h : j ≠ j') (X : S256x128.Idx → F .f32) (v) :
    (fun k => put X (rHead j) v ((rHead j').toLoadRect.idx k)) = fun k => X ((rHead j').toLoadRect.idx k) :=
  put_ld_out X v 0 (by
    show 64 * j'.val + 64 ≤ 64 * j.val ∨ 64 * j.val + 64 ≤ 64 * j'.val
    have : j.val ≠ j'.val := fun e => h (Fin.ext e)
    omega)

theorem wp_loadW2 (s : Sc F) : Wp c M I (loadW M M.a2) (fun _ s' => s' = { s with x14 := put s.x14 rWt (vW I 0) }) s := by
  unfold loadW
  exact Wp.bind (Wp.ld2 (Wp.bind (Wp.ld14 (Wp.st14 rfl))))
theorem wp_loadW3 (s : Sc F) : Wp c M I (loadW M M.a3) (fun _ s' => s' = { s with x14 := put s.x14 rWt (vW I 1) }) s := by
  unfold loadW
  exact Wp.bind (Wp.ld3 (Wp.bind (Wp.ld14 (Wp.st14 rfl))))
theorem wp_loadWs (t j : Fin 2) (s : Sc F) :
    Wp c M I (loadWs M i t j) (fun _ s' => s' = { s with x15 := put s.x15 (rHalf j) (vWs I i t j) }) s := by
  unfold loadWs
  exact Wp.bind (Wp.ld4 (Wp.bind (Wp.ld15 (Wp.st15 rfl))))
theorem wp_loadB (h : Fin 4) (s : Sc F) :
    Wp c M I (loadB M i h) (fun _ s' => s' = { s with x16 := put s.x16 (rHead h) (vB I i h) }) s := by
  unfold loadB
  exact Wp.bind (Wp.ld5 (Wp.bind (Wp.ld16 (Wp.st16 rfl))))

theorem wp_weights (t : Fin 2) (s : Sc F) : Wp c M I (weights M i t) (fun _ s' => Ws I i t s' ∧ SameOut s s') s := by
  match t with
  | 0 =>
    refine Wp.bind ((wp_loadW2 s).mono ?_)
    rintro _ _ rfl
    refine Wp.bind ((wp_loadWs 0 0 _).mono ?_)
    rintro _ _ rfl
    refine (wp_loadWs 0 1 _).mono ?_
    rintro _ _ rfl
    refine ⟨⟨put_ld _ _ _, fun j => ?_, fun h => absurd h (by decide)⟩, rfl, rfl, rfl, rfl⟩
    match j with
    | 0 => exact (half_out (by decide) _ _).trans (put_ld _ _ _)
    | 1 => exact put_ld _ _ _
  | 1 =>
    refine Wp.bind ((wp_loadW3 s).mono ?_)
    rintro _ _ rfl
    refine Wp.bind ((wp_loadWs 1 0 _).mono ?_)
    rintro _ _ rfl
    refine Wp.bind ((wp_loadWs 1 1 _).mono ?_)
    rintro _ _ rfl
    refine Wp.bind ((wp_loadB 0 _).mono ?_)
    rintro _ _ rfl
    refine Wp.bind ((wp_loadB 1 _).mono ?_)
    rintro _ _ rfl
    refine Wp.bind ((wp_loadB 2 _).mono ?_)
    rintro _ _ rfl
    refine (wp_loadB 3 _).mono ?_
    rintro _ _ rfl
    refine ⟨⟨put_ld _ _ _, fun j => ?_, fun _ h => ?_⟩, rfl, rfl, rfl, rfl⟩
    · match j with
      | 0 => exact (half_out (by decide) _ _).trans (put_ld _ _ _)
      | 1 => exact put_ld _ _ _
    · match h with
      | 0 => exact (head_out (by decide) _ _).trans ((head_out (by decide) _ _).trans ((head_out (by decide) _ _).trans (put_ld _ _ _)))
      | 1 => exact (head_out (by decide) _ _).trans ((head_out (by decide) _ _).trans (put_ld _ _ _))
      | 2 => exact (head_out (by decide) _ _).trans (put_ld _ _ _)
      | 3 => exact put_ld _ _ _

theorem Ws.head {t : Fin 2} {s : Sc F} (w : Ws I i t s) (h : Fin 4) :
    (fun k => s.x15 ((rHead h).toLoadRect.idx k)) = vWh I i t h := by
  funext k
  have := congrFun (w.ws ⟨h.val / 2, by omega⟩) (ix2 ⟨64 * (h.val % 2) + (k 0).val, by have : (k 0).val < 64 := (k 0).isLt; omega⟩ (k 1))
  refine Eq.trans ?_ this
  refine congrArg s.x15 (funext fun a => Fin.ext ?_)
  refine (ValueKit.rect_emb_unit_val _ _ _ k a).trans (Eq.trans ?_ (ValueKit.rect_emb_unit_val _ _ _ _ a).symm)
  match a with
  | ⟨0, _⟩ => show 64 * h.val + (k 0).val = 128 * (h.val / 2) + (64 * (h.val % 2) + (k 0).val); omega
  | ⟨1, _⟩ => rfl

end Cert.Kernel.Roll

end
-- ==== Proof.K.Passes.lean ====
module

public import proofs.«01_k».proof.Proof.K.Body

/-! # One run of the body

The rolled body's loops: the projections, the scales, the codes; then the two passes. -/

@[expose] public section

noncomputable section

namespace Cert.Kernel.Roll

open Cert.Kernel Idealize.ShloMosaic Idealize.SL.Sem
open Cert.Kernel.Facts Cert.Kernel.Shapes1.Facts₀ Cert.Kernel.Shapes2.Facts₀ Cert.Kernel.K0.Facts₀

variable {F : FTy → Type} [FloatOps F]
variable {c : Dev nD} {M : Mems} {I : In F} {i : grid0.Coords}

/-! ## The projections -/

/-- The scratch holds tile `T` of head `h`, and its partial maxima. -/
def HasT (I : In F) (i : grid0.Coords) (t : Fin 2) (h : Fin 4) (T : Fin 36) (s : Sc F) : Prop :=
  (fun j => s.x17 ((rU h T).toLoadRect.idx j)) = shapeCast S1x1x64x128 (vT I i t h T) shapeCasts_S64x128_S1x1x64x128 ∧
  (fun j => s.x18 ((rPm h (up36 T)).toLoadRect.idx j)) = shapeCast S1x8x128 (pmP (vT I i t h T)) shapeCasts_S8x128_S1x8x128

theorem u_out {h h' : Fin 4} {T T' : Fin 36} (e : h ≠ h' ∨ T ≠ T') (X : S4x36x64x128.Idx → F .f32) (v) :
    (fun k => put X (rU h T) v ((rU h' T').toLoadRect.idx k)) = fun k => X ((rU h' T').toLoadRect.idx k) := by
  rcases e with e | e
  · refine put_ld_out X v 0 ?_
    show h'.val + 1 ≤ h.val ∨ h.val + 1 ≤ h'.val
    have : h.val ≠ h'.val := fun e' => e (Fin.ext e')
    omega
  · refine put_ld_out X v 1 ?_
    show T'.val + 1 ≤ T.val ∨ T.val + 1 ≤ T'.val
    have : T.val ≠ T'.val := fun e' => e (Fin.ext e')
    omega

theorem pm_out {h h' : Fin 4} {T T' : Fin 36} (e : h ≠ h' ∨ T ≠ T') (X : S4x320x128.Idx → F .f32) (v) :
    (fun k => put X (rPm h (up36 T)) v ((rPm h' (up36 T')).toLoadRect.idx k)) = fun k => X ((rPm h' (up36 T')).toLoadRect.idx k) := by
  rcases e with e | e
  · refine put_ld_out X v 0 ?_
    show h'.val + 1 ≤ h.val ∨ h.val + 1 ≤ h'.val
    have : h.val ≠ h'.val := fun e' => e (Fin.ext e')
    omega
  · refine put_ld_out X v 1 ?_
    show 8 * T'.val + 8 ≤ 8 * T.val ∨ 8 * T.val + 8 ≤ 8 * T'.val
    have : T.val ≠ T'.val := fun e' => e (Fin.ext e')
    omega

theorem wp_mm {t : Fin 2} {s : Sc F} (w : Ws I i t s) (n : Fin 18) : Wp c M I (mm M n) (fun a s' => a = vAcc I t n ∧ s' = s) s := by
  refine Wp.bind (Wp.ld14 (Wp.bind (Wp.ld6 (Wp.pure ⟨?_, rfl⟩))))
  rw [w.w]; rfl

theorem wp_stU (h : Fin 4) (T : Fin 36) (u : FVec F S64x128 .f32) (s : Sc F) : Wp c M I (stU M h T u)
    (fun _ s' => s' = { s with x17 := put s.x17 (rU h T) (shapeCast S1x1x64x128 u shapeCasts_S64x128_S1x1x64x128) }) s :=
  Wp.bind (Wp.ld17 (Wp.st17 rfl))
theorem wp_stPm (h : Fin 4) (T : Fin 36) (u : FVec F S64x128 .f32) (s : Sc F) : Wp c M I (stPm M h T u)
    (fun _ s' => s' = { s with x18 := put s.x18 (rPm h (up36 T)) (shapeCast S1x8x128 (pmP u) shapeCasts_S8x128_S1x8x128) }) s :=
  Wp.bind (Wp.ld18 (Wp.st18 rfl))

theorem vU_tile (t : Fin 2) (h : Fin 4) (n : Fin 18) (q : Fin 2) : vT I i t h (tileOf n q) = vU I i t h n q := by
  have := tileOf_inj (tileOf_nq (tileOf n q))
  unfold vT
  rw [this.1, this.2]

theorem wp_tile {t : Fin 2} {s : Sc F} (w : Ws I i t s) (n : Fin 18) (q : Fin 2) (h : Fin 4) :
    Wp c M I (tile M t (vAcc I t n) n q h) (fun _ s' => s' = { s with
      x17 := put s.x17 (rU h (tileOf n q)) (shapeCast S1x1x64x128 (vT I i t h (tileOf n q)) shapeCasts_S64x128_S1x1x64x128)
      x18 := put s.x18 (rPm h (up36 (tileOf n q))) (shapeCast S1x8x128 (pmP (vT I i t h (tileOf n q))) shapeCasts_S8x128_S1x8x128) }) s := by
  rw [vU_tile]
  match t with
  | 0 =>
    refine Wp.bind (Wp.ld15 (hn := h_S64x128) ?_)
    rw [w.head h]
    refine Wp.bind ((wp_stU _ _ _ _).mono ?_)
    rintro _ _ rfl
    exact wp_stPm _ _ _ _
  | 1 =>
    refine Wp.bind (Wp.ld15 (hn := h_S64x128) (Wp.bind (Wp.ld7 (hn := h_S1x128) (Wp.bind (Wp.ld16 (hn := h_S64x128) ?_)))))
    rw [w.head h, w.b rfl h]
    refine Wp.bind ((wp_stU _ _ _ _).mono ?_)
    rintro _ _ rfl
    exact wp_stPm _ _ _ _

theorem HasT.step {t : Fin 2} {s : Sc F} {h : Fin 4} {T : Fin 36} {s' : Sc F}
    (e : s' = { s with
      x17 := put s.x17 (rU h T) (shapeCast S1x1x64x128 (vT I i t h T) shapeCasts_S64x128_S1x1x64x128)
      x18 := put s.x18 (rPm h (up36 T)) (shapeCast S1x8x128 (pmP (vT I i t h T)) shapeCasts_S8x128_S1x8x128) }) :
    HasT I i t h T s' ∧ ∀ h' T', HasT I i t h' T' s → HasT I i t h' T' s' := by
  subst e
  have e17 := put_ld s.x17 (rU h T) (shapeCast S1x1x64x128 (vT I i t h T) shapeCasts_S64x128_S1x1x64x128)
  have e18 := put_ld s.x18 (rPm h (up36 T)) (shapeCast S1x8x128 (pmP (vT I i t h T)) shapeCasts_S8x128_S1x8x128)
  refine ⟨⟨e17, e18⟩, fun h' T' k => ?_⟩
  by_cases e : h = h' ∧ T = T'
  · obtain ⟨rfl, rfl⟩ := e
    exact ⟨e17, e18⟩
  · have e' : h ≠ h' ∨ T ≠ T' := by by_cases eh : h = h'; exact .inr fun eT => e ⟨eh, eT⟩; exact .inl eh
    have o17 := u_out e' s.x17 (shapeCast S1x1x64x128 (vT I i t h T) shapeCasts_S64x128_S1x1x64x128)
    have o18 := pm_out e' s.x18 (shapeCast S1x8x128 (pmP (vT I i t h T)) shapeCasts_S8x128_S1x8x128)
    exact ⟨o17.trans k.1, o18.trans k.2⟩

theorem wp_proj {t : Fin 2} {s : Sc F} (w : Ws I i t s) (n : Fin 18) : Wp c M I (proj M t n) (fun _ s' =>
    Ws I i t s' ∧ SameOut s s' ∧ (∀ q h, HasT I i t h (tileOf n q) s') ∧ ∀ h' T', HasT I i t h' T' s → HasT I i t h' T' s') s := by
  refine Wp.bind ((wp_mm w n).mono ?_)
  rintro a s1 ⟨ea, es⟩
  rw [ea, es]
  refine (Wp.each (fun s' => Ws I i t s' ∧ SameOut s s' ∧ ∀ h' T', HasT I i t h' T' s → HasT I i t h' T' s')
    (fun p s' => HasT I i t p.2 (tileOf n p.1) s') qh ?_ s ⟨w, SameOut.rfl', fun _ _ h => h⟩).mono ?_
  · rintro ⟨q, h⟩ _ s' ⟨w', so, k⟩
    refine (wp_tile w' n q h).mono fun _ s'' e => ?_
    have st := HasT.step e
    subst e
    exact ⟨⟨⟨w'.w, w'.ws, w'.b⟩, so, fun h' T' x => st.2 _ _ (k _ _ x)⟩, st.1, fun y x => st.2 _ _ x⟩
  · rintro _ s' ⟨⟨w', so, k⟩, p, -⟩
    refine ⟨w', so, fun q h => p (q, h) ?_, k⟩
    revert q h; decide

/-- The scratch holds every tile. -/
def AllT (I : In F) (i : grid0.Coords) (t : Fin 2) (s : Sc F) : Prop := ∀ h T, HasT I i t h T s

theorem wp_projs {t : Fin 2} {x : Ix} {s : Sc F} (w : Ws I i t s) :
    Wp c M I (each (run M i x) (projs t)) (fun _ s' => AllT I i t s' ∧ SameOut s s') s := by
  refine (Wp.each (fun s' => Ws I i t s' ∧ SameOut s s')
    (fun y s' => match y with | .proj t' n => t' = t → ∀ q h, HasT I i t h (tileOf n q) s' | _ => True) _ ?_ s ⟨w, SameOut.rfl'⟩).mono ?_
  · intro y hy s' ⟨w', so⟩
    obtain ⟨n, _, rfl⟩ := List.mem_map.mp hy
    refine (wp_proj w' n).mono fun _ s'' ⟨w'', so', p, k⟩ => ⟨⟨w'', ?_⟩, fun _ => p, fun y x => ?_⟩
    · exact ⟨so'.1.trans so.1, so'.2.1.trans so.2.1, so'.2.2.1.trans so.2.2.1, so'.2.2.2.trans so.2.2.2⟩
    · cases y <;> first | trivial | exact fun e q h => k _ _ (x e q h)
  · rintro _ s' ⟨⟨w', so⟩, p, -⟩
    refine ⟨fun h T => ?_, so⟩
    have := p (.proj t (nOf T)) (List.mem_map.mpr ⟨_, List.mem_finRange _, rfl⟩) rfl (qOf T) h
    rwa [tileOf_nq] at this

/-! ## The scales -/

theorem cast_8 {α : Type} (v : S8x128.Idx → α) (h) (k : Fin 8) (l : Fin 128) : shapeCast S1x8x128 v h (ix3 0 k l) = v (ix2 k l) := by
  pointwise
theorem cast_8' {α : Type} (v : S1x8x128.Idx → α) (h) (k : Fin 8) (l : Fin 128) : shapeCast S8x128 v h (ix2 k l) = v (ix3 0 k l) := by
  pointwise

theorem HasT.pm {t : Fin 2} {h : Fin 4} {T : Fin 36} {s : Sc F} (w : HasT I i t h T s) (b : Fin 5) (k r : Fin 8) (l : Fin 128)
    (hr : 8 * b.val + r.val = T.val) : s.x18 ((rPs h b k).idx (ix3 0 r l)) = pmP (vT I i t h T) (ix2 k l) := by
  rw [← cast_8 (pmP (vT I i t h T)) shapeCasts_S8x128_S1x8x128 k l, ← w.2]
  refine congrArg s.x18 (funext fun a => Fin.ext ?_)
  refine Eq.trans ?_ (ValueKit.rect_emb_unit_val _ _ _ _ a).symm
  match a with
  | ⟨0, _⟩ => rfl
  | ⟨1, _⟩ => show 64 * b.val + k.val + 8 * r.val = 8 * T.val + k.val; omega
  | ⟨2, _⟩ => show 0 + 1 * l.val = 0 + l.val; omega

theorem wp_ldPs {t : Fin 2} {s : Sc F} (w : AllT I i t s) (h : Fin 4) (b : Fin 5) (k : Fin 8) : Wp c M I (ldPs M h b k)
    (fun v s' => s' = s ∧ ∀ (r : Fin 8) (l : Fin 128) (T : Fin 36), 8 * b.val + r.val = T.val → v (ix2 r l) = pmP (vT I i t h T) (ix2 k l)) s := by
  refine Wp.bind (Wp.ld18 (Wp.pure ⟨rfl, fun r l T hr => ?_⟩))
  exact (cast_8' _ _ r l).trans ((w h T).pm b k r l hr)

theorem wp_ldMax {t : Fin 2} {s : Sc F} (w : AllT I i t s) (h : Fin 4) (b : Fin 5) : Wp c M I (ldMax M h b)
    (fun v s' => s' = s ∧ ∀ (r : Fin 8) (l : Fin 128) (T : Fin 36), 8 * b.val + r.val = T.val → v (ix2 r l) = vMax I i t h T l) s := by
  unfold ldMax
  refine Wp.bind ((wp_ldPs w h b 0).mono ?_); rintro m0 _ ⟨rfl, h0⟩
  refine Wp.bind ((wp_ldPs w h b 1).mono ?_); rintro m1 _ ⟨rfl, h1⟩
  refine Wp.bind ((wp_ldPs w h b 2).mono ?_); rintro m2 _ ⟨rfl, h2⟩
  refine Wp.bind ((wp_ldPs w h b 3).mono ?_); rintro m3 _ ⟨rfl, h3⟩
  refine Wp.bind ((wp_ldPs w h b 4).mono ?_); rintro m4 _ ⟨rfl, h4⟩
  refine Wp.bind ((wp_ldPs w h b 5).mono ?_); rintro m5 _ ⟨rfl, h5⟩
  refine Wp.bind ((wp_ldPs w h b 6).mono ?_); rintro m6 _ ⟨rfl, h6⟩
  refine Wp.bind ((wp_ldPs w h b 7).mono ?_); rintro m7 _ ⟨rfl, h7⟩
  refine Wp.pure ⟨rfl, fun r l T hr => ?_⟩
  simp only [vMax, maximumf, h0 r l T hr, h1 r l T hr, h2 r l T hr, h3 r l T hr, h4 r l T hr, h5 r l T hr, h6 r l T hr, h7 r l T hr]

/-- The scratch of factors holds those of the tiles from `8 b` on. -/
def HasR (I : In F) (i : grid0.Coords) (t : Fin 2) (h : Fin 4) (b : Fin 5) (s : Sc F) : Prop :=
  ∀ T : Fin 36, T.val / 8 = b.val → (fun j => s.x19 ((rR1 h (up36 T)).toLoadRect.idx j)) = fun j => vR I i t h T (j 2)

theorem r_out {h : Fin 4} {b : Fin 5} {T : Fin 36} (e : T.val / 8 ≠ b.val) (X : S4x40x128.Idx → F .f32) (v) :
    (fun k => put X (rR8 h b) v ((rR1 h (up36 T)).toLoadRect.idx k)) = fun k => X ((rR1 h (up36 T)).toLoadRect.idx k) := by
  refine put_ld_out X v 1 ?_
  show T.val + 1 ≤ 8 * b.val ∨ 8 * b.val + 8 ≤ T.val
  omega

theorem HasR.step {t : Fin 2} {h : Fin 4} {b : Fin 5} {s s' : Sc F} {r : FVec F S8x128 .f32}
    (hr : ∀ (k : Fin 8) (l : Fin 128) (T : Fin 36), 8 * b.val + k.val = T.val → r (ix2 k l) = vR I i t h T l)
    (e : s' = { s with x19 := put s.x19 (rR8 h b) (shapeCast S1x8x128 r shapeCasts_S8x128_S1x8x128) }) :
    HasR I i t h b s' ∧ ∀ b', HasR I i t h b' s → HasR I i t h b' s' := by
  subst e
  have hb : HasR I i t h b { s with x19 := put s.x19 (rR8 h b) (shapeCast S1x8x128 r shapeCasts_S8x128_S1x8x128) } := by
    intro T hT
    funext j
    have hj0 : (j 0).val < 1 := (j 0).isLt
    have hj1 : (j 1).val < 1 := (j 1).isLt
    have hk : T.val % 8 < 8 := by omega
    refine (put_in _ _ (ix3 0 ⟨T.val % 8, hk⟩ (j 2)) fun a => ?_).trans ?_
    · refine (ValueKit.rect_emb_unit_val _ _ _ j a).trans ?_
      match a with
      | ⟨0, _⟩ => show h.val + (j 0).val = h.val + 0; omega
      | ⟨1, _⟩ => show T.val + (j 1).val = 8 * b.val + T.val % 8; omega
      | ⟨2, _⟩ => show 0 + (j 2).val = 0 + (j 2).val; rfl
    · exact (cast_8 r _ _ _).trans (hr ⟨T.val % 8, hk⟩ (j 2) T (by show 8 * b.val + T.val % 8 = T.val; omega))
  refine ⟨hb, fun b' k => ?_⟩
  by_cases e : b' = b
  · exact e ▸ hb
  · intro T hT
    have o := r_out (h := h) (T := T) (b := b) (fun e' => e (Fin.ext (hT.symm.trans e'))) s.x19 (shapeCast S1x8x128 r shapeCasts_S8x128_S1x8x128)
    exact o.trans (k T hT)

theorem wp_stR (h : Fin 4) (b : Fin 5) (r : FVec F S8x128 .f32) (s : Sc F) : Wp c M I (stR M h b r)
    (fun _ s' => s' = { s with x19 := put s.x19 (rR8 h b) (shapeCast S1x8x128 r shapeCasts_S8x128_S1x8x128) }) s :=
  Wp.bind (Wp.ld19 (Wp.st19 rfl))

theorem wp_ldXs8 (b : Fin 5) (s : Sc F) : Wp c M I (ldXs8 M b) (fun v s' => v = (fun j => I.x7 ((rXs8 b).toLoadRect.idx j)) ∧ s' = s) s :=
  Wp.ld7 (hn := h_S8x128) ⟨rfl, rfl⟩
theorem wp_ldVal (b : Fin 5) (s : Sc F) : Wp c M I (ldVal M b) (fun v s' => v = (fun j => I.x8 ((rXs8 b).toLoadRect.idx j)) ∧ s' = s) s :=
  Wp.ld8 (hn := h_S8x128) ⟨rfl, rfl⟩

theorem xs8_at {α : Type} (X : S40x128.Idx → α) (b : Fin 5) (k : Fin 8) (l : Fin 128) (T : Fin 36) (hr : 8 * b.val + k.val = T.val) :
    X ((rXs8 b).toLoadRect.idx (ix2 k l)) = X (ix2 (up36 T) l) := by
  refine congrArg X (funext fun a => Fin.ext ?_)
  refine (ValueKit.rect_emb_unit_val _ _ _ _ a).trans ?_
  match a with
  | ⟨0, _⟩ => exact hr
  | ⟨1, _⟩ => show 0 + l.val = l.val; omega

/-- The results' scales and codes of a pass; and the other pass's. -/
def getS (t : Fin 2) (s : Sc F) : Vec F S1x4x16x352 .f32 := match t with | 0 => s.x11 | 1 => s.x13
def getQ (t : Fin 2) (s : Sc F) : Vec F S1x4x16x64x352 .i8 := match t with | 0 => s.x10 | 1 => s.x12
def setS (t : Fin 2) (s : Sc F) (X : Vec F S1x4x16x352 .f32) : Sc F := match t with | 0 => { s with x11 := X } | 1 => { s with x13 := X }
def setQ (t : Fin 2) (s : Sc F) (X : Vec F S1x4x16x64x352 .i8) : Sc F := match t with | 0 => { s with x10 := X } | 1 => { s with x12 := X }

theorem wp_scale {t : Fin 2} {s : Sc F} (w : AllT I i t s) (h : Fin 4) (b : Fin 5) : Wp c M I (scale M t h b)
    (fun v s' => (∀ (k : Fin 8) (l : Fin 128) (T : Fin 36), 8 * b.val + k.val = T.val → v (ix2 k l) = vSc I i t h T l) ∧
      (∃ X, s' = { s with x19 := X }) ∧ HasR I i t h b s' ∧ ∀ b', HasR I i t h b' s → HasR I i t h b' s') s := by
  match t with
  | 0 =>
    refine Wp.bind ((wp_ldMax w h b).mono ?_)
    rintro m _ ⟨rfl, hm⟩
    refine Wp.bind ((wp_ldXs8 b _).mono ?_)
    rintro _ _ ⟨rfl, rfl⟩
    refine Wp.bind ((wp_ldVal b _).mono ?_)
    rintro _ _ ⟨rfl, rfl⟩
    refine Wp.bind ((wp_stR _ _ _ _).mono ?_)
    intro _ s' e
    have st := HasR.step (I := I) (i := i) (t := 0) ?_ e
    · refine Wp.pure ⟨?_, ⟨_, e⟩, st⟩
      intro k l T hT
      have h7 := xs8_at I.x7 b k l T hT
      have h8 := xs8_at I.x8 b k l T hT
      simp only [vSc, scOf, select, okP, cmpi, scP, mulf, z8, one8, broadcast, divf, cmpf, ← h7, ← h8, ← hm k l T hT]
    · intro k l T hT
      have h7 := xs8_at I.x7 b k l T hT
      have h8 := xs8_at I.x8 b k l T hT
      simp only [vR, rOf, select, okP, cmpi, scP, mulf, z8, one8, broadcast, divf, cmpf, ← h7, ← h8, ← hm k l T hT]
  | 1 =>
    refine Wp.bind ((wp_ldMax w h b).mono ?_)
    rintro m _ ⟨rfl, hm⟩
    refine Wp.bind ((wp_ldVal b _).mono ?_)
    rintro _ _ ⟨rfl, rfl⟩
    refine Wp.bind ((wp_stR _ _ _ _).mono ?_)
    intro _ s' e
    have st := HasR.step (I := I) (i := i) (t := 1) ?_ e
    · refine Wp.pure ⟨?_, ⟨_, e⟩, st⟩
      intro k l T hT
      have h8 := xs8_at I.x8 b k l T hT
      simp only [vSc, scOf, select, okP, cmpi, scP, mulf, z8, one8, broadcast, divf, cmpf, ← h8, ← hm k l T hT]
    · intro k l T hT
      have h8 := xs8_at I.x8 b k l T hT
      simp only [vR, rOf, select, okP, cmpi, scP, mulf, z8, one8, broadcast, divf, cmpf, ← h8, ← hm k l T hT]

end Cert.Kernel.Roll

end
-- ==== Proof.K.Heads.lean ====
module

public import proofs.«01_k».proof.Proof.K.Passes

/-! # One run of the body, continued

What a head's trips store, what a pass stores, and what the whole body stores. -/

@[expose] public section

noncomputable section

namespace Cert.Kernel.Roll

open Cert.Kernel Idealize.ShloMosaic Idealize.SL.Sem
open Cert.Kernel.Facts Cert.Kernel.Shapes1.Facts₀ Cert.Kernel.Shapes2.Facts₀ Cert.Kernel.K0.Facts₀

variable {F : FTy → Type} [FloatOps F]
variable {c : Dev nD} {M : Mems} {I : In F} {i : grid0.Coords}

/-! ## The results of a pass, and the other pass's -/

def Oth (t : Fin 2) (s : Sc F) : Vec F S1x4x16x64x352 .i8 × Vec F S1x4x16x352 .f32 :=
  match t with | 0 => (s.x12, s.x13) | 1 => (s.x10, s.x11)

theorem getS_setS (t : Fin 2) (s : Sc F) (X) : getS t (setS t s X) = X := by match t with | 0 => rfl | 1 => rfl
theorem getQ_setS (t : Fin 2) (s : Sc F) (X) : getQ t (setS t s X) = getQ t s := by match t with | 0 => rfl | 1 => rfl
theorem Oth_setS (t : Fin 2) (s : Sc F) (X) : Oth t (setS t s X) = Oth t s := by match t with | 0 => rfl | 1 => rfl
theorem getQ_setQ (t : Fin 2) (s : Sc F) (X) : getQ t (setQ t s X) = X := by match t with | 0 => rfl | 1 => rfl
theorem getS_setQ (t : Fin 2) (s : Sc F) (X) : getS t (setQ t s X) = getS t s := by match t with | 0 => rfl | 1 => rfl
theorem Oth_setQ (t : Fin 2) (s : Sc F) (X) : Oth t (setQ t s X) = Oth t s := by match t with | 0 => rfl | 1 => rfl
theorem AllT.setS {t : Fin 2} {s : Sc F} (w : AllT I i t s) (t' : Fin 2) (X) : AllT I i t (setS t' s X) := by match t' with | 0 => exact w | 1 => exact w
theorem AllT.setQ {t : Fin 2} {s : Sc F} (w : AllT I i t s) (t' : Fin 2) (X) : AllT I i t (setQ t' s X) := by match t' with | 0 => exact w | 1 => exact w
theorem HasR.setS {t : Fin 2} {h : Fin 4} {b : Fin 5} {s : Sc F} (w : HasR I i t h b s) (t' : Fin 2) (X) : HasR I i t h b (setS t' s X) := by
  match t' with | 0 => exact w | 1 => exact w
theorem HasR.setQ {t : Fin 2} {h : Fin 4} {b : Fin 5} {s : Sc F} (w : HasR I i t h b s) (t' : Fin 2) (X) : HasR I i t h b (setQ t' s X) := by
  match t' with | 0 => exact w | 1 => exact w

/-! ## The stores of the scales -/

theorem cast_11_8 {α : Type} (v : S8x128.Idx → α) (h) (k : Fin 8) (l : Fin 128) : shapeCast S1x1x8x128 v h (ix4 0 0 k l) = v (ix2 k l) := by
  pointwise
theorem cast_11_8t {α : Type} (v : S8x128.Idx → α) (h) (h') (k : Fin 8) (l : Fin 96) :
    shapeCast S1x1x8x96 (extractStridedSlice S8x96 ![0, 0] v h') h (ix4 0 0 k l) = v (ix2 k ⟨l.val, by omega⟩) := by
  pointwise
theorem cast_111_64 {α : Type} (v : S64x128.Idx → α) (h) (k : Fin 64) (l : Fin 128) : shapeCast S1x1x1x64x128 v h (ix5 0 0 0 k l) = v (ix2 k l) := by
  pointwise
theorem cast_111_64t {α : Type} (v : S64x128.Idx → α) (h) (h') (k : Fin 64) (l : Fin 96) :
    shapeCast S1x1x1x64x96 (extractStridedSlice S64x96 ![0, 0] v h') h (ix5 0 0 0 k l) = v (ix2 k ⟨l.val, by omega⟩) := by
  pointwise

theorem so_in (X : S1x4x16x352.Idx → F .f32) (h : Fin 4) (b c : Fin 2) (v : FVec F S8x128 .f32) (p : S1x4x16x352.Idx) (k : Fin 8) (l : Fin 128)
    (e1 : (p 1).val = h.val) (e2 : (p 2).val = 8 * b.val + k.val) (e3 : (p 3).val = 128 * c.val + l.val) :
    put X (rSo h b c) (shapeCast S1x1x8x128 v shapeCasts_S8x128_S1x1x8x128) p = v (ix2 k l) := by
  have p0 : (p 0).val < 1 := (p 0).isLt
  have e := put_in X (off := ![0, h.val, 8 * b.val, 128 * c.val]) (size := S1x1x8x128.size) (inb := inbSo h b c)
    (shapeCast S1x1x8x128 v shapeCasts_S8x128_S1x1x8x128) (p := p) (ix4 (0 : Fin 1) (0 : Fin 1) k l) (fun a => by
      match a with
      | ⟨0, _⟩ => show (p 0).val = 0 + 0; omega
      | ⟨1, _⟩ => show (p 1).val = h.val + 0; omega
      | ⟨2, _⟩ => exact e2
      | ⟨3, _⟩ => exact e3)
  exact e.trans (cast_11_8 v _ k l)

theorem soT_in (X : S1x4x16x352.Idx → F .f32) (h : Fin 4) (b : Fin 2) (v : FVec F S8x128 .f32) (p : S1x4x16x352.Idx) (k : Fin 8) (l : Fin 96)
    (e1 : (p 1).val = h.val) (e2 : (p 2).val = 8 * b.val + k.val) (e3 : (p 3).val = 256 + l.val) :
    put X (rSoT h b) (shapeCast S1x1x8x96 (extractStridedSlice S8x96 ![0, 0] v slices_S8x128_o0_0_S8x96) shapeCasts_S8x96_S1x1x8x96) p =
      v (ix2 k ⟨l.val, by omega⟩) := by
  have p0 : (p 0).val < 1 := (p 0).isLt
  have e := put_in X (off := ![0, h.val, 8 * b.val, 256]) (size := S1x1x8x96.size) (inb := inbSoT h b)
    (shapeCast S1x1x8x96 (extractStridedSlice S8x96 ![0, 0] v slices_S8x128_o0_0_S8x96) shapeCasts_S8x96_S1x1x8x96) (p := p)
    (ix4 (0 : Fin 1) (0 : Fin 1) k l) (fun a => by
      match a with
      | ⟨0, _⟩ => show (p 0).val = 0 + 0; omega
      | ⟨1, _⟩ => show (p 1).val = h.val + 0; omega
      | ⟨2, _⟩ => exact e2
      | ⟨3, _⟩ => exact e3)
  exact e.trans (cast_11_8t v _ _ k l)

theorem o_in (X : S1x4x16x64x352.Idx → BitVec 8) (h : Fin 4) (n : Fin 16) (c : Fin 2) (v : IVec S64x128 8) (p : S1x4x16x64x352.Idx)
    (k : Fin 64) (l : Fin 128)
    (e1 : (p 1).val = h.val) (e2 : (p 2).val = n.val) (e3 : (p 3).val = k.val) (e4 : (p 4).val = 128 * c.val + l.val) :
    put X (rO h n c) (shapeCast S1x1x1x64x128 v shapeCasts_S64x128_S1x1x1x64x128) p = v (ix2 k l) := by
  have p0 : (p 0).val < 1 := (p 0).isLt
  have e := put_in X (off := ![0, h.val, n.val, 0, 128 * c.val]) (size := S1x1x1x64x128.size) (inb := inbO h n c)
    (shapeCast S1x1x1x64x128 v shapeCasts_S64x128_S1x1x1x64x128) (p := p) (ix5 (0 : Fin 1) (0 : Fin 1) (0 : Fin 1) k l) (fun a => by
      match a with
      | ⟨0, _⟩ => show (p 0).val = 0 + 0; omega
      | ⟨1, _⟩ => show (p 1).val = h.val + 0; omega
      | ⟨2, _⟩ => show (p 2).val = n.val + 0; omega
      | ⟨3, _⟩ => show (p 3).val = 0 + k.val; omega
      | ⟨4, _⟩ => exact e4)
  exact e.trans (cast_111_64 v _ k l)

theorem oT_in (X : S1x4x16x64x352.Idx → BitVec 8) (h : Fin 4) (n : Fin 16) (v : IVec S64x128 8) (p : S1x4x16x64x352.Idx)
    (k : Fin 64) (l : Fin 96)
    (e1 : (p 1).val = h.val) (e2 : (p 2).val = n.val) (e3 : (p 3).val = k.val) (e4 : (p 4).val = 256 + l.val) :
    put X (rOT h n) (shapeCast S1x1x1x64x96 (extractStridedSlice S64x96 ![0, 0] v slices_S64x128_o0_0_S64x96) shapeCasts_S64x96_S1x1x1x64x96) p =
      v (ix2 k ⟨l.val, by omega⟩) := by
  have p0 : (p 0).val < 1 := (p 0).isLt
  have e := put_in X (off := ![0, h.val, n.val, 0, 256]) (size := S1x1x1x64x96.size) (inb := inbOT h n)
    (shapeCast S1x1x1x64x96 (extractStridedSlice S64x96 ![0, 0] v slices_S64x128_o0_0_S64x96) shapeCasts_S64x96_S1x1x1x64x96) (p := p)
    (ix5 (0 : Fin 1) (0 : Fin 1) (0 : Fin 1) k l) (fun a => by
      match a with
      | ⟨0, _⟩ => show (p 0).val = 0 + 0; omega
      | ⟨1, _⟩ => show (p 1).val = h.val + 0; omega
      | ⟨2, _⟩ => show (p 2).val = n.val + 0; omega
      | ⟨3, _⟩ => show (p 3).val = 0 + k.val; omega
      | ⟨4, _⟩ => exact e4)
  exact e.trans (cast_111_64t v _ _ k l)

/-- The three stores of eight slots' scales, one after another. -/
def putS (X : S1x4x16x352.Idx → F .f32) (h : Fin 4) (b : Fin 2) (v0 v1 v2 : FVec F S8x128 .f32) : S1x4x16x352.Idx → F .f32 :=
  put (put (put X (rSo h b 0) (shapeCast S1x1x8x128 v0 shapeCasts_S8x128_S1x1x8x128))
    (rSo h b 1) (shapeCast S1x1x8x128 v1 shapeCasts_S8x128_S1x1x8x128))
    (rSoT h b) (shapeCast S1x1x8x96 (extractStridedSlice S8x96 ![0, 0] v2 slices_S8x128_o0_0_S8x96) shapeCasts_S8x96_S1x1x8x96)

theorem putS_out (X : S1x4x16x352.Idx → F .f32) (h : Fin 4) (b : Fin 2) (v0 v1 v2 : FVec F S8x128 .f32) (p : S1x4x16x352.Idx)
    (e : (p 1).val ≠ h.val ∨ (p 2).val / 8 ≠ b.val) : putS X h b v0 v1 v2 p = X p := by
  unfold putS
  rcases e with e | e
  · have e' : (p 1).val < h.val ∨ h.val + 1 ≤ (p 1).val := by omega
    rw [put_out _ _ 1 e', put_out _ _ 1 e', put_out _ _ 1 e']
  · have e' : (p 2).val < 8 * b.val ∨ 8 * b.val + 8 ≤ (p 2).val := by omega
    rw [put_out _ _ 2 e', put_out _ _ 2 e', put_out _ _ 2 e']

theorem putS_at (X : S1x4x16x352.Idx → F .f32) (h : Fin 4) (b : Fin 2) (v0 v1 v2 : FVec F S8x128 .f32) (p : S1x4x16x352.Idx)
    (e1 : (p 1).val = h.val) (e2 : (p 2).val / 8 = b.val) : putS X h b v0 v1 v2 p =
      if h0 : (p 3).val < 128 then v0 (ix2 ⟨(p 2).val % 8, by omega⟩ ⟨(p 3).val, h0⟩)
      else if h1 : (p 3).val < 256 then v1 (ix2 ⟨(p 2).val % 8, by omega⟩ ⟨(p 3).val - 128, by omega⟩)
      else v2 (ix2 ⟨(p 2).val % 8, by omega⟩ ⟨(p 3).val - 256, by have : (p 3).val < 352 := (p 3).isLt; omega⟩) := by
  have p0 : (p 0).val < 1 := (p 0).isLt
  have p3 : (p 3).val < 352 := (p 3).isLt
  unfold putS
  split
  · next h0 =>
    have o2 : (p 3).val < 256 ∨ 256 + 96 ≤ (p 3).val := by omega
    have o1 : (p 3).val < 128 * (1 : Fin 2).val ∨ 128 * (1 : Fin 2).val + 128 ≤ (p 3).val := .inl (by show (p 3).val < 128 * 1; omega)
    rw [put_out _ _ 3 o2, put_out _ _ 3 o1]
    exact so_in X h b 0 v0 p ⟨(p 2).val % 8, by omega⟩ ⟨(p 3).val, h0⟩ e1 (by show (p 2).val = 8 * b.val + (p 2).val % 8; omega)
      (by show (p 3).val = 128 * 0 + (p 3).val; omega)
  · next h0 =>
    split
    · next h1 =>
      have o2 : (p 3).val < 256 ∨ 256 + 96 ≤ (p 3).val := by omega
      rw [put_out _ _ 3 o2]
      exact so_in _ h b 1 v1 p ⟨(p 2).val % 8, by omega⟩ ⟨(p 3).val - 128, by omega⟩ e1 (by show (p 2).val = 8 * b.val + (p 2).val % 8; omega)
        (by show (p 3).val = 128 * 1 + ((p 3).val - 128); omega)
    · next h1 =>
      exact soT_in _ h b v2 p ⟨(p 2).val % 8, by omega⟩ ⟨(p 3).val - 256, by omega⟩ e1 (by show (p 2).val = 8 * b.val + (p 2).val % 8; omega)
        (by show (p 3).val = 256 + ((p 3).val - 256); omega)

theorem wp_outS (x : Ix) (t : Fin 2) (h : Fin 4) (b : Fin 2) (sa sb sc : FVec F S8x128 .f32) (s : Sc F) :
    Wp c M I (outS x (mS M t) h b sa sb sc) (fun _ s' => s' = setS t s (putS (getS t s) h b
      (select (bc8 x.ownA) sa z8) (select (bc8 x.ownB) sb z8) (s2P x sa sb (cP sc b)))) s := by
  match t with
  | 0 => exact Wp.bind (Wp.bind (Wp.ld11 (Wp.st11 (Wp.bind (Wp.bind (Wp.ld11 (Wp.st11 (Wp.bind (Wp.ld11 (Wp.st11 rfl))))))))))
  | 1 => exact Wp.bind (Wp.bind (Wp.ld13 (Wp.st13 (Wp.bind (Wp.bind (Wp.ld13 (Wp.st13 (Wp.bind (Wp.ld13 (Wp.st13 rfl))))))))))

/-! ## The stores of the codes -/

/-- The three stores of a slot's codes, one after another. -/
def putQ (X : S1x4x16x64x352.Idx → BitVec 8) (h : Fin 4) (n : Fin 16) (v0 v1 v2 : IVec S16x128 32) : S1x4x16x64x352.Idx → BitVec 8 :=
  put (put (put X (rO h n 0) (shapeCast S1x1x1x64x128 (unpk v0) shapeCasts_S64x128_S1x1x1x64x128))
    (rO h n 1) (shapeCast S1x1x1x64x128 (unpk v1) shapeCasts_S64x128_S1x1x1x64x128))
    (rOT h n) (shapeCast S1x1x1x64x96 (extractStridedSlice S64x96 ![0, 0] (unpk v2) slices_S64x128_o0_0_S64x96) shapeCasts_S64x96_S1x1x1x64x96)

theorem putQ_out (X : S1x4x16x64x352.Idx → BitVec 8) (h : Fin 4) (n : Fin 16) (v0 v1 v2 : IVec S16x128 32) (p : S1x4x16x64x352.Idx)
    (e : (p 1).val ≠ h.val ∨ (p 2).val ≠ n.val) : putQ X h n v0 v1 v2 p = X p := by
  unfold putQ
  rcases e with e | e
  · have e' : (p 1).val < h.val ∨ h.val + 1 ≤ (p 1).val := by omega
    rw [put_out _ _ 1 e', put_out _ _ 1 e', put_out _ _ 1 e']
  · have e' : (p 2).val < n.val ∨ n.val + 1 ≤ (p 2).val := by omega
    rw [put_out _ _ 2 e', put_out _ _ 2 e', put_out _ _ 2 e']

theorem putQ_at (X : S1x4x16x64x352.Idx → BitVec 8) (h : Fin 4) (n : Fin 16) (v0 v1 v2 : IVec S16x128 32) (p : S1x4x16x64x352.Idx)
    (e1 : (p 1).val = h.val) (e2 : (p 2).val = n.val) : putQ X h n v0 v1 v2 p =
      if h0 : (p 4).val < 128 then unpk v0 (ix2 (p 3) ⟨(p 4).val, h0⟩)
      else if h1 : (p 4).val < 256 then unpk v1 (ix2 (p 3) ⟨(p 4).val - 128, by omega⟩)
      else unpk v2 (ix2 (p 3) ⟨(p 4).val - 256, by have : (p 4).val < 352 := (p 4).isLt; omega⟩) := by
  have p0 : (p 0).val < 1 := (p 0).isLt
  have p4 : (p 4).val < 352 := (p 4).isLt
  unfold putQ
  split
  · next h0 =>
    have o2 : (p 4).val < 256 ∨ 256 + 96 ≤ (p 4).val := by omega
    have o1 : (p 4).val < 128 * (1 : Fin 2).val ∨ 128 * (1 : Fin 2).val + 128 ≤ (p 4).val := .inl (by show (p 4).val < 128 * 1; omega)
    rw [put_out _ _ 4 o2, put_out _ _ 4 o1]
    exact o_in X h n 0 (unpk v0) p (p 3) ⟨(p 4).val, h0⟩ e1 e2 rfl (by show (p 4).val = 128 * 0 + (p 4).val; omega)
  · next h0 =>
    split
    · next h1 =>
      have o2 : (p 4).val < 256 ∨ 256 + 96 ≤ (p 4).val := by omega
      rw [put_out _ _ 4 o2]
      exact o_in _ h n 1 (unpk v1) p (p 3) ⟨(p 4).val - 128, by omega⟩ e1 e2 rfl (by show (p 4).val = 128 * 1 + ((p 4).val - 128); omega)
    · next h1 =>
      exact oT_in _ h n (unpk v2) p (p 3) ⟨(p 4).val - 256, by omega⟩ e1 e2 rfl (by show (p 4).val = 256 + ((p 4).val - 256); omega)

theorem wp_outO (x : Ix) (t : Fin 2) (h k' k : Fin 4) (qa qb qc : IVec S16x128 32) (s : Sc F) :
    Wp c M I (outO M x t h k' k qa qb qc) (fun _ s' => s' = setQ t s (putQ (getQ t s) h (slotOf k' k)
      (select (bc16 x.ownA) qa z16) (select (bc16 x.ownB) qb z16) (q2P x k qa qb qc))) s := by
  match t with
  | 0 => exact Wp.bind (Wp.bind (Wp.ld10 (Wp.st10 (Wp.bind (Wp.bind (Wp.ld10 (Wp.st10 (Wp.bind (Wp.ld10 (Wp.st10 rfl))))))))))
  | 1 => exact Wp.bind (Wp.bind (Wp.ld12 (Wp.st12 (Wp.bind (Wp.bind (Wp.ld12 (Wp.st12 (Wp.bind (Wp.ld12 (Wp.st12 rfl))))))))))

/-! ## A head's scales -/

/-- Head `h`'s eight slots from `8 b` on hold their scales. -/
def HasS (I : In F) (i : grid0.Coords) (t : Fin 2) (h : Fin 4) (b : Fin 2) (s : Sc F) : Prop :=
  ∀ p : S1x4x16x352.Idx, (p 1).val = h.val → (p 2).val / 8 = b.val → getS t s p = outSc I i t p
/-- Head `h`'s slot `n` holds its codes. -/
def HasQ (I : In F) (i : grid0.Coords) (t : Fin 2) (h : Fin 4) (n : Fin 16) (s : Sc F) : Prop :=
  ∀ p : S1x4x16x64x352.Idx, (p 1).val = h.val → (p 2).val = n.val → getQ t s p = outQ I i t p

theorem vS8_eq {t : Fin 2} {h : Fin 4} {b : Fin 5} (hb : b.val < 4) {v : FVec F S8x128 .f32}
    (hv : ∀ (k : Fin 8) (l : Fin 128) (T : Fin 36), 8 * b.val + k.val = T.val → v (ix2 k l) = vSc I i t h T l) : v = vS8 I i t h b := by
  funext j
  have hj : (j 0).val < 8 := (j 0).isLt
  have hT : 8 * b.val + (j 0).val < 36 := by omega
  unfold vS8
  rw [dif_pos hT, ← hv (j 0) (j 1) ⟨_, hT⟩ rfl]
  exact congrArg v (eq_ix2 j)

theorem cP_eq {t : Fin 2} {h : Fin 4} (b : Fin 2) {v : FVec F S8x128 .f32}
    (hv : ∀ (k : Fin 8) (l : Fin 128) (T : Fin 36), 8 * (4 : Fin 5).val + k.val = T.val → v (ix2 k l) = vSc I i t h T l) :
    cP v b = cP (vS8 I i t h 4) b := by
  have key : ∀ i' : Fin 2, extractStridedSlice S1x128 ![2 * b.val + i'.val, 0] v (slSc b i') =
      extractStridedSlice S1x128 ![2 * b.val + i'.val, 0] (vS8 I i t h 4) (slSc b i') := by
    intro i'
    funext j
    have hk : 2 * b.val + i'.val < 8 := by omega
    have hj0 : (j 0).val < 1 := (j 0).isLt
    have hT : 8 * (4 : Fin 5).val + (2 * b.val + i'.val) < 36 := by show 8 * 4 + _ < 36; omega
    obtain ⟨l, hl⟩ : ∃ l : Fin 128, l = j 1 := ⟨_, rfl⟩
    have e : ∀ w : FVec F S8x128 .f32, extractStridedSlice S1x128 ![2 * b.val + i'.val, 0] w (slSc b i') j = w (ix2 ⟨2 * b.val + i'.val, hk⟩ l) := fun w =>
      extractStridedSlice_apply _ _ _ _ _ fun a => by
        match a with
        | ⟨0, _⟩ => show 2 * b.val + i'.val = 2 * b.val + i'.val + (j 0).val; omega
        | ⟨1, _⟩ => show l.val = 0 + (j 1).val; rw [hl]; omega
    rw [e, e, hv ⟨2 * b.val + i'.val, hk⟩ l ⟨_, hT⟩ rfl]
    unfold vS8
    rw [dif_pos (show 8 * (4 : Fin 5).val + ((ix2 (⟨2 * b.val + i'.val, hk⟩ : Fin 8) l : S8x128.Idx) 0).val < 36 from hT)]
    rfl
  unfold cP
  rw [key 0, key 1]

theorem oS_at (I : In F) (i : grid0.Coords) (t : Fin 2) (X : S1x4x16x352.Idx → F .f32) (h : Fin 4) (b : Fin 2) (p : S1x4x16x352.Idx)
    (e1 : (p 1).val = h.val) (e2 : (p 2).val / 8 = b.val) {ba bb : Fin 5} (ha : ba.val = b.val) (hb : bb.val = 2 + b.val) :
    putS X h b (select (bc8 (vIx I).ownA) (vS8 I i t h ba) z8) (select (bc8 (vIx I).ownB) (vS8 I i t h bb) z8)
      (s2P (vIx I) (vS8 I i t h ba) (vS8 I i t h bb) (cP (vS8 I i t h 4) b)) p = outSc I i t p := by
  rw [putS_at X h b _ _ _ p e1 e2]
  have hb' : (p 2).val / 8 < 2 := by have : (p 2).val < 16 := (p 2).isLt; omega
  obtain rfl : h = p 1 := Fin.ext e1.symm
  obtain rfl : b = ⟨(p 2).val / 8, hb'⟩ := Fin.ext e2.symm
  have q1 : (p 2).val / 8 < 5 := by omega
  have q2 : 2 + (p 2).val / 8 < 5 := by omega
  have q3 : ba = ⟨(p 2).val / 8, q1⟩ := Fin.ext ha
  have q4 : bb = ⟨2 + (p 2).val / 8, q2⟩ := Fin.ext hb
  subst q3 q4
  rfl

theorem wp_scales {t : Fin 2} {s : Sc F} (w : AllT I i t s) (h : Fin 4) : Wp c M I (scales M (vIx I) t h) (fun _ s' =>
    AllT I i t s' ∧ Oth t s' = Oth t s ∧ getQ t s' = getQ t s ∧ (∀ b, HasR I i t h b s') ∧ (∀ b, HasS I i t h b s') ∧
    ∀ h' b, HasS I i t h' b s → HasS I i t h' b s') s := by
  unfold scales
  refine Wp.bind ((wp_scale w h 0).mono ?_); rintro v0 s0 ⟨e0, ⟨X0, x0⟩, r0, k0⟩
  have w0 : AllT I i t s0 := by subst x0; exact w
  refine Wp.bind ((wp_scale w0 h 1).mono ?_); rintro v1 s1 ⟨e1, ⟨X1, x1⟩, r1, k1⟩
  have w1 : AllT I i t s1 := by subst x1; exact w0
  refine Wp.bind ((wp_scale w1 h 2).mono ?_); rintro v2 s2 ⟨e2, ⟨X2, x2⟩, r2, k2⟩
  have w2 : AllT I i t s2 := by subst x2; exact w1
  refine Wp.bind ((wp_scale w2 h 3).mono ?_); rintro v3 s3 ⟨e3, ⟨X3, x3⟩, r3, k3⟩
  have w3 : AllT I i t s3 := by subst x3; exact w2
  refine Wp.bind ((wp_scale w3 h 4).mono ?_); rintro v4 s4 ⟨e4, ⟨X4, x4⟩, r4, k4⟩
  have w4 : AllT I i t s4 := by subst x4; exact w3
  have same : Oth t s4 = Oth t s ∧ getQ t s4 = getQ t s ∧ getS t s4 = getS t s := by
    subst x4 x3 x2 x1 x0
    match t with | 0 => exact ⟨rfl, rfl, rfl⟩ | 1 => exact ⟨rfl, rfl, rfl⟩
  have r : ∀ b, HasR I i t h b s4 := fun b => match b with
    | 0 => k4 _ (k3 _ (k2 _ (k1 _ r0))) | 1 => k4 _ (k3 _ (k2 _ r1)) | 2 => k4 _ (k3 _ r2) | 3 => k4 _ r3 | 4 => r4
  obtain rfl := vS8_eq (by decide) e0
  obtain rfl := vS8_eq (by decide) e1
  obtain rfl := vS8_eq (by decide) e2
  obtain rfl := vS8_eq (by decide) e3
  refine Wp.bind ((wp_outS _ t h 0 _ _ _ s4).mono ?_); rintro _ s5 x5
  refine (wp_outS _ t h 1 _ _ _ s5).mono ?_; rintro _ s6 x6
  rw [cP_eq 0 e4] at x5
  rw [cP_eq 1 e4] at x6
  have g := (congrArg (getS t) x6).trans (getS_setS t s5 _)
  have g5 := (congrArg (getS t) x5).trans (getS_setS t s4 _)
  have S : ∀ b, HasS I i t h b s6 := by
    intro b p p1 p2
    rw [g]
    match b with
    | 1 => exact oS_at I i t _ h 1 p p1 p2 rfl rfl
    | 0 =>
      rw [putS_out _ _ _ _ _ _ _ (.inr (by rw [p2]; decide)), g5]
      exact oS_at I i t _ h 0 p p1 p2 rfl rfl
  refine ⟨?_, ?_, ?_, ?_, S, ?_⟩
  · rw [x6, x5]; exact (w4.setS t _).setS t _
  · rw [x6, x5, Oth_setS, Oth_setS, same.1]
  · rw [x6, x5, getQ_setS, getQ_setS, same.2.1]
  · intro b; rw [x6, x5]; exact ((r b).setS t _).setS t _
  · intro h' b k
    by_cases e : h' = h
    · exact e ▸ S b
    · intro p p1 p2
      have ne : (p 1).val ≠ h.val := fun e' => e (Fin.ext (p1.symm.trans e'))
      rw [g, putS_out _ _ _ _ _ _ _ (.inl ne), g5, putS_out _ _ _ _ _ _ _ (.inl ne), same.2.2]
      exact k p p1 p2

/-! ## A head's codes -/

theorem cast_r {α : Type} (v : S1x1x128.Idx → α) (h) : shapeCast S1x128 v h = fun j => v (ix3 0 0 (j 1)) := by
  funext j; pointwise

theorem wp_codes {t : Fin 2} {s : Sc F} (w : AllT I i t s) {h : Fin 4} (r : ∀ b, HasR I i t h b s) (T : Fin 36) :
    Wp c M I (codes M h T) (fun v s' => v = vQ I i t h T ∧ s' = s) s := by
  unfold codes
  refine Wp.bind (Wp.ld17 (hn := h_S1x1x64x128) (Wp.bind (Wp.ld19 (hn := h_S1x1x128) (Wp.pure ⟨?_, rfl⟩))))
  rw [(w h T).1, r ⟨T.val / 8, by omega⟩ T rfl, cast_r]
  unfold vQ
  rw [shapeCast_shapeCast]
  rfl

theorem oQ_at (I : In F) (i : grid0.Coords) (t : Fin 2) (X : S1x4x16x64x352.Idx → BitVec 8) (h k' k : Fin 4) (p : S1x4x16x64x352.Idx)
    (e1 : (p 1).val = h.val) (e2 : (p 2).val = (slotOf k' k).val) :
    putQ X h (slotOf k' k) (select (bc16 (vIx I).ownA) (vQ I i t h (tA k' k)) z16) (select (bc16 (vIx I).ownB) (vQ I i t h (tB k' k)) z16)
      (q2P (vIx I) k (vQ I i t h (tA k' k)) (vQ I i t h (tB k' k)) (vQ I i t h (tC k'))) p = outQ I i t p := by
  rw [putQ_at X h _ _ _ _ p e1 e2]
  have e2' : (p 2).val = 4 * k'.val + k.val := e2
  obtain rfl : h = p 1 := Fin.ext e1.symm
  have q1 : (p 2).val / 4 < 4 := by have : (p 2).val < 16 := (p 2).isLt; omega
  have q2 : (p 2).val % 4 < 4 := Nat.mod_lt _ (by decide)
  have q3 : k' = ⟨(p 2).val / 4, q1⟩ := Fin.ext (by show k'.val = (p 2).val / 4; omega)
  have q4 : k = ⟨(p 2).val % 4, q2⟩ := Fin.ext (by show k.val = (p 2).val % 4; omega)
  subst q3 q4
  rfl

theorem wp_slot {t : Fin 2} {s : Sc F} (w : AllT I i t s) {h : Fin 4} (r : ∀ b, HasR I i t h b s) (k' k : Fin 4) :
    Wp c M I (slot M (vIx I) t h k' (vQ I i t h (tC k')) k) (fun _ s' =>
      AllT I i t s' ∧ (∀ b, HasR I i t h b s') ∧ Oth t s' = Oth t s ∧ getS t s' = getS t s ∧ HasQ I i t h (slotOf k' k) s' ∧
      ∀ h' n, HasQ I i t h' n s → HasQ I i t h' n s') s := by
  unfold slot
  refine Wp.bind ((wp_codes w r _).mono ?_); rintro qa s1 ⟨rfl, e⟩; rw [e]
  refine Wp.bind ((wp_codes w r _).mono ?_); rintro qb s2 ⟨rfl, e⟩; rw [e]
  refine (wp_outO _ t h k' k _ _ _ s).mono ?_
  rintro _ s' x
  have g := (congrArg (getQ t) x).trans (getQ_setQ t s _)
  have Q : HasQ I i t h (slotOf k' k) s' := by
    intro p p1 p2
    rw [g]
    exact oQ_at I i t _ h k' k p p1 p2
  refine ⟨?_, ?_, ?_, ?_, Q, ?_⟩
  · rw [x]; exact w.setQ t _
  · intro b; rw [x]; exact (r b).setQ t _
  · rw [x, Oth_setQ]
  · rw [x, getS_setQ]
  · intro h' n q
    by_cases e : h' = h ∧ n = slotOf k' k
    · obtain ⟨rfl, rfl⟩ := e; exact Q
    · intro p p1 p2
      have ne : (p 1).val ≠ h.val ∨ (p 2).val ≠ (slotOf k' k).val := by
        by_cases eh : (p 1).val = h.val
        · exact .inr fun en => e ⟨Fin.ext (p1.symm.trans eh), Fin.ext (p2.symm.trans en)⟩
        · exact .inl eh
      rw [g, putQ_out _ _ _ _ _ _ _ ne]
      exact q p p1 p2

theorem wp_slots {t : Fin 2} {s : Sc F} (w : AllT I i t s) {h : Fin 4} (r : ∀ b, HasR I i t h b s) (k' : Fin 4) :
    Wp c M I (slots M (vIx I) t h k') (fun _ s' =>
      AllT I i t s' ∧ (∀ b, HasR I i t h b s') ∧ Oth t s' = Oth t s ∧ getS t s' = getS t s ∧ (∀ k, HasQ I i t h (slotOf k' k) s') ∧
      ∀ h' n, HasQ I i t h' n s → HasQ I i t h' n s') s := by
  unfold slots
  refine Wp.bind ((wp_codes w r _).mono ?_); rintro qc s1 ⟨rfl, e⟩; rw [e]
  refine (Wp.each (fun s' => AllT I i t s' ∧ (∀ b, HasR I i t h b s') ∧ Oth t s' = Oth t s ∧ getS t s' = getS t s ∧
      ∀ h' n, HasQ I i t h' n s → HasQ I i t h' n s') (fun k s' => HasQ I i t h (slotOf k' k) s') _ ?_ s ⟨w, r, rfl, rfl, fun _ _ x => x⟩).mono ?_
  · rintro k - s' ⟨w', r', o, g, q⟩
    refine (wp_slot w' r' k' k).mono ?_
    rintro _ s'' ⟨w'', r'', o', g', Q, q'⟩
    exact ⟨⟨w'', r'', o'.trans o, g'.trans g, fun h' n x => q' _ _ (q _ _ x)⟩, Q, fun y x => q' _ _ x⟩
  · rintro _ s' ⟨⟨w', r', o, g, q⟩, Q, -⟩
    refine ⟨w', r', o, g, fun k => Q k ?_, q⟩
    revert k; decide

/-! ## A head, a pass, the body -/

/-- Head `h`'s results of a pass are in place. -/
def HasH (I : In F) (i : grid0.Coords) (t : Fin 2) (h : Fin 4) (s : Sc F) : Prop :=
  (∀ b, HasS I i t h b s) ∧ ∀ n, HasQ I i t h n s

theorem wp_head {t : Fin 2} {s : Sc F} (w : AllT I i t s) (h : Fin 4) : Wp c M I (each (run M i (vIx I)) (head t h)) (fun _ s' =>
    AllT I i t s' ∧ Oth t s' = Oth t s ∧ HasH I i t h s' ∧ ∀ h', HasH I i t h' s → HasH I i t h' s') s := by
  refine Wp.bind ((wp_scales w h).mono ?_)
  rintro _ s1 ⟨w1, o1, g1, r1, S1, k1⟩
  refine (Wp.each (fun s' => AllT I i t s' ∧ (∀ b, HasR I i t h b s') ∧ Oth t s' = Oth t s1 ∧ getS t s' = getS t s1 ∧
      ∀ h' n, HasQ I i t h' n s1 → HasQ I i t h' n s')
    (fun y s' => match y with | .slots t' h' k' => t' = t → h' = h → ∀ k, HasQ I i t h (slotOf k' k) s' | _ => True) _ ?_ s1
    ⟨w1, r1, rfl, rfl, fun _ _ x => x⟩).mono ?_
  · intro y hy s' ⟨w', r', o, g, q⟩
    obtain ⟨k', _, rfl⟩ := List.mem_map.mp hy
    refine (wp_slots w' r' k').mono ?_
    rintro _ s'' ⟨w'', r'', o', g', Q, q'⟩
    refine ⟨⟨w'', r'', o'.trans o, g'.trans g, fun h' n x => q' _ _ (q _ _ x)⟩, fun _ _ => Q, fun y x => ?_⟩
    cases y <;> first | trivial | exact fun e1 e2 k => q' _ _ (x e1 e2 k)
  · rintro _ s' ⟨⟨w', r', o, g, q⟩, Q, -⟩
    have HS : ∀ h' b, HasS I i t h' b s1 → HasS I i t h' b s' := fun h' b x p p1 p2 => by rw [g]; exact x p p1 p2
    refine ⟨w', o.trans o1, ⟨fun b => HS _ _ (S1 b), fun n => ?_⟩, fun h' x => ⟨fun b => HS _ _ (k1 _ _ (x.1 b)), fun n => q _ _ ?_⟩⟩
    · have := Q (.slots t h ⟨n.val / 4, by omega⟩) (List.mem_map.mpr ⟨_, List.mem_finRange _, rfl⟩) rfl rfl ⟨n.val % 4, by omega⟩
      have e : slotOf ⟨n.val / 4, by omega⟩ ⟨n.val % 4, by omega⟩ = n := Fin.ext (by show 4 * (n.val / 4) + n.val % 4 = n.val; omega)
      rwa [e] at this
    · intro p p1 p2; rw [g1]; exact x.2 n p p1 p2

theorem wp_append {s : Sc F} {Q : PUnit → Sc F → Prop} (f : Item → Pg F PUnit) (l l' : List Item)
    (h : Wp c M I (each f l) (fun _ s' => Wp c M I (each f l') Q s') s) : Wp c M I (each f (l ++ l')) Q s := by
  rw [each_append]
  exact Wp.bind h

theorem wp_pass (t : Fin 2) (s : Sc F) : Wp c M I (each (run M i (vIx I)) (pass t)) (fun _ s' =>
    Oth t s' = Oth t s ∧ getS t s' = outSc I i t ∧ getQ t s' = outQ I i t) s := by
  refine Wp.bind ((wp_weights t s).mono ?_)
  rintro _ s1 ⟨w1, o1⟩
  refine wp_append _ _ _ ((wp_projs w1).mono ?_)
  rintro _ s2 ⟨w2, o2⟩
  have o : Oth t s2 = Oth t s := by
    match t with
    | 0 => exact Prod.ext (o2.2.2.1.trans o1.2.2.1) (o2.2.2.2.trans o1.2.2.2)
    | 1 => exact Prod.ext (o2.1.trans o1.1) (o2.2.1.trans o1.2.1)
  refine wp_append _ _ _ (wp_append _ _ _ (wp_append _ _ _ ((wp_head w2 0).mono ?_)))
  rintro _ s3 ⟨w3, o3, h3, -⟩
  refine (wp_head w3 1).mono ?_
  rintro _ s4 ⟨w4, o4, h4, k4⟩
  refine (wp_head w4 2).mono ?_
  rintro _ s5 ⟨w5, o5, h5, k5⟩
  refine (wp_head w5 3).mono ?_
  rintro _ s6 ⟨w6, o6, h6, k6⟩
  have H : ∀ h, HasH I i t h s6 := fun h => match h with
    | 0 => k6 _ (k5 _ (k4 _ h3)) | 1 => k6 _ (k5 _ h4) | 2 => k6 _ h5 | 3 => h6
  refine ⟨o6.trans (o5.trans (o4.trans (o3.trans o))), ?_, ?_⟩
  · funext p
    have : (p 2).val < 16 := (p 2).isLt
    exact (H (p 1)).1 ⟨(p 2).val / 8, by omega⟩ p rfl rfl
  · funext p
    exact (H (p 1)).2 (p 2) p rfl rfl

theorem wp_readIx (s : Sc F) : Wp c M I (readIx M) (fun x s' => x = vIx I ∧ s' = s) s := by
  unfold readIx
  exact Wp.bind (Wp.ld9 (hn := h_S1x128) (Wp.bind (Wp.ld9 (hn := h_S1x128) (Wp.bind (Wp.ld9 (hn := h_S1x128) (Wp.bind (Wp.ld9 (hn := h_S1x128)
    (Wp.pure ⟨rfl, rfl⟩))))))))

/-- **What one run of the body leaves in the results' blocks**, whatever was there before. -/
theorem wp_body (s : Sc F) : Wp c M I (body M i) (fun _ s' =>
    s'.x10 = outQ I i 0 ∧ s'.x11 = outSc I i 0 ∧ s'.x12 = outQ I i 1 ∧ s'.x13 = outSc I i 1) s := by
  unfold body
  refine Wp.bind ((wp_readIx s).mono ?_)
  rintro x s0 ⟨rfl, rfl⟩
  refine wp_append _ _ _ ((wp_pass 0 _).mono ?_)
  rintro _ s1 ⟨-, a, b⟩
  refine (wp_pass 1 _).mono ?_
  rintro _ s2 ⟨o, a', b'⟩
  have o1 : s2.x10 = s1.x10 := congrArg Prod.fst o
  have o2 : s2.x11 = s1.x11 := congrArg Prod.snd o
  exact ⟨o1.trans b, o2.trans a, b', a'⟩

end Cert.Kernel.Roll

end
-- ==== Proof.K.KernelRun.lean ====
module

public import proofs.«01_k».proof.Proof.K.Heads
public import proofs.«01_k».proof.Proof.Gen.Kernel.Frame
public import Idealize.ShloMosaic.Lib.Pipeline.Frame

/-! # The kernel's run

The body's triple at every grid point, from which: the program terminates, leaves its arguments as they were and every
counter at zero, and its result arrays are what the pipeline writes back of `outQ` and `outSc`. -/

@[expose] public section

noncomputable section

namespace Cert.Kernel.Roll

open Cert.Kernel Cert.Kernel.Gen Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The operands at grid point `t`: the windows' staging buffers of the point, and the scratch. -/
abbrev mems (t : Fin cfg0.N) : Mems where
  a2 := win0_0.stage (cfg0.slots t 0)
  h2 := hstage0_0 ((cfg0.slots t 0).cast nbuf0_0)
  a3 := win0_1.stage (cfg0.slots t 1)
  h3 := hstage0_1 ((cfg0.slots t 1).cast nbuf0_1)
  a4 := win0_2.stage (cfg0.slots t 2)
  h4 := hstage0_2 ((cfg0.slots t 2).cast nbuf0_2)
  a5 := win0_3.stage (cfg0.slots t 3)
  h5 := hstage0_3 ((cfg0.slots t 3).cast nbuf0_3)
  a6 := win0_4.stage (cfg0.slots t 4)
  h6 := hstage0_4 ((cfg0.slots t 4).cast nbuf0_4)
  a7 := win0_5.stage (cfg0.slots t 5)
  h7 := hstage0_5 ((cfg0.slots t 5).cast nbuf0_5)
  a8 := win0_6.stage (cfg0.slots t 6)
  h8 := hstage0_6 ((cfg0.slots t 6).cast nbuf0_6)
  a9 := win0_7.stage (cfg0.slots t 7)
  h9 := hstage0_7 ((cfg0.slots t 7).cast nbuf0_7)
  a10 := win0_8.stage (cfg0.slots t 8)
  h10 := hstage0_8 ((cfg0.slots t 8).cast nbuf0_8)
  a11 := win0_9.stage (cfg0.slots t 9)
  h11 := hstage0_9 ((cfg0.slots t 9).cast nbuf0_9)
  a12 := win0_10.stage (cfg0.slots t 10)
  h12 := hstage0_10 ((cfg0.slots t 10).cast nbuf0_10)
  a13 := win0_11.stage (cfg0.slots t 11)
  h13 := hstage0_11 ((cfg0.slots t 11).cast nbuf0_11)
  a14 := Memref.whole cc0_scratch0
  h14 := Memref.isWhole_whole _
  a15 := Memref.whole cc0_scratch1
  h15 := Memref.isWhole_whole _
  a16 := Memref.whole cc0_scratch2
  h16 := Memref.isWhole_whole _
  a17 := Memref.whole cc0_scratch3
  h17 := Memref.isWhole_whole _
  a18 := Memref.whole cc0_scratch4
  h18 := Memref.isWhole_whole _
  a19 := Memref.whole cc0_scratch5
  h19 := Memref.isWhole_whole _

/-- The input blocks of grid point `t`. -/
abbrev ins (c : Dev nD) (t : Fin cfg0.N) : In F where
  x2 := iblk m c 0 t
  x3 := iblk m c 1 t
  x4 := iblk m c 2 t
  x5 := iblk m c 3 t
  x6 := iblk m c 4 t
  x7 := iblk m c 5 t
  x8 := iblk m c 6 t
  x9 := iblk m c 7 t

/-- The pipeline's proof data on core `c`: the arrays as launched; after the body each input's buffer still holds its
    block and the results' hold `outQ` and `outSc` of the point's inputs; the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outQ (ins m c t) (grid0.coords t) 0
    | ⟨9, _⟩ => outSc (ins m c t) (grid0.coords t) 0
    | ⟨10, _⟩ => outQ (ins m c t) (grid0.coords t) 1
    | ⟨11, _⟩ => outSc (ins m c t) (grid0.coords t) 1
  Φ _ := Pipeline.ΦA spec0 c
  q := Pipeline.shareOf spec0
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outQ (ins m c t) (grid0.coords t) 0 := by dsimp only [dats]
theorem after_9 (c : Dev nD) (t : Fin cfg0.N) : (dats m 0 c).after 9 t = outSc (ins m c t) (grid0.coords t) 0 := by dsimp only [dats]
theorem after_10 (c : Dev nD) (t : Fin cfg0.N) : (dats m 0 c).after 10 t = outQ (ins m c t) (grid0.coords t) 1 := by dsimp only [dats]
theorem after_11 (c : Dev nD) (t : Fin cfg0.N) : (dats m 0 c).after 11 t = outSc (ins m c t) (grid0.coords t) 1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mems t).a2 fullShare ((dats m 0 c).before 0 t d))
    ∗ (∃ d, owns (c : Thread nD τ) (mems t).a3 fullShare ((dats m 0 c).before 1 t d))
    ∗ (∃ d, owns (c : Thread nD τ) (mems t).a4 fullShare ((dats m 0 c).before 2 t d))
    ∗ (∃ d, owns (c : Thread nD τ) (mems t).a5 fullShare ((dats m 0 c).before 3 t d))
    ∗ (∃ d, owns (c : Thread nD τ) (mems t).a6 fullShare ((dats m 0 c).before 4 t d))
    ∗ (∃ d, owns (c : Thread nD τ) (mems t).a7 fullShare ((dats m 0 c).before 5 t d))
    ∗ (∃ d, owns (c : Thread nD τ) (mems t).a8 fullShare ((dats m 0 c).before 6 t d))
    ∗ (∃ d, owns (c : Thread nD τ) (mems t).a9 fullShare ((dats m 0 c).before 7 t d))
    ∗ (∃ d, owns (c : Thread nD τ) (mems t).a10 fullShare ((dats m 0 c).before 8 t d))
    ∗ (∃ d, owns (c : Thread nD τ) (mems t).a11 fullShare ((dats m 0 c).before 9 t d))
    ∗ (∃ d, owns (c : Thread nD τ) (mems t).a12 fullShare ((dats m 0 c).before 10 t d))
    ∗ (∃ d, owns (c : Thread nD τ) (mems t).a13 fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (mems t).a2 fullShare ((dats m 0 c).after 0 t)
    ∗ owns (c : Thread nD τ) (mems t).a3 fullShare ((dats m 0 c).after 1 t)
    ∗ owns (c : Thread nD τ) (mems t).a4 fullShare ((dats m 0 c).after 2 t)
    ∗ owns (c : Thread nD τ) (mems t).a5 fullShare ((dats m 0 c).after 3 t)
    ∗ owns (c : Thread nD τ) (mems t).a6 fullShare ((dats m 0 c).after 4 t)
    ∗ owns (c : Thread nD τ) (mems t).a7 fullShare ((dats m 0 c).after 5 t)
    ∗ owns (c : Thread nD τ) (mems t).a8 fullShare ((dats m 0 c).after 6 t)
    ∗ owns (c : Thread nD τ) (mems t).a9 fullShare ((dats m 0 c).after 7 t)
    ∗ owns (c : Thread nD τ) (mems t).a10 fullShare ((dats m 0 c).after 8 t)
    ∗ owns (c : Thread nD τ) (mems t).a11 fullShare ((dats m 0 c).after 9 t)
    ∗ owns (c : Thread nD τ) (mems t).a12 fullShare ((dats m 0 c).after 10 t)
    ∗ owns (c : Thread nD τ) (mems t).a13 fullShare ((dats m 0 c).after 11 t))

/-- The scoped rest is the scratch, each buffer owned whole. -/
theorem scratch_eq (c : Dev nD) :
    (Pipeline.scopedRest (Ix := Unit) (Name := ℕ) (U := UR sig nD τ) (Lvl := ℕ) (Val := Elt F) spec0 c : sProp 𝕄)
      = iprop((∃ f : cc0_scratch0.ty.Contents (Elt F), owns (c : Thread nD τ) (Memref.whole cc0_scratch0) fullShare f) ∗ (∃ f : cc0_scratch1.ty.Contents (Elt F), owns (c : Thread nD τ) (Memref.whole cc0_scratch1) fullShare f) ∗ (∃ f : cc0_scratch2.ty.Contents (Elt F), owns (c : Thread nD τ) (Memref.whole cc0_scratch2) fullShare f) ∗ (∃ f : cc0_scratch3.ty.Contents (Elt F), owns (c : Thread nD τ) (Memref.whole cc0_scratch3) fullShare f) ∗ (∃ f : cc0_scratch4.ty.Contents (Elt F), owns (c : Thread nD τ) (Memref.whole cc0_scratch4) fullShare f) ∗ (∃ f : cc0_scratch5.ty.Contents (Elt F), owns (c : Thread nD τ) (Memref.whole cc0_scratch5) fullShare f)) := by
  rw [scopedRest0_eq]
  simp only [owns_whole]

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show cc0_kv_pages (F := F) (grid0.coords t) _ _ _ _ _ _ _ _ _ _ _ _ _ _ _ _ _ _ _ _ _ _ _ _ _ _ _ _ _ _ _ _ _ _ _ _ = body (mems t) (grid0.coords t) from printed_eq (mems t) (grid0.coords t)]
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11,
    show (dats m 0 c).Φ t.castSucc = Pipeline.ΦA spec0 c from rfl]
  unfold Pipeline.ΦA
  rw [scratch_eq]
  iintro ⟨⟨⟨⟨%f0, S0⟩, ⟨%f1, S1⟩, ⟨%f2, S2⟩, ⟨%f3, S3⟩, ⟨%f4, S4⟩, ⟨%f5, S5⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (wp_body (c := c) (M := mems t) (I := ins m c t) (i := grid0.coords t)
    (⟨(dats m 0 c).before 8 t d8, (dats m 0 c).before 9 t d9, (dats m 0 c).before 10 t d10, (dats m 0 c).before 11 t d11, f0, f1, f2, f3, f4, f5⟩ : Sc F) _)
  unfold St
  isplitl [H0 H1 H2 H3 H4 H5 H6 H7 H8 H9 H10 H11 S0 S1 S2 S3 S4 S5]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    iexact S5
  iintro %a %s' %hs ⟨H0, H1, H2, H3, H4, H5, H6, H7, H8, H9, H10, H11, S0, S1, S2, S3, S4, S5⟩
  obtain ⟨h10, h11, h12, h13⟩ := hs
  rw [h10, h11, h12, h13]
  isplitl [Hr S0 S1 S2 S3 S4 S5]
  · isplitr [Hr]; swap; · iexact Hr
    isplitl [S0]; · iexists _; iexact S0
    isplitl [S1]; · iexists _; iexact S1
    isplitl [S2]; · iexists _; iexact S2
    isplitl [S3]; · iexists _; iexact S3
    isplitl [S4]; · iexists _; iexact S4
    iexists _; iexact S5
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run terminates with the arrays at what the pipeline writes back and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Kernel.Roll

end
-- ==== Proof.Spec.lean ====
module

public import Idealize.ShloMosaic.Lib.Pointwise

/-! # A slot of the pages

Which of the 36 tiles of tokens, and which lane of it, each place of a page's slot holds. The tiles are in the order of
the columns of `xt`: tile `2 s` and `2 s + 1` hold the tails' tokens of slot `s`, tiles 32 to 35 the listed ones. -/

@[expose] public section

noncomputable section

namespace Cert.Spec

open Idealize.ShloMosaic

variable {α β : Type}

/-- The lane a word names. -/
def lane (w : BitVec 32) : Fin 128 := ⟨w.toNat % 128, Nat.mod_lt _ (by decide)⟩

/-- Counting a negative word from the end names the same lane. -/
theorem wrap_mod (w : BitVec 32) :
    (Scalar.select (IntOp.cmpi CmpIPredicate.slt w 0#32) (IntOp.addi w 128#32) w).toNat % 128 = w.toNat % 128 := by
  unfold Scalar.select
  split <;> try rfl
  show (w + 128#32).toNat % 128 = _
  rw [BitVec.toNat_add]
  have := w.isLt
  simp only [BitVec.toNat_ofNat]
  omega

def tailOf (z : α) (own : BitVec 32) (x : α) : α := Scalar.select (IntOp.cmpi .ne own 0#32) x z

/-- A copied page's place in slot `s`: out of a tail's tile or out of the listed tokens. -/
def pickOf (z : α) (src lidx : BitVec 32) (v : Fin 36 → Fin 128 → α) (s : Fin 16) : α :=
  Scalar.select (IntOp.cmpi .eq src 0#32) (v ⟨2 * s.val, by omega⟩ (lane lidx))
    (Scalar.select (IntOp.cmpi .eq src 1#32) (v ⟨2 * s.val + 1, by omega⟩ (lane lidx))
      (Scalar.select (IntOp.cmpi .eq src 2#32)
        (v ⟨32 + s.val / 4, by omega⟩ (lane (IntOp.andi (IntOp.addi lidx (BitVec.ofNat 32 (32 * (s.val % 4)))) 127#32))) z))

def pageOf (z : α) (ia ib src lidx : Fin 128 → BitVec 32) (v : Fin 36 → Fin 128 → α) (s : Fin 16) (p : Fin 352) : α :=
  if h : p.val < 128 then tailOf z (ia ⟨p.val, h⟩) (v ⟨2 * s.val, by omega⟩ ⟨p.val, h⟩)
  else if h' : p.val < 256 then tailOf z (ib ⟨p.val - 128, by omega⟩) (v ⟨2 * s.val + 1, by omega⟩ ⟨p.val - 128, by omega⟩)
  else pickOf z (src ⟨p.val - 256, by omega⟩) (lidx ⟨p.val - 256, by omega⟩) v s

/-- One of four words, chosen by the number it is 32 times of. -/
theorem dite4 (f : BitVec 32 → α) (m : Nat) (hm : m < 4) :
    (if h : m < 1 then f 0#32 else if h : m - 1 < 1 then f 32#32 else if h : m - 1 - 1 < 1 then f 64#32 else f 96#32)
      = f (BitVec.ofNat 32 (32 * m)) := by
  have : m = 0 ∨ m = 1 ∨ m = 2 ∨ m = 3 := by omega
  rcases this with h | h | h | h <;> subst h <;> rfl

theorem map_select (f : α → β) (c : BitVec 1) (x y : α) : f (Scalar.select c x y) = Scalar.select c (f x) (f y) := by
  unfold Scalar.select
  split <;> rfl

theorem map_pick (f : α → β) (c0 c1 c2 : BitVec 1) (x0 x1 x2 z : α) :
    f (Scalar.select c0 x0 (Scalar.select c1 x1 (Scalar.select c2 x2 z)))
      = Scalar.select c0 (f x0) (Scalar.select c1 (f x1) (Scalar.select c2 (f x2) (f z))) := by
  rw [map_select f, map_select f, map_select f]

theorem map_pageOf (f : α → β) (z : α) (ia ib src lidx : Fin 128 → BitVec 32) (v : Fin 36 → Fin 128 → α) (s : Fin 16) (p : Fin 352) :
    f (pageOf z ia ib src lidx v s p) = pageOf (f z) ia ib src lidx (fun j l => f (v j l)) s p := by
  unfold pageOf tailOf pickOf
  split
  · rw [map_select f]
  · split
    · rw [map_select f]
    · rw [map_select f, map_select f, map_select f]

/-- The row of `xs` and `val` that holds the tokens of tile `j`. -/
def tileS (j : Fin 36) : Fin 40 := ⟨if j.val < 32 then j.val % 2 * 16 + j.val / 2 else j.val, by split <;> omega⟩

/-! ## The quantiser over the extended reals -/

/-- The largest of a head's 64 magnitudes. -/
def topOf (f : Fin 64 → EReal) : EReal :=
  (Finset.univ : Finset (Fin 64)).fold max (FloatOps.ofBits (F := Ideal) .f32 0xFF800000#32) f

/-- A scale. -/
def scaleOf (a : EReal) : EReal :=
  Scalar.select (FloatOps.cmpf (F := Ideal) .oeq (φ := .f32) a (Scalar.ofBits (F := Ideal) .f32 0x00000000#32))
    (Scalar.ofBits (F := Ideal) .f32 0x3F800000#32) (FloatOps.divf (F := Ideal) (φ := .f32) a (Scalar.ofBits (F := Ideal) .f32 0x42FE0000#32))

/-- A code. -/
def codeOf (x : EReal) : BitVec 8 :=
  FloatOps.fptosi (F := Ideal) (φ := .f32) 8 (FloatOps.minimumf (F := Ideal) (φ := .f32) (Scalar.ofBits (F := Ideal) .f32 0x42FE0000#32)
    (FloatOps.maximumf (F := Ideal) (φ := .f32) (Scalar.ofBits (F := Ideal) .f32 0xC2FE0000#32) (FloatOps.roundeven (F := Ideal) (φ := .f32) x)))

/-! ## The results -/

/-- The call's operands, coordinate by coordinate. -/
structure Ops where
  w : Fin 1280 → Fin 81920 → EReal
  ws : Fin 640 → Fin 128 → EReal
  bv : Fin 20 → Fin 32 → Fin 64 → EReal
  x : Fin 1280 → Fin 4608 → EReal
  xs : Fin 40 → Fin 128 → EReal
  val : Fin 40 → Fin 128 → BitVec 32
  ia : Fin 128 → BitVec 32
  ib : Fin 128 → BitVec 32
  src : Fin 128 → BitVec 32
  lidx : Fin 128 → BitVec 32

namespace Ops
variable (O : Ops)

/-- The row of `ws` of layer `l`, half `t` (keys or values) and head `j`, -/
def row (t : Fin 2) (l : Fin 32) (j : Fin 20) : Fin 640 := ⟨l.val * 20 + t.val * 10 + j.val / 2, by omega⟩
/-- and the lane of its feature `d`. -/
def feat (j : Fin 20) (d : Fin 64) : Fin 128 := ⟨j.val % 2 * 64 + d.val, by omega⟩
def acc (t : Fin 2) (l : Fin 32) (j : Fin 20) (d : Fin 64) (n : Fin 36) (p : Fin 128) : EReal :=
  ∑ k : Fin 1280, O.w k ⟨(row t l j).val * 128 + (feat j d).val, by have := (row t l j).2; have := (feat j d).2; omega⟩ * O.x k ⟨n.val * 128 + p.val, by omega⟩
/-- The dequantised projection without the bias, -/
def dq (t : Fin 2) (l : Fin 32) (j : Fin 20) (d : Fin 64) (n : Fin 36) (p : Fin 128) : EReal :=
  O.acc t l j d n p * O.xs (tileS n) p * O.ws (row t l j) (feat j d)
/-- and with it, which the keys do not have. -/
def y (t : Fin 2) (l : Fin 32) (j : Fin 20) (d : Fin 64) (n : Fin 36) (p : Fin 128) : EReal :=
  match t with
  | 0 => O.dq 0 l j d n p
  | 1 => O.dq 1 l j d n p + O.bv j l d
def ok (n : Fin 36) (p : Fin 128) : BitVec 1 := IntOp.cmpi .ne (O.val (tileS n) p) 0#32
def scale (t : Fin 2) (l : Fin 32) (j : Fin 20) (n : Fin 36) (p : Fin 128) : EReal :=
  scaleOf (topOf fun d => FloatOps.absf (F := Ideal) (φ := .f32) (O.y t l j d n p))
def sc (t : Fin 2) (l : Fin 32) (j : Fin 20) (n : Fin 36) (p : Fin 128) : EReal := Scalar.select (O.ok n p) (O.scale t l j n p) 0
def code (t : Fin 2) (l : Fin 32) (j : Fin 20) (d : Fin 64) (n : Fin 36) (p : Fin 128) : BitVec 8 :=
  Scalar.select (O.ok n p) (codeOf (FloatOps.divf (F := Ideal) (φ := .f32) (O.y t l j d n p) (O.scale t l j n p))) 0#8
/-- The scales' pages -/
def pageS (t : Fin 2) (l : Fin 32) (j : Fin 20) (s : Fin 16) (p : Fin 352) : EReal :=
  pageOf 0 O.ia O.ib O.src O.lidx (O.sc t l j) s p
/-- and the codes'. -/
def pageQ (t : Fin 2) (l : Fin 32) (j : Fin 20) (s : Fin 16) (d : Fin 64) (p : Fin 352) : BitVec 8 :=
  pageOf 0#8 O.ia O.ib O.src O.lidx (O.code t l j d) s p

end Ops

/-- The operands as the call takes them. -/
def opsOf (w : Vec Ideal ⟨2, ![1280, 81920]⟩ .fp8e4m3) (ws : Vec Ideal ⟨2, ![640, 128]⟩ .f32) (bv : Vec Ideal ⟨3, ![20, 32, 64]⟩ .f32)
    (xt : Vec Ideal ⟨2, ![1280, 4608]⟩ .fp8e4m3) (xs : Vec Ideal ⟨2, ![40, 128]⟩ .f32) (val : Vec Ideal ⟨2, ![40, 128]⟩ .i32)
    (idx : Vec Ideal ⟨2, ![8, 128]⟩ .i32) : Ops where
  w a b := w (ValueIdx.ix2 a b)
  ws a b := ws (ValueIdx.ix2 a b)
  bv a b c := bv (ValueIdx.ix3 a b c)
  x a b := xt (ValueIdx.ix2 a b)
  xs a b := xs (ValueIdx.ix2 a b)
  val a b := val (ValueIdx.ix2 a b)
  ia p := idx (ValueIdx.ix2 0 p)
  ib p := idx (ValueIdx.ix2 1 p)
  src p := idx (ValueIdx.ix2 2 p)
  lidx p := idx (ValueIdx.ix2 3 p)

/-- The pages of codes, as an array, -/
def arrQ (O : Ops) (t : Fin 2) : Vec Ideal ⟨5, ![32, 20, 16, 64, 352]⟩ .i8 := fun i => O.pageQ t (i 0) (i 1) (i 2) (i 3) (i 4)
/-- and of scales. -/
def arrS (O : Ops) (t : Fin 2) : Vec Ideal ⟨4, ![32, 20, 16, 352]⟩ .f32 := fun i => O.pageS t (i 0) (i 1) (i 2) (i 3)

end Cert.Spec

end
-- ==== Proof.KerAt.lean ====
module

public import proofs.«01_k».proof.Proof.Body
public import proofs.«01_k».proof.Proof.Spec
public import Idealize.ShloMosaic.Lib.BitcastFour

/-! # The kernel's blocks at an index -/

@[expose] public section

set_option maxRecDepth 16384

noncomputable section

namespace Cert.KernelIdeal.Roll

open Cert.KernelIdeal Idealize.ShloMosaic Idealize.SL.Sem Cert.Spec
open Cert.KernelIdeal.Facts Cert.KernelIdeal.Shapes1.Facts₀ Cert.KernelIdeal.Shapes2.Facts₀ Cert.KernelIdeal.K0.Facts₀

variable {F : FTy → Type} [FloatOps F]

/-- The kernel's tile that column tile `n` is. -/
def kT (n : Fin 36) : Fin 36 := ⟨if n.val < 32 then n.val % 2 * 16 + n.val / 2 else n.val, by split <;> omega⟩
theorem up36_kT (n : Fin 36) : up36 (kT n) = tileS n := rfl

/-! ## Codes -/

/-- Byte `k` of a word. -/
def byteOf (k : Nat) (w : BitVec 32) : BitVec 8 := (w >>> (8 * k)).setWidth 8
theorem byteOf_getLsbD (k : Nat) (w : BitVec 32) (i : Nat) (hi : i < 8) : (byteOf k w).getLsbD i = w.getLsbD (8 * k + i) := by
  unfold byteOf
  rw [BitVec.getLsbD_setWidth, BitVec.getLsbD_ushiftRight]
  simp [hi]

theorem unpk_at (q : IVec S16x128 32) (d : Fin 64) (p : Fin 128) : unpk q (ix2 d p) = byteOf (d.val % 4) (q (ix2 ⟨d.val / 4, by omega⟩ p)) := by
  apply BitVec.eq_of_getLsbD_eq
  intro i hi
  rw [byteOf_getLsbD _ _ _ hi]
  unfold unpk
  rw [bitcast_getLsbD _ _ _ i hi (by decide)]
  have hr : S64x128.row (ix2 d p) = d.val := rfl
  have e1 : (S64x128.row (ix2 d p) * 8 + i) / 32 = d.val / 4 := by rw [hr]; omega
  have e2 : (S64x128.row (ix2 d p) * 8 + i) % 32 = 8 * (d.val % 4) + i := by rw [hr]; omega
  rw [e2]
  congr 2
  funext c
  match c with
  | 0 => exact Fin.ext e1
  | 1 => rfl

theorem byte_pack (x : IVec S64x128 8) (d : Fin 64) (p : Fin 128) :
    byteOf (d.val % 4) (bitcast S16x128 32 x bitcasts_S64x128_w8_S16x128_w32 (ix2 (⟨d.val / 4, by omega⟩ : Fin 16) p)) = x (ix2 d p) := by
  apply BitVec.eq_of_getLsbD_eq
  intro i hi
  rw [byteOf_getLsbD _ _ _ hi]
  refine (bitcast_8_32_getLsbD_ix2 (R := 64) (r := 16) (n := 128) x _ ⟨d.val / 4, by omega⟩ p (8 * (d.val % 4) + i) (by omega) d (by dsimp only; omega)).trans ?_
  congr 1
  omega

theorem off8_at (k : Fin 8) (p : Fin 128) : off8 (ix2 k p) = BitVec.ofNat 32 (32 * (k.val % 4)) := by
  fin_cases k <;> sl_kernel_rfl

theorem s2P_at (x : Ix) (sa sb c : FVec F S8x128 .f32) (k : Fin 8) (p : Fin 128) :
    s2P x sa sb c (ix2 k p) = Scalar.select (IntOp.cmpi .eq (x.src (ix2 0 p)) 0#32) (sa (ix2 k (lane (x.lidx (ix2 0 p)))))
     (Scalar.select (IntOp.cmpi .eq (x.src (ix2 0 p)) 1#32) (sb (ix2 k (lane (x.lidx (ix2 0 p)))))
      (Scalar.select (IntOp.cmpi .eq (x.src (ix2 0 p)) 2#32)
       (c (ix2 k (lane (IntOp.andi (IntOp.addi (x.lidx (ix2 0 p)) (BitVec.ofNat 32 (32 * (k.val % 4)))) 127#32)))) (z8 (ix2 k p)))) := by
  unfold s2P
  generalize ho : off8 = o
  pointwise [bc8, isSrc, wrap8, lid8]
  subst ho
  simp only [off8_at, wrap_mod]
  rfl

theorem q2P_at (x : Ix) (sub : Fin 4) (sa sb c : IVec S16x128 32) (k : Fin 16) (p : Fin 128) :
    q2P x sub sa sb c (ix2 k p) = Scalar.select (IntOp.cmpi .eq (x.src (ix2 0 p)) 0#32) (sa (ix2 k (lane (x.lidx (ix2 0 p)))))
     (Scalar.select (IntOp.cmpi .eq (x.src (ix2 0 p)) 1#32) (sb (ix2 k (lane (x.lidx (ix2 0 p)))))
      (Scalar.select (IntOp.cmpi .eq (x.src (ix2 0 p)) 2#32)
       (c (ix2 k (lane (IntOp.andi (IntOp.addi (x.lidx (ix2 0 p)) (BitVec.ofNat 32 (32 * sub.val))) 127#32)))) 0#32)) := by
  pointwise [q2P, bc16, isSrc, wrap16, lid16, z16]
  simp only [wrap_mod]
  rfl

theorem bc8_at (c : IVec S1x128 1) (k : Fin 8) (p : Fin 128) : bc8 c (ix2 k p) = c (ix2 0 p) := by pointwise [bc8]
theorem bc16_at (c : IVec S1x128 1) (k : Fin 16) (p : Fin 128) : bc16 c (ix2 k p) = c (ix2 0 p) := by pointwise [bc16]
theorem cP_at (sc : FVec F S8x128 .f32) (b : Fin 2) (k : Fin 8) (p : Fin 128) :
    cP sc b (ix2 k p) = sc (ix2 ⟨2 * b.val + k.val / 4, by omega⟩ p) := by
  pointwise [cP]
  split <;> (congr! 2; simp only [Fin.mk.injEq]; omega)

/-! ## The blocks -/

variable (I : In F) (i : grid0.Coords) (t : Fin 2) (h : Fin 4)

/-- A row of the index operand. -/
def ixRow (k : Fin 8) (p : Fin 128) : BitVec 32 := I.x9 (ix2 k p)

theorem row_idx (k : Nat) (inb : ∀ a, (![k, 0] : Fin 2 → Nat) a + S1x128.size a ≤ S8x128.size a) (p : Fin 128) :
    (Rect.unit (s := S8x128) ![k, 0] S1x128.size inb).toLoadRect.idx (ix2 0 p) = ix2 ⟨k, inb 0⟩ p := by
  funext a
  refine Fin.ext ((ValueKit.rect_emb_unit_val _ _ _ _ _).trans ?_)
  fin_cases a
  · rfl
  · exact Nat.zero_add _
theorem ownA_at (p : Fin 128) : (vIx I).ownA (ix2 0 p) = IntOp.cmpi .ne (ixRow I 0 p) 0#32 := by
  show IntOp.cmpi .ne (I.x9 _) 0#32 = _
  unfold ixRow
  congr! 2
  exact row_idx _ _ p
theorem ownB_at (p : Fin 128) : (vIx I).ownB (ix2 0 p) = IntOp.cmpi .ne (ixRow I 1 p) 0#32 := by
  show IntOp.cmpi .ne (I.x9 _) 0#32 = _
  unfold ixRow
  congr! 2
  exact row_idx _ _ p
theorem src_at (p : Fin 128) : (vIx I).src (ix2 0 p) = ixRow I 2 p := by
  show I.x9 _ = _
  unfold ixRow
  congr! 1
  exact row_idx _ _ p
theorem lidx_at (p : Fin 128) : (vIx I).lidx (ix2 0 p) = ixRow I 3 p := by
  show I.x9 _ = _
  unfold ixRow
  congr! 1
  exact row_idx _ _ p

theorem vS8_at (b : Fin 5) (k : Fin 8) (p : Fin 128) (n : Fin 36) (hn : 8 * b.val + k.val = (kT n).val) :
    vS8 I i t h b (ix2 k p) = vSc I i t h (kT n) p := by
  unfold vS8
  rw [dif_pos (show 8 * b.val + ((ix2 k p : S8x128.Idx) 0).val < 36 from hn ▸ (kT n).2)]
  congr 1
  exact Fin.ext hn

/-- The scales' block, place by place. -/
theorem oS_pages (s : Fin 16) (p : Fin 352) : oS I i t h s p =
    pageOf (z8 (ix2 0 0)) (ixRow I 0) (ixRow I 1) (ixRow I 2) (ixRow I 3) (fun n l => vSc I i t h (kT n) l) s p := by
  unfold oS pageOf
  dsimp only
  split
  · rw [ValueIdx.select_apply, bc8_at, ownA_at, vS8_at I i t h _ _ _ ⟨2 * s.val, by omega⟩ (by simp only [kT]; split <;> omega)]
    rfl
  · split
    · rw [ValueIdx.select_apply, bc8_at, ownB_at, vS8_at I i t h _ _ _ ⟨2 * s.val + 1, by omega⟩ (by simp only [kT]; split <;> omega)]
      rfl
    · rw [s2P_at, src_at, lidx_at, cP_at, vS8_at I i t h _ _ _ ⟨2 * s.val, by omega⟩ (by simp only [kT]; split <;> omega),
        vS8_at I i t h _ _ _ ⟨2 * s.val + 1, by omega⟩ (by simp only [kT]; split <;> omega),
        vS8_at I i t h _ _ _ ⟨32 + s.val / 4, by omega⟩ (by simp only [kT]; have h4 : (4 : Fin 5).val = 4 := rfl; split <;> omega)]
      unfold pickOf
      rw [show s.val % 8 % 4 = s.val % 4 by omega]
      rfl

/-- A tile's codes, place by place. -/
def cd (n : Fin 36) (d : Fin 64) (l : Fin 128) : BitVec 8 :=
  fptosi 8 (minimumf (broadcast S64x128 (Scalar.ofBits (F := F) .f32 0x42FE0000#32))
    (maximumf (broadcast S64x128 (Scalar.ofBits .f32 0xC2FE0000#32))
      (roundeven (mulf (vT I i t h (kT n)) (broadcastTo S64x128 (fun j => vR I i t h (kT n) (j 1) : FVec F S1x128 .f32) broadcasts_S1x128_S64x128))))) (ix2 d l)

theorem byte_vQ (d : Fin 64) (l : Fin 128) (T n : Fin 36) (hT : T = kT n) :
    byteOf (d.val % 4) (vQ I i t h T (ix2 ⟨d.val / 4, by omega⟩ l)) = cd I i t h n d l := by
  subst hT
  exact byte_pack _ d l

theorem oQ_pages (s : Fin 16) (d : Fin 64) (p : Fin 352) : oQ I i t h s d p =
    pageOf 0#8 (ixRow I 0) (ixRow I 1) (ixRow I 2) (ixRow I 3) (fun n l => cd I i t h n d l) s p := by
  have hz : byteOf (d.val % 4) 0#32 = 0#8 := by
    have : d.val % 4 = 0 ∨ d.val % 4 = 1 ∨ d.val % 4 = 2 ∨ d.val % 4 = 3 := by omega
    rcases this with h | h | h | h <;> rw [h] <;> rfl
  have hA : tA ⟨s.val / 4, by omega⟩ ⟨s.val % 4, by omega⟩ = kT ⟨2 * s.val, by omega⟩ := by
    apply Fin.ext; simp only [tA, kT]; split <;> omega
  have hB : tB ⟨s.val / 4, by omega⟩ ⟨s.val % 4, by omega⟩ = kT ⟨2 * s.val + 1, by omega⟩ := by
    apply Fin.ext; simp only [tB, kT]; split <;> omega
  have hC : tC ⟨s.val / 4, by omega⟩ = kT ⟨32 + s.val / 4, by omega⟩ := by
    apply Fin.ext; simp only [tC, kT]; split <;> omega
  unfold oQ pageOf
  dsimp only
  rw [hA, hB, hC]
  split
  · rw [unpk_at, ValueIdx.select_apply, bc16_at, ownA_at]
    refine (map_select (byteOf (d.val % 4)) _ _ _).trans ?_
    rw [byte_vQ I i t h d _ _ _ rfl]
    exact congrArg (Scalar.select _ _) hz
  · split
    · rw [unpk_at, ValueIdx.select_apply, bc16_at, ownB_at]
      refine (map_select (byteOf (d.val % 4)) _ _ _).trans ?_
      rw [byte_vQ I i t h d _ _ _ rfl]
      exact congrArg (Scalar.select _ _) hz
    · rw [unpk_at, q2P_at, src_at, lidx_at]
      refine (map_pick (byteOf (d.val % 4)) _ _ _ _ _ _ _).trans ?_
      rw [byte_vQ I i t h d _ _ _ rfl, byte_vQ I i t h d _ _ _ rfl, byte_vQ I i t h d _ _ _ rfl, hz]
      rfl

end Cert.KernelIdeal.Roll

end
-- ==== Proof.Algebra.lean ====
module

public import proofs.«01_k».proof.Proof.Spec
public import Idealize.ShloMosaic.Lib.IdealHost

/-! # The arithmetic: the kernel's order of operations against the reference's -/

@[expose] public section

noncomputable section

namespace Cert.Spec

open Idealize.ShloMosaic

theorem bot_eq : FloatOps.ofBits (F := Ideal) .f32 0xFF800000#32 = (⊥ : EReal) := by
  show Ideal.ofBits .f32 0xFF800000#32 = ⊥
  simp [Ideal.ofBits, Ideal.ieee]
theorem zero_eq : Scalar.ofBits (F := Ideal) .f32 0x00000000#32 = (0 : EReal) := Ideal.ofBits_zero_f32
theorem one_eq : Scalar.ofBits (F := Ideal) .f32 0x3F800000#32 = (1 : EReal) := Ideal.ofBits_one_f32
theorem hi_eq : Scalar.ofBits (F := Ideal) .f32 0x42FE0000#32 = ((127 : ℝ) : EReal) := by
  show Ideal.ofBits .f32 0x42FE0000#32 = ((127 : ℝ) : EReal)
  simp [Ideal.ofBits, Ideal.ieee, -EReal.coe_mul]; norm_num
theorem lo_eq : Scalar.ofBits (F := Ideal) .f32 0xC2FE0000#32 = ((-127 : ℝ) : EReal) := by
  show Ideal.ofBits .f32 0xC2FE0000#32 = ((-127 : ℝ) : EReal)
  simp [Ideal.ofBits, Ideal.ieee, -EReal.coe_mul]; norm_num

/-! ## The largest of sixty-four -/

theorem le_topOf (f : Fin 64 → EReal) (d : Fin 64) : f d ≤ topOf f := (Finset.le_fold_max _).2 (.inr ⟨d, Finset.mem_univ _, le_rfl⟩)
theorem topOf_le (f : Fin 64 → EReal) (c : EReal) (h : ∀ d, f d ≤ c) : topOf f ≤ c :=
  (Finset.fold_max_le _).2 ⟨by rw [bot_eq]; exact bot_le, fun d _ => h d⟩
theorem topOf_mem (f : Fin 64 → EReal) : ∃ d, topOf f = f d := by
  obtain ⟨d, hd⟩ := Finite.exists_max f
  exact ⟨d, le_antisymm (topOf_le f _ hd) (le_topOf f d)⟩
/-- A factor that is not negative passes under the maximum. -/
theorem topOf_mul (f : Fin 64 → EReal) (c : EReal) (hc : 0 ≤ c) : topOf f * c = topOf fun d => f d * c := by
  apply le_antisymm
  · obtain ⟨d, hd⟩ := topOf_mem f
    rw [hd]
    exact le_topOf (fun d => f d * c) d
  · exact topOf_le _ _ fun d => mul_le_mul_of_nonneg_right (le_topOf f d) hc

/-- Eight maxima of eight rows each. -/
theorem topOf_split (f : Fin 64 → EReal) (M : Fin 8 → EReal)
    (hM : ∀ k, M k = (Finset.univ : Finset (Fin 8)).fold max (FloatOps.ofBits (F := Ideal) .f32 0xFF800000#32) fun i => f ⟨8 * i.val + k.val, by omega⟩) :
    max (max (max (max (max (max (max (M 0) (M 1)) (M 2)) (M 3)) (M 4)) (M 5)) (M 6)) (M 7) = topOf f := by
  apply le_antisymm
  · have h : ∀ k, M k ≤ topOf f := fun k => by
      rw [hM]
      exact (Finset.fold_max_le _).2 ⟨by rw [bot_eq]; exact bot_le, fun i _ => le_topOf f _⟩
    simp only [max_le_iff]
    exact ⟨⟨⟨⟨⟨⟨⟨h 0, h 1⟩, h 2⟩, h 3⟩, h 4⟩, h 5⟩, h 6⟩, h 7⟩
  · have h : ∀ k, M k ≤ max (max (max (max (max (max (max (M 0) (M 1)) (M 2)) (M 3)) (M 4)) (M 5)) (M 6)) (M 7) := fun k => by
      fin_cases k <;> simp
    refine topOf_le _ _ fun d => le_trans ?_ (h ⟨d.val % 8, by omega⟩)
    rw [hM]
    refine (Finset.le_fold_max _).2 (.inr ⟨⟨d.val / 8, by omega⟩, Finset.mem_univ _, le_of_eq (congrArg f (Fin.ext ?_))⟩)
    show d.val = 8 * (d.val / 8) + d.val % 8
    omega

theorem abs_mul (u c : EReal) (hc : 0 ≤ c) : FloatOps.absf (F := Ideal) (φ := .f32) u * c = FloatOps.absf (F := Ideal) (φ := .f32) (u * c) := by
  show max u (-u) * c = max (u * c) (-(u * c))
  have h : Monotone fun x : EReal => x * c := fun a b hab => mul_le_mul_of_nonneg_right hab hc
  rw [← EReal.neg_mul]
  exact h.map_max

/-! ## Scale and code -/

theorem scaleOf_ne (a : EReal) : scaleOf a ≠ 0 := by
  unfold scaleOf
  rw [zero_eq, one_eq, hi_eq]
  by_cases h : a = 0
  · have : FloatOps.cmpf (F := Ideal) .oeq (φ := .f32) a (0 : EReal) = 1#1 := by
      rw [Ideal.cmpf_def]; simp [Ideal.cmp, h]
    rw [this]
    simp [Scalar.select]
  · have : FloatOps.cmpf (F := Ideal) .oeq (φ := .f32) a (0 : EReal) = 0#1 := by
      rw [Ideal.cmpf_def]; simp [Ideal.cmp, h]
    rw [this]
    show Scalar.select 0#1 (1 : EReal) (Ideal.div a ((127 : ℝ) : EReal)) ≠ 0
    have h127 : ((127 : ℝ) : EReal) ≠ 0 := by exact_mod_cast (by norm_num : (127 : ℝ) ≠ 0)
    have : Ideal.div a ((127 : ℝ) : EReal) = a * ((127 : ℝ) : EReal)⁻¹ := by unfold Ideal.div; rw [if_neg h127]
    rw [this, ← EReal.coe_inv]
    simp only [Scalar.select]
    refine mul_ne_zero h ?_
    exact_mod_cast (by norm_num : (127 : ℝ)⁻¹ ≠ 0)

theorem div_eq (x s : EReal) (hs : s ≠ 0) : FloatOps.divf (F := Ideal) (φ := .f32) x s = x * s⁻¹ := by
  show Ideal.div x s = _
  unfold Ideal.div
  rw [if_neg hs]

/-- The keys' code argument: the activation scale goes through the factor. -/
theorem mul_divK (a w x s : EReal) (hs : s ≠ 0) :
    a * w * FloatOps.divf (F := Ideal) (φ := .f32) x s = FloatOps.divf (F := Ideal) (φ := .f32) (a * x * w) s := by
  rw [div_eq _ _ hs, div_eq _ _ hs, mul_assoc, mul_assoc, mul_assoc, mul_left_comm w x]
/-- The values': a product with the reciprocal. -/
theorem mul_divV (u s : EReal) (hs : s ≠ 0) :
    u * FloatOps.divf (F := Ideal) (φ := .f32) (1 : EReal) s = FloatOps.divf (F := Ideal) (φ := .f32) u s := by
  rw [div_eq _ _ hs, div_eq _ _ hs, one_mul]

theorem codeOf_zero : codeOf 0 = 0#8 := by
  unfold codeOf
  rw [hi_eq, lo_eq]
  show Ideal.fptosi 8 (min ((127 : ℝ) : EReal) (max ((-127 : ℝ) : EReal) (Ideal.liftRound Ideal.roundHalfEven ((0 : ℝ) : EReal)))) = 0#8
  have h0 : Ideal.roundHalfEven (0 : ℝ) = 0 := by simp [Ideal.roundHalfEven]
  rw [Ideal.liftRound_coe, h0]
  have h1 : max ((-127 : ℝ) : EReal) (((0 : ℤ) : ℝ) : EReal) = ((0 : ℝ) : EReal) := by
    rw [Int.cast_zero]; exact max_eq_right (by exact_mod_cast (by norm_num : (-127 : ℝ) ≤ 0))
  have h2 : min ((127 : ℝ) : EReal) ((0 : ℝ) : EReal) = ((0 : ℝ) : EReal) :=
    min_eq_right (by exact_mod_cast (by norm_num : (0 : ℝ) ≤ 127))
  rw [h1, h2]
  show BitVec.ofInt 8 (max (-((2 ^ (8 - 1) : Nat) : Int)) (min (((2 ^ (8 - 1) : Nat) : Int) - 1) (if (0 : ℝ) ≤ 0 then ⌊(0 : ℝ)⌋ else ⌈(0 : ℝ)⌉))) = 0#8
  simp

end Cert.Spec

end
-- ==== Proof.KerVal.lean ====
module

public import proofs.«01_k».proof.Proof.KerAt
public import proofs.«01_k».proof.Proof.Algebra

/-! # The kernel's blocks are the pages -/

@[expose] public section

set_option maxRecDepth 16384

noncomputable section

namespace Cert.KernelIdeal.Roll

open Cert.KernelIdeal Idealize.ShloMosaic Idealize.SL.Sem Cert.Spec
open Cert.KernelIdeal.Facts Cert.KernelIdeal.Shapes1.Facts₀ Cert.KernelIdeal.Shapes2.Facts₀ Cert.KernelIdeal.K0.Facts₀

/-- A grid point's blocks `I` are those of layer `l`, head group `g` of the operands `O`. -/
structure Lnk (I : In Ideal) (O : Ops) (l : Fin 32) (g : Fin 5) : Prop where
  hw : ∀ (t : Fin 2) (k : Fin 1280) (r : Fin 256), xw I t (ix2 k r) = O.w k ⟨l.val * 2560 + t.val * 1280 + g.val * 256 + r.val, by omega⟩
  hws : ∀ a b, I.x4 (ix2 a b) = O.ws a b
  hb : ∀ a b c, I.x5 (ix3 a b c) = O.bv a b c
  hx : ∀ a b, I.x6 (ix2 a b) = O.x a b
  hxs : ∀ a b, I.x7 (ix2 a b) = O.xs a b
  hval : ∀ a b, I.x8 (ix2 a b) = O.val a b
  hia : ∀ p, I.x9 (ix2 0 p) = O.ia p
  hib : ∀ p, I.x9 (ix2 1 p) = O.ib p
  hsrc : ∀ p, I.x9 (ix2 2 p) = O.src p
  hlidx : ∀ p, I.x9 (ix2 3 p) = O.lidx p

/-- The head that is number `h` of group `g`. -/
def hd (g : Fin 5) (h : Fin 4) : Fin 20 := ⟨4 * g.val + h.val, by omega⟩

section pieces

theorem wtP_at (x : FVec Ideal S1280x256 .fp8e4m3) (r : Fin 256) (k : Fin 1280) : wtP x (ix2 r k) = x (ix2 k r) := by pointwise [wtP]
theorem accP_at (w : FVec Ideal S256x1280 .fp8e4m3) (x : FVec Ideal S1280x256 .fp8e4m3) (r c : Fin 256) :
    accP w x (ix2 r c) = ∑ k : Fin 1280, w (ix2 r k) * x (ix2 k c) := by pointwise [accP]
theorem aP_at (a : FVec Ideal S256x256 .f32) (h : Fin 4) (q : Fin 2) (d : Fin 64) (p : Fin 128) :
    aP a h q (ix2 d p) = a (ix2 ⟨64 * h.val + d.val, by omega⟩ ⟨128 * q.val + p.val, by omega⟩) := by pointwise [aP]
theorem wsP_at (x : FVec Ideal S1x128 .f32) (d p : Fin 128) : wsP x (ix2 d p) = x (ix2 0 d) := by pointwise [wsP]
theorem bP_at (x : FVec Ideal S1x1x64 .f32) (d : Fin 64) (p : Fin 128) : bP x (ix2 d p) = x (ix3 0 0 d) := by pointwise [bP]
theorem uV_at (a w : FVec Ideal S64x128 .f32) (xs : FVec Ideal S1x128 .f32) (b : FVec Ideal S64x128 .f32) (d : Fin 64) (p : Fin 128) :
    uV a w xs b (ix2 d p) = a (ix2 d p) * xs (ix2 0 p) * w (ix2 d p) + b (ix2 d p) := by pointwise [uV]

theorem pmP_at (u : FVec Ideal S64x128 .f32) (k : Fin 8) (p : Fin 128) :
    pmP u (ix2 k p) = (Finset.univ : Finset (Fin 8)).fold max (FloatOps.ofBits (F := Ideal) .f32 0xFF800000#32)
      fun i => FloatOps.absf (F := Ideal) (φ := .f32) (u (ix2 ⟨8 * i.val + k.val, by omega⟩ p)) := by
  have h8 : ∀ (i : Fin 8), shapeCast S8x8x128 (absf u) shapeCasts_S64x128_S8x8x128 (ix3 i k p)
      = FloatOps.absf (F := Ideal) (φ := .f32) (u (ix2 ⟨8 * i.val + k.val, by omega⟩ p)) := fun i => by
    have e : (⟨8 * i.val + k.val, by omega⟩ : Fin 64) = ⟨i.val * 8 + k.val, by omega⟩ := Fin.ext (show 8 * i.val + k.val = i.val * 8 + k.val by omega)
    rw [e]
    pointwise
  unfold pmP
  refine (Idealize.ShloMosaic.Ideal.multiReduction_maximumf_single _ _ _ _ _ _).trans ?_
  congr 1
  funext i
  refine Eq.trans ?_ (h8 i)
  refine congrArg (shapeCast S8x8x128 (absf u) shapeCasts_S64x128_S8x8x128) (funext fun b => ?_)
  fin_cases b <;> rfl

end pieces

variable {I : In Ideal} {O : Ops} {l : Fin 32} {g : Fin 5} (L : Lnk I O l g) (i : grid0.Coords)
  (hi0 : (i 0).val = l.val) (hi1 : (i 1).val = g.val)

theorem nOf_kT (n : Fin 36) : (nOf (kT n)).val = n.val / 2 := by have h : (kT n).val = if n.val < 32 then n.val % 2 * 16 + n.val / 2 else n.val := rfl; simp only [nOf]; split at h <;> split <;> (try split) <;> omega
theorem qOf_kT (n : Fin 36) : (qOf (kT n)).val = n.val % 2 := by have h : (kT n).val = if n.val < 32 then n.val % 2 * 16 + n.val / 2 else n.val := rfl; have := n.2; simp only [qOf]; split at h <;> split <;> (try split) <;> omega

include L in
theorem acc_eq (t : Fin 2) (h : Fin 4) (n : Fin 36) (d : Fin 64) (p : Fin 128) :
    aP (vAcc I t (nOf (kT n))) h (qOf (kT n)) (ix2 d p) = O.acc t l (hd g h) d n p := by
  have hn := nOf_kT n
  have hq := qOf_kT n
  rw [aP_at]
  unfold vAcc vW
  rw [accP_at]
  unfold Ops.acc
  refine Finset.sum_congr rfl fun k _ => ?_
  rw [wtP_at]
  congr 1
  · refine Eq.trans (congrArg (xw I t) (a₂ := ix2 k ⟨64 * h.val + d.val, by omega⟩) (funext fun a => Fin.ext ((ValueKit.rect_emb_unit_val _ _ _ _ _).trans ?_))) ((L.hw _ _ _).trans ?_)
    · fin_cases a <;> exact Nat.zero_add _
    congr 1
    apply Fin.ext
    simp only [Ops.row, Ops.feat, hd]
    omega
  · refine Eq.trans (congrArg I.x6 (funext fun a => Fin.ext ((ValueKit.rect_emb_unit_val _ _ _ _ _).trans ?_))) (L.hx k ⟨n.val * 128 + p.val, by omega⟩)
    fin_cases a
    · exact Nat.zero_add _
    · show 256 * (nOf (kT n)).val + (128 * (qOf (kT n)).val + p.val) = n.val * 128 + p.val
      omega

include L hi0 hi1 in
theorem ws_eq (t : Fin 2) (h : Fin 4) (d : Fin 64) (p : Fin 128) :
    vWh I i t h (ix2 d p) = O.ws (Ops.row t l (hd g h)) (Ops.feat (hd g h) d) := by
  show vWs I i t ⟨h.val / 2, by omega⟩ (ix2 ⟨64 * (h.val % 2) + d.val, by omega⟩ p) = _
  unfold vWs
  rw [wsP_at]
  refine Eq.trans (congrArg I.x4 (funext fun a => Fin.ext ((ValueKit.rect_emb_unit_val _ _ _ _ _).trans ?_))) (L.hws (Ops.row t l (hd g h)) (Ops.feat (hd g h) d))
  refine (congrArg (· + _) (congrFun (Gen.k0_off1_eq i t ⟨h.val / 2, by omega⟩) a)).trans ?_
  fin_cases a
  · show 20 * (i 0).val + 10 * t.val + 2 * (i 1).val + h.val / 2 + 0 = l.val * 20 + t.val * 10 + (4 * g.val + h.val) / 2
    omega
  · show 0 + (64 * (h.val % 2) + d.val) = (4 * g.val + h.val) % 2 * 64 + d.val
    omega

include L hi0 hi1 in
theorem b_eq (h : Fin 4) (d : Fin 64) (p : Fin 128) : vB I i h (ix2 d p) = O.bv (hd g h) l d := by
  unfold vB
  rw [bP_at]
  refine Eq.trans (congrArg I.x5 (funext fun a => Fin.ext ((ValueKit.rect_emb_unit_val _ _ _ _ _).trans ?_))) (L.hb (hd g h) l d)
  refine (congrArg (· + _) (congrFun (Gen.k0_off2_eq i h) a)).trans ?_
  fin_cases a
  · show 4 * (i 1).val + h.val + 0 = 4 * g.val + h.val
    omega
  · show (i 0).val + 0 = l.val
    omega
  · show 0 + d.val = d.val
    omega

include L hi0 hi1 in
/-- A tile of the keys' projections, before the activation scale, -/
theorem tK_eq (h : Fin 4) (n : Fin 36) (d : Fin 64) (p : Fin 128) :
    vT I i 0 h (kT n) (ix2 d p) = O.acc 0 l (hd g h) d n p * O.ws (Ops.row 0 l (hd g h)) (Ops.feat (hd g h) d) := by
  show aP (vAcc I 0 (nOf (kT n))) h (qOf (kT n)) (ix2 d p) * vWh I i 0 h (ix2 d p) = _
  rw [acc_eq L, ws_eq L i hi0 hi1]

include L hi0 hi1 in
/-- and one of the values'. -/
theorem tV_eq (h : Fin 4) (n : Fin 36) (d : Fin 64) (p : Fin 128) :
    vT I i 1 h (kT n) (ix2 d p) = O.y 1 l (hd g h) d n p := by
  unfold vT vU
  simp only
  rw [uV_at, acc_eq L, ws_eq L i hi0 hi1, b_eq L i hi0 hi1]
  have hx : I.x7 ((rXs1 (up36 (tileOf (nOf (kT n)) (qOf (kT n))))).toLoadRect.idx (ix2 0 p)) = O.xs (tileS n) p := by
    refine Eq.trans (congrArg I.x7 (funext fun a => Fin.ext ((ValueKit.rect_emb_unit_val _ _ _ _ _).trans ?_))) (L.hxs (tileS n) p)
    rw [tileOf_nq, up36_kT]
    fin_cases a
    · rfl
    · exact Nat.zero_add _
  rw [hx]
  rfl

theorem max_eq (t : Fin 2) (h : Fin 4) (T : Fin 36) (p : Fin 128) :
    vMax I i t h T p = topOf fun d => FloatOps.absf (F := Ideal) (φ := .f32) (vT I i t h T (ix2 d p)) :=
  topOf_split _ (fun k => pmP (vT I i t h T) (ix2 k p)) fun k => pmP_at _ k p

theorem scOf0 (m x : EReal) (v : BitVec 32) : scOf (F := Ideal) 0 m x v = Scalar.select (IntOp.cmpi .ne v 0#32) (scaleOf (m * x)) 0 := by
  refine Eq.trans (b := Scalar.select (IntOp.cmpi .ne v 0#32) (scaleOf (m * x)) (Scalar.ofBits (F := Ideal) .f32 0x00000000#32)) rfl ?_
  rw [zero_eq]
theorem scOf1 (m x : EReal) (v : BitVec 32) : scOf (F := Ideal) 1 m x v = Scalar.select (IntOp.cmpi .ne v 0#32) (scaleOf m) 0 := by
  refine Eq.trans (b := Scalar.select (IntOp.cmpi .ne v 0#32) (scaleOf m) (Scalar.ofBits (F := Ideal) .f32 0x00000000#32)) rfl ?_
  rw [zero_eq]
theorem rOf0 (m x : EReal) (v : BitVec 32) : rOf (F := Ideal) 0 m x v =
    Scalar.select (IntOp.cmpi .ne v 0#32) (FloatOps.divf (F := Ideal) (φ := .f32) x (scaleOf (m * x))) 0 := by
  refine Eq.trans (b := Scalar.select (IntOp.cmpi .ne v 0#32) (FloatOps.divf (F := Ideal) (φ := .f32) x (scaleOf (m * x))) (Scalar.ofBits (F := Ideal) .f32 0x00000000#32)) rfl ?_
  rw [zero_eq]
theorem rOf1 (m x : EReal) (v : BitVec 32) : rOf (F := Ideal) 1 m x v =
    Scalar.select (IntOp.cmpi .ne v 0#32) (FloatOps.divf (F := Ideal) (φ := .f32) (1 : EReal) (scaleOf m)) 0 := by
  refine Eq.trans (b := Scalar.select (IntOp.cmpi .ne v 0#32) (FloatOps.divf (F := Ideal) (φ := .f32) (Scalar.ofBits (F := Ideal) .f32 0x3F800000#32) (scaleOf m)) (Scalar.ofBits (F := Ideal) .f32 0x00000000#32)) rfl ?_
  rw [zero_eq, one_eq]

include L hi0 hi1 in
theorem topK_eq (hpos : ∀ a b, 0 ≤ O.xs a b) (h : Fin 4) (n : Fin 36) (p : Fin 128) :
    vMax I i 0 h (kT n) p * O.xs (tileS n) p = topOf fun d => FloatOps.absf (F := Ideal) (φ := .f32) (O.y 0 l (hd g h) d n p) := by
  rw [max_eq, topOf_mul _ _ (hpos _ _)]
  congr 1
  funext d
  rw [tK_eq L i hi0 hi1, abs_mul _ _ (hpos _ _)]
  congr 1
  show _ = O.acc 0 l (hd g h) d n p * O.xs (tileS n) p * O.ws (Ops.row 0 l (hd g h)) (Ops.feat (hd g h) d)
  exact mul_right_comm _ _ _
include L hi0 hi1 in
theorem topV_eq (h : Fin 4) (n : Fin 36) (p : Fin 128) :
    vMax I i 1 h (kT n) p = topOf fun d => FloatOps.absf (F := Ideal) (φ := .f32) (O.y 1 l (hd g h) d n p) := by
  rw [max_eq]
  congr 1
  funext d
  rw [tV_eq L i hi0 hi1]

include L hi0 hi1 in
/-- A tile's scales. -/
theorem sc_eq (hpos : ∀ a b, 0 ≤ O.xs a b) (t : Fin 2) (h : Fin 4) (n : Fin 36) (p : Fin 128) :
    vSc I i t h (kT n) p = O.sc t l (hd g h) n p := by
  unfold vSc
  rw [up36_kT, L.hxs, L.hval]
  have ht : t = 0 ∨ t = 1 := by omega
  rcases ht with rfl | rfl
  · rw [scOf0, topK_eq L i hi0 hi1 hpos]
    rfl
  · rw [scOf1, topV_eq L i hi0 hi1]
    rfl

theorem select_mul (c : BitVec 1) (u r : EReal) : codeOf (u * Scalar.select c r 0) = Scalar.select c (codeOf (u * r)) 0#8 := by
  unfold Scalar.select
  split
  · rfl
  · rw [mul_zero, codeOf_zero]

theorem cd_at (t : Fin 2) (h : Fin 4) (n : Fin 36) (d : Fin 64) (p : Fin 128) :
    cd I i t h n d p = codeOf (vT I i t h (kT n) (ix2 d p) * vR I i t h (kT n) p) := by
  have hb : ∀ r : FVec Ideal S1x128 .f32, broadcastTo S64x128 r broadcasts_S1x128_S64x128 (ix2 d p) = r (ix2 0 p) := fun r => by pointwise
  show codeOf (vT I i t h (kT n) (ix2 d p) * broadcastTo S64x128 (fun j => vR I i t h (kT n) (j 1) : FVec Ideal S1x128 .f32) broadcasts_S1x128_S64x128 (ix2 d p)) = _
  rw [hb]
  rfl

include L hi0 hi1 in
/-- A tile's codes. -/
theorem cd_eq (hpos : ∀ a b, 0 ≤ O.xs a b) (t : Fin 2) (h : Fin 4) (n : Fin 36) (d : Fin 64) (p : Fin 128) :
    cd I i t h n d p = O.code t l (hd g h) d n p := by
  rw [cd_at]
  unfold vR
  rw [up36_kT, L.hxs, L.hval]
  have ht : t = 0 ∨ t = 1 := by omega
  rcases ht with rfl | rfl
  · rw [rOf0, topK_eq L i hi0 hi1 hpos, select_mul, tK_eq L i hi0 hi1, mul_divK _ _ _ _ (scaleOf_ne _)]
    rfl
  · rw [rOf1, topV_eq L i hi0 hi1, select_mul, tV_eq L i hi0 hi1, mul_divV _ _ (scaleOf_ne _)]
    rfl

include L hi0 hi1 in
theorem oS_eq (hpos : ∀ a b, 0 ≤ O.xs a b) (t : Fin 2) (h : Fin 4) (s : Fin 16) (p : Fin 352) :
    oS I i t h s p = O.pageS t l (hd g h) s p := by
  rw [oS_pages, show (z8 (F := Ideal) (ix2 0 0)) = (0 : EReal) from zero_eq]
  unfold Ops.pageS
  rw [show ixRow I 0 = O.ia from funext L.hia, show ixRow I 1 = O.ib from funext L.hib, show ixRow I 2 = O.src from funext L.hsrc,
    show ixRow I 3 = O.lidx from funext L.hlidx]
  congr 1
  funext n p
  exact sc_eq L i hi0 hi1 hpos t h n p
include L hi0 hi1 in
theorem oQ_eq (hpos : ∀ a b, 0 ≤ O.xs a b) (t : Fin 2) (h : Fin 4) (s : Fin 16) (d : Fin 64) (p : Fin 352) :
    oQ I i t h s d p = O.pageQ t l (hd g h) s d p := by
  rw [oQ_pages]
  unfold Ops.pageQ
  rw [show ixRow I 0 = O.ia from funext L.hia, show ixRow I 1 = O.ib from funext L.hib, show ixRow I 2 = O.src from funext L.hsrc,
    show ixRow I 3 = O.lidx from funext L.hlidx]
  congr 1
  funext n p
  exact cd_eq L i hi0 hi1 hpos t h n d p

end Cert.KernelIdeal.Roll

end
-- ==== Proof.KerArr.lean ====
module

public import proofs.«01_k».proof.Proof.KerVal
public import proofs.«01_k».proof.Proof.KernelRun

/-! # The kernel's result arrays -/

@[expose] public section

set_option maxRecDepth 16384

noncomputable section

namespace Cert.KernelIdeal.Roll

open Cert.KernelIdeal Cert.KernelIdeal.Gen Idealize.ShloMosaic Cert.Spec
open Idealize.ShloMosaic.TcCoe Idealize.SL.Sem
open Idealize.ShloMosaic.Pipeline (Dat Cfg Window)

variable (m : (ℓ : Loc nD τ sig) → Buf (Elt Ideal) ℓ) (ρ : Dev nD → PrngReg)

/-- The operands in core `c`'s memory. -/
def opsAt (c : Dev nD) : Ops := opsOf (V m c main_arg0) (V m c main_arg1) (V m c main_arg2) (V m c main_arg3) (V m c main_arg4) (V m c main_arg5) (V m c main_arg6)

theorem tr0 : ∀ i : grid0.Coords, cc0_transform_0 i = ![0, 10 * (i 0).val + (i 1).val] := by decide +kernel
theorem tr1 : ∀ i : grid0.Coords, cc0_transform_1 i = ![0, 10 * (i 0).val + 5 + (i 1).val] := by decide +kernel
theorem tr8 : ∀ i : grid0.Coords, cc0_transform_8 i = ![(i 0).val, (i 1).val, 0, 0, 0] := by decide +kernel
theorem tr9 : ∀ i : grid0.Coords, cc0_transform_9 i = ![(i 0).val, (i 1).val, 0, 0] := by decide +kernel
theorem tr10 : ∀ i : grid0.Coords, cc0_transform_10 i = ![(i 0).val, (i 1).val, 0, 0, 0] := by decide +kernel
theorem tr11 : ∀ i : grid0.Coords, cc0_transform_11 i = ![(i 0).val, (i 1).val, 0, 0] := by decide +kernel
theorem coords_at : ∀ t : Fin grid0.N, (grid0.coords t 0).val = t.val / 5 ∧ (grid0.coords t 1).val = t.val % 5 := by decide +kernel

/-- A point's layer -/
def lOf (t : Fin cfg0.N) : Fin 32 := ⟨(grid0.coords t 0).val, (grid0.coords t 0).isLt⟩
/-- and head group. -/
def gOf (t : Fin cfg0.N) : Fin 5 := ⟨(grid0.coords t 1).val, (grid0.coords t 1).isLt⟩

theorem iw0 (c : Dev nD) (t : Fin cfg0.N) (k : Fin 1280) (r : Fin 256) :
    (iblk m c 0 t : Vec Ideal S1280x256 .fp8e4m3) (ix2 k r) = (opsAt m c).w k ⟨(lOf t).val * 2560 + (gOf t).val * 256 + r.val, by omega⟩ := by
  unfold iblk
  rw [View.read_apply]
  show V m c main_arg0 _ = V m c main_arg0 _
  congr 1
  funext a
  apply Fin.ext
  fin_cases a
  · show cc0_transform_0 (grid0.coords t) 0 * 1280 + 1 * k.val = k.val
    rw [tr0]; show 0 * 1280 + 1 * k.val = k.val; omega
  · show cc0_transform_0 (grid0.coords t) 1 * 256 + 1 * r.val = (grid0.coords t 0).val * 2560 + (grid0.coords t 1).val * 256 + r.val
    rw [tr0]; show (10 * (grid0.coords t 0).val + (grid0.coords t 1).val) * 256 + 1 * r.val = _; omega
theorem iw1 (c : Dev nD) (t : Fin cfg0.N) (k : Fin 1280) (r : Fin 256) :
    (iblk m c 1 t : Vec Ideal S1280x256 .fp8e4m3) (ix2 k r) = (opsAt m c).w k ⟨(lOf t).val * 2560 + 1280 + (gOf t).val * 256 + r.val, by omega⟩ := by
  unfold iblk
  rw [View.read_apply]
  show V m c main_arg0 _ = V m c main_arg0 _
  congr 1
  funext a
  apply Fin.ext
  fin_cases a
  · show cc0_transform_1 (grid0.coords t) 0 * 1280 + 1 * k.val = k.val
    rw [tr1]; show 0 * 1280 + 1 * k.val = k.val; omega
  · show cc0_transform_1 (grid0.coords t) 1 * 256 + 1 * r.val = (grid0.coords t 0).val * 2560 + 1280 + (grid0.coords t 1).val * 256 + r.val
    rw [tr1]; show (10 * (grid0.coords t 0).val + 5 + (grid0.coords t 1).val) * 256 + 1 * r.val = _; omega

theorem fin_val {n : Nat} (a k N : Nat) (h : a = 0 * N + 1 * k) : a = k := by omega

/-- The six operands that every point takes whole. -/
theorem i2 (c : Dev nD) (t : Fin cfg0.N) (a : Fin 640) (b : Fin 128) : (iblk m c 2 t : Vec Ideal S640x128 .f32) (ix2 a b) = (opsAt m c).ws a b := by
  unfold iblk
  rw [View.read_apply]
  show V m c main_arg1 _ = V m c main_arg1 _
  congr 1; funext x; apply Fin.ext
  fin_cases x
  · show 0 * 640 + 1 * a.val = a.val; omega
  · show 0 * 128 + 1 * b.val = b.val; omega
theorem i3 (c : Dev nD) (t : Fin cfg0.N) (a : Fin 20) (b : Fin 32) (d : Fin 64) : (iblk m c 3 t : Vec Ideal S20x32x64 .f32) (ix3 a b d) = (opsAt m c).bv a b d := by
  unfold iblk
  rw [View.read_apply]
  show V m c main_arg2 _ = V m c main_arg2 _
  congr 1; funext x; apply Fin.ext
  fin_cases x
  · show 0 * 20 + 1 * a.val = a.val; omega
  · show 0 * 32 + 1 * b.val = b.val; omega
  · show 0 * 64 + 1 * d.val = d.val; omega
theorem i4 (c : Dev nD) (t : Fin cfg0.N) (a : Fin 1280) (b : Fin 4608) : (iblk m c 4 t : Vec Ideal S1280x4608 .fp8e4m3) (ix2 a b) = (opsAt m c).x a b := by
  unfold iblk
  rw [View.read_apply]
  show V m c main_arg3 _ = V m c main_arg3 _
  congr 1; funext x; apply Fin.ext
  fin_cases x
  · show 0 * 1280 + 1 * a.val = a.val; omega
  · show 0 * 4608 + 1 * b.val = b.val; omega
theorem i5 (c : Dev nD) (t : Fin cfg0.N) (a : Fin 40) (b : Fin 128) : (iblk m c 5 t : Vec Ideal S40x128 .f32) (ix2 a b) = (opsAt m c).xs a b := by
  unfold iblk
  rw [View.read_apply]
  show V m c main_arg4 _ = V m c main_arg4 _
  congr 1; funext x; apply Fin.ext
  fin_cases x
  · show 0 * 40 + 1 * a.val = a.val; omega
  · show 0 * 128 + 1 * b.val = b.val; omega
theorem i6 (c : Dev nD) (t : Fin cfg0.N) (a : Fin 40) (b : Fin 128) : (iblk m c 6 t : Vec Ideal S40x128 .i32) (ix2 a b) = (opsAt m c).val a b := by
  unfold iblk
  rw [View.read_apply]
  show V m c main_arg5 _ = V m c main_arg5 _
  congr 1; funext x; apply Fin.ext
  fin_cases x
  · show 0 * 40 + 1 * a.val = a.val; omega
  · show 0 * 128 + 1 * b.val = b.val; omega
theorem i7 (c : Dev nD) (t : Fin cfg0.N) (a : Fin 8) (b : Fin 128) : (iblk m c 7 t : Vec Ideal S8x128 .i32) (ix2 a b) = V m c main_arg6 (ix2 a b) := by
  unfold iblk
  rw [View.read_apply]
  show V m c main_arg6 _ = V m c main_arg6 _
  congr 1; funext x; apply Fin.ext
  fin_cases x
  · show 0 * 8 + 1 * a.val = a.val; omega
  · show 0 * 128 + 1 * b.val = b.val; omega

theorem lnk (c : Dev nD) (t : Fin cfg0.N) : Lnk (ins m c t) (opsAt m c) (lOf t) (gOf t) where
  hw u k r := by
    have hu : u = 0 ∨ u = 1 := by omega
    rcases hu with rfl | rfl
    · refine (iw0 m c t k r).trans (congrArg _ (Fin.ext ?_))
      show (lOf t).val * 2560 + (gOf t).val * 256 + r.val = (lOf t).val * 2560 + 0 * 1280 + (gOf t).val * 256 + r.val
      omega
    · refine (iw1 m c t k r).trans (congrArg _ (Fin.ext ?_))
      show (lOf t).val * 2560 + 1280 + (gOf t).val * 256 + r.val = (lOf t).val * 2560 + 1 * 1280 + (gOf t).val * 256 + r.val
      omega
  hws := i2 m c t
  hb := i3 m c t
  hx := i4 m c t
  hxs := i5 m c t
  hval := i6 m c t
  hia := i7 m c t 0
  hib := i7 m c t 1
  hsrc := i7 m c t 2
  hlidx := i7 m c t 3

/-- The point that leaves a place of a result. -/
def ptOf (l : Fin 32) (j : Fin 20) : Fin cfg0.N := ⟨l.val * 5 + j.val / 4, by have : cfg0.N = 160 := by decide +kernel
                                                                              omega⟩
theorem ptOf_l (l : Fin 32) (j : Fin 20) : (grid0.coords (ptOf l j) 0).val = l.val := by
  rw [(coords_at _).1]; show (l.val * 5 + j.val / 4) / 5 = l.val; omega
theorem ptOf_g (l : Fin 32) (j : Fin 20) : (grid0.coords (ptOf l j) 1).val = j.val / 4 := by
  rw [(coords_at _).2]; show (l.val * 5 + j.val / 4) % 5 = j.val / 4; omega

variable (c : Dev nD) (hpos : ∀ a b, 0 ≤ (opsAt m c).xs a b)

theorem pageQ_congr (O : Ops) (u : Fin 2) {l l' : Fin 32} {j j' : Fin 20} {s s' : Fin 16} {d d' : Fin 64} {p p' : Fin 352}
    (h0 : l.val = l'.val) (h1 : j.val = j'.val) (h2 : s.val = s'.val) (h3 : d.val = d'.val) (h4 : p.val = p'.val) :
    O.pageQ u l j s d p = O.pageQ u l' j' s' d' p' := by
  rw [Fin.ext h0, Fin.ext h1, Fin.ext h2, Fin.ext h3, Fin.ext h4]
theorem pageS_congr (O : Ops) (u : Fin 2) {l l' : Fin 32} {j j' : Fin 20} {s s' : Fin 16} {p p' : Fin 352}
    (h0 : l.val = l'.val) (h1 : j.val = j'.val) (h2 : s.val = s'.val) (h4 : p.val = p'.val) :
    O.pageS u l j s p = O.pageS u l' j' s' p' := by
  rw [Fin.ext h0, Fin.ext h1, Fin.ext h2, Fin.ext h4]

include hpos in
theorem outQ_eq (t : Fin cfg0.N) (u : Fin 2) (j : S1x4x16x64x352.Idx) (i : (⟨5, ![32, 20, 16, 64, 352]⟩ : Shape).Idx)
    (h0 : (i 0).val = (grid0.coords t 0).val * 1 + 1 * (j 0).val) (h1 : (i 1).val = (grid0.coords t 1).val * 4 + 1 * (j 1).val)
    (h2 : (i 2).val = 0 * 16 + 1 * (j 2).val) (h3 : (i 3).val = 0 * 64 + 1 * (j 3).val) (h4 : (i 4).val = 0 * 352 + 1 * (j 4).val) :
    outQ (ins m c t) (grid0.coords t) u j = arrQ (opsAt m c) u i := by
  have hj : (j 0).val = 0 := by have : (j 0).val < 1 := (j 0).isLt; omega
  refine (oQ_eq (lnk m c t) (grid0.coords t) rfl rfl hpos u (j 1) (j 2) (j 3) (j 4)).trans (pageQ_congr _ _ ?_ ?_ ?_ ?_ ?_)
  · show (grid0.coords t 0).val = (i 0).val; omega
  · show 4 * (grid0.coords t 1).val + (j 1).val = (i 1).val; omega
  · show (j 2).val = (i 2).val; omega
  · show (j 3).val = (i 3).val; omega
  · show (j 4).val = (i 4).val; omega
include hpos in
theorem outSc_eq (t : Fin cfg0.N) (u : Fin 2) (j : S1x4x16x352.Idx) (i : (⟨4, ![32, 20, 16, 352]⟩ : Shape).Idx)
    (h0 : (i 0).val = (grid0.coords t 0).val * 1 + 1 * (j 0).val) (h1 : (i 1).val = (grid0.coords t 1).val * 4 + 1 * (j 1).val)
    (h2 : (i 2).val = 0 * 16 + 1 * (j 2).val) (h4 : (i 3).val = 0 * 352 + 1 * (j 3).val) :
    outSc (ins m c t) (grid0.coords t) u j = arrS (opsAt m c) u i := by
  have hj : (j 0).val = 0 := by have : (j 0).val < 1 := (j 0).isLt; omega
  refine (oS_eq (lnk m c t) (grid0.coords t) rfl rfl hpos u (j 1) (j 2) (j 3)).trans (pageS_congr _ _ ?_ ?_ ?_ ?_)
  · show (grid0.coords t 0).val = (i 0).val; omega
  · show 4 * (grid0.coords t 1).val + (j 1).val = (i 1).val; omega
  · show (j 2).val = (i 2).val; omega
  · show (j 3).val = (i 3).val; omega

include hpos in
theorem flushed8 (t : Fin cfg0.N) : (dats m 0 c).flushed 8 t = ((cfg0.win 8).blk t).view.read (Elt Ideal) (arrQ (opsAt m c) 0 : Buf (Elt Ideal) ((c : Thread nD τ).loc main_v0_0)) := by
  show (cfg0.win 8).cut (grid0.coords t) ((dats m 0 c).after 8 t) = _
  rw [after_8]
  funext j
  rw [View.read_apply]
  refine outQ_eq m c hpos t 0 j _ ?_ ?_ ?_ ?_ ?_
  · show cc0_transform_8 (grid0.coords t) 0 * 1 + 1 * (j 0).val = _
    rw [tr8]; rfl
  · show cc0_transform_8 (grid0.coords t) 1 * 4 + 1 * (j 1).val = _
    rw [tr8]; rfl
  · show cc0_transform_8 (grid0.coords t) 2 * 16 + 1 * (j 2).val = _
    rw [tr8]; rfl
  · show cc0_transform_8 (grid0.coords t) 3 * 64 + 1 * (j 3).val = _
    rw [tr8]; rfl
  · show cc0_transform_8 (grid0.coords t) 4 * 352 + 1 * (j 4).val = _
    rw [tr8]; rfl
theorem cover8 (i : (⟨5, ![32, 20, 16, 64, 352]⟩ : Shape).Idx) : ∃ t : Fin cfg0.N, (cfg0.win 8).flush t = true ∧ i ∈ ((cfg0.win 8).blk t).view.set := by
  have h0 : (i 0).val < 32 := (i 0).isLt
  have h1 : (i 1).val < 20 := (i 1).isLt
  refine ⟨ptOf ⟨(i 0).val, h0⟩ ⟨(i 1).val, h1⟩, flush0_8 _, ?_⟩
  show i ∈ ((View.whole main_v0_0).slice (win0_8.rect (ptOf ⟨(i 0).val, h0⟩ ⟨(i 1).val, h1⟩))).set
  rw [View.set_slice_whole, Rect.mem_set_unit]
  have hl : (grid0.coords (ptOf ⟨(i 0).val, h0⟩ ⟨(i 1).val, h1⟩) 0).val = (i 0).val := ptOf_l _ _
  have hg : (grid0.coords (ptOf ⟨(i 0).val, h0⟩ ⟨(i 1).val, h1⟩) 1).val = (i 1).val / 4 := ptOf_g _ _
  intro a
  show cc0_transform_8 (grid0.coords (ptOf ⟨(i 0).val, h0⟩ ⟨(i 1).val, h1⟩)) a * S1x4x16x64x352.size a ≤ (i a).val
    ∧ (i a).val < cc0_transform_8 (grid0.coords (ptOf ⟨(i 0).val, h0⟩ ⟨(i 1).val, h1⟩)) a * S1x4x16x64x352.size a + S1x4x16x64x352.size a
  rw [tr8]
  fin_cases a
  · show (grid0.coords _ 0).val * 1 ≤ (i 0).val ∧ (i 0).val < (grid0.coords _ 0).val * 1 + 1
    omega
  · show (grid0.coords _ 1).val * 4 ≤ (i 1).val ∧ (i 1).val < (grid0.coords _ 1).val * 4 + 4
    omega
  · have := (i 2).isLt
    exact ⟨Nat.zero_le _, lt_of_lt_of_le this (Nat.le_add_left _ _)⟩
  · have := (i 3).isLt
    exact ⟨Nat.zero_le _, lt_of_lt_of_le this (Nat.le_add_left _ _)⟩
  · have := (i 4).isLt
    exact ⟨Nat.zero_le _, lt_of_lt_of_le this (Nat.le_add_left _ _)⟩
include hpos in
theorem final8 : (dats m 0 c).arrAt 8 cfg0.N = (arrQ (opsAt m c) 0 : Buf (Elt Ideal) ((c : Thread nD τ).loc main_v0_0)) :=
  (dats m 0 c).arrAt_eq_of_cover 8 _ (fun t _ => flushed8 m c hpos t) fun i => cover8 i

include hpos in
theorem flushed9 (t : Fin cfg0.N) : (dats m 0 c).flushed 9 t = ((cfg0.win 9).blk t).view.read (Elt Ideal) (arrS (opsAt m c) 0 : Buf (Elt Ideal) ((c : Thread nD τ).loc main_v0_1)) := by
  show (cfg0.win 9).cut (grid0.coords t) ((dats m 0 c).after 9 t) = _
  rw [after_9]
  funext j
  rw [View.read_apply]
  refine outSc_eq m c hpos t 0 j _ ?_ ?_ ?_ ?_
  · show cc0_transform_9 (grid0.coords t) 0 * 1 + 1 * (j 0).val = _
    rw [tr9]; rfl
  · show cc0_transform_9 (grid0.coords t) 1 * 4 + 1 * (j 1).val = _
    rw [tr9]; rfl
  · show cc0_transform_9 (grid0.coords t) 2 * 16 + 1 * (j 2).val = _
    rw [tr9]; rfl
  · show cc0_transform_9 (grid0.coords t) 3 * 352 + 1 * (j 3).val = _
    rw [tr9]; rfl
theorem cover9 (i : (⟨4, ![32, 20, 16, 352]⟩ : Shape).Idx) : ∃ t : Fin cfg0.N, (cfg0.win 9).flush t = true ∧ i ∈ ((cfg0.win 9).blk t).view.set := by
  have h0 : (i 0).val < 32 := (i 0).isLt
  have h1 : (i 1).val < 20 := (i 1).isLt
  refine ⟨ptOf ⟨(i 0).val, h0⟩ ⟨(i 1).val, h1⟩, flush0_9 _, ?_⟩
  show i ∈ ((View.whole main_v0_1).slice (win0_9.rect (ptOf ⟨(i 0).val, h0⟩ ⟨(i 1).val, h1⟩))).set
  rw [View.set_slice_whole, Rect.mem_set_unit]
  have hl : (grid0.coords (ptOf ⟨(i 0).val, h0⟩ ⟨(i 1).val, h1⟩) 0).val = (i 0).val := ptOf_l _ _
  have hg : (grid0.coords (ptOf ⟨(i 0).val, h0⟩ ⟨(i 1).val, h1⟩) 1).val = (i 1).val / 4 := ptOf_g _ _
  intro a
  show cc0_transform_9 (grid0.coords (ptOf ⟨(i 0).val, h0⟩ ⟨(i 1).val, h1⟩)) a * S1x4x16x352.size a ≤ (i a).val
    ∧ (i a).val < cc0_transform_9 (grid0.coords (ptOf ⟨(i 0).val, h0⟩ ⟨(i 1).val, h1⟩)) a * S1x4x16x352.size a + S1x4x16x352.size a
  rw [tr9]
  fin_cases a
  · show (grid0.coords _ 0).val * 1 ≤ (i 0).val ∧ (i 0).val < (grid0.coords _ 0).val * 1 + 1
    omega
  · show (grid0.coords _ 1).val * 4 ≤ (i 1).val ∧ (i 1).val < (grid0.coords _ 1).val * 4 + 4
    omega
  · have := (i 2).isLt
    exact ⟨Nat.zero_le _, lt_of_lt_of_le this (Nat.le_add_left _ _)⟩
  · have := (i 3).isLt
    exact ⟨Nat.zero_le _, lt_of_lt_of_le this (Nat.le_add_left _ _)⟩
include hpos in
theorem final9 : (dats m 0 c).arrAt 9 cfg0.N = (arrS (opsAt m c) 0 : Buf (Elt Ideal) ((c : Thread nD τ).loc main_v0_1)) :=
  (dats m 0 c).arrAt_eq_of_cover 9 _ (fun t _ => flushed9 m c hpos t) fun i => cover9 i

include hpos in
theorem flushed10 (t : Fin cfg0.N) : (dats m 0 c).flushed 10 t = ((cfg0.win 10).blk t).view.read (Elt Ideal) (arrQ (opsAt m c) 1 : Buf (Elt Ideal) ((c : Thread nD τ).loc main_v0_2)) := by
  show (cfg0.win 10).cut (grid0.coords t) ((dats m 0 c).after 10 t) = _
  rw [after_10]
  funext j
  rw [View.read_apply]
  refine outQ_eq m c hpos t 1 j _ ?_ ?_ ?_ ?_ ?_
  · show cc0_transform_10 (grid0.coords t) 0 * 1 + 1 * (j 0).val = _
    rw [tr10]; rfl
  · show cc0_transform_10 (grid0.coords t) 1 * 4 + 1 * (j 1).val = _
    rw [tr10]; rfl
  · show cc0_transform_10 (grid0.coords t) 2 * 16 + 1 * (j 2).val = _
    rw [tr10]; rfl
  · show cc0_transform_10 (grid0.coords t) 3 * 64 + 1 * (j 3).val = _
    rw [tr10]; rfl
  · show cc0_transform_10 (grid0.coords t) 4 * 352 + 1 * (j 4).val = _
    rw [tr10]; rfl
theorem cover10 (i : (⟨5, ![32, 20, 16, 64, 352]⟩ : Shape).Idx) : ∃ t : Fin cfg0.N, (cfg0.win 10).flush t = true ∧ i ∈ ((cfg0.win 10).blk t).view.set := by
  have h0 : (i 0).val < 32 := (i 0).isLt
  have h1 : (i 1).val < 20 := (i 1).isLt
  refine ⟨ptOf ⟨(i 0).val, h0⟩ ⟨(i 1).val, h1⟩, flush0_10 _, ?_⟩
  show i ∈ ((View.whole main_v0_2).slice (win0_10.rect (ptOf ⟨(i 0).val, h0⟩ ⟨(i 1).val, h1⟩))).set
  rw [View.set_slice_whole, Rect.mem_set_unit]
  have hl : (grid0.coords (ptOf ⟨(i 0).val, h0⟩ ⟨(i 1).val, h1⟩) 0).val = (i 0).val := ptOf_l _ _
  have hg : (grid0.coords (ptOf ⟨(i 0).val, h0⟩ ⟨(i 1).val, h1⟩) 1).val = (i 1).val / 4 := ptOf_g _ _
  intro a
  show cc0_transform_10 (grid0.coords (ptOf ⟨(i 0).val, h0⟩ ⟨(i 1).val, h1⟩)) a * S1x4x16x64x352.size a ≤ (i a).val
    ∧ (i a).val < cc0_transform_10 (grid0.coords (ptOf ⟨(i 0).val, h0⟩ ⟨(i 1).val, h1⟩)) a * S1x4x16x64x352.size a + S1x4x16x64x352.size a
  rw [tr10]
  fin_cases a
  · show (grid0.coords _ 0).val * 1 ≤ (i 0).val ∧ (i 0).val < (grid0.coords _ 0).val * 1 + 1
    omega
  · show (grid0.coords _ 1).val * 4 ≤ (i 1).val ∧ (i 1).val < (grid0.coords _ 1).val * 4 + 4
    omega
  · have := (i 2).isLt
    exact ⟨Nat.zero_le _, lt_of_lt_of_le this (Nat.le_add_left _ _)⟩
  · have := (i 3).isLt
    exact ⟨Nat.zero_le _, lt_of_lt_of_le this (Nat.le_add_left _ _)⟩
  · have := (i 4).isLt
    exact ⟨Nat.zero_le _, lt_of_lt_of_le this (Nat.le_add_left _ _)⟩
include hpos in
theorem final10 : (dats m 0 c).arrAt 10 cfg0.N = (arrQ (opsAt m c) 1 : Buf (Elt Ideal) ((c : Thread nD τ).loc main_v0_2)) :=
  (dats m 0 c).arrAt_eq_of_cover 10 _ (fun t _ => flushed10 m c hpos t) fun i => cover10 i

include hpos in
theorem flushed11 (t : Fin cfg0.N) : (dats m 0 c).flushed 11 t = ((cfg0.win 11).blk t).view.read (Elt Ideal) (arrS (opsAt m c) 1 : Buf (Elt Ideal) ((c : Thread nD τ).loc main_v0_3)) := by
  show (cfg0.win 11).cut (grid0.coords t) ((dats m 0 c).after 11 t) = _
  rw [after_11]
  funext j
  rw [View.read_apply]
  refine outSc_eq m c hpos t 1 j _ ?_ ?_ ?_ ?_
  · show cc0_transform_11 (grid0.coords t) 0 * 1 + 1 * (j 0).val = _
    rw [tr11]; rfl
  · show cc0_transform_11 (grid0.coords t) 1 * 4 + 1 * (j 1).val = _
    rw [tr11]; rfl
  · show cc0_transform_11 (grid0.coords t) 2 * 16 + 1 * (j 2).val = _
    rw [tr11]; rfl
  · show cc0_transform_11 (grid0.coords t) 3 * 352 + 1 * (j 3).val = _
    rw [tr11]; rfl
theorem cover11 (i : (⟨4, ![32, 20, 16, 352]⟩ : Shape).Idx) : ∃ t : Fin cfg0.N, (cfg0.win 11).flush t = true ∧ i ∈ ((cfg0.win 11).blk t).view.set := by
  have h0 : (i 0).val < 32 := (i 0).isLt
  have h1 : (i 1).val < 20 := (i 1).isLt
  refine ⟨ptOf ⟨(i 0).val, h0⟩ ⟨(i 1).val, h1⟩, flush0_11 _, ?_⟩
  show i ∈ ((View.whole main_v0_3).slice (win0_11.rect (ptOf ⟨(i 0).val, h0⟩ ⟨(i 1).val, h1⟩))).set
  rw [View.set_slice_whole, Rect.mem_set_unit]
  have hl : (grid0.coords (ptOf ⟨(i 0).val, h0⟩ ⟨(i 1).val, h1⟩) 0).val = (i 0).val := ptOf_l _ _
  have hg : (grid0.coords (ptOf ⟨(i 0).val, h0⟩ ⟨(i 1).val, h1⟩) 1).val = (i 1).val / 4 := ptOf_g _ _
  intro a
  show cc0_transform_11 (grid0.coords (ptOf ⟨(i 0).val, h0⟩ ⟨(i 1).val, h1⟩)) a * S1x4x16x352.size a ≤ (i a).val
    ∧ (i a).val < cc0_transform_11 (grid0.coords (ptOf ⟨(i 0).val, h0⟩ ⟨(i 1).val, h1⟩)) a * S1x4x16x352.size a + S1x4x16x352.size a
  rw [tr11]
  fin_cases a
  · show (grid0.coords _ 0).val * 1 ≤ (i 0).val ∧ (i 0).val < (grid0.coords _ 0).val * 1 + 1
    omega
  · show (grid0.coords _ 1).val * 4 ≤ (i 1).val ∧ (i 1).val < (grid0.coords _ 1).val * 4 + 4
    omega
  · have := (i 2).isLt
    exact ⟨Nat.zero_le _, lt_of_lt_of_le this (Nat.le_add_left _ _)⟩
  · have := (i 3).isLt
    exact ⟨Nat.zero_le _, lt_of_lt_of_le this (Nat.le_add_left _ _)⟩
include hpos in
theorem final11 : (dats m 0 c).arrAt 11 cfg0.N = (arrS (opsAt m c) 1 : Buf (Elt Ideal) ((c : Thread nD τ).loc main_v0_3)) :=
  (dats m 0 c).arrAt_eq_of_cover 11 _ (fun t _ => flushed11 m c hpos t) fun i => cover11 i

/-- The run: the results are the pages of the operands, and the operands are unchanged. -/
theorem vals (hpos : ∀ c a b, 0 ≤ (opsAt m c).xs a b) : θ_run defs (onTc (τ := τ) (main (F := Ideal))) ⟨m, fun _ => 0, ρ⟩ (fun r => ∀ c : Dev nD,
      r.2.mem ((c.tc : Thread nD τ).loc main_v0_0) = (arrQ (opsAt m c) 0 : Buf (Elt Ideal) ((c.tc : Thread nD τ).loc main_v0_0))
      ∧ r.2.mem ((c.tc : Thread nD τ).loc main_v0_1) = (arrS (opsAt m c) 0 : Buf (Elt Ideal) ((c.tc : Thread nD τ).loc main_v0_1))
      ∧ r.2.mem ((c.tc : Thread nD τ).loc main_v0_2) = (arrQ (opsAt m c) 1 : Buf (Elt Ideal) ((c.tc : Thread nD τ).loc main_v0_2))
      ∧ r.2.mem ((c.tc : Thread nD τ).loc main_v0_3) = (arrS (opsAt m c) 1 : Buf (Elt Ideal) ((c.tc : Thread nD τ).loc main_v0_3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 8).trans (final8 m c (hpos c)), ((h.1 c).1 9).trans (final9 m c (hpos c)),
      ((h.1 c).1 10).trans (final10 m c (hpos c)), ((h.1 c).1 11).trans (final11 m c (hpos c)), h.2 c⟩)
    (θ_run_and (run_main m ρ) (frame_of m ρ (dats m) (A_eq m) (run_main m ρ)))

end Cert.KernelIdeal.Roll

end
-- ==== Proof.Ref.lean ====
module

public import proofs.«01_k».proof.Proof.Gen.ReferenceIdeal.Frame
public import Idealize.ShloMosaic.Lib.WholeRead
public import Idealize.ShloMosaic.Lib.Pointwise

/-! # The reference's results as vector expressions

What the reference's eight stores hold, written as a few functions of its loads. -/

@[expose] public section

set_option maxRecDepth 16384

noncomputable section

namespace Cert.ReferenceIdeal.Val

open Idealize.ShloMosaic Cert.ReferenceIdeal Cert.ReferenceIdeal.Gen
open Idealize.ShloMosaic.TcCoe

variable {F : FTy → Type} [FloatOps F]

/-- What the reference loads: its operands, the rows of `idx` one by one. -/
structure Ld (F : FTy → Type) [FloatOps F] where
  w : Vec F S1280x81920 .fp8e4m3
  ws : Vec F S640x128 .f32
  bv : Vec F S20x32x64 .f32
  xt : Vec F S1280x4608 .fp8e4m3
  xs : Vec F S40x128 .f32
  val : Vec F S40x128 .i32
  ia : Vec F S1x128 .i32
  ib : Vec F S1x128 .i32
  src : Vec F S1x128 .i32
  lidx : Vec F S1x128 .i32

/-- The valid flags, in the order of the columns of `xt`. -/
def okR (v : Vec F S40x128 .i32) : IVec S36x128 1 :=
  k0_pay14 v (k0_pay4 v) (k0_pay5 v) (k0_pay6 v) (k0_pay7 v) (k0_pay8 v) (k0_pay9 v) (k0_pay10 v) (k0_pay11 v) (k0_pay12 v) (k0_pay13 v)

/-- The dequantised projection's K half. -/
def yK (L : Ld F) : FVec F S32x20x64x36x128 .f32 := k0_pay18 (k0_pay2 L.w L.xt) (k0_pay3 L.xs) L.ws
/-- Its V half, with the bias. -/
def yV (L : Ld F) : FVec F S32x20x64x36x128 .f32 :=
  k0_pay19 (k0_pay15 (k0_pay2 L.w L.xt) (k0_pay3 L.xs) L.ws) (k0_pay16 L.bv)

/-- One scale per token, layer and head. -/
def scaleR (y : FVec F S32x20x64x36x128 .f32) : FVec F S32x20x36x128 .f32 := k0_pay20 y

/-- The codes, as 32-bit words, 0 at invalid tokens. -/
def codeR (ok : IVec S36x128 1) (y : FVec F S32x20x64x36x128 .f32) : IVec S32x20x64x36x128 32 :=
  let s := broadcastTo S32x20x64x36x128 (shapeCast S32x20x1x36x128 (scaleR y) shapeCasts_S32x20x36x128_S32x20x1x36x128) broadcasts_S32x20x1x36x128_S32x20x64x36x128
  let r := roundeven (divf y s)
  let q := minimumf (broadcast S32x20x64x36x128 (Scalar.ofBits .f32 0x42FE0000#32 : F .f32)) (maximumf (broadcast S32x20x64x36x128 (Scalar.ofBits .f32 0xC2FE0000#32 : F .f32)) r)
  select (broadcastTo S32x20x64x36x128 (shapeCast S1x1x1x36x128 ok shapeCasts_S36x128_S1x1x1x36x128) broadcasts_S1x1x1x36x128_S32x20x64x36x128)
    (extsi 32 (fptosi 8 q) natLt_8_32) (broadcast S32x20x64x36x128 0#32)

/-- The scales, 0 at invalid tokens. -/
def scR (ok : IVec S36x128 1) (y : FVec F S32x20x64x36x128 .f32) : FVec F S32x20x36x128 .f32 :=
  select (broadcastTo S32x20x36x128 (shapeCast S1x1x36x128 ok shapeCasts_S36x128_S1x1x36x128) broadcasts_S1x1x36x128_S32x20x36x128)
    (scaleR y) (broadcast S32x20x36x128 (Scalar.ofBits .f32 0x00000000#32 : F .f32))

/-- The lane numbers of the copies out of the fifth column block, for the copies of part `k`. -/
def lanesR (lidx : IVec S1x128 32) (k : BitVec 32) : IVec S1x128 32 :=
  andi (addi lidx (broadcast S1x128 k)) (broadcast S1x128 127#32)

/-! ## Codes -/

def wrap4Q (l : IVec S1x128 32) : IVec S163840x128 32 :=
  let b := broadcastTo S163840x128 (shapeCast S1x128 l shapeCasts_S1x128_S1x128) broadcasts_S1x128_S163840x128
  let w := select (cmpi .slt b (broadcast S163840x128 0#32)) (addi b (broadcast S163840x128 128#32)) b
  shapeCast S163840x128 (shapeCast S163840x128x1 w shapeCasts_S163840x128_S163840x128x1) shapeCasts_S163840x128x1_S163840x128

def take4Q (v : IVec S32x20x64x4x128 32) (l : IVec S1x128 32) : IVec S32x20x64x4x1x128 32 :=
  shapeCast S32x20x64x4x1x128
    (shapeCast S32x20x64x4x128 (dynamicGather 1 (shapeCast S163840x128 v shapeCasts_S32x20x64x4x128_S163840x128) (wrap4Q l)) shapeCasts_S163840x128_S32x20x64x4x128)
    shapeCasts_S32x20x64x4x128_S32x20x64x4x1x128

def wrap16Q (l : IVec S1x128 32) : IVec S655360x128 32 :=
  let b := broadcastTo S655360x128 (shapeCast S1x128 l shapeCasts_S1x128_S1x128) broadcasts_S1x128_S655360x128
  let w := select (cmpi .slt b (broadcast S655360x128 0#32)) (addi b (broadcast S655360x128 128#32)) b
  shapeCast S655360x128 (shapeCast S655360x128x1 w shapeCasts_S655360x128_S655360x128x1) shapeCasts_S655360x128x1_S655360x128

def take16Q (v : IVec S32x20x64x16x128 32) (l : IVec S1x128 32) : IVec S32x20x64x16x128 32 :=
  shapeCast S32x20x64x16x128 (dynamicGather 1 (shapeCast S655360x128 v shapeCasts_S32x20x64x16x128_S655360x128) (wrap16Q l)) shapeCasts_S655360x128_S32x20x64x16x128

def abQ (q : IVec S32x20x64x36x128 32) : IVec S32x20x64x16x2x128 32 :=
  shapeCast S32x20x64x16x2x128 (extractStridedSlice S32x20x64x32x128 ![0, 0, 0, 0, 0] q slices_S32x20x64x36x128_o0_0_0_0_0_S32x20x64x32x128) shapeCasts_S32x20x64x32x128_S32x20x64x16x2x128

/-- The tails' own pages. -/
def tailsQ (own : IVec S2x128 1) (q : IVec S32x20x64x36x128 32) : IVec S32x20x16x64x256 8 :=
  trunci 8 (transpose S32x20x16x64x256 [0, 1, 3, 2, 4] (shapeCast S32x20x64x16x256
    (select (broadcastTo S32x20x64x16x2x128 (shapeCast S1x1x1x1x2x128 own shapeCasts_S2x128_S1x1x1x1x2x128) broadcasts_S1x1x1x1x2x128_S32x20x64x16x2x128)
      (abQ q) (broadcast S32x20x64x16x2x128 0#32)) shapeCasts_S32x20x64x16x2x128_S32x20x64x16x256) transposes_S32x20x64x16x256_p0_1_3_2_4_S32x20x16x64x256) natLt_8_32

def sideQ0 (q : IVec S32x20x64x36x128 32) : IVec S32x20x64x16x128 32 :=
  shapeCast S32x20x64x16x128 (extractStridedSlice S32x20x64x16x1x128 ![0, 0, 0, 0, 0, 0] (abQ q) slices_S32x20x64x16x2x128_o0_0_0_0_0_0_S32x20x64x16x1x128) shapeCasts_S32x20x64x16x1x128_S32x20x64x16x128

def sideQ1 (q : IVec S32x20x64x36x128 32) : IVec S32x20x64x16x128 32 :=
  shapeCast S32x20x64x16x128 (extractStridedSlice S32x20x64x16x1x128 ![0, 0, 0, 0, 1, 0] (abQ q) slices_S32x20x64x16x2x128_o0_0_0_0_1_0_S32x20x64x16x1x128) shapeCasts_S32x20x64x16x1x128_S32x20x64x16x128

def restQ (q : IVec S32x20x64x36x128 32) : IVec S32x20x64x4x128 32 :=
  extractStridedSlice S32x20x64x4x128 ![0, 0, 0, 32, 0] q slices_S32x20x64x36x128_o0_0_0_32_0_S32x20x64x4x128

def runsQ (lidx : IVec S1x128 32) (q : IVec S32x20x64x36x128 32) : IVec S32x20x64x16x128 32 :=
  shapeCast S32x20x64x16x128 (concatenate S32x20x64x4x4x128 4
    [⟨S32x20x64x4x1x128, take4Q (restQ q) (lanesR lidx 0#32)⟩, ⟨S32x20x64x4x1x128, take4Q (restQ q) (lanesR lidx 32#32)⟩,
     ⟨S32x20x64x4x1x128, take4Q (restQ q) (lanesR lidx 64#32)⟩, ⟨S32x20x64x4x1x128, take4Q (restQ q) (lanesR lidx 96#32)⟩]
    concatenates_S32x20x64x4x1x128_S32x20x64x4x1x128_S32x20x64x4x1x128_S32x20x64x4x1x128_S32x20x64x4x4x128_d4) shapeCasts_S32x20x64x4x4x128_S32x20x64x16x128

def isQ (src : IVec S1x128 32) (k : BitVec 32) : IVec S32x20x64x16x128 1 :=
  broadcastTo S32x20x64x16x128 (shapeCast S1x1x1x1x128 (cmpi .eq src (broadcast S1x128 k)) shapeCasts_S1x128_S1x1x1x1x128) broadcasts_S1x1x1x1x128_S32x20x64x16x128

/-- The copied pages. -/
def pickedQ (src lidx : IVec S1x128 32) (q : IVec S32x20x64x36x128 32) : IVec S32x20x16x64x96 8 :=
  trunci 8 (transpose S32x20x16x64x96 [0, 1, 3, 2, 4] (extractStridedSlice S32x20x64x16x96 ![0, 0, 0, 0, 0]
    (select (isQ src 0#32) (take16Q (sideQ0 q) lidx) (select (isQ src 1#32) (take16Q (sideQ1 q) lidx)
      (select (isQ src 2#32) (runsQ lidx q) (broadcast S32x20x64x16x128 0#32))))
    slices_S32x20x64x16x128_o0_0_0_0_0_S32x20x64x16x96) transposes_S32x20x64x16x96_p0_1_3_2_4_S32x20x16x64x96) natLt_8_32

/-! ## Scales -/

def wrap4S (l : IVec S1x128 32) : IVec S2560x128 32 :=
  let b := broadcastTo S2560x128 (shapeCast S1x128 l shapeCasts_S1x128_S1x128) broadcasts_S1x128_S2560x128
  let w := select (cmpi .slt b (broadcast S2560x128 0#32)) (addi b (broadcast S2560x128 128#32)) b
  shapeCast S2560x128 (shapeCast S2560x128x1 w shapeCasts_S2560x128_S2560x128x1) shapeCasts_S2560x128x1_S2560x128

def take4S (v : FVec F S32x20x4x128 .f32) (l : IVec S1x128 32) : FVec F S32x20x4x1x128 .f32 :=
  shapeCast S32x20x4x1x128
    (shapeCast S32x20x4x128 (dynamicGather 1 (shapeCast S2560x128 v shapeCasts_S32x20x4x128_S2560x128) (wrap4S l)) shapeCasts_S2560x128_S32x20x4x128)
    shapeCasts_S32x20x4x128_S32x20x4x1x128

def wrap16S (l : IVec S1x128 32) : IVec S10240x128 32 :=
  let b := broadcastTo S10240x128 (shapeCast S1x128 l shapeCasts_S1x128_S1x128) broadcasts_S1x128_S10240x128
  let w := select (cmpi .slt b (broadcast S10240x128 0#32)) (addi b (broadcast S10240x128 128#32)) b
  shapeCast S10240x128 (shapeCast S10240x128x1 w shapeCasts_S10240x128_S10240x128x1) shapeCasts_S10240x128x1_S10240x128

def take16S (v : FVec F S32x20x16x128 .f32) (l : IVec S1x128 32) : FVec F S32x20x16x128 .f32 :=
  shapeCast S32x20x16x128 (dynamicGather 1 (shapeCast S10240x128 v shapeCasts_S32x20x16x128_S10240x128) (wrap16S l)) shapeCasts_S10240x128_S32x20x16x128

def abS (q : FVec F S32x20x36x128 .f32) : FVec F S32x20x16x2x128 .f32 :=
  shapeCast S32x20x16x2x128 (extractStridedSlice S32x20x32x128 ![0, 0, 0, 0] q slices_S32x20x36x128_o0_0_0_0_S32x20x32x128) shapeCasts_S32x20x32x128_S32x20x16x2x128

/-- The tails' own pages. -/
def tailsS (own : IVec S2x128 1) (q : FVec F S32x20x36x128 .f32) : FVec F S32x20x16x256 .f32 :=
  shapeCast S32x20x16x256
    (select (broadcastTo S32x20x16x2x128 (shapeCast S1x1x1x2x128 own shapeCasts_S2x128_S1x1x1x2x128) broadcasts_S1x1x1x2x128_S32x20x16x2x128)
      (abS q) (broadcast S32x20x16x2x128 (Scalar.sitofp .f32 0#32 : F .f32))) shapeCasts_S32x20x16x2x128_S32x20x16x256

def sideS0 (q : FVec F S32x20x36x128 .f32) : FVec F S32x20x16x128 .f32 :=
  shapeCast S32x20x16x128 (extractStridedSlice S32x20x16x1x128 ![0, 0, 0, 0, 0] (abS q) slices_S32x20x16x2x128_o0_0_0_0_0_S32x20x16x1x128) shapeCasts_S32x20x16x1x128_S32x20x16x128

def sideS1 (q : FVec F S32x20x36x128 .f32) : FVec F S32x20x16x128 .f32 :=
  shapeCast S32x20x16x128 (extractStridedSlice S32x20x16x1x128 ![0, 0, 0, 1, 0] (abS q) slices_S32x20x16x2x128_o0_0_0_1_0_S32x20x16x1x128) shapeCasts_S32x20x16x1x128_S32x20x16x128

def restS (q : FVec F S32x20x36x128 .f32) : FVec F S32x20x4x128 .f32 :=
  extractStridedSlice S32x20x4x128 ![0, 0, 32, 0] q slices_S32x20x36x128_o0_0_32_0_S32x20x4x128

def runsS (lidx : IVec S1x128 32) (q : FVec F S32x20x36x128 .f32) : FVec F S32x20x16x128 .f32 :=
  shapeCast S32x20x16x128 (concatenate S32x20x4x4x128 3
    [⟨S32x20x4x1x128, take4S (restS q) (lanesR lidx 0#32)⟩, ⟨S32x20x4x1x128, take4S (restS q) (lanesR lidx 32#32)⟩,
     ⟨S32x20x4x1x128, take4S (restS q) (lanesR lidx 64#32)⟩, ⟨S32x20x4x1x128, take4S (restS q) (lanesR lidx 96#32)⟩]
    concatenates_S32x20x4x1x128_S32x20x4x1x128_S32x20x4x1x128_S32x20x4x1x128_S32x20x4x4x128_d3) shapeCasts_S32x20x4x4x128_S32x20x16x128

def isS (src : IVec S1x128 32) (k : BitVec 32) : IVec S32x20x16x128 1 :=
  broadcastTo S32x20x16x128 (shapeCast S1x1x1x128 (cmpi .eq src (broadcast S1x128 k)) shapeCasts_S1x128_S1x1x1x128) broadcasts_S1x1x1x128_S32x20x16x128

/-- The copied pages. -/
def pickedS (src lidx : IVec S1x128 32) (q : FVec F S32x20x36x128 .f32) : FVec F S32x20x16x96 .f32 :=
  extractStridedSlice S32x20x16x96 ![0, 0, 0, 0]
    (select (isS src 0#32) (take16S (sideS0 q) lidx) (select (isS src 1#32) (take16S (sideS1 q) lidx)
      (select (isS src 2#32) (runsS lidx q) (broadcast S32x20x16x128 (Scalar.sitofp .f32 0#32 : F .f32)))))
    slices_S32x20x16x128_o0_0_0_0_S32x20x16x96

/-! ## The stores -/

/-- The two stores into a result of codes. -/
def pcsQ (L : Ld F) (y : FVec F S32x20x64x36x128 .f32) : List (View.Piece (Elt F) S32x20x16x64x352 .i8) :=
  [⟨Rect.unit ![0, 0, 0, 0, 256] ![32, 20, 16, 64, 96] inb_S32x20x16x64x352_S32x20x16x64x96_0_0_0_0_256, pickedQ L.src L.lidx (codeR (okR L.val) y)⟩,
   ⟨Rect.unit ![0, 0, 0, 0, 0] ![32, 20, 16, 64, 256] inb_S32x20x16x64x352_S32x20x16x64x256_0_0_0_0_0, tailsQ (k0_pay17 L.ia L.ib) (codeR (okR L.val) y)⟩]

/-- The two stores into a result of scales. -/
def pcsS (L : Ld F) (y : FVec F S32x20x64x36x128 .f32) : List (View.Piece (Elt F) S32x20x16x352 .f32) :=
  [⟨Rect.unit ![0, 0, 0, 256] ![32, 20, 16, 96] inb_S32x20x16x352_S32x20x16x96_0_0_0_256, pickedS L.src L.lidx (scR (okR L.val) y)⟩,
   ⟨Rect.unit ![0, 0, 0, 0] ![32, 20, 16, 256] inb_S32x20x16x352_S32x20x16x256_0_0_0_0, tailsS (k0_pay17 L.ia L.ib) (scR (okR L.val) y)⟩]

section
variable (c : Dev nD) (arg0 : Memref sig .tc .vmem S1280x81920 .fp8e4m3) (harg0 : arg0.IsWhole) (arg1 : Memref sig .tc .vmem S640x128 .f32) (harg1 : arg1.IsWhole) (arg2 : Memref sig .tc .vmem S20x32x64 .f32) (harg2 : arg2.IsWhole) (arg3 : Memref sig .tc .vmem S1280x4608 .fp8e4m3) (harg3 : arg3.IsWhole) (arg4 : Memref sig .tc .vmem S40x128 .f32) (harg4 : arg4.IsWhole) (arg5 : Memref sig .tc .vmem S40x128 .i32) (harg5 : arg5.IsWhole) (arg6 : Memref sig .tc .vmem S8x128 .i32) (harg6 : arg6.IsWhole) (arg7 : Memref sig .tc .vmem S32x20x16x64x352 .i8) (harg7 : arg7.IsWhole) (arg8 : Memref sig .tc .vmem S32x20x16x352 .f32) (harg8 : arg8.IsWhole) (arg9 : Memref sig .tc .vmem S32x20x16x64x352 .i8) (harg9 : arg9.IsWhole) (arg10 : Memref sig .tc .vmem S32x20x16x352 .f32) (harg10 : arg10.IsWhole)
  (x0 : Vec F S1280x81920 .fp8e4m3) (x1 : Vec F S640x128 .f32) (x2 : Vec F S20x32x64 .f32) (x3 : Vec F S1280x4608 .fp8e4m3) (x4 : Vec F S40x128 .f32) (x5 : Vec F S40x128 .i32) (x6 : Vec F S8x128 .i32)

/-- The loads as the run reads them. -/
def ldRaw : Ld F where
  w := View.readAt (Elt F) arg0.view (Rect.unit ![0, 0] S1280x81920.size inb_S1280x81920_S1280x81920_0_0).toLoadRect (harg0.unread x0)
  ws := View.readAt (Elt F) arg1.view (Rect.unit ![0, 0] S640x128.size inb_S640x128_S640x128_0_0).toLoadRect (harg1.unread x1)
  bv := View.readAt (Elt F) arg2.view (Rect.unit ![0, 0, 0] S20x32x64.size inb_S20x32x64_S20x32x64_0_0_0).toLoadRect (harg2.unread x2)
  xt := View.readAt (Elt F) arg3.view (Rect.unit ![0, 0] S1280x4608.size inb_S1280x4608_S1280x4608_0_0).toLoadRect (harg3.unread x3)
  xs := View.readAt (Elt F) arg4.view (Rect.unit ![0, 0] S40x128.size inb_S40x128_S40x128_0_0).toLoadRect (harg4.unread x4)
  val := View.readAt (Elt F) arg5.view (Rect.unit ![0, 0] S40x128.size inb_S40x128_S40x128_0_0).toLoadRect (harg5.unread x5)
  ia := View.readAt (Elt F) arg6.view (Rect.unit (s := S8x128) ![0, 0] S1x128.size inb_S8x128_S1x128_0_0).toLoadRect (harg6.unread x6)
  ib := View.readAt (Elt F) arg6.view (Rect.unit (s := S8x128) ![1, 0] S1x128.size inb_S8x128_S1x128_1_0).toLoadRect (harg6.unread x6)
  src := View.readAt (Elt F) arg6.view (Rect.unit (s := S8x128) ![2, 0] S1x128.size inb_S8x128_S1x128_2_0).toLoadRect (harg6.unread x6)
  lidx := View.readAt (Elt F) arg6.view (Rect.unit (s := S8x128) ![3, 0] S1x128.size inb_S8x128_S1x128_3_0).toLoadRect (harg6.unread x6)

theorem run7 : (kernelRun0_A c arg0 harg0 arg1 harg1 arg2 harg2 arg3 harg3 arg4 harg4 arg5 harg5 arg6 harg6 arg7 harg7 arg8 harg8 arg9 harg9 arg10 harg10 x0 x1 x2 x3 x4 x5 x6).1 = pcsQ (ldRaw arg0 harg0 arg1 harg1 arg2 harg2 arg3 harg3 arg4 harg4 arg5 harg5 arg6 harg6 x0 x1 x2 x3 x4 x5 x6) (yK (ldRaw arg0 harg0 arg1 harg1 arg2 harg2 arg3 harg3 arg4 harg4 arg5 harg5 arg6 harg6 x0 x1 x2 x3 x4 x5 x6)) := by sl_kernel_rfl
theorem run8 : (kernelRun0_A c arg0 harg0 arg1 harg1 arg2 harg2 arg3 harg3 arg4 harg4 arg5 harg5 arg6 harg6 arg7 harg7 arg8 harg8 arg9 harg9 arg10 harg10 x0 x1 x2 x3 x4 x5 x6).2.1 = pcsS (ldRaw arg0 harg0 arg1 harg1 arg2 harg2 arg3 harg3 arg4 harg4 arg5 harg5 arg6 harg6 x0 x1 x2 x3 x4 x5 x6) (yK (ldRaw arg0 harg0 arg1 harg1 arg2 harg2 arg3 harg3 arg4 harg4 arg5 harg5 arg6 harg6 x0 x1 x2 x3 x4 x5 x6)) := by sl_kernel_rfl
theorem run9 : (kernelRun0_A c arg0 harg0 arg1 harg1 arg2 harg2 arg3 harg3 arg4 harg4 arg5 harg5 arg6 harg6 arg7 harg7 arg8 harg8 arg9 harg9 arg10 harg10 x0 x1 x2 x3 x4 x5 x6).2.2.1 = pcsQ (ldRaw arg0 harg0 arg1 harg1 arg2 harg2 arg3 harg3 arg4 harg4 arg5 harg5 arg6 harg6 x0 x1 x2 x3 x4 x5 x6) (yV (ldRaw arg0 harg0 arg1 harg1 arg2 harg2 arg3 harg3 arg4 harg4 arg5 harg5 arg6 harg6 x0 x1 x2 x3 x4 x5 x6)) := by sl_kernel_rfl
theorem run10 : (kernelRun0_A c arg0 harg0 arg1 harg1 arg2 harg2 arg3 harg3 arg4 harg4 arg5 harg5 arg6 harg6 arg7 harg7 arg8 harg8 arg9 harg9 arg10 harg10 x0 x1 x2 x3 x4 x5 x6).2.2.2.1 = pcsS (ldRaw arg0 harg0 arg1 harg1 arg2 harg2 arg3 harg3 arg4 harg4 arg5 harg5 arg6 harg6 x0 x1 x2 x3 x4 x5 x6) (yV (ldRaw arg0 harg0 arg1 harg1 arg2 harg2 arg3 harg3 arg4 harg4 arg5 harg5 arg6 harg6 x0 x1 x2 x3 x4 x5 x6)) := by sl_kernel_rfl

/-- The loads are the operands. -/
def ldOf : Ld F where
  w := x0
  ws := x1
  bv := x2
  xt := x3
  xs := x4
  val := x5
  ia := fun j => x6 (ix2 0 (j 1))
  ib := fun j => x6 (ix2 1 (j 1))
  src := fun j => x6 (ix2 2 (j 1))
  lidx := fun j => x6 (ix2 3 (j 1))

end

end Cert.ReferenceIdeal.Val

end
-- ==== Proof.RefAt.lean ====
module

public import proofs.«01_k».proof.Proof.Ref
public import proofs.«01_k».proof.Proof.Spec

/-! # The reference's results at an index -/

@[expose] public section

set_option maxRecDepth 16384

noncomputable section

namespace Cert.ReferenceIdeal.Val

open Idealize.ShloMosaic Cert.ReferenceIdeal Cert.ReferenceIdeal.Gen Cert.Spec
open Idealize.ShloMosaic.TcCoe

variable {F : FTy → Type} [FloatOps F]

/-- The zero the scales are masked with. -/
def zS : F .f32 := Scalar.sitofp .f32 0#32

theorem tailsS_at (ia ib : IVec S1x128 32) (q : FVec F S32x20x36x128 .f32) (l : Fin 32) (j : Fin 20) (s : Fin 16) (p : Fin 256) :
    tailsS (k0_pay17 (F := F) ia ib) q (ix4 l j s p) =
      if h : p.val < 128 then tailOf zS (ia (ix2 0 ⟨p.val, h⟩)) (q (ix4 l j ⟨2 * s.val, by omega⟩ ⟨p.val, h⟩))
      else tailOf zS (ib (ix2 0 ⟨p.val - 128, by omega⟩)) (q (ix4 l j ⟨2 * s.val + 1, by omega⟩ ⟨p.val - 128, by omega⟩)) := by
  pointwise [tailsS, abS, k0_pay17]
  unfold tailOf zS
  split
  · rw [dif_pos (by omega)]
    congr! 4 <;> first | omega | (apply Fin.ext; dsimp only; omega)
  · rw [dif_neg (by omega)]
    congr! 4 <;> first | omega | (apply Fin.ext; dsimp only; omega)

theorem pickedS_at (src lidx : IVec S1x128 32) (q : FVec F S32x20x36x128 .f32) (l : Fin 32) (j : Fin 20) (s : Fin 16) (p : Fin 96) :
    pickedS src lidx q (ix4 l j s p) = pickOf zS (src (ix2 0 ⟨p.val, by omega⟩)) (lidx (ix2 0 ⟨p.val, by omega⟩)) (fun a b => q (ix4 l j a b)) s := by
  pointwise [pickedS, isS, take16S, wrap16S, sideS0, sideS1, runsS, take4S, wrap4S, restS, abS, lanesR]
  simp only [wrap_mod]
  unfold pickOf zS lane
  congr 1
  · congr! 2; simp only [Fin.mk.injEq]; omega
  congr 1
  · congr! 2; simp only [Fin.mk.injEq]; omega
  congr 1
  refine (dite4 (fun w => q (ix4 l j ⟨32 + (l.val * 80 + j.val * 4 + s.val / 4) % 4, by omega⟩
    ⟨(IntOp.andi (IntOp.addi (lidx (ix2 0 ⟨p.val, by omega⟩)) w) 127#32).toNat % 128, by omega⟩)) (s.val % 4) (by omega)).trans ?_
  congr! 2; simp only [Fin.mk.injEq]; omega

theorem tailsQ_at (ia ib : IVec S1x128 32) (q : IVec S32x20x64x36x128 32) (l : Fin 32) (j : Fin 20) (s : Fin 16) (d : Fin 64) (p : Fin 256) :
    tailsQ (k0_pay17 (F := F) ia ib) q (ix5 l j s d p) =
      if h : p.val < 128 then tailOf (0#8) (ia (ix2 0 ⟨p.val, h⟩)) ((q (ix5 l j d ⟨2 * s.val, by omega⟩ ⟨p.val, h⟩)).setWidth 8)
      else tailOf (0#8) (ib (ix2 0 ⟨p.val - 128, by omega⟩)) ((q (ix5 l j d ⟨2 * s.val + 1, by omega⟩ ⟨p.val - 128, by omega⟩)).setWidth 8) := by
  pointwise [tailsQ, abQ, k0_pay17]
  unfold tailOf
  split
  · rw [dif_pos (by omega), map_select (BitVec.setWidth 8)]
    congr! 5 <;> first | omega | (apply Fin.ext; dsimp only; omega)
  · rw [dif_neg (by omega), map_select (BitVec.setWidth 8)]
    congr! 5 <;> first | omega | (apply Fin.ext; dsimp only; omega)

theorem pickedQ_at (src lidx : IVec S1x128 32) (q : IVec S32x20x64x36x128 32) (l : Fin 32) (j : Fin 20) (s : Fin 16) (d : Fin 64) (p : Fin 96) :
    pickedQ src lidx q (ix5 l j s d p) = pickOf (0#8) (src (ix2 0 ⟨p.val, by omega⟩)) (lidx (ix2 0 ⟨p.val, by omega⟩)) (fun a b => (q (ix5 l j d a b)).setWidth 8) s := by
  pointwise [pickedQ, isQ, take16Q, wrap16Q, sideQ0, sideQ1, runsQ, take4Q, wrap4Q, restQ, abQ, lanesR]
  simp only [wrap_mod]
  unfold pickOf lane
  refine (map_pick (BitVec.setWidth 8) _ _ _ _ _ _ _).trans ?_
  dsimp only
  congr 1
  · congr! 3; simp only [Fin.mk.injEq]; omega
  congr 1
  · congr! 3; simp only [Fin.mk.injEq]; omega
  congr 1
  congr 1
  refine (dite4 (fun w => q (ix5 l j d ⟨32 + (l.val * 5120 + j.val * 256 + d.val * 4 + s.val / 4) % 4, by omega⟩
    ⟨(IntOp.andi (IntOp.addi (lidx (ix2 0 ⟨p.val, by omega⟩)) w) 127#32).toNat % 128, by omega⟩)) (s.val % 4) (by omega)).trans ?_
  congr! 2; simp only [Fin.mk.injEq]; omega

end Cert.ReferenceIdeal.Val

end
-- ==== Proof.RefAt2.lean ====
module

public import proofs.«01_k».proof.Proof.RefAt

/-! # The reference's results at an index -/

@[expose] public section

set_option maxRecDepth 16384

noncomputable section

namespace Cert.ReferenceIdeal.Val

open Idealize.ShloMosaic Cert.ReferenceIdeal Cert.ReferenceIdeal.Gen Cert.Spec
open Idealize.ShloMosaic.TcCoe

variable {F : FTy → Type} [FloatOps F]

theorem max_at (y : FVec Ideal S32x20x64x36x128 .f32) (l : Fin 32) (j : Fin 20) (s : Fin 36) (p : Fin 128) :
    multiReduction .maximumf [2] S32x20x36x128 y 0xFF800000#32 reduces_S32x20x64x36x128_S32x20x36x128 (.inl rfl) rfl (ix4 l j s p) =
     (Finset.univ : Finset (Fin 64)).fold max (FloatOps.ofBits .f32 0xFF800000#32) (fun d => y (ix5 l j d s p)) := by
  refine (Idealize.ShloMosaic.Ideal.multiReduction_maximumf_single _ _ _ _ _ _).trans ?_
  congr 1
  funext d
  show y _ = y _
  congr 1
  funext b
  fin_cases b <;> rfl

def scFn (m : FVec F S32x20x36x128 .f32) : FVec F S32x20x36x128 .f32 :=
  select (cmpf .oeq m (broadcast S32x20x36x128 (Scalar.ofBits .f32 0x00000000#32))) (broadcast S32x20x36x128 (Scalar.ofBits .f32 0x3F800000#32))
    (divf m (broadcast S32x20x36x128 (Scalar.ofBits .f32 0x42FE0000#32)))
def maxFn (y : FVec F S32x20x64x36x128 .f32) : FVec F S32x20x36x128 .f32 :=
  multiReduction .maximumf [2] S32x20x36x128 y 0xFF800000#32 reduces_S32x20x64x36x128_S32x20x36x128 (.inl rfl) rfl
theorem scaleR_eq (y : FVec F S32x20x64x36x128 .f32) : scaleR y = scFn (maxFn (absf y)) := rfl
theorem scFn_at (m : FVec Ideal S32x20x36x128 .f32) (i : S32x20x36x128.Idx) : scFn m i = scaleOf (m i) := rfl
theorem maxFn_at (y : FVec Ideal S32x20x64x36x128 .f32) (l : Fin 32) (j : Fin 20) (s : Fin 36) (p : Fin 128) :
    maxFn y (ix4 l j s p) = topOf fun d => y (ix5 l j d s p) := max_at y l j s p
theorem scaleR_at (y : FVec Ideal S32x20x64x36x128 .f32) (l : Fin 32) (j : Fin 20) (s : Fin 36) (p : Fin 128) :
    scaleR y (ix4 l j s p) = scaleOf (topOf fun d => FloatOps.absf (φ := .f32) (y (ix5 l j d s p))) := by
  rw [scaleR_eq, scFn_at, maxFn_at]
  rfl

theorem scR_at (ok : IVec S36x128 1) (y : FVec Ideal S32x20x64x36x128 .f32) (l : Fin 32) (j : Fin 20) (s : Fin 36) (p : Fin 128) :
    scR ok y (ix4 l j s p) = Scalar.select (ok (ix2 s p)) (scaleR y (ix4 l j s p)) 0 := by
  pointwise [scR]

theorem bc_at (x : FVec Ideal S32x20x36x128 .f32) (l : Fin 32) (j : Fin 20) (d : Fin 64) (s : Fin 36) (p : Fin 128) :
    broadcastTo S32x20x64x36x128 (shapeCast S32x20x1x36x128 x shapeCasts_S32x20x36x128_S32x20x1x36x128) broadcasts_S32x20x1x36x128_S32x20x64x36x128 (ix5 l j d s p)
      = x (ix4 l j s p) := by
  pointwise

theorem okbc_at (ok : IVec S36x128 1) (l : Fin 32) (j : Fin 20) (d : Fin 64) (s : Fin 36) (p : Fin 128) :
    broadcastTo S32x20x64x36x128 (shapeCast S1x1x1x36x128 ok shapeCasts_S36x128_S1x1x1x36x128) broadcasts_S1x1x1x36x128_S32x20x64x36x128 (ix5 l j d s p)
      = ok (ix2 s p) := by
  pointwise

theorem trunc_ext (x : BitVec 8) : (x.signExtend 32).setWidth 8 = x := by
  apply BitVec.eq_of_getLsbD_eq
  intro i hi
  rw [BitVec.getLsbD_setWidth, BitVec.getLsbD_signExtend]
  simp [hi, show i < 32 by omega]

def clFn (x : FVec F S32x20x64x36x128 .f32) : IVec S32x20x64x36x128 32 :=
  extsi 32 (fptosi 8 (minimumf (broadcast S32x20x64x36x128 (Scalar.ofBits .f32 0x42FE0000#32 : F .f32)) (maximumf (broadcast S32x20x64x36x128 (Scalar.ofBits .f32 0xC2FE0000#32 : F .f32)) (roundeven x)))) natLt_8_32
theorem clFn_at (x : FVec Ideal S32x20x64x36x128 .f32) (i : S32x20x64x36x128.Idx) : clFn x i = (codeOf (x i)).signExtend 32 := rfl

theorem codeR_eq (ok : IVec S36x128 1) (y : FVec F S32x20x64x36x128 .f32) : codeR ok y =
  select (broadcastTo S32x20x64x36x128 (shapeCast S1x1x1x36x128 ok shapeCasts_S36x128_S1x1x1x36x128) broadcasts_S1x1x1x36x128_S32x20x64x36x128)
   (clFn (divf y (broadcastTo S32x20x64x36x128 (shapeCast S32x20x1x36x128 (scaleR y) shapeCasts_S32x20x36x128_S32x20x1x36x128) broadcasts_S32x20x1x36x128_S32x20x64x36x128)))
   (broadcast S32x20x64x36x128 0#32) := rfl

theorem codeR_at (ok : IVec S36x128 1) (y : FVec Ideal S32x20x64x36x128 .f32) (l : Fin 32) (j : Fin 20) (d : Fin 64) (s : Fin 36) (p : Fin 128) :
    (codeR ok y (ix5 l j d s p)).setWidth 8 =
      Scalar.select (ok (ix2 s p)) (codeOf (FloatOps.divf (φ := .f32) (y (ix5 l j d s p)) (scaleR y (ix4 l j s p)))) 0#8 := by
  rw [codeR_eq, ValueIdx.select_apply, clFn_at, okbc_at]
  refine (map_select (BitVec.setWidth 8) _ _ _).trans ?_
  rw [trunc_ext, Idealize.ShloMosaic.divf_apply, bc_at]
  rfl

theorem slT (n : Fin 32) : S40x128.Slices ![(tileS ⟨n.val, by omega⟩).val, 0] S1x128 := by revert n; decide

/-- Rows picked one by one and the last four. -/
def rowsR {α : Type} (v : S40x128.Idx → α) : List ((s : Shape) × (s.Idx → α)) :=
  (List.ofFn fun n : Fin 32 => ⟨S1x128, extractStridedSlice S1x128 ![(tileS ⟨n.val, by omega⟩).val, 0] v (slT n)⟩) ++
    [⟨S4x128, extractStridedSlice S4x128 ![32, 0] v slices_S40x128_o32_0_S4x128⟩]
set_option maxHeartbeats 1000000 in
theorem rowsR_at {α : Type} (v : S40x128.Idx → α) (s : Fin 36) (p : Fin 128) (h) : concatenate S36x128 0 (rowsR v) h (ix2 s p) = v (ix2 (tileS s) p) := by
  rw [concatenate_apply]
  unfold rowsR
  simp only [List.ofFn_succ, List.ofFn_zero, List.cons_append, List.nil_append]
  fin_cases s <;> (pointwise; rfl)

theorem pay3_eq (v : Vec Ideal S40x128 .f32) : k0_pay3 v = concatenate S36x128 0 (rowsR v) concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S4x128_S36x128_d0 := by
  sl_kernel_rfl

theorem okR_eq (v : Vec Ideal S40x128 .i32) : okR (F := Ideal) v = cmpi .ne (concatenate S36x128 0 (rowsR v) concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S4x128_S36x128_d0) (broadcast S36x128 0#32) := by
  sl_kernel_rfl

theorem pay3_at (v : Vec Ideal S40x128 .f32) (s : Fin 36) (p : Fin 128) : k0_pay3 v (ix2 s p) = v (ix2 (tileS s) p) := by
  rw [pay3_eq]
  exact rowsR_at v s p _

theorem okR_at (v : Vec Ideal S40x128 .i32) (s : Fin 36) (p : Fin 128) : okR (F := Ideal) v (ix2 s p) = IntOp.cmpi .ne (v (ix2 (tileS s) p)) 0#32 := by
  rw [okR_eq]
  exact congrArg (fun w => IntOp.cmpi .ne w 0#32) (rowsR_at v s p _)

/-- The operands, coordinate by coordinate. -/
def Ld.ops (L : Ld Ideal) : Ops where
  w k c := L.w (ix2 k c)
  ws a b := L.ws (ix2 a b)
  bv j l d := L.bv (ix3 j l d)
  x k c := L.xt (ix2 k c)
  xs a b := L.xs (ix2 a b)
  val a b := L.val (ix2 a b)
  ia b := L.ia (ix2 0 b)
  ib b := L.ib (ix2 0 b)
  src b := L.src (ix2 0 b)
  lidx b := L.lidx (ix2 0 b)

theorem acc_at (w : Vec Ideal S1280x81920 .fp8e4m3) (xt : Vec Ideal S1280x4608 .fp8e4m3) (a : Fin 640) (b : Fin 128) (t : Fin 36) (p : Fin 128) :
    k0_pay2 w xt (ix4 a b t p) = ∑ k : Fin 1280, w (ix2 k ⟨a.val * 128 + b.val, by omega⟩) * xt (ix2 k ⟨t.val * 128 + p.val, by omega⟩) := by
  pointwise [k0_pay2]

theorem yK_at (L : Ld Ideal) (l : Fin 32) (j : Fin 20) (d : Fin 64) (t : Fin 36) (p : Fin 128) :
    yK L (ix5 l j d t p) = L.ops.y 0 l j d t p := by
  unfold yK
  generalize hacc : k0_pay2 L.w L.xt = acc
  generalize hxs : k0_pay3 L.xs = xs
  pointwise [k0_pay18, k0_pay15]
  rw [← hacc, ← hxs, acc_at, pay3_at]
  simp only [Ops.y, Ops.acc, Ops.dq, Ops.row, Ops.feat, Ld.ops]
  congr! 3

theorem yV_at (L : Ld Ideal) (l : Fin 32) (j : Fin 20) (d : Fin 64) (t : Fin 36) (p : Fin 128) :
    yV L (ix5 l j d t p) = L.ops.y 1 l j d t p := by
  unfold yV
  generalize hacc : k0_pay2 L.w L.xt = acc
  generalize hxs : k0_pay3 L.xs = xs
  pointwise [k0_pay19, k0_pay15, k0_pay16]
  rw [← hacc, ← hxs, acc_at, pay3_at]
  simp only [Ops.y, Ops.acc, Ops.dq, Ops.row, Ops.feat, Ld.ops]
  simp only [Fin.val_one, Nat.one_mul]

end Cert.ReferenceIdeal.Val

end
-- ==== Proof.RefOut.lean ====
module

public import proofs.«01_k».proof.Proof.RefAt2
public import Idealize.ShloMosaic.Lib.WritesUnit

/-! # The reference's results -/

@[expose] public section

set_option maxRecDepth 16384

noncomputable section

namespace Cert.ReferenceIdeal.Val

open Idealize.ShloMosaic Cert.ReferenceIdeal Cert.ReferenceIdeal.Gen Cert.Spec
open Idealize.ShloMosaic.TcCoe

variable {F : FTy → Type} [FloatOps F]

theorem zS_eq : (zS : Ideal .f32) = (0 : EReal) := by
  show (((0#32 : BitVec 32).toInt : ℝ) : EReal) = 0
  simp

theorem own_sc (L : Ld Ideal) (y : FVec Ideal S32x20x64x36x128 .f32) (t : Fin 2) (hy : ∀ l j d n p, y (ix5 l j d n p) = L.ops.y t l j d n p)
    (l : Fin 32) (j : Fin 20) (n : Fin 36) (p : Fin 128) : scR (okR L.val) y (ix4 l j n p) = L.ops.sc t l j n p := by
  rw [scR_at, okR_at, scaleR_at]
  simp only [hy]
  rfl

theorem own_code (L : Ld Ideal) (y : FVec Ideal S32x20x64x36x128 .f32) (t : Fin 2) (hy : ∀ l j d n p, y (ix5 l j d n p) = L.ops.y t l j d n p)
    (l : Fin 32) (j : Fin 20) (d : Fin 64) (n : Fin 36) (p : Fin 128) : (codeR (okR L.val) y (ix5 l j d n p)).setWidth 8 = L.ops.code t l j d n p := by
  rw [codeR_at, okR_at, scaleR_at]
  simp only [hy]
  rfl

theorem pcsS_at (v : View sig .tc .vmem S32x20x16x352 .f32) (f) (L : Ld Ideal) (y : FVec Ideal S32x20x64x36x128 .f32) (t : Fin 2)
    (hy : ∀ l j d n p, y (ix5 l j d n p) = L.ops.y t l j d n p) (l : Fin 32) (j : Fin 20) (s : Fin 16) (p : Fin 352) :
    v.read (Elt Ideal) (v.writes (Elt Ideal) f (pcsS L y)) (ix4 l j s p) = L.ops.pageS t l j s p := by
  unfold Ops.pageS pageOf pcsS
  by_cases h : p.val < 256
  · refine (View.read_writes_cons_unit_of_not_mem v f (off' := ![0, 0, 0, 256]) _ _ _ _ rfl 3 (Or.inl h)).trans ?_
    refine (View.read_writes_cons_unit_of_mem v f (off' := ![0, 0, 0, 0]) _ _ _ _ (ix4 l j s (⟨p.val, h⟩ : Fin 256)) rfl ?_).trans ?_
    · intro a; fin_cases a <;> exact (Nat.zero_add _).symm
    rw [tailsS_at]
    simp only [own_sc L y t hy, zS_eq]
    split <;> rename_i h'
    · rfl
    · rfl
  · refine (View.read_writes_cons_unit_of_mem v f (off' := ![0, 0, 0, 256]) _ _ _ _ (ix4 l j s (⟨p.val - 256, by omega⟩ : Fin 96)) rfl ?_).trans ?_
    · intro a; fin_cases a <;> first | exact (Nat.zero_add _).symm | (show p.val = 256 + (p.val - 256); omega)
    rw [pickedS_at]
    simp only [own_sc L y t hy, zS_eq]
    rw [dif_neg (by omega), dif_neg h]
    rfl

theorem pcsQ_at (v : View sig .tc .vmem S32x20x16x64x352 .i8) (f) (L : Ld Ideal) (y : FVec Ideal S32x20x64x36x128 .f32) (t : Fin 2)
    (hy : ∀ l j d n p, y (ix5 l j d n p) = L.ops.y t l j d n p) (l : Fin 32) (j : Fin 20) (s : Fin 16) (d : Fin 64) (p : Fin 352) :
    v.read (Elt Ideal) (v.writes (Elt Ideal) f (pcsQ L y)) (ix5 l j s d p) = L.ops.pageQ t l j s d p := by
  unfold Ops.pageQ pageOf pcsQ
  by_cases h : p.val < 256
  · refine (View.read_writes_cons_unit_of_not_mem v f (off' := ![0, 0, 0, 0, 256]) _ _ _ _ rfl 4 (Or.inl h)).trans ?_
    refine (View.read_writes_cons_unit_of_mem v f (off' := ![0, 0, 0, 0, 0]) _ _ _ _ (ix5 l j s d (⟨p.val, h⟩ : Fin 256)) rfl ?_).trans ?_
    · intro a; fin_cases a <;> exact (Nat.zero_add _).symm
    rw [tailsQ_at]
    simp only [own_code L y t hy]
    split <;> rename_i h'
    · rfl
    · rfl
  · refine (View.read_writes_cons_unit_of_mem v f (off' := ![0, 0, 0, 0, 256]) _ _ _ _ (ix5 l j s d (⟨p.val - 256, by omega⟩ : Fin 96)) rfl ?_).trans ?_
    · intro a; fin_cases a <;> first | exact (Nat.zero_add _).symm | (show p.val = 256 + (p.val - 256); omega)
    rw [pickedQ_at]
    simp only [own_code L y t hy]
    rw [dif_neg (by omega), dif_neg h]
    rfl

end Cert.ReferenceIdeal.Val

end
-- ==== Proof.RefArr.lean ====
module

public import proofs.«01_k».proof.Proof.RefOut
public import Idealize.ShloMosaic.Lib.WholeRead
public import Idealize.ShloMosaic.Lib.Pipeline.ValueKit.Geometry

/-! # The reference's result arrays -/

@[expose] public section

set_option maxRecDepth 16384

noncomputable section

namespace Cert.ReferenceIdeal.Val

open Idealize.ShloMosaic Cert.ReferenceIdeal Cert.ReferenceIdeal.Gen Cert.Spec
open Idealize.ShloMosaic.TcCoe Idealize.SL.Sem
open Idealize.ShloMosaic.Pipeline (Dat Cfg Window)

/-- A load of a whole operand. -/
theorem whole2 {e : EltTy} {n k : Nat} (a : Memref sig .tc .vmem ⟨2, ![n, k]⟩ e) (h : a.IsWhole) (X : Vec Ideal ⟨2, ![n, k]⟩ e)
    (inb : ∀ x, (![0, 0] : Fin 2 → Nat) x + (⟨2, ![n, k]⟩ : Shape).size x ≤ (⟨2, ![n, k]⟩ : Shape).size x) (i : Fin n) (j : Fin k) :
    View.readAt (Elt Ideal) a.view (Rect.unit (s := ⟨2, ![n, k]⟩) ![0, 0] (⟨2, ![n, k]⟩ : Shape).size inb).toLoadRect (h.unread X) (ix2 i j) = X (ix2 i j) := by
  refine (h.readAt_unread X _ _).trans (congrArg X (funext fun x => Fin.ext ((ValueKit.rect_emb_unit_val _ _ _ _ _).trans ?_)))
  fin_cases x <;> exact Nat.zero_add _
theorem whole3 {e : EltTy} {n k q : Nat} (a : Memref sig .tc .vmem ⟨3, ![n, k, q]⟩ e) (h : a.IsWhole) (X : Vec Ideal ⟨3, ![n, k, q]⟩ e)
    (inb : ∀ x, (![0, 0, 0] : Fin 3 → Nat) x + (⟨3, ![n, k, q]⟩ : Shape).size x ≤ (⟨3, ![n, k, q]⟩ : Shape).size x) (i : Fin n) (j : Fin k) (o : Fin q) :
    View.readAt (Elt Ideal) a.view (Rect.unit (s := ⟨3, ![n, k, q]⟩) ![0, 0, 0] (⟨3, ![n, k, q]⟩ : Shape).size inb).toLoadRect (h.unread X) (ix3 i j o) = X (ix3 i j o) := by
  refine (h.readAt_unread X _ _).trans (congrArg X (funext fun x => Fin.ext ((ValueKit.rect_emb_unit_val _ _ _ _ _).trans ?_)))
  fin_cases x <;> exact Nat.zero_add _
/-- A load of one row of the lanes' table. -/
theorem row1 (a : Memref sig .tc .vmem S8x128 .i32) (h : a.IsWhole) (X : Vec Ideal S8x128 .i32) (r : Fin 8)
    (inb : ∀ x, (![r.val, 0] : Fin 2 → Nat) x + S1x128.size x ≤ S8x128.size x) (j : Fin 128) :
    View.readAt (Elt Ideal) a.view (Rect.unit (s := S8x128) ![r.val, 0] S1x128.size inb).toLoadRect (h.unread X) (ix2 0 j) = X (ix2 r j) := by
  refine (h.readAt_unread X _ _).trans (congrArg X (funext fun x => Fin.ext ((ValueKit.rect_emb_unit_val _ _ _ _ _).trans ?_)))
  fin_cases x
  · exact Nat.add_zero _
  · exact Nat.zero_add _

theorem ops_ext (O O' : Ops) (h0 : ∀ a b, O.w a b = O'.w a b) (h1 : ∀ a b, O.ws a b = O'.ws a b) (h2 : ∀ a b c, O.bv a b c = O'.bv a b c)
    (h3 : ∀ a b, O.x a b = O'.x a b) (h4 : ∀ a b, O.xs a b = O'.xs a b) (h5 : ∀ a b, O.val a b = O'.val a b) (h6 : ∀ a, O.ia a = O'.ia a)
    (h7 : ∀ a, O.ib a = O'.ib a) (h8 : ∀ a, O.src a = O'.src a) (h9 : ∀ a, O.lidx a = O'.lidx a) : O = O' := by
  obtain ⟨w, ws, bv, x, xs, val, ia, ib, src, lidx⟩ := O
  obtain ⟨w', ws', bv', x', xs', val', ia', ib', src', lidx'⟩ := O'
  obtain rfl : w = w' := funext fun a => funext (h0 a)
  obtain rfl : ws = ws' := funext fun a => funext (h1 a)
  obtain rfl : bv = bv' := funext fun a => funext fun b => funext (h2 a b)
  obtain rfl : x = x' := funext fun a => funext (h3 a)
  obtain rfl : xs = xs' := funext fun a => funext (h4 a)
  obtain rfl : val = val' := funext fun a => funext (h5 a)
  obtain rfl : ia = ia' := funext h6
  obtain rfl : ib = ib' := funext h7
  obtain rfl : src = src' := funext h8
  obtain rfl : lidx = lidx' := funext h9
  rfl

section
variable (c : Dev nD) (arg0 : Memref sig .tc .vmem S1280x81920 .fp8e4m3) (harg0 : arg0.IsWhole) (arg1 : Memref sig .tc .vmem S640x128 .f32) (harg1 : arg1.IsWhole) (arg2 : Memref sig .tc .vmem S20x32x64 .f32) (harg2 : arg2.IsWhole) (arg3 : Memref sig .tc .vmem S1280x4608 .fp8e4m3) (harg3 : arg3.IsWhole) (arg4 : Memref sig .tc .vmem S40x128 .f32) (harg4 : arg4.IsWhole) (arg5 : Memref sig .tc .vmem S40x128 .i32) (harg5 : arg5.IsWhole) (arg6 : Memref sig .tc .vmem S8x128 .i32) (harg6 : arg6.IsWhole) (arg7 : Memref sig .tc .vmem S32x20x16x64x352 .i8) (harg7 : arg7.IsWhole) (arg8 : Memref sig .tc .vmem S32x20x16x352 .f32) (harg8 : arg8.IsWhole) (arg9 : Memref sig .tc .vmem S32x20x16x64x352 .i8) (harg9 : arg9.IsWhole) (arg10 : Memref sig .tc .vmem S32x20x16x352 .f32) (harg10 : arg10.IsWhole)
  (x0 : Vec Ideal S1280x81920 .fp8e4m3) (x1 : Vec Ideal S640x128 .f32) (x2 : Vec Ideal S20x32x64 .f32) (x3 : Vec Ideal S1280x4608 .fp8e4m3) (x4 : Vec Ideal S40x128 .f32) (x5 : Vec Ideal S40x128 .i32) (x6 : Vec Ideal S8x128 .i32)

theorem raw_ops : (ldRaw arg0 harg0 arg1 harg1 arg2 harg2 arg3 harg3 arg4 harg4 arg5 harg5 arg6 harg6 x0 x1 x2 x3 x4 x5 x6).ops = opsOf x0 x1 x2 x3 x4 x5 x6 :=
  ops_ext _ _ (whole2 arg0 harg0 x0 _) (whole2 arg1 harg1 x1 _) (whole3 arg2 harg2 x2 _) (whole2 arg3 harg3 x3 _) (whole2 arg4 harg4 x4 _) (whole2 arg5 harg5 x5 _)
    (row1 arg6 harg6 x6 0 _) (row1 arg6 harg6 x6 1 _) (row1 arg6 harg6 x6 2 _) (row1 arg6 harg6 x6 3 _)

theorem out7_eq : out0_A_7 c arg0 harg0 arg1 harg1 arg2 harg2 arg3 harg3 arg4 harg4 arg5 harg5 arg6 harg6 arg7 harg7 arg8 harg8 arg9 harg9 arg10 harg10 x0 x1 x2 x3 x4 x5 x6 = arrQ (opsOf x0 x1 x2 x3 x4 x5 x6) 0 := by
  funext i
  unfold out0_A_7
  rw [run7]
  have e : i = ix5 (i 0) (i 1) (i 2) (i 3) (i 4) := funext fun x => by fin_cases x <;> rfl
  refine (congrArg _ e).trans ((pcsQ_at _ _ _ _ 0 (yK_at _) (i 0) (i 1) (i 2) (i 3) (i 4)).trans ?_)
  rw [raw_ops]
  rfl
theorem out8_eq : out0_A_8 c arg0 harg0 arg1 harg1 arg2 harg2 arg3 harg3 arg4 harg4 arg5 harg5 arg6 harg6 arg7 harg7 arg8 harg8 arg9 harg9 arg10 harg10 x0 x1 x2 x3 x4 x5 x6 = arrS (opsOf x0 x1 x2 x3 x4 x5 x6) 0 := by
  funext i
  unfold out0_A_8
  rw [run8]
  have e : i = ix4 (i 0) (i 1) (i 2) (i 3) := funext fun x => by fin_cases x <;> rfl
  refine (congrArg _ e).trans ((pcsS_at _ _ _ _ 0 (yK_at _) (i 0) (i 1) (i 2) (i 3)).trans ?_)
  rw [raw_ops]
  rfl
theorem out9_eq : out0_A_9 c arg0 harg0 arg1 harg1 arg2 harg2 arg3 harg3 arg4 harg4 arg5 harg5 arg6 harg6 arg7 harg7 arg8 harg8 arg9 harg9 arg10 harg10 x0 x1 x2 x3 x4 x5 x6 = arrQ (opsOf x0 x1 x2 x3 x4 x5 x6) 1 := by
  funext i
  unfold out0_A_9
  rw [run9]
  have e : i = ix5 (i 0) (i 1) (i 2) (i 3) (i 4) := funext fun x => by fin_cases x <;> rfl
  refine (congrArg _ e).trans ((pcsQ_at _ _ _ _ 1 (yV_at _) (i 0) (i 1) (i 2) (i 3) (i 4)).trans ?_)
  rw [raw_ops]
  rfl
theorem out10_eq : out0_A_10 c arg0 harg0 arg1 harg1 arg2 harg2 arg3 harg3 arg4 harg4 arg5 harg5 arg6 harg6 arg7 harg7 arg8 harg8 arg9 harg9 arg10 harg10 x0 x1 x2 x3 x4 x5 x6 = arrS (opsOf x0 x1 x2 x3 x4 x5 x6) 1 := by
  funext i
  unfold out0_A_10
  rw [run10]
  have e : i = ix4 (i 0) (i 1) (i 2) (i 3) := funext fun x => by fin_cases x <;> rfl
  refine (congrArg _ e).trans ((pcsS_at _ _ _ _ 1 (yV_at _) (i 0) (i 1) (i 2) (i 3)).trans ?_)
  rw [raw_ops]
  rfl

end

variable (m : (ℓ : Loc nD τ sig) → Buf (Elt Ideal) ℓ) (ρ : Dev nD → PrngReg)

/-- The operands in core `c`'s memory. -/
def opsAt (c : Dev nD) : Ops := opsOf (V m c main_arg0) (V m c main_arg1) (V m c main_arg2) (V m c main_arg3) (V m c main_arg4) (V m c main_arg5) (V m c main_arg6)

theorem blk0 (c : Dev nD) (t : Fin cfg0.N) : (iblk m c 0 t : Vec Ideal S1280x81920 .fp8e4m3) = V m c main_arg0 := by
  funext i
  unfold iblk
  rw [View.read_apply]
  show V m c main_arg0 _ = V m c main_arg0 _
  congr 1; funext x; apply Fin.ext
  fin_cases x
  · show 0 * 1280 + 1 * (i 0).val = (i 0).val; omega
  · show 0 * 81920 + 1 * (i 1).val = (i 1).val; omega
theorem blk1 (c : Dev nD) (t : Fin cfg0.N) : (iblk m c 1 t : Vec Ideal S640x128 .f32) = V m c main_arg1 := by
  funext i
  unfold iblk
  rw [View.read_apply]
  show V m c main_arg1 _ = V m c main_arg1 _
  congr 1; funext x; apply Fin.ext
  fin_cases x
  · show 0 * 640 + 1 * (i 0).val = (i 0).val; omega
  · show 0 * 128 + 1 * (i 1).val = (i 1).val; omega
theorem blk2 (c : Dev nD) (t : Fin cfg0.N) : (iblk m c 2 t : Vec Ideal S20x32x64 .f32) = V m c main_arg2 := by
  funext i
  unfold iblk
  rw [View.read_apply]
  show V m c main_arg2 _ = V m c main_arg2 _
  congr 1; funext x; apply Fin.ext
  fin_cases x
  · show 0 * 20 + 1 * (i 0).val = (i 0).val; omega
  · show 0 * 32 + 1 * (i 1).val = (i 1).val; omega
  · show 0 * 64 + 1 * (i 2).val = (i 2).val; omega
theorem blk3 (c : Dev nD) (t : Fin cfg0.N) : (iblk m c 3 t : Vec Ideal S1280x4608 .fp8e4m3) = V m c main_arg3 := by
  funext i
  unfold iblk
  rw [View.read_apply]
  show V m c main_arg3 _ = V m c main_arg3 _
  congr 1; funext x; apply Fin.ext
  fin_cases x
  · show 0 * 1280 + 1 * (i 0).val = (i 0).val; omega
  · show 0 * 4608 + 1 * (i 1).val = (i 1).val; omega
theorem blk4 (c : Dev nD) (t : Fin cfg0.N) : (iblk m c 4 t : Vec Ideal S40x128 .f32) = V m c main_arg4 := by
  funext i
  unfold iblk
  rw [View.read_apply]
  show V m c main_arg4 _ = V m c main_arg4 _
  congr 1; funext x; apply Fin.ext
  fin_cases x
  · show 0 * 40 + 1 * (i 0).val = (i 0).val; omega
  · show 0 * 128 + 1 * (i 1).val = (i 1).val; omega
theorem blk5 (c : Dev nD) (t : Fin cfg0.N) : (iblk m c 5 t : Vec Ideal S40x128 .i32) = V m c main_arg5 := by
  funext i
  unfold iblk
  rw [View.read_apply]
  show V m c main_arg5 _ = V m c main_arg5 _
  congr 1; funext x; apply Fin.ext
  fin_cases x
  · show 0 * 40 + 1 * (i 0).val = (i 0).val; omega
  · show 0 * 128 + 1 * (i 1).val = (i 1).val; omega
theorem blk6 (c : Dev nD) (t : Fin cfg0.N) : (iblk m c 6 t : Vec Ideal S8x128 .i32) = V m c main_arg6 := by
  funext i
  unfold iblk
  rw [View.read_apply]
  show V m c main_arg6 _ = V m c main_arg6 _
  congr 1; funext x; apply Fin.ext
  fin_cases x
  · show 0 * 8 + 1 * (i 0).val = (i 0).val; omega
  · show 0 * 128 + 1 * (i 1).val = (i 1).val; omega
theorem flushed7 (c : Dev nD) (t : Fin cfg0.N) : (dats m 0 c).flushed 7 t = ((cfg0.win 7).blk t).view.read (Elt Ideal) (arrQ (opsAt m c) 0 : Buf (Elt Ideal) ((c : Thread nD τ).loc main_v0_0)) := by
  show (cfg0.win 7).cut (grid0.coords t) ((dats m 0 c).after 7 t) = _
  rw [after0_7]
  unfold outsAt0
  dsimp only
  rw [out7_eq, blk0 m c t, blk1 m c t, blk2 m c t, blk3 m c t, blk4 m c t, blk5 m c t, blk6 m c t]
  funext j
  rw [View.read_apply]
  refine congrArg (arrQ (opsAt m c) 0) (funext fun x => Fin.ext ?_)
  fin_cases x
  · show (j 0).val = 0 * 32 + 1 * (j 0).val; omega
  · show (j 1).val = 0 * 20 + 1 * (j 1).val; omega
  · show (j 2).val = 0 * 16 + 1 * (j 2).val; omega
  · show (j 3).val = 0 * 64 + 1 * (j 3).val; omega
  · show (j 4).val = 0 * 352 + 1 * (j 4).val; omega
theorem final7 (c : Dev nD) : (dats m 0 c).arrAt 7 cfg0.N = (arrQ (opsAt m c) 0 : Buf (Elt Ideal) ((c : Thread nD τ).loc main_v0_0)) :=
  (dats m 0 c).arrAt_eq_of_cover 7 _ (fun t _ => flushed7 m c t) fun i => ⟨t0_0, flush0_7 _, by
    show i ∈ ((View.whole main_v0_0).slice (win0_7.rect t0_0)).set
    rw [View.set_slice_whole, Rect.mem_set_unit]
    intro a
    fin_cases a
    · show 0 * 32 ≤ (i 0).val ∧ (i 0).val < 0 * 32 + 32
      have : (i 0).val < 32 := (i 0).isLt
      omega
    · show 0 * 20 ≤ (i 1).val ∧ (i 1).val < 0 * 20 + 20
      have : (i 1).val < 20 := (i 1).isLt
      omega
    · show 0 * 16 ≤ (i 2).val ∧ (i 2).val < 0 * 16 + 16
      have : (i 2).val < 16 := (i 2).isLt
      omega
    · show 0 * 64 ≤ (i 3).val ∧ (i 3).val < 0 * 64 + 64
      have : (i 3).val < 64 := (i 3).isLt
      omega
    · show 0 * 352 ≤ (i 4).val ∧ (i 4).val < 0 * 352 + 352
      have : (i 4).val < 352 := (i 4).isLt
      omega⟩
theorem flushed8 (c : Dev nD) (t : Fin cfg0.N) : (dats m 0 c).flushed 8 t = ((cfg0.win 8).blk t).view.read (Elt Ideal) (arrS (opsAt m c) 0 : Buf (Elt Ideal) ((c : Thread nD τ).loc main_v0_1)) := by
  show (cfg0.win 8).cut (grid0.coords t) ((dats m 0 c).after 8 t) = _
  rw [after0_8]
  unfold outsAt0
  dsimp only
  rw [out8_eq, blk0 m c t, blk1 m c t, blk2 m c t, blk3 m c t, blk4 m c t, blk5 m c t, blk6 m c t]
  funext j
  rw [View.read_apply]
  refine congrArg (arrS (opsAt m c) 0) (funext fun x => Fin.ext ?_)
  fin_cases x
  · show (j 0).val = 0 * 32 + 1 * (j 0).val; omega
  · show (j 1).val = 0 * 20 + 1 * (j 1).val; omega
  · show (j 2).val = 0 * 16 + 1 * (j 2).val; omega
  · show (j 3).val = 0 * 352 + 1 * (j 3).val; omega
theorem final8 (c : Dev nD) : (dats m 0 c).arrAt 8 cfg0.N = (arrS (opsAt m c) 0 : Buf (Elt Ideal) ((c : Thread nD τ).loc main_v0_1)) :=
  (dats m 0 c).arrAt_eq_of_cover 8 _ (fun t _ => flushed8 m c t) fun i => ⟨t0_0, flush0_8 _, by
    show i ∈ ((View.whole main_v0_1).slice (win0_8.rect t0_0)).set
    rw [View.set_slice_whole, Rect.mem_set_unit]
    intro a
    fin_cases a
    · show 0 * 32 ≤ (i 0).val ∧ (i 0).val < 0 * 32 + 32
      have : (i 0).val < 32 := (i 0).isLt
      omega
    · show 0 * 20 ≤ (i 1).val ∧ (i 1).val < 0 * 20 + 20
      have : (i 1).val < 20 := (i 1).isLt
      omega
    · show 0 * 16 ≤ (i 2).val ∧ (i 2).val < 0 * 16 + 16
      have : (i 2).val < 16 := (i 2).isLt
      omega
    · show 0 * 352 ≤ (i 3).val ∧ (i 3).val < 0 * 352 + 352
      have : (i 3).val < 352 := (i 3).isLt
      omega⟩
theorem flushed9 (c : Dev nD) (t : Fin cfg0.N) : (dats m 0 c).flushed 9 t = ((cfg0.win 9).blk t).view.read (Elt Ideal) (arrQ (opsAt m c) 1 : Buf (Elt Ideal) ((c : Thread nD τ).loc main_v0_2)) := by
  show (cfg0.win 9).cut (grid0.coords t) ((dats m 0 c).after 9 t) = _
  rw [after0_9]
  unfold outsAt0
  dsimp only
  rw [out9_eq, blk0 m c t, blk1 m c t, blk2 m c t, blk3 m c t, blk4 m c t, blk5 m c t, blk6 m c t]
  funext j
  rw [View.read_apply]
  refine congrArg (arrQ (opsAt m c) 1) (funext fun x => Fin.ext ?_)
  fin_cases x
  · show (j 0).val = 0 * 32 + 1 * (j 0).val; omega
  · show (j 1).val = 0 * 20 + 1 * (j 1).val; omega
  · show (j 2).val = 0 * 16 + 1 * (j 2).val; omega
  · show (j 3).val = 0 * 64 + 1 * (j 3).val; omega
  · show (j 4).val = 0 * 352 + 1 * (j 4).val; omega
theorem final9 (c : Dev nD) : (dats m 0 c).arrAt 9 cfg0.N = (arrQ (opsAt m c) 1 : Buf (Elt Ideal) ((c : Thread nD τ).loc main_v0_2)) :=
  (dats m 0 c).arrAt_eq_of_cover 9 _ (fun t _ => flushed9 m c t) fun i => ⟨t0_0, flush0_9 _, by
    show i ∈ ((View.whole main_v0_2).slice (win0_9.rect t0_0)).set
    rw [View.set_slice_whole, Rect.mem_set_unit]
    intro a
    fin_cases a
    · show 0 * 32 ≤ (i 0).val ∧ (i 0).val < 0 * 32 + 32
      have : (i 0).val < 32 := (i 0).isLt
      omega
    · show 0 * 20 ≤ (i 1).val ∧ (i 1).val < 0 * 20 + 20
      have : (i 1).val < 20 := (i 1).isLt
      omega
    · show 0 * 16 ≤ (i 2).val ∧ (i 2).val < 0 * 16 + 16
      have : (i 2).val < 16 := (i 2).isLt
      omega
    · show 0 * 64 ≤ (i 3).val ∧ (i 3).val < 0 * 64 + 64
      have : (i 3).val < 64 := (i 3).isLt
      omega
    · show 0 * 352 ≤ (i 4).val ∧ (i 4).val < 0 * 352 + 352
      have : (i 4).val < 352 := (i 4).isLt
      omega⟩
theorem flushed10 (c : Dev nD) (t : Fin cfg0.N) : (dats m 0 c).flushed 10 t = ((cfg0.win 10).blk t).view.read (Elt Ideal) (arrS (opsAt m c) 1 : Buf (Elt Ideal) ((c : Thread nD τ).loc main_v0_3)) := by
  show (cfg0.win 10).cut (grid0.coords t) ((dats m 0 c).after 10 t) = _
  rw [after0_10]
  unfold outsAt0
  dsimp only
  rw [out10_eq, blk0 m c t, blk1 m c t, blk2 m c t, blk3 m c t, blk4 m c t, blk5 m c t, blk6 m c t]
  funext j
  rw [View.read_apply]
  refine congrArg (arrS (opsAt m c) 1) (funext fun x => Fin.ext ?_)
  fin_cases x
  · show (j 0).val = 0 * 32 + 1 * (j 0).val; omega
  · show (j 1).val = 0 * 20 + 1 * (j 1).val; omega
  · show (j 2).val = 0 * 16 + 1 * (j 2).val; omega
  · show (j 3).val = 0 * 352 + 1 * (j 3).val; omega
theorem final10 (c : Dev nD) : (dats m 0 c).arrAt 10 cfg0.N = (arrS (opsAt m c) 1 : Buf (Elt Ideal) ((c : Thread nD τ).loc main_v0_3)) :=
  (dats m 0 c).arrAt_eq_of_cover 10 _ (fun t _ => flushed10 m c t) fun i => ⟨t0_0, flush0_10 _, by
    show i ∈ ((View.whole main_v0_3).slice (win0_10.rect t0_0)).set
    rw [View.set_slice_whole, Rect.mem_set_unit]
    intro a
    fin_cases a
    · show 0 * 32 ≤ (i 0).val ∧ (i 0).val < 0 * 32 + 32
      have : (i 0).val < 32 := (i 0).isLt
      omega
    · show 0 * 20 ≤ (i 1).val ∧ (i 1).val < 0 * 20 + 20
      have : (i 1).val < 20 := (i 1).isLt
      omega
    · show 0 * 16 ≤ (i 2).val ∧ (i 2).val < 0 * 16 + 16
      have : (i 2).val < 16 := (i 2).isLt
      omega
    · show 0 * 352 ≤ (i 3).val ∧ (i 3).val < 0 * 352 + 352
      have : (i 3).val < 352 := (i 3).isLt
      omega⟩

/-- The run: the results are the pages of the operands, and the operands are unchanged. -/
theorem vals : θ_run defs (onTc (τ := τ) (main (F := Ideal))) ⟨m, fun _ => 0, ρ⟩ (fun r => ∀ c : Dev nD,
      r.2.mem ((c.tc : Thread nD τ).loc main_v0_0) = (arrQ (opsAt m c) 0 : Buf (Elt Ideal) ((c.tc : Thread nD τ).loc main_v0_0))
      ∧ r.2.mem ((c.tc : Thread nD τ).loc main_v0_1) = (arrS (opsAt m c) 0 : Buf (Elt Ideal) ((c.tc : Thread nD τ).loc main_v0_1))
      ∧ r.2.mem ((c.tc : Thread nD τ).loc main_v0_2) = (arrQ (opsAt m c) 1 : Buf (Elt Ideal) ((c.tc : Thread nD τ).loc main_v0_2))
      ∧ r.2.mem ((c.tc : Thread nD τ).loc main_v0_3) = (arrS (opsAt m c) 1 : Buf (Elt Ideal) ((c.tc : Thread nD τ).loc main_v0_3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 7).trans (final7 m c), ((h.1 c).1 8).trans (final8 m c),
      ((h.1 c).1 9).trans (final9 m c), ((h.1 c).1 10).trans (final10 m c), h.2 c⟩)
    (θ_run_and (run_main m ρ) (frame_of m ρ (dats m) (A_eq m) (run_main m ρ)))

end Cert.ReferenceIdeal.Val

end
-- ==== Proof.Alg.lean ====
module

public import proofs.«01_k».proof.Defs
public import proofs.«01_k».proof.Proof.KerArr
public import proofs.«01_k».proof.Proof.RefArr
public import proofs.«01_k».proof.Proof.Gen.Pre_scales_nonneg

/-! # The kernel's results are the reference's -/

@[expose] public section

noncomputable section

namespace Cert.Proof

open Idealize.ShloMosaic Idealize.SL.Sem Cert.Spec

/-- The precondition, read: no activation scale is negative. -/
theorem xs_nonneg (m : (ℓ : Loc Cert.KernelIdeal.nD Cert.KernelIdeal.τ Cert.KernelIdeal.sig) → Buf (Elt Ideal) ℓ)
    (h : Pre_KernelIdeal_scales_nonneg m) (c : Dev Cert.KernelIdeal.nD) (a : Fin 40) (b : Fin 128) :
    0 ≤ (Cert.KernelIdeal.Roll.opsAt m c).xs a b := by
  have h1 := congrFun (h c) (ValueIdx.ix2 a b)
  have h2 : FloatOps.cmpf (F := Ideal) .oge (φ := .f32) ((Cert.KernelIdeal.Roll.opsAt m c).xs a b) (Scalar.ofBits (F := Ideal) .f32 0x00000000#32) = 1#1 := h1
  rw [zero_eq, Ideal.cmpf_def] at h2
  by_contra h3
  simp [Ideal.cmp, h3] at h2

theorem algebraic : algebraic_KernelIdeal_ReferenceIdeal_pre_scales_nonneg := by
  intro m g m' g' hpre heq
  have he : ∀ c, Cert.ReferenceIdeal.Val.opsAt m' c = Cert.KernelIdeal.Roll.opsAt m c := fun c => by
    obtain ⟨h0, h1, h2, h3, h4, h5, h6⟩ := heq c
    unfold Cert.ReferenceIdeal.Val.opsAt Cert.KernelIdeal.Roll.opsAt
    unfold Cert.ReferenceIdeal.Gen.V Cert.KernelIdeal.Gen.V
    rw [h0, h1, h2, h3, h4, h5, h6]
  refine ⟨fun c => arrQ (Cert.KernelIdeal.Roll.opsAt m c) 0, fun c => arrS (Cert.KernelIdeal.Roll.opsAt m c) 0,
    fun c => arrQ (Cert.KernelIdeal.Roll.opsAt m c) 1, fun c => arrS (Cert.KernelIdeal.Roll.opsAt m c) 1,
    Cert.KernelIdeal.Roll.vals m g (xs_nonneg m hpre), ?_⟩
  have h := Cert.ReferenceIdeal.Val.vals m' g'
  simp only [he] at h
  exact h

end Cert.Proof

end
-- ==== Proof.GaSpec.lean ====
module

public import Idealize.ShloMosaic.PureOps.Ideal
public import Idealize.ShloMosaic.PureOps.Ideal.Laws
public import Idealize.ShloMosaic.Lib.ValueIdx

/-! # The gathered codes: rows of an array, by number -/

@[expose] public section

set_option maxRecDepth 16384

noncomputable section

namespace Cert.GatherSpec

open Idealize.ShloMosaic Idealize.ShloMosaic.ValueIdx

/-- Entry `k` of the row with the number `c`, or zero when there is no such row. -/
def rowOf (X : Vec Ideal ⟨2, ![4608, 1280]⟩ .fp8e4m3) (c : BitVec 32) (k : Fin 1280) : Ideal .fp8e4m3 :=
  if h : c.toNat < 4608 then X (ix2 ⟨c.toNat, h⟩ k) else (0 : EReal)

/-- Token `n` of the result, a column, is the row that `C` has for it. -/
def arrT (C : Vec Ideal ⟨2, ![4608, 1]⟩ .i32) (X : Vec Ideal ⟨2, ![4608, 1280]⟩ .fp8e4m3) : Vec Ideal ⟨2, ![1280, 4608]⟩ .fp8e4m3 :=
  fun i => rowOf X (C (ix2 (i 1) 0)) (i 0)

theorem arrT_congr (C : Vec Ideal ⟨2, ![4608, 1]⟩ .i32) (X : Vec Ideal ⟨2, ![4608, 1280]⟩ .fp8e4m3) {i j : (⟨2, ![1280, 4608]⟩ : Shape).Idx} (h : ∀ a, (i a).val = (j a).val) :
    arrT C X i = arrT C X j := congrArg _ (funext fun a => Fin.ext (h a))

end Cert.GatherSpec

end
-- ==== Proof.GaKer.lean ====
module

public import proofs.«01_k».proof.Proof.Gen.GatherIdeal.Frame
public import proofs.«01_k».proof.Proof.GaSpec
public import Idealize.ShloMosaic.Lib.Pointwise
public import Idealize.ShloMosaic.Lib.ValueIdx

/-! # The gather kernel: its result array -/

@[expose] public section

set_option maxRecDepth 16384

noncomputable section

namespace Cert.GatherIdeal.Val

open Cert.GatherIdeal Cert.GatherIdeal.Gen Idealize.ShloMosaic Cert.GatherSpec
open Idealize.ShloMosaic.TcCoe Idealize.SL.Sem
open Idealize.ShloMosaic.Pipeline (Dat Cfg Window)

section
variable {F : FTy → Type} [FloatOps F]
/-- The selection: for each token a one at its row's number. -/
def selFn (v : Vec F S256x1 .i32) : FVec F S256x4608 .fp8e4m3 :=
  truncf .fp8e4m3 (sitofp .f32 (extui 32 (cmpi .eq (broadcastTo S256x4608 v broadcasts_S256x1_S256x4608) (iota .tc S256x4608 32 [1] iota_S256x4608_d1_w32)) natLt_1_32)) bitsLt_fp8e4m3_f32
/-- Its product with the rows, transposed. -/
def mulFn (p : FVec F S256x4608 .fp8e4m3) (x : Vec F S4608x1280 .fp8e4m3) : FVec F S1280x256 .fp8e4m3 :=
  truncf .fp8e4m3 (transpose S1280x256 [1, 0] (matmul dot_S256x4608_S4608x1280_S256x1280_1_0_0_1_n_n none p x (constant S256x1280 .f32 0x00000000#32)) transposes_S256x1280_p1_0_S1280x256) bitsLt_fp8e4m3_f32
theorem pay1_eq (v : Vec F S256x1 .i32) (x : Vec F S4608x1280 .fp8e4m3) : k0_pay1 v x = mulFn (selFn v) x := rfl
end

theorem mulFn_at (p : FVec Ideal S256x4608 .fp8e4m3) (x : Vec Ideal S4608x1280 .fp8e4m3) (k : Fin 1280) (r : Fin 256) :
    mulFn p x (ix2 k r) = (∑ j : Fin 4608, (p (ix2 r j) : EReal) * x (ix2 j k) : EReal) := by
  pointwise [mulFn]
theorem sel_word (c : BitVec 32) (j : Fin 4608) :
    (Scalar.sitofp (F := Ideal) .f32 ((IntOp.cmpi .eq c (BitVec.ofNat 32 j.val)).setWidth 32) : EReal) = if c.toNat = j.val then 1 else 0 := by
  rw [Ideal.scalar_sitofp_def]
  by_cases h : c.toNat = j.val
  · have e : c = BitVec.ofNat 32 j.val := by rw [← h, BitVec.ofNat_toNat, BitVec.setWidth_eq]
    rw [if_pos h, e]
    simp [IntOp.cmpi]
  · have e : c ≠ BitVec.ofNat 32 j.val := fun e => h (by rw [e, BitVec.toNat_ofNat]; omega)
    rw [if_neg h]
    simp [IntOp.cmpi, beq_eq_false_iff_ne.mpr e]
theorem selFn_at (v : Vec Ideal S256x1 .i32) (r : Fin 256) (j : Fin 4608) :
    (selFn v (ix2 r j) : EReal) = if (v (ix2 r 0) : BitVec 32).toNat = j.val then 1 else 0 := by
  rw [← sel_word]
  pointwise [selFn]
  rfl
theorem pay1_at (v : Vec Ideal S256x1 .i32) (x : Vec Ideal S4608x1280 .fp8e4m3) (k : Fin 1280) (r : Fin 256) :
    k0_pay1 v x (ix2 k r) = rowOf x (v (ix2 r 0)) k := by
  rw [pay1_eq, mulFn_at]
  simp only [selFn_at]
  unfold rowOf
  by_cases h : (v (ix2 r 0) : BitVec 32).toNat < 4608
  · rw [dif_pos h]
    refine (Finset.sum_eq_single ⟨_, h⟩ (fun j _ hj => ?_) fun hn => absurd (Finset.mem_univ _) hn).trans ?_
    · rw [if_neg fun e => hj (Fin.ext e.symm)]
      exact zero_mul _
    · rw [if_pos rfl]
      exact one_mul _
  · rw [dif_neg h]
    refine Finset.sum_eq_zero fun j _ => ?_
    rw [if_neg fun e => h (by omega)]
    exact zero_mul _

theorem zero2 : (![0, 0] : Fin 2 → Nat) = fun _ => 0 := funext fun a => by fin_cases a <;> rfl
theorem out2_eq (v : Vec Ideal S256x1 .i32) (x : Vec Ideal S4608x1280 .fp8e4m3) : out0_2 v x = k0_pay1 v x := by
  unfold out0_2
  rw [View.canon_unit_zero zero2, View.ld_unit_zero zero2, View.ld_unit_zero zero2]

variable (m : (ℓ : Loc nD τ sig) → Buf (Elt Ideal) ℓ) (ρ : Dev nD → PrngReg)

theorem tr0 : ∀ i : grid0.Coords, cc0_transform_0 i = ![(i 0).val, 0] := by decide +kernel
theorem tr1 : ∀ i : grid0.Coords, cc0_transform_1 i = ![0, 0] := by decide +kernel
theorem tr2 : ∀ i : grid0.Coords, cc0_transform_2 i = ![0, (i 0).val] := by decide +kernel
theorem coords_at : ∀ t : Fin grid0.N, (grid0.coords t 0).val = t.val := by decide +kernel

/-- The numbers and the rows in core `c`'s memory. -/
abbrev colsAt (c : Dev nD) : Vec Ideal S4608x1 .i32 := m ((c : Thread nD τ).loc main_arg0)
abbrev rowsAt (c : Dev nD) : Vec Ideal S4608x1280 .fp8e4m3 := m ((c : Thread nD τ).loc main_arg1)
/-- The gathered codes. -/
abbrev gatAt (c : Dev nD) := arrT (colsAt m c) (rowsAt m c)

theorem isLt (t : Fin cfg0.N) (r : Fin 256) : (grid0.coords t 0).val * 256 + r.val < 4608 := by
  have : (grid0.coords t 0).val < 18 := (grid0.coords t 0).isLt
  omega

theorem iw0 (c : Dev nD) (t : Fin cfg0.N) (r : Fin 256) :
    (iblk m c 0 t : Vec Ideal S256x1 .i32) (ix2 r 0) = colsAt m c (ix2 ⟨(grid0.coords t 0).val * 256 + r.val, isLt t r⟩ 0) := by
  unfold iblk
  rw [View.read_apply]
  show m ((c : Thread nD τ).loc main_arg0) _ = m ((c : Thread nD τ).loc main_arg0) _
  congr 1; funext x; apply Fin.ext
  fin_cases x
  · show cc0_transform_0 (grid0.coords t) 0 * 256 + 1 * r.val = (grid0.coords t 0).val * 256 + r.val
    rw [tr0]; show (grid0.coords t 0).val * 256 + 1 * r.val = _; omega
  · show cc0_transform_0 (grid0.coords t) 1 * 1 + 1 * 0 = 0
    rw [tr0]; rfl
theorem iw1 (c : Dev nD) (t : Fin cfg0.N) : (iblk m c 1 t : Vec Ideal S4608x1280 .fp8e4m3) = rowsAt m c := by
  funext i
  unfold iblk
  rw [View.read_apply]
  show m ((c : Thread nD τ).loc main_arg1) _ = m ((c : Thread nD τ).loc main_arg1) _
  congr 1; funext x; apply Fin.ext
  fin_cases x
  · show cc0_transform_1 (grid0.coords t) 0 * 4608 + 1 * (i 0).val = (i 0).val
    rw [tr1]; show 0 * 4608 + 1 * (i 0).val = _; omega
  · show cc0_transform_1 (grid0.coords t) 1 * 1280 + 1 * (i 1).val = (i 1).val
    rw [tr1]; show 0 * 1280 + 1 * (i 1).val = _; omega

theorem pt (c : Dev nD) (t : Fin cfg0.N) (k : Fin 1280) (r : Fin 256) :
    k0_pay1 (F := Ideal) (iblk m c 0 t) (iblk m c 1 t) (ix2 k r) = gatAt m c (ix2 k ⟨(grid0.coords t 0).val * 256 + r.val, isLt t r⟩) := by
  refine (pay1_at _ _ k r).trans ?_
  rw [iw0, iw1]
  rfl
theorem after2 (c : Dev nD) (t : Fin cfg0.N) : (dats m 0 c).after 2 t = k0_pay1 (F := Ideal) (iblk m c 0 t) (iblk m c 1 t) := by
  rw [after0_2, out2_eq]

theorem flushed2 (c : Dev nD) (t : Fin cfg0.N) : (dats m 0 c).flushed 2 t = ((cfg0.win 2).blk t).view.read (Elt Ideal) (gatAt m c : Buf (Elt Ideal) ((c : Thread nD τ).loc main_v0)) := by
  show (cfg0.win 2).cut (grid0.coords t) ((dats m 0 c).after 2 t) = _
  rw [after2]
  funext j
  rw [View.read_apply]
  have e : ∀ i : S1280x256.Idx, i = ix2 (i 0) (i 1) := fun i => funext fun x => by fin_cases x <;> rfl
  refine (congrArg (k0_pay1 (F := Ideal) (iblk m c 0 t) (iblk m c 1 t)) (e j)).trans ((pt m c t (j 0) (j 1)).trans ?_)
  refine arrT_congr _ _ fun x => ?_
  fin_cases x
  · show (j 0).val = cc0_transform_2 (grid0.coords t) 0 * 1280 + 1 * (j 0).val
    rw [tr2]; show _ = 0 * 1280 + 1 * (j 0).val; omega
  · show (grid0.coords t 0).val * 256 + (j 1).val = cc0_transform_2 (grid0.coords t) 1 * 256 + 1 * (j 1).val
    rw [tr2]; show _ = (grid0.coords t 0).val * 256 + 1 * (j 1).val; omega

/-- The point that leaves a token. -/
def ptOf (n : Fin 4608) : Fin cfg0.N := ⟨n.val / 256, by have : cfg0.N = 18 := by decide +kernel
                                                         omega⟩
theorem ptOf_b (n : Fin 4608) : (grid0.coords (ptOf n) 0).val = n.val / 256 := coords_at _
theorem cover2 (i : (⟨2, ![1280, 4608]⟩ : Shape).Idx) : ∃ t : Fin cfg0.N, (cfg0.win 2).flush t = true ∧ i ∈ ((cfg0.win 2).blk t).view.set := by
  have h1 : (i 1).val < 4608 := (i 1).isLt
  refine ⟨ptOf ⟨(i 1).val, h1⟩, flush0_2 _, ?_⟩
  show i ∈ ((View.whole main_v0).slice (win0_2.rect (ptOf ⟨(i 1).val, h1⟩))).set
  rw [View.set_slice_whole, Rect.mem_set_unit]
  have hl : (grid0.coords (ptOf ⟨(i 1).val, h1⟩) 0).val = (i 1).val / 256 := ptOf_b _
  intro a
  show cc0_transform_2 (grid0.coords (ptOf ⟨(i 1).val, h1⟩)) a * S1280x256.size a ≤ (i a).val
    ∧ (i a).val < cc0_transform_2 (grid0.coords (ptOf ⟨(i 1).val, h1⟩)) a * S1280x256.size a + S1280x256.size a
  rw [tr2]
  fin_cases a
  · have := (i 0).isLt
    exact ⟨Nat.zero_le _, lt_of_lt_of_le this (Nat.le_add_left _ _)⟩
  · show (grid0.coords (ptOf ⟨(i 1).val, h1⟩) 0).val * 256 ≤ (i 1).val ∧ (i 1).val < (grid0.coords (ptOf ⟨(i 1).val, h1⟩) 0).val * 256 + 256
    omega
theorem final2 (c : Dev nD) : (dats m 0 c).arrAt 2 cfg0.N = (gatAt m c : Buf (Elt Ideal) ((c : Thread nD τ).loc main_v0)) :=
  (dats m 0 c).arrAt_eq_of_cover 2 _ (fun t _ => flushed2 m c t) fun i => cover2 i

/-- The run: the result is the gathered codes, and the operands are unchanged. -/
theorem vals : θ_run defs (onTc (τ := τ) (main (F := Ideal))) ⟨m, fun _ => 0, ρ⟩ (fun r => ∀ c : Dev nD,
      r.2.mem ((c.tc : Thread nD τ).loc main_v0) = (gatAt m c : Buf (Elt Ideal) ((c.tc : Thread nD τ).loc main_v0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (final2 m c), h.2 c⟩)
    (θ_run_and (run_main m ρ) (frame_of m ρ (dats m) (A_eq m) (run_main m ρ)))

end Cert.GatherIdeal.Val

end
-- ==== Proof.GaRef.lean ====
module

public import proofs.«01_k».proof.Proof.Gen.GatherReferenceIdeal.Frame
public import proofs.«01_k».proof.Proof.GaSpec
public import Idealize.ShloMosaic.Lib.Pointwise
public import Idealize.ShloMosaic.Lib.ValueIdx
public import Idealize.ShloMosaic.Lib.Routing.Ops

/-! # The reference of the gather: its result array -/

@[expose] public section

set_option maxRecDepth 16384

noncomputable section

namespace Cert.GatherReferenceIdeal.Val

open Cert.GatherReferenceIdeal Cert.GatherReferenceIdeal.Gen Idealize.ShloMosaic Cert.GatherSpec
open Idealize.ShloMosaic.TcCoe Idealize.SL.Sem
open Idealize.ShloMosaic.Pipeline (Dat Cfg Window)

/-- There is a row with the number. -/
def there (c : BitVec 32) : BitVec 1 := IntOp.andi (IntOp.cmpi .sge c 0#32) (IntOp.cmpi .slt c 4608#32)
theorem pay1_at (v : Vec Ideal S4608x1 .i32) (x : Vec Ideal S4608x1280 .fp8e4m3) (k : Fin 1280) (n : Fin 4608) :
    k0_pay1 v x (ix2 k n) = (Scalar.select (there (v (ix2 n 0))) (x (ix2 n k) : EReal) (0 : EReal) : EReal) := by
  pointwise [k0_pay1, there]

variable (m : (ℓ : Loc nD τ sig) → Buf (Elt Ideal) ℓ) (ρ : Dev nD → PrngReg)
abbrev colsAt (c : Dev nD) : Vec Ideal S4608x1 .i32 := m ((c : Thread nD τ).loc main_arg0)
abbrev rowsAt (c : Dev nD) : Vec Ideal S4608x1280 .fp8e4m3 := m ((c : Thread nD τ).loc main_arg1)
abbrev gatAt (c : Dev nD) := arrT (colsAt m c) (rowsAt m c)

theorem there_lt (c : BitVec 32) (h : c.toNat < 4608) : there c = 1#1 := by
  have e : c.toInt = c.toNat := BitVec.toInt_eq_toNat_of_lt (by omega)
  have h1 : (0#32).sle c = true := by rw [BitVec.sle, decide_eq_true_iff, e]; simp
  have h2 : c.slt 4608#32 = true := by
    rw [BitVec.slt, decide_eq_true_iff, e, show (4608#32 : BitVec 32).toInt = 4608 by decide]; omega
  simp [there, IntOp.cmpi, IntOp.andi, h1, h2]
theorem there_ge (c : BitVec 32) (h : ¬c.toNat < 4608) : there c ≠ 1#1 := by
  intro ht
  by_cases hs : c.toNat < 2 ^ 31
  · have e : c.toInt = c.toNat := BitVec.toInt_eq_toNat_of_lt (by omega)
    have h2 : c.slt 4608#32 = false := by
      rw [BitVec.slt, decide_eq_false_iff_not, e, show (4608#32 : BitVec 32).toInt = 4608 by decide]; omega
    simp [there, IntOp.cmpi, IntOp.andi, h2] at ht
  · have e : c.toInt = (c.toNat : Int) - 2 ^ 32 := by
      have := c.isLt
      rw [BitVec.toInt_eq_toNat_cond, if_neg (by omega)]; norm_num
    have h1 : (0#32).sle c = false := by
      have := c.isLt
      rw [BitVec.sle, decide_eq_false_iff_not, e, show (0#32 : BitVec 32).toInt = 0 by decide]; omega
    simp [there, IntOp.cmpi, IntOp.andi, h1] at ht

theorem zero2 : (![0, 0] : Fin 2 → Nat) = fun _ => 0 := funext fun a => by fin_cases a <;> rfl
theorem out2_eq (v : Vec Ideal S4608x1 .i32) (x : Vec Ideal S4608x1280 .fp8e4m3) : out0_2 v x = k0_pay1 v x := by
  unfold out0_2
  rw [View.canon_unit_zero zero2, View.ld_unit_zero zero2, View.ld_unit_zero zero2]

/-- The rows that the host gathers, a number with no row moved to the nearest that there is. -/
abbrev hostRows (C : Vec Ideal S4608x1 .i32) (X : Vec Ideal S4608x1280 .fp8e4m3) : Vec Ideal S4608x1280 .fp8e4m3 :=
  Host.gather gather_S4608x1280_S4608x1_S4608x1280_1_0_n_n_0_1_11280 X C
theorem pay1_rows (C : Vec Ideal S4608x1 .i32) (X : Vec Ideal S4608x1280 .fp8e4m3) : k0_pay1 C (hostRows C X) = arrT C X := by
  funext i
  refine (congrArg (k0_pay1 C (hostRows C X)) (show i = ix2 (i 0) (i 1) from funext fun x => by fin_cases x <;> rfl)).trans ?_
  refine (pay1_at C (hostRows C X) (i 0) (i 1)).trans ?_
  show _ = rowOf X (C (ix2 (i 1) 0)) (i 0)
  unfold rowOf Scalar.select
  by_cases h : (C (ix2 (i 1) 0) : BitVec 32).toNat < 4608
  · rw [dif_pos h]
    refine (if_pos (there_lt _ h)).trans ?_
    exact Routing.gather_row gather_S4608x1280_S4608x1_S4608x1280_1_0_n_n_0_1_11280 rfl rfl rfl rfl rfl X C (i 1) (i 0) ⟨_, h⟩
      (by rw [BitVec.ofNat_toNat, BitVec.setWidth_eq]; rfl) (by norm_num)
  · rw [dif_neg h]
    exact if_neg (there_ge _ h)

theorem V_rows (c : Dev nD) : V m c main_v0 = hostRows (colsAt m c) (rowsAt m c) := by
  unfold V
  simp only [hostOps0, List.flatten_cons, List.flatten_nil, List.append_nil, List.cons_append, List.nil_append, StableHlo.after_cons, StableHlo.after_nil]
  rfl
theorem blk0 (c : Dev nD) (t : Fin cfg0.N) : (iblk m c 0 t : Vec Ideal S4608x1 .i32) = colsAt m c := by
  funext i
  refine Eq.trans ?_ (congrFun (V_main_arg0 m c) i)
  unfold iblk
  rw [View.read_apply]
  show V m c main_arg0 _ = V m c main_arg0 _
  congr 1; funext x; apply Fin.ext
  fin_cases x
  · show 0 * 4608 + 1 * (i 0).val = (i 0).val; omega
  · show 0 * 1 + 1 * (i 1).val = (i 1).val; omega
theorem blk1 (c : Dev nD) (t : Fin cfg0.N) : (iblk m c 1 t : Vec Ideal S4608x1280 .fp8e4m3) = hostRows (colsAt m c) (rowsAt m c) := by
  funext i
  refine Eq.trans ?_ (congrFun (V_rows m c) i)
  unfold iblk
  rw [View.read_apply]
  show V m c main_v0 _ = V m c main_v0 _
  congr 1; funext x; apply Fin.ext
  fin_cases x
  · show 0 * 4608 + 1 * (i 0).val = (i 0).val; omega
  · show 0 * 1280 + 1 * (i 1).val = (i 1).val; omega

theorem flushed2 (c : Dev nD) (t : Fin cfg0.N) : (dats m 0 c).flushed 2 t = ((cfg0.win 2).blk t).view.read (Elt Ideal) (gatAt m c : Buf (Elt Ideal) ((c : Thread nD τ).loc main_v1)) := by
  show (cfg0.win 2).cut (grid0.coords t) ((dats m 0 c).after 2 t) = _
  rw [after0_2, out2_eq, blk0 m c t, blk1 m c t, pay1_rows]
  funext j
  rw [View.read_apply]
  refine congrArg (gatAt m c) (funext fun x => Fin.ext ?_)
  fin_cases x
  · show (j 0).val = 0 * 1280 + 1 * (j 0).val; omega
  · show (j 1).val = 0 * 4608 + 1 * (j 1).val; omega
theorem final2 (c : Dev nD) : (dats m 0 c).arrAt 2 cfg0.N = (gatAt m c : Buf (Elt Ideal) ((c : Thread nD τ).loc main_v1)) :=
  (dats m 0 c).arrAt_eq_of_cover 2 _ (fun t _ => flushed2 m c t) fun i => ⟨t0_0, flush0_2 _, by
    show i ∈ ((View.whole main_v1).slice (win0_2.rect t0_0)).set
    rw [View.set_slice_whole, Rect.mem_set_unit]
    intro a
    fin_cases a
    · show 0 * 1280 ≤ (i 0).val ∧ (i 0).val < 0 * 1280 + 1280
      have : (i 0).val < 1280 := (i 0).isLt
      omega
    · show 0 * 4608 ≤ (i 1).val ∧ (i 1).val < 0 * 4608 + 4608
      have : (i 1).val < 4608 := (i 1).isLt
      omega⟩

/-- The run: the result is the gathered codes, and the operands are unchanged. -/
theorem vals : θ_run defs (onTc (τ := τ) (main (F := Ideal))) ⟨m, fun _ => 0, ρ⟩ (fun r => ∀ c : Dev nD,
      r.2.mem ((c.tc : Thread nD τ).loc main_v1) = (gatAt m c : Buf (Elt Ideal) ((c.tc : Thread nD τ).loc main_v1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (final2 m c), h.2 c⟩)
    (θ_run_and (run_main m ρ) (frame_of m ρ (dats m) (A_eq m) (run_main m ρ)))

end Cert.GatherReferenceIdeal.Val

end
-- ==== Proof.GaAlg.lean ====
module

public import proofs.«01_k».proof.Defs
public import proofs.«01_k».proof.Proof.GaKer
public import proofs.«01_k».proof.Proof.GaRef

/-! # The gather kernel's result is its reference's -/

@[expose] public section

noncomputable section

namespace Cert.Proof

open Idealize.ShloMosaic Idealize.SL.Sem

theorem algebraic_gather : algebraic_GatherIdeal_GatherReferenceIdeal := by
  intro m g m' g' _ heq
  refine ⟨fun c => Cert.GatherIdeal.Val.gatAt m c, Cert.GatherIdeal.Val.vals m g, ?_⟩
  have hC : ∀ c, Cert.GatherReferenceIdeal.Val.gatAt m' c = Cert.GatherIdeal.Val.gatAt m c := fun c => by
    obtain ⟨h0, h1⟩ := heq c
    unfold Cert.GatherReferenceIdeal.Val.gatAt Cert.GatherIdeal.Val.gatAt Cert.GatherReferenceIdeal.Val.colsAt Cert.GatherIdeal.Val.colsAt Cert.GatherReferenceIdeal.Val.rowsAt Cert.GatherIdeal.Val.rowsAt
    rw [h0, h1]
  have h := Cert.GatherReferenceIdeal.Val.vals m' g'
  simp only [hC] at h
  exact h

end Cert.Proof

end
-- ==== Proof.LnSpec.lean ====
module

public import Idealize.ShloMosaic.Lib.Pointwise
public import Idealize.ShloMosaic.PureOps.Ideal

/-! # A token's layer norm and its fp8 codes, over the extended reals -/

@[expose] public section

noncomputable section

namespace Cert.LnSpec

open Idealize.ShloMosaic

/-- The mean of a token's 1280 features. -/
def meanOf (x : Fin 1280 → EReal) : EReal :=
  FloatOps.divf (F := Ideal) (φ := .f32) (∑ k, x k) (Scalar.ofBits (F := Ideal) .f32 0x44A00000#32)

/-- A feature less the mean. -/
def cenOf (x : Fin 1280 → EReal) (k : Fin 1280) : EReal := FloatOps.subf (F := Ideal) (φ := .f32) (x k) (meanOf x)

/-- The root of the variance and the epsilon. -/
def devOf (x : Fin 1280 → EReal) : EReal :=
  FloatOps.sqrt (F := Ideal) (φ := .f32) (FloatOps.addf (F := Ideal) (φ := .f32)
    (meanOf fun k => FloatOps.mulf (F := Ideal) (φ := .f32) (cenOf x k) (cenOf x k)) (Scalar.ofBits (F := Ideal) .f32 0x3727C5AC#32))

/-- The layer norm. -/
def normOf (x g b : Fin 1280 → EReal) (k : Fin 1280) : EReal :=
  FloatOps.addf (F := Ideal) (φ := .f32) (FloatOps.mulf (F := Ideal) (φ := .f32)
    (FloatOps.divf (F := Ideal) (φ := .f32) (cenOf x k) (devOf x)) (g k)) (b k)

/-- The largest magnitude of a token. -/
def topOf (v : Fin 1280 → EReal) : EReal :=
  (Finset.univ : Finset (Fin 1280)).fold max (FloatOps.ofBits (F := Ideal) .f32 0xFF800000#32) fun k => FloatOps.absf (F := Ideal) (φ := .f32) (v k)

/-- The scale of a token whose largest magnitude is `a`. -/
def scaleOf (a : EReal) : EReal :=
  Scalar.select (FloatOps.cmpf (F := Ideal) .oeq (φ := .f32) a (Scalar.ofBits (F := Ideal) .f32 0x00000000#32))
    (Scalar.ofBits (F := Ideal) .f32 0x3F800000#32) (FloatOps.divf (F := Ideal) (φ := .f32) a (Scalar.ofBits (F := Ideal) .f32 0x43E00000#32))

/-- A code. -/
def codeOf (v s : EReal) : EReal :=
  FloatOps.truncf (F := Ideal) .fp8e4m3 (by decide) (FloatOps.minimumf (F := Ideal) (φ := .f32) (Scalar.ofBits (F := Ideal) .f32 0x43E00000#32)
    (FloatOps.maximumf (F := Ideal) (φ := .f32) (Scalar.ofBits (F := Ideal) .f32 0xC3E00000#32) (FloatOps.divf (F := Ideal) (φ := .f32) v s)))

/-- A bf16 feature as an f32 value. -/
def wide (x : Ideal .bf16) : EReal := FloatOps.extf (F := Ideal) (φ := .bf16) .f32 (by decide) x

/-- The scale of token `r` of sequence `i`. -/
def sc (X : Vec Ideal ⟨3, ![3, 1500, 1280]⟩ .bf16) (G B : Vec Ideal ⟨1, ![1280]⟩ .f32) (i : Fin 3) (r : Fin 1500) : EReal :=
  scaleOf (topOf (normOf (fun k => wide (X (ix3 i r k))) (fun k => G (ix1 k)) fun k => B (ix1 k)))

/-- Its code of feature `k`. -/
def cd (X : Vec Ideal ⟨3, ![3, 1500, 1280]⟩ .bf16) (G B : Vec Ideal ⟨1, ![1280]⟩ .f32) (i : Fin 3) (r : Fin 1500) (k : Fin 1280) : EReal :=
  codeOf (normOf (fun k => wide (X (ix3 i r k))) (fun k => G (ix1 k)) (fun k => B (ix1 k)) k) (sc X G B i r)

/-- The two result arrays. -/
def arrC (X : Vec Ideal ⟨3, ![3, 1500, 1280]⟩ .bf16) (G B : Vec Ideal ⟨1, ![1280]⟩ .f32) : Vec Ideal ⟨3, ![3, 1500, 1280]⟩ .fp8e4m3 :=
  fun i => cd X G B (i 0) (i 1) (i 2)
def arrS (X : Vec Ideal ⟨3, ![3, 1500, 1280]⟩ .bf16) (G B : Vec Ideal ⟨1, ![1280]⟩ .f32) : Vec Ideal ⟨3, ![3, 1500, 1]⟩ .f32 :=
  fun i => sc X G B (i 0) (i 1)

end Cert.LnSpec

end
-- ==== Proof.LnKer.lean ====
module

public import proofs.«01_k».proof.Proof.LnSpec
public import proofs.«01_k».proof.Proof.Gen.LnIdeal.Frame
public import Idealize.ShloMosaic.Lib.Pointwise
public import Idealize.ShloMosaic.Lib.Pipeline.ValueKit.Geometry

/-! # The layer norm kernel: its result arrays -/

@[expose] public section

set_option maxRecDepth 16384

noncomputable section

namespace Cert.LnIdeal.Val

open Idealize.ShloMosaic Cert.LnIdeal Cert.LnIdeal.Gen Cert.LnSpec
open Idealize.ShloMosaic.TcCoe Idealize.SL.Sem
open Idealize.ShloMosaic.Pipeline (Dat Cfg Window)

variable {F : FTy → Type} [FloatOps F]

/-- A row's sum, over the features. -/
def sumFn (y : FVec F S1500x1280 .f32) : FVec F S1500 .f32 :=
  multiReduction .add [1] S1500 y 0x00000000#32 reduces_S1500x1280_S1500 (.inl rfl) rfl
def maxFn (y : FVec F S1500x1280 .f32) : FVec F S1500 .f32 :=
  multiReduction .maximumf [1] S1500 y 0xFF800000#32 reduces_S1500x1280_S1500 (.inl rfl) rfl
theorem sumFn_at (y : FVec Ideal S1500x1280 .f32) (r : Fin 1500) : sumFn y (ix1 r) = ∑ k : Fin 1280, y (ix2 r k) := by
  refine (Idealize.ShloMosaic.Ideal.multiReduction_add_single _ _ _ _ _ _).trans (Finset.sum_congr rfl fun k _ => ?_)
  exact congrArg y (funext fun b => by fin_cases b <;> rfl)
theorem maxFn_at (y : FVec Ideal S1500x1280 .f32) (r : Fin 1500) :
    maxFn y (ix1 r) = (Finset.univ : Finset (Fin 1280)).fold max (FloatOps.ofBits (F := Ideal) .f32 0xFF800000#32) fun k => y (ix2 r k) := by
  refine (Idealize.ShloMosaic.Ideal.multiReduction_maximumf_single _ _ _ _ _ _).trans ?_
  congr 1
  funext k
  exact congrArg y (funext fun b => by fin_cases b <;> rfl)

/-- The features of the block's tokens. -/
def inFn (X : Vec F S1x1500x1280 .bf16) : FVec F S1500x1280 .f32 := extf .f32 (shapeCast S1500x1280 X shapeCasts_S1x1500x1280_S1500x1280) bitsLt_bf16_f32
/-- The means, and what is left of the features. -/
def meanFn (s : FVec F S1500 .f32) : FVec F S1500x1 .f32 :=
  divf (shapeCast S1500x1 s shapeCasts_S1500_S1500x1) (broadcast S1500x1 (Scalar.ofBits .f32 0x44A00000#32))
def cenFn (x : FVec F S1500x1280 .f32) : FVec F S1500x1280 .f32 :=
  subf x (broadcastTo S1500x1280 (meanFn (sumFn x)) broadcasts_S1500x1_S1500x1280)
/-- The layer norm of centred features `c`, given the mean `q` of their squares. -/
def affFn (c : FVec F S1500x1280 .f32) (q : FVec F S1500x1 .f32) (g b : Vec F S1x1280 .f32) : FVec F S1500x1280 .f32 :=
  addf (mulf (divf c (broadcastTo S1500x1280 (sqrt (addf q (broadcast S1500x1 (Scalar.ofBits .f32 0x3727C5AC#32)))) broadcasts_S1500x1_S1500x1280))
    (broadcastTo S1500x1280 (shapeCast S1x1280 g shapeCasts_S1x1280_S1x1280) broadcasts_S1x1280_S1500x1280))
    (broadcastTo S1500x1280 (shapeCast S1x1280 b shapeCasts_S1x1280_S1x1280) broadcasts_S1x1280_S1500x1280)
def normFn (c : FVec F S1500x1280 .f32) (g b : Vec F S1x1280 .f32) : FVec F S1500x1280 .f32 := affFn c (meanFn (sumFn (mulf c c))) g b
theorem pay5_eq (X : Vec F S1x1500x1280 .bf16) (G B : Vec F S1x1280 .f32) : k0_pay5 X G B = normFn (cenFn (inFn X)) G B := rfl
/-- The scales, from the largest magnitudes. -/
def scaleFn (a : FVec F S1500x1 .f32) : FVec F S1500x1 .f32 :=
  select (cmpf .oeq a (broadcast S1500x1 (Scalar.ofBits .f32 0x00000000#32))) (broadcast S1500x1 (Scalar.ofBits .f32 0x3F800000#32))
    (divf a (broadcast S1500x1 (Scalar.ofBits .f32 0x43E00000#32)))
def colFn (s : FVec F S1500 .f32) : FVec F S1500x1 .f32 := shapeCast S1500x1 s shapeCasts_S1500_S1500x1
theorem pay6_eq (X : Vec F S1x1500x1280 .bf16) (G B : Vec F S1x1280 .f32) : k0_pay6 X G B = scaleFn (colFn (maxFn (absf (k0_pay5 X G B)))) := rfl
/-- The codes of values `v` at scales `s`. -/
def codeFn (v : FVec F S1500x1280 .f32) (s : FVec F S1500x1 .f32) : FVec F S1x1500x1280 .fp8e4m3 :=
  shapeCast S1x1500x1280 (truncf .fp8e4m3 (minimumf (broadcast S1500x1280 (Scalar.ofBits .f32 0x43E00000#32)) (maximumf (broadcast S1500x1280 (Scalar.ofBits .f32 0xC3E00000#32))
    (divf v (broadcastTo S1500x1280 s broadcasts_S1500x1_S1500x1280)))) bitsLt_fp8e4m3_f32) shapeCasts_S1500x1280_S1x1500x1280
theorem pay2_eq (X : Vec F S1x1500x1280 .bf16) (G B : Vec F S1x1280 .f32) :
    k0_pay2 (k0_pay7 X G B) k0_pay8 = codeFn (k0_pay5 X G B) (k0_pay6 X G B) := rfl

theorem inFn_at (X : Vec Ideal S1x1500x1280 .bf16) (r : Fin 1500) (k : Fin 1280) : inFn X (ix2 r k) = wide (X (ix3 0 r k)) := by
  pointwise [inFn, wide]
theorem meanFn_at (s : FVec Ideal S1500 .f32) (r : Fin 1500) (o : Fin 1) :
    meanFn s (ix2 r o) = FloatOps.divf (F := Ideal) (φ := .f32) (s (ix1 r)) (Scalar.ofBits (F := Ideal) .f32 0x44A00000#32) := by
  pointwise [meanFn]
theorem sub_at (x : FVec Ideal S1500x1280 .f32) (q : FVec Ideal S1500x1 .f32) (r : Fin 1500) (k : Fin 1280) :
    subf x (broadcastTo S1500x1280 q broadcasts_S1500x1_S1500x1280) (ix2 r k) = FloatOps.subf (F := Ideal) (φ := .f32) (x (ix2 r k)) (q (ix2 r 0)) := by
  pointwise
theorem cenFn_at (x : FVec Ideal S1500x1280 .f32) (r : Fin 1500) (k : Fin 1280) :
    cenFn x (ix2 r k) = cenOf (fun k => x (ix2 r k)) k := by
  unfold cenFn cenOf meanOf
  rw [sub_at, meanFn_at, sumFn_at]
theorem affFn_at (c : FVec Ideal S1500x1280 .f32) (q : FVec Ideal S1500x1 .f32) (g b : Vec Ideal S1x1280 .f32) (r : Fin 1500) (k : Fin 1280) :
    affFn c q g b (ix2 r k) = FloatOps.addf (F := Ideal) (φ := .f32) (FloatOps.mulf (F := Ideal) (φ := .f32) (FloatOps.divf (F := Ideal) (φ := .f32) (c (ix2 r k))
      (FloatOps.sqrt (F := Ideal) (φ := .f32) (FloatOps.addf (F := Ideal) (φ := .f32) (q (ix2 r 0)) (Scalar.ofBits (F := Ideal) .f32 0x3727C5AC#32))))
      (g (ix2 0 k))) (b (ix2 0 k)) := by
  pointwise [affFn]
theorem sq_at (c : FVec Ideal S1500x1280 .f32) (i : S1500x1280.Idx) : mulf c c i = FloatOps.mulf (F := Ideal) (φ := .f32) (c i) (c i) := rfl
theorem pay5_at (X : Vec Ideal S1x1500x1280 .bf16) (G B : Vec Ideal S1x1280 .f32) (r : Fin 1500) (k : Fin 1280) :
    k0_pay5 X G B (ix2 r k) = normOf (fun k => wide (X (ix3 0 r k))) (fun k => G (ix2 0 k)) (fun k => B (ix2 0 k)) k := by
  rw [pay5_eq, normFn, affFn_at, meanFn_at, sumFn_at]
  simp only [sq_at, cenFn_at, inFn_at]
  unfold normOf devOf meanOf
  rfl
theorem scaleFn_at (v : FVec Ideal S1500x1 .f32) (i : S1500x1.Idx) : scaleFn v i = scaleOf (v i) := rfl
theorem colFn_at (v : FVec Ideal S1500 .f32) (r : Fin 1500) (o : Fin 1) : colFn v (ix2 r o) = v (ix1 r) := by
  pointwise [colFn]
theorem absf_at (v : FVec Ideal S1500x1280 .f32) (i : S1500x1280.Idx) : absf v i = FloatOps.absf (F := Ideal) (φ := .f32) (v i) := rfl
theorem pay6_at (X : Vec Ideal S1x1500x1280 .bf16) (G B : Vec Ideal S1x1280 .f32) (r : Fin 1500) (o : Fin 1) :
    k0_pay6 X G B (ix2 r o) = scaleOf (topOf (normOf (fun k => wide (X (ix3 0 r k))) (fun k => G (ix2 0 k)) fun k => B (ix2 0 k))) := by
  rw [pay6_eq, scaleFn_at, colFn_at, maxFn_at]
  simp only [absf_at, pay5_at]
  unfold topOf
  rfl
theorem codeFn_at (v : FVec Ideal S1500x1280 .f32) (s : FVec Ideal S1500x1 .f32) (o : Fin 1) (r : Fin 1500) (k : Fin 1280) :
    codeFn v s (ix3 o r k) = codeOf (v (ix2 r k)) (s (ix2 r 0)) := by
  pointwise [codeFn, codeOf]
theorem pay3_at (v : FVec Ideal S1500x1 .f32) (o : Fin 1) (r : Fin 1500) (p : Fin 1) : k0_pay3 v (ix3 o r p) = v (ix2 r p) := by
  obtain rfl : p = 0 := Subsingleton.elim _ _
  pointwise [k0_pay3]

end Cert.LnIdeal.Val

end
-- ==== Proof.LnKerArr.lean ====
module

public import proofs.«01_k».proof.Proof.LnKer
public import Idealize.ShloMosaic.Lib.WholeRead
public import Idealize.ShloMosaic.Lib.Pipeline.ValueKit.Geometry

/-! # The layer norm kernel: what its points leave in the two results -/

@[expose] public section

set_option maxRecDepth 16384

noncomputable section

namespace Cert.LnIdeal.Val

open Cert.LnIdeal Cert.LnIdeal.Gen Idealize.ShloMosaic Cert.LnSpec
open Idealize.ShloMosaic.TcCoe Idealize.SL.Sem
open Idealize.ShloMosaic.Pipeline (Dat Cfg Window)

theorem zero3 : (![0, 0, 0] : Fin 3 → Nat) = fun _ => 0 := funext fun a => by fin_cases a <;> rfl
theorem zero2 : (![0, 0] : Fin 2 → Nat) = fun _ => 0 := funext fun a => by fin_cases a <;> rfl

section
variable {F : FTy → Type} [FloatOps F]
variable (c : Dev nD) (i : grid0.Coords) (arg1 : Memref sig .tc .vmem S1x1500x1280 .bf16) (harg1 : arg1.IsWhole) (arg2 : Memref sig .tc .vmem S1x1280 .f32) (harg2 : arg2.IsWhole) (arg3 : Memref sig .tc .vmem S1x1280 .f32) (harg3 : arg3.IsWhole)
  (arg4 : Memref sig .tc .vmem S1x1500x1280 .fp8e4m3) (harg4 : arg4.IsWhole) (arg5 : Memref sig .tc .vmem S1x1500x1 .f32) (harg5 : arg5.IsWhole) (arg6 : Memref sig .tc .vmem S1536x1280 .fp8e4m3) (harg6 : arg6.IsWhole)
  (x0 : Vec F S1x1500x1280 .bf16) (x1 x2 : Vec F S1x1280 .f32)

/-- The values that the body loads, and its stores into the two results. -/
theorem run3 : (kernelRun0_A c i arg1 harg1 arg2 harg2 arg3 harg3 arg4 harg4 arg5 harg5 arg6 harg6 x0 x1 x2).1 = [⟨Rect.unit (s := S1x1500x1280) ![0, 0, 0] S1x1500x1280.size inb_S1x1500x1280_S1x1500x1280_0_0_0, k0_pay2 (k0_pay7 (View.readAt (Elt F) arg1.view (Rect.unit (s := S1x1500x1280) ![0, 0, 0] S1x1500x1280.size inb_S1x1500x1280_S1x1500x1280_0_0_0).toLoadRect (harg1.unread x0)) (View.readAt (Elt F) arg2.view (Rect.unit (s := S1x1280) ![0, 0] S1x1280.size inb_S1x1280_S1x1280_0_0).toLoadRect (harg2.unread x1)) (View.readAt (Elt F) arg3.view (Rect.unit (s := S1x1280) ![0, 0] S1x1280.size inb_S1x1280_S1x1280_0_0).toLoadRect (harg3.unread x2))) k0_pay8⟩] := rfl
theorem run4 : (kernelRun0_A c i arg1 harg1 arg2 harg2 arg3 harg3 arg4 harg4 arg5 harg5 arg6 harg6 x0 x1 x2).2.1 = [⟨Rect.unit (s := S1x1500x1) ![0, 0, 0] S1x1500x1.size inb_S1x1500x1_S1x1500x1_0_0_0, k0_pay3 (k0_pay6 (View.readAt (Elt F) arg1.view (Rect.unit (s := S1x1500x1280) ![0, 0, 0] S1x1500x1280.size inb_S1x1500x1280_S1x1500x1280_0_0_0).toLoadRect (harg1.unread x0)) (View.readAt (Elt F) arg2.view (Rect.unit (s := S1x1280) ![0, 0] S1x1280.size inb_S1x1280_S1x1280_0_0).toLoadRect (harg2.unread x1)) (View.readAt (Elt F) arg3.view (Rect.unit (s := S1x1280) ![0, 0] S1x1280.size inb_S1x1280_S1x1280_0_0).toLoadRect (harg3.unread x2)))⟩] := rfl
end

/-- A load of a whole operand. -/
theorem wholeX {e : EltTy} {S : Shape} (a : Memref sig .tc .vmem S e) (h : a.IsWhole) (X : Vec Ideal S e) {off : Fin S.rank → Nat} (h0 : off = fun _ => 0)
    (inb : ∀ x, off x + S.size x ≤ S.size x) :
    View.readAt (Elt Ideal) a.view (Rect.unit (s := S) off S.size inb).toLoadRect (h.unread X) = X := by
  subst h0
  funext j
  refine (h.readAt_unread X _ _).trans (congrArg X (funext fun x => Fin.ext ((ValueKit.rect_emb_unit_val _ _ _ _ _).trans ?_)))
  exact Nat.zero_add _

section
variable (c : Dev nD) (i : grid0.Coords) (arg1 : Memref sig .tc .vmem S1x1500x1280 .bf16) (harg1 : arg1.IsWhole) (arg2 : Memref sig .tc .vmem S1x1280 .f32) (harg2 : arg2.IsWhole) (arg3 : Memref sig .tc .vmem S1x1280 .f32) (harg3 : arg3.IsWhole)
  (arg4 : Memref sig .tc .vmem S1x1500x1280 .fp8e4m3) (harg4 : arg4.IsWhole) (arg5 : Memref sig .tc .vmem S1x1500x1 .f32) (harg5 : arg5.IsWhole) (arg6 : Memref sig .tc .vmem S1536x1280 .fp8e4m3) (harg6 : arg6.IsWhole)
  (x0 : Vec Ideal S1x1500x1280 .bf16) (x1 x2 : Vec Ideal S1x1280 .f32)

theorem out3_eq : out0_A_3 c i arg1 harg1 arg2 harg2 arg3 harg3 arg4 harg4 arg5 harg5 arg6 harg6 x0 x1 x2 = k0_pay2 (k0_pay7 x0 x1 x2) k0_pay8 := by
  unfold out0_A_3
  rw [run3, View.read_writes_junk_eq_canon, View.canon_unit_zero zero3, wholeX arg1 harg1 x0 zero3, wholeX arg2 harg2 x1 zero2, wholeX arg3 harg3 x2 zero2]
theorem out4_eq : out0_A_4 c i arg1 harg1 arg2 harg2 arg3 harg3 arg4 harg4 arg5 harg5 arg6 harg6 x0 x1 x2 = k0_pay3 (k0_pay6 x0 x1 x2) := by
  unfold out0_A_4
  rw [run4, View.read_writes_junk_eq_canon, View.canon_unit_zero zero3, wholeX arg1 harg1 x0 zero3, wholeX arg2 harg2 x1 zero2, wholeX arg3 harg3 x2 zero2]
end

variable (m : (ℓ : Loc nD τ sig) → Buf (Elt Ideal) ℓ) (ρ : Dev nD → PrngReg)

theorem tr0 : ∀ i : grid0.Coords, cc0_transform_0 i = ![(i 0).val, 0, 0] := by decide +kernel
theorem tr1 : ∀ i : grid0.Coords, cc0_transform_1 i = ![0, 0] := by decide +kernel
theorem tr2 : ∀ i : grid0.Coords, cc0_transform_2 i = ![0, 0] := by decide +kernel
theorem tr3 : ∀ i : grid0.Coords, cc0_transform_3 i = ![(i 0).val, 0, 0] := by decide +kernel
theorem tr4 : ∀ i : grid0.Coords, cc0_transform_4 i = ![(i 0).val, 0, 0] := by decide +kernel
theorem coords_at : ∀ t : Fin grid0.N, (grid0.coords t 0).val = t.val := by decide +kernel

/-- The point that takes a clip. -/
def ptOf (b : Fin 3) : Fin cfg0.N := ⟨b.val, by have : cfg0.N = 3 := by decide +kernel
                                                omega⟩
theorem ptOf_b (b : Fin 3) : (grid0.coords (ptOf b) 0).val = b.val := coords_at _
/-- The clip that a point takes. -/
def bOf (t : Fin cfg0.N) : Fin 3 := ⟨(grid0.coords t 0).val, (grid0.coords t 0).isLt⟩

/-- The gain and the offset, as the kernel takes them. -/
theorem V_v0 (c : Dev nD) (k : Fin 1280) : (V m c main_v0 : Vec Ideal S1x1280 .f32) (ix2 0 k) = (m ((c : Thread nD τ).loc main_arg1) : Vec Ideal S1280 .f32) (ix1 k) := by
  have e : V m c main_v0 = broadcastInDim S1x1280 ![1] bcast_S1280_S1x1280_1 (m ((c : Thread nD τ).loc main_arg1) : Vec Ideal S1280 .f32) := rfl
  rw [e]
  pointwise
theorem V_v1 (c : Dev nD) (k : Fin 1280) : (V m c main_v1 : Vec Ideal S1x1280 .f32) (ix2 0 k) = (m ((c : Thread nD τ).loc main_arg2) : Vec Ideal S1280 .f32) (ix1 k) := by
  have e : V m c main_v1 = broadcastInDim S1x1280 ![1] bcast_S1280_S1x1280_1 (m ((c : Thread nD τ).loc main_arg2) : Vec Ideal S1280 .f32) := rfl
  rw [e]
  pointwise

theorem iw0 (c : Dev nD) (t : Fin cfg0.N) (r : Fin 1500) (k : Fin 1280) :
    (iblk m c 0 t : Vec Ideal S1x1500x1280 .bf16) (ix3 0 r k) = (m ((c : Thread nD τ).loc main_arg0) : Vec Ideal S3x1500x1280 .bf16) (ix3 (bOf t) r k) := by
  rw [← V_main_arg0 m c]
  unfold iblk
  rw [View.read_apply]
  show V m c main_arg0 _ = V m c main_arg0 _
  congr 1; funext x; apply Fin.ext
  fin_cases x
  · show cc0_transform_0 (grid0.coords t) 0 * 1 + 1 * 0 = (grid0.coords t 0).val
    rw [tr0]; show (grid0.coords t 0).val * 1 + 1 * 0 = _; omega
  · show cc0_transform_0 (grid0.coords t) 1 * 1500 + 1 * r.val = r.val
    rw [tr0]; show 0 * 1500 + 1 * r.val = _; omega
  · show cc0_transform_0 (grid0.coords t) 2 * 1280 + 1 * k.val = k.val
    rw [tr0]; show 0 * 1280 + 1 * k.val = _; omega
theorem iw1 (c : Dev nD) (t : Fin cfg0.N) (k : Fin 1280) :
    (iblk m c 1 t : Vec Ideal S1x1280 .f32) (ix2 0 k) = (m ((c : Thread nD τ).loc main_arg1) : Vec Ideal S1280 .f32) (ix1 k) := by
  rw [← V_v0 m c]
  unfold iblk
  rw [View.read_apply]
  show V m c main_v0 _ = V m c main_v0 _
  congr 1; funext x; apply Fin.ext
  fin_cases x
  · show cc0_transform_1 (grid0.coords t) 0 * 1 + 1 * 0 = 0
    rw [tr1]; rfl
  · show cc0_transform_1 (grid0.coords t) 1 * 1280 + 1 * k.val = k.val
    rw [tr1]; show 0 * 1280 + 1 * k.val = _; omega
theorem iw2 (c : Dev nD) (t : Fin cfg0.N) (k : Fin 1280) :
    (iblk m c 2 t : Vec Ideal S1x1280 .f32) (ix2 0 k) = (m ((c : Thread nD τ).loc main_arg2) : Vec Ideal S1280 .f32) (ix1 k) := by
  rw [← V_v1 m c]
  unfold iblk
  rw [View.read_apply]
  show V m c main_v1 _ = V m c main_v1 _
  congr 1; funext x; apply Fin.ext
  fin_cases x
  · show cc0_transform_2 (grid0.coords t) 0 * 1 + 1 * 0 = 0
    rw [tr2]; rfl
  · show cc0_transform_2 (grid0.coords t) 1 * 1280 + 1 * k.val = k.val
    rw [tr2]; show 0 * 1280 + 1 * k.val = _; omega

/-- The codes and the scales of the operands in core `c`'s memory. -/
abbrev codesAt (c : Dev nD) := arrC (m ((c : Thread nD τ).loc main_arg0)) (m ((c : Thread nD τ).loc main_arg1)) (m ((c : Thread nD τ).loc main_arg2))
abbrev scalesAt (c : Dev nD) := arrS (m ((c : Thread nD τ).loc main_arg0)) (m ((c : Thread nD τ).loc main_arg1)) (m ((c : Thread nD τ).loc main_arg2))

/-- A point's norms, scales and codes are its clip's. -/
theorem norm_pt (c : Dev nD) (t : Fin cfg0.N) (r : Fin 1500) :
    normOf (fun k => wide ((iblk m c 0 t : Vec Ideal S1x1500x1280 .bf16) (ix3 0 r k))) (fun k => (iblk m c 1 t : Vec Ideal S1x1280 .f32) (ix2 0 k)) (fun k => (iblk m c 2 t : Vec Ideal S1x1280 .f32) (ix2 0 k))
      = normOf (fun k => wide ((m ((c : Thread nD τ).loc main_arg0) : Vec Ideal S3x1500x1280 .bf16) (ix3 (bOf t) r k)))
          (fun k => (m ((c : Thread nD τ).loc main_arg1) : Vec Ideal S1280 .f32) (ix1 k)) (fun k => (m ((c : Thread nD τ).loc main_arg2) : Vec Ideal S1280 .f32) (ix1 k)) := by
  rw [funext fun k => congrArg wide (iw0 m c t r k), funext (iw1 m c t), funext (iw2 m c t)]
theorem scale_pt (c : Dev nD) (t : Fin cfg0.N) (r : Fin 1500) (o : Fin 1) :
    k0_pay6 (F := Ideal) (iblk m c 0 t) (iblk m c 1 t) (iblk m c 2 t) (ix2 r o) = sc (m ((c : Thread nD τ).loc main_arg0)) (m ((c : Thread nD τ).loc main_arg1)) (m ((c : Thread nD τ).loc main_arg2)) (bOf t) r := by
  refine (pay6_at _ _ _ r o).trans ?_
  rw [norm_pt]
  rfl
theorem scale_pt3 (c : Dev nD) (t : Fin cfg0.N) (o : Fin 1) (r : Fin 1500) (p : Fin 1) :
    k0_pay3 (k0_pay6 (F := Ideal) (iblk m c 0 t) (iblk m c 1 t) (iblk m c 2 t)) (ix3 o r p) = sc (m ((c : Thread nD τ).loc main_arg0)) (m ((c : Thread nD τ).loc main_arg1)) (m ((c : Thread nD τ).loc main_arg2)) (bOf t) r := by
  rw [pay3_at, scale_pt]
theorem code_pt (c : Dev nD) (t : Fin cfg0.N) (o : Fin 1) (r : Fin 1500) (k : Fin 1280) :
    k0_pay2 (k0_pay7 (F := Ideal) (iblk m c 0 t) (iblk m c 1 t) (iblk m c 2 t)) k0_pay8 (ix3 o r k) = cd (m ((c : Thread nD τ).loc main_arg0)) (m ((c : Thread nD τ).loc main_arg1)) (m ((c : Thread nD τ).loc main_arg2)) (bOf t) r k := by
  rw [pay2_eq, codeFn_at, scale_pt]
  refine (congrArg (codeOf · _) ((pay5_at _ _ _ r k).trans (congrFun (norm_pt m c t r) k))).trans ?_
  rfl

theorem arrC_congr (X : Vec Ideal S3x1500x1280 .bf16) (G B : Vec Ideal S1280 .f32) {i j : (⟨3, ![3, 1500, 1280]⟩ : Shape).Idx} (h : ∀ a, (i a).val = (j a).val) :
    arrC X G B i = arrC X G B j := congrArg _ (funext fun a => Fin.ext (h a))
theorem arrS_congr (X : Vec Ideal S3x1500x1280 .bf16) (G B : Vec Ideal S1280 .f32) {i j : (⟨3, ![3, 1500, 1]⟩ : Shape).Idx} (h : ∀ a, (i a).val = (j a).val) :
    arrS X G B i = arrS X G B j := congrArg _ (funext fun a => Fin.ext (h a))

theorem flushed3 (c : Dev nD) (t : Fin cfg0.N) : (dats m 0 c).flushed 3 t = ((cfg0.win 3).blk t).view.read (Elt Ideal) (codesAt m c : Buf (Elt Ideal) ((c : Thread nD τ).loc main_v2_0)) := by
  show (cfg0.win 3).cut (grid0.coords t) ((dats m 0 c).after 3 t) = _
  rw [after0_3]
  unfold outsAt0
  rw [out3_eq]
  funext j
  rw [View.read_apply]
  have hj : (j 0).val = 0 := by have : (j 0).val < 1 := (j 0).isLt; omega
  have e : ∀ i : S1x1500x1280.Idx, i = ix3 (i 0) (i 1) (i 2) := fun i => funext fun x => by fin_cases x <;> rfl
  refine (congrArg (k0_pay2 (k0_pay7 (F := Ideal) (iblk m c 0 t) (iblk m c 1 t) (iblk m c 2 t)) k0_pay8) (e j)).trans ((code_pt m c t (j 0) (j 1) (j 2)).trans ?_)
  refine arrC_congr _ _ _ (i := ix3 (bOf t) (j 1) (j 2)) fun x => ?_
  fin_cases x
  · show (grid0.coords t 0).val = cc0_transform_3 (grid0.coords t) 0 * 1 + 1 * (j 0).val
    rw [tr3, hj]; show _ = (grid0.coords t 0).val * 1 + 1 * 0; omega
  · show (j 1).val = cc0_transform_3 (grid0.coords t) 1 * 1500 + 1 * (j 1).val
    rw [tr3]; show _ = 0 * 1500 + 1 * (j 1).val; omega
  · show (j 2).val = cc0_transform_3 (grid0.coords t) 2 * 1280 + 1 * (j 2).val
    rw [tr3]; show _ = 0 * 1280 + 1 * (j 2).val; omega
theorem cover3 (i : (⟨3, ![3, 1500, 1280]⟩ : Shape).Idx) : ∃ t : Fin cfg0.N, (cfg0.win 3).flush t = true ∧ i ∈ ((cfg0.win 3).blk t).view.set := by
  have h0 : (i 0).val < 3 := (i 0).isLt
  refine ⟨ptOf ⟨(i 0).val, h0⟩, flush0_3 _, ?_⟩
  show i ∈ ((View.whole main_v2_0).slice (win0_3.rect (ptOf ⟨(i 0).val, h0⟩))).set
  rw [View.set_slice_whole, Rect.mem_set_unit]
  have hl : (grid0.coords (ptOf ⟨(i 0).val, h0⟩) 0).val = (i 0).val := ptOf_b _
  intro a
  show cc0_transform_3 (grid0.coords (ptOf ⟨(i 0).val, h0⟩)) a * S1x1500x1280.size a ≤ (i a).val
    ∧ (i a).val < cc0_transform_3 (grid0.coords (ptOf ⟨(i 0).val, h0⟩)) a * S1x1500x1280.size a + S1x1500x1280.size a
  rw [tr3]
  fin_cases a
  · show (grid0.coords (ptOf ⟨(i 0).val, h0⟩) 0).val * 1 ≤ (i 0).val ∧ (i 0).val < (grid0.coords (ptOf ⟨(i 0).val, h0⟩) 0).val * 1 + 1
    omega
  · have := (i 1).isLt
    exact ⟨Nat.zero_le _, lt_of_lt_of_le this (Nat.le_add_left _ _)⟩
  · have := (i 2).isLt
    exact ⟨Nat.zero_le _, lt_of_lt_of_le this (Nat.le_add_left _ _)⟩
theorem final3 (c : Dev nD) : (dats m 0 c).arrAt 3 cfg0.N = (codesAt m c : Buf (Elt Ideal) ((c : Thread nD τ).loc main_v2_0)) :=
  (dats m 0 c).arrAt_eq_of_cover 3 _ (fun t _ => flushed3 m c t) fun i => cover3 i

theorem outs4 (c : Dev nD) (t : Fin cfg0.N) : (outsAt0 m c t).2.1 = k0_pay3 (k0_pay6 (F := Ideal) (iblk m c 0 t) (iblk m c 1 t) (iblk m c 2 t)) := by
  unfold outsAt0
  dsimp only
  rw [out4_eq]
theorem after4 (c : Dev nD) (t : Fin cfg0.N) : (dats m 0 c).after 4 t = k0_pay3 (k0_pay6 (F := Ideal) (iblk m c 0 t) (iblk m c 1 t) (iblk m c 2 t)) := by
  rw [after0_4, outs4]
theorem flushed4 (c : Dev nD) (t : Fin cfg0.N) : (dats m 0 c).flushed 4 t = ((cfg0.win 4).blk t).view.read (Elt Ideal) (scalesAt m c : Buf (Elt Ideal) ((c : Thread nD τ).loc main_v2_1)) := by
  show (cfg0.win 4).cut (grid0.coords t) ((dats m 0 c).after 4 t) = _
  rw [after4]
  funext j
  rw [View.read_apply]
  have hj : (j 0).val = 0 := by have : (j 0).val < 1 := (j 0).isLt; omega
  have e : ∀ i : S1x1500x1.Idx, i = ix3 (i 0) (i 1) (i 2) := fun i => funext fun x => by fin_cases x <;> rfl
  have h : ∀ i : S1x1500x1.Idx, k0_pay3 (k0_pay6 (F := Ideal) (iblk m c 0 t) (iblk m c 1 t) (iblk m c 2 t)) i = arrS (m ((c : Thread nD τ).loc main_arg0)) (m ((c : Thread nD τ).loc main_arg1)) (m ((c : Thread nD τ).loc main_arg2)) (ix3 (bOf t) (i 1) (i 2)) := fun i => by
    refine (congrArg _ (e i)).trans ((scale_pt3 m c t (i 0) (i 1) (i 2)).trans ?_)
    rfl
  rw [Pipeline.Window.cut_apply]
  refine (h _).trans ?_
  refine arrS_congr _ _ _ (i := ix3 (bOf t) (j 1) (j 2)) fun x => ?_
  fin_cases x
  · show (grid0.coords t 0).val = cc0_transform_4 (grid0.coords t) 0 * 1 + 1 * (j 0).val
    rw [tr4, hj]; show _ = (grid0.coords t 0).val * 1 + 1 * 0; omega
  · show (j 1).val = cc0_transform_4 (grid0.coords t) 1 * 1500 + 1 * (j 1).val
    rw [tr4]; show _ = 0 * 1500 + 1 * (j 1).val; omega
  · show (j 2).val = cc0_transform_4 (grid0.coords t) 2 * 1 + 1 * (j 2).val
    rw [tr4]; show _ = 0 * 1 + 1 * (j 2).val; omega
theorem cover4 (i : (⟨3, ![3, 1500, 1]⟩ : Shape).Idx) : ∃ t : Fin cfg0.N, (cfg0.win 4).flush t = true ∧ i ∈ ((cfg0.win 4).blk t).view.set := by
  have h0 : (i 0).val < 3 := (i 0).isLt
  refine ⟨ptOf ⟨(i 0).val, h0⟩, flush0_4 _, ?_⟩
  show i ∈ ((View.whole main_v2_1).slice (win0_4.rect (ptOf ⟨(i 0).val, h0⟩))).set
  rw [View.set_slice_whole, Rect.mem_set_unit]
  have hl : (grid0.coords (ptOf ⟨(i 0).val, h0⟩) 0).val = (i 0).val := ptOf_b _
  intro a
  show cc0_transform_4 (grid0.coords (ptOf ⟨(i 0).val, h0⟩)) a * S1x1500x1.size a ≤ (i a).val
    ∧ (i a).val < cc0_transform_4 (grid0.coords (ptOf ⟨(i 0).val, h0⟩)) a * S1x1500x1.size a + S1x1500x1.size a
  rw [tr4]
  fin_cases a
  · show (grid0.coords (ptOf ⟨(i 0).val, h0⟩) 0).val * 1 ≤ (i 0).val ∧ (i 0).val < (grid0.coords (ptOf ⟨(i 0).val, h0⟩) 0).val * 1 + 1
    omega
  · have := (i 1).isLt
    exact ⟨Nat.zero_le _, lt_of_lt_of_le this (Nat.le_add_left _ _)⟩
  · have := (i 2).isLt
    exact ⟨Nat.zero_le _, lt_of_lt_of_le this (Nat.le_add_left _ _)⟩
theorem final4 (c : Dev nD) : (dats m 0 c).arrAt 4 cfg0.N = (scalesAt m c : Buf (Elt Ideal) ((c : Thread nD τ).loc main_v2_1)) :=
  (dats m 0 c).arrAt_eq_of_cover 4 _ (fun t _ => flushed4 m c t) fun i => cover4 i

/-- The run: the results are the codes and the scales of the operands, and the operands are unchanged. -/
theorem vals : θ_run defs (onTc (τ := τ) (main (F := Ideal))) ⟨m, fun _ => 0, ρ⟩ (fun r => ∀ c : Dev nD,
      r.2.mem ((c.tc : Thread nD τ).loc main_v2_0) = (codesAt m c : Buf (Elt Ideal) ((c.tc : Thread nD τ).loc main_v2_0))
      ∧ r.2.mem ((c.tc : Thread nD τ).loc main_v2_1) = (scalesAt m c : Buf (Elt Ideal) ((c.tc : Thread nD τ).loc main_v2_1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (final3 m c), ((h.1 c).1 4).trans (final4 m c), h.2 c⟩)
    (θ_run_and (run_main m ρ) (frame_of m ρ (dats m) (A_eq m) (run_main m ρ)))

end Cert.LnIdeal.Val

end
-- ==== Proof.LnRef.lean ====
module

public import proofs.«01_k».proof.Proof.LnSpec
public import proofs.«01_k».proof.Proof.Gen.LnReferenceIdeal.Frame
public import Idealize.ShloMosaic.Lib.Pointwise
public import Idealize.ShloMosaic.Lib.Pipeline.ValueKit.Geometry

/-! # The reference of the layer norm: its result arrays -/

@[expose] public section

set_option maxRecDepth 16384

noncomputable section

namespace Cert.LnReferenceIdeal.Val

open Idealize.ShloMosaic Cert.LnReferenceIdeal Cert.LnReferenceIdeal.Gen Cert.LnSpec
open Idealize.ShloMosaic.TcCoe Idealize.SL.Sem
open Idealize.ShloMosaic.Pipeline (Dat Cfg Window)

variable {F : FTy → Type} [FloatOps F]

/-- A row's sum, over the features. -/
def sumFn (y : FVec F S3x1500x1280 .f32) : FVec F S3x1500 .f32 :=
  multiReduction .add [2] S3x1500 y 0x00000000#32 reduces_S3x1500x1280_S3x1500 (.inl rfl) rfl
def maxFn (y : FVec F S3x1500x1280 .f32) : FVec F S3x1500 .f32 :=
  multiReduction .maximumf [2] S3x1500 y 0xFF800000#32 reduces_S3x1500x1280_S3x1500 (.inl rfl) rfl
theorem sumFn_at (y : FVec Ideal S3x1500x1280 .f32) (i : Fin 3) (r : Fin 1500) : sumFn y (ix2 i r) = ∑ k : Fin 1280, y (ix3 i r k) := by
  refine (Idealize.ShloMosaic.Ideal.multiReduction_add_single _ _ _ _ _ _).trans (Finset.sum_congr rfl fun k _ => ?_)
  exact congrArg y (funext fun b => by fin_cases b <;> rfl)
theorem maxFn_at (y : FVec Ideal S3x1500x1280 .f32) (i : Fin 3) (r : Fin 1500) :
    maxFn y (ix2 i r) = (Finset.univ : Finset (Fin 1280)).fold max (FloatOps.ofBits (F := Ideal) .f32 0xFF800000#32) fun k => y (ix3 i r k) := by
  refine (Idealize.ShloMosaic.Ideal.multiReduction_maximumf_single _ _ _ _ _ _).trans ?_
  congr 1
  funext k
  exact congrArg y (funext fun b => by fin_cases b <;> rfl)

/-- The means, and what is left of the features. -/
def meanFn (s : FVec F S3x1500 .f32) : FVec F S3x1500x1 .f32 :=
  divf (shapeCast S3x1500x1 s shapeCasts_S3x1500_S3x1500x1) (broadcast S3x1500x1 (Scalar.ofBits .f32 0x44A00000#32))
def cenFn (x : FVec F S3x1500x1280 .f32) : FVec F S3x1500x1280 .f32 :=
  subf x (broadcastTo S3x1500x1280 (meanFn (sumFn x)) broadcasts_S3x1500x1_S3x1500x1280)
def normFn (c : FVec F S3x1500x1280 .f32) (g b : Vec F S1280 .f32) : FVec F S3x1500x1280 .f32 :=
  addf (mulf (divf c (broadcastTo S3x1500x1280 (sqrt (addf (meanFn (sumFn (mulf c c))) (broadcast S3x1500x1 (Scalar.ofBits .f32 0x3727C5AC#32)))) broadcasts_S3x1500x1_S3x1500x1280))
    (broadcastTo S3x1500x1280 (shapeCast S1x1x1280 g shapeCasts_S1280_S1x1x1280) broadcasts_S1x1x1280_S3x1500x1280))
    (broadcastTo S3x1500x1280 (shapeCast S1x1x1280 b shapeCasts_S1280_S1x1x1280) broadcasts_S1x1x1280_S3x1500x1280)

theorem pay2_eq (X : Vec F S3x1500x1280 .bf16) (G B : Vec F S1280 .f32) : k0_pay2 X G B = normFn (cenFn (extf .f32 X bitsLt_bf16_f32)) G B := rfl
def scaleFn (m : FVec F S3x1500 .f32) : FVec F S3x1500 .f32 :=
  select (cmpf .oeq m (broadcast S3x1500 (Scalar.ofBits .f32 0x00000000#32))) (broadcast S3x1500 (Scalar.ofBits .f32 0x3F800000#32))
    (divf m (broadcast S3x1500 (Scalar.ofBits .f32 0x43E00000#32)))
theorem pay3_eq (X : Vec F S3x1500x1280 .bf16) (G B : Vec F S1280 .f32) : k0_pay3 X G B = scaleFn (maxFn (absf (k0_pay2 X G B))) := rfl

theorem meanFn_at (s : FVec Ideal S3x1500 .f32) (i : Fin 3) (r : Fin 1500) (o : Fin 1) :
    meanFn s (ix3 i r o) = FloatOps.divf (F := Ideal) (φ := .f32) (s (ix2 i r)) (Scalar.ofBits (F := Ideal) .f32 0x44A00000#32) := by
  pointwise [meanFn]
theorem sub_at (x : FVec Ideal S3x1500x1280 .f32) (q : FVec Ideal S3x1500x1 .f32) (i : Fin 3) (r : Fin 1500) (k : Fin 1280) :
    subf x (broadcastTo S3x1500x1280 q broadcasts_S3x1500x1_S3x1500x1280) (ix3 i r k) = FloatOps.subf (F := Ideal) (φ := .f32) (x (ix3 i r k)) (q (ix3 i r 0)) := by
  pointwise
theorem cenFn_at (x : FVec Ideal S3x1500x1280 .f32) (i : Fin 3) (r : Fin 1500) (k : Fin 1280) :
    cenFn x (ix3 i r k) = cenOf (fun k => x (ix3 i r k)) k := by
  unfold cenFn cenOf meanOf
  rw [sub_at, meanFn_at, sumFn_at]

/-- The layer norm of centred features `c`, given the mean `q` of their squares. -/
def affFn (c : FVec F S3x1500x1280 .f32) (q : FVec F S3x1500x1 .f32) (g b : Vec F S1280 .f32) : FVec F S3x1500x1280 .f32 :=
  addf (mulf (divf c (broadcastTo S3x1500x1280 (sqrt (addf q (broadcast S3x1500x1 (Scalar.ofBits .f32 0x3727C5AC#32)))) broadcasts_S3x1500x1_S3x1500x1280))
    (broadcastTo S3x1500x1280 (shapeCast S1x1x1280 g shapeCasts_S1280_S1x1x1280) broadcasts_S1x1x1280_S3x1500x1280))
    (broadcastTo S3x1500x1280 (shapeCast S1x1x1280 b shapeCasts_S1280_S1x1x1280) broadcasts_S1x1x1280_S3x1500x1280)
theorem normFn_eq (c : FVec F S3x1500x1280 .f32) (g b : Vec F S1280 .f32) : normFn c g b = affFn c (meanFn (sumFn (mulf c c))) g b := rfl
theorem affFn_at (c : FVec Ideal S3x1500x1280 .f32) (q : FVec Ideal S3x1500x1 .f32) (g b : Vec Ideal S1280 .f32) (i : Fin 3) (r : Fin 1500) (k : Fin 1280) :
    affFn c q g b (ix3 i r k) = FloatOps.addf (F := Ideal) (φ := .f32) (FloatOps.mulf (F := Ideal) (φ := .f32) (FloatOps.divf (F := Ideal) (φ := .f32) (c (ix3 i r k))
      (FloatOps.sqrt (F := Ideal) (φ := .f32) (FloatOps.addf (F := Ideal) (φ := .f32) (q (ix3 i r 0)) (Scalar.ofBits (F := Ideal) .f32 0x3727C5AC#32))))
      (g (ix1 k))) (b (ix1 k)) := by
  pointwise [affFn]
theorem sq_at (c : FVec Ideal S3x1500x1280 .f32) (i : S3x1500x1280.Idx) : mulf c c i = FloatOps.mulf (F := Ideal) (φ := .f32) (c i) (c i) := rfl
theorem extf_at (X : Vec Ideal S3x1500x1280 .bf16) (i : S3x1500x1280.Idx) : extf (F := Ideal) .f32 X bitsLt_bf16_f32 i = wide (X i) := rfl
theorem pay2_at (X : Vec Ideal S3x1500x1280 .bf16) (G B : Vec Ideal S1280 .f32) (i : Fin 3) (r : Fin 1500) (k : Fin 1280) :
    k0_pay2 X G B (ix3 i r k) = normOf (fun k => wide (X (ix3 i r k))) (fun k => G (ix1 k)) (fun k => B (ix1 k)) k := by
  rw [pay2_eq, normFn_eq, affFn_at, meanFn_at, sumFn_at]
  simp only [sq_at, cenFn_at, extf_at]
  unfold normOf devOf meanOf
  rfl
theorem scaleFn_at (v : FVec Ideal S3x1500 .f32) (i : S3x1500.Idx) : scaleFn v i = scaleOf (v i) := rfl
theorem absf_at (v : FVec Ideal S3x1500x1280 .f32) (i : S3x1500x1280.Idx) : absf v i = FloatOps.absf (F := Ideal) (φ := .f32) (v i) := rfl
theorem pay3_at (X : Vec Ideal S3x1500x1280 .bf16) (G B : Vec Ideal S1280 .f32) (i : Fin 3) (r : Fin 1500) : k0_pay3 X G B (ix2 i r) = sc X G B i r := by
  rw [pay3_eq, scaleFn_at, maxFn_at]
  simp only [absf_at, pay2_at]
  unfold sc topOf
  rfl

/-- The codes of values `v` at scales `s`. -/
def codeFn (v : FVec F S3x1500x1280 .f32) (s : FVec F S3x1500 .f32) : FVec F S3x1500x1280 .fp8e4m3 :=
  truncf .fp8e4m3 (minimumf (broadcast S3x1500x1280 (Scalar.ofBits .f32 0x43E00000#32)) (maximumf (broadcast S3x1500x1280 (Scalar.ofBits .f32 0xC3E00000#32))
    (divf v (broadcastTo S3x1500x1280 (shapeCast S3x1500x1 s shapeCasts_S3x1500_S3x1500x1) broadcasts_S3x1500x1_S3x1500x1280)))) bitsLt_fp8e4m3_f32
theorem pay4_eq (X : Vec F S3x1500x1280 .bf16) (G B : Vec F S1280 .f32) : k0_pay4 X G B = codeFn (k0_pay2 X G B) (k0_pay3 X G B) := rfl
theorem codeFn_at (v : FVec Ideal S3x1500x1280 .f32) (s : FVec Ideal S3x1500 .f32) (i : Fin 3) (r : Fin 1500) (k : Fin 1280) :
    codeFn v s (ix3 i r k) = codeOf (v (ix3 i r k)) (s (ix2 i r)) := by
  pointwise [codeFn, codeOf]
theorem pay4_at (X : Vec Ideal S3x1500x1280 .bf16) (G B : Vec Ideal S1280 .f32) (i : Fin 3) (r : Fin 1500) (k : Fin 1280) :
    k0_pay4 X G B (ix3 i r k) = cd X G B i r k := by
  rw [pay4_eq, codeFn_at, pay2_at, pay3_at, cd]
theorem pay1_at (v : FVec Ideal S3x1500 .f32) (i : Fin 3) (r : Fin 1500) (o : Fin 1) : k0_pay1 v (ix3 i r o) = v (ix2 i r) := by
  pointwise [k0_pay1]

theorem zero3 : (![0, 0, 0] : Fin 3 → Nat) = fun _ => 0 := funext fun a => by fin_cases a <;> rfl
theorem zero1 : (![0] : Fin 1 → Nat) = fun _ => 0 := funext fun a => by fin_cases a <;> rfl

/-- What the body leaves in the codes' buffer, and in the scales'. -/
theorem out3_eq (X : Vec Ideal S3x1500x1280 .bf16) (G B : Vec Ideal S1280 .f32) : out0_3 X G B = arrC X G B := by
  unfold out0_3
  rw [View.canon_unit_zero zero3, View.ld_unit_zero zero3, View.ld_unit_zero zero1, View.ld_unit_zero zero1]
  funext i
  exact (congrArg _ (show i = ix3 (i 0) (i 1) (i 2) from funext fun x => by fin_cases x <;> rfl)).trans (pay4_at X G B (i 0) (i 1) (i 2))
theorem out4_eq (X : Vec Ideal S3x1500x1280 .bf16) (G B : Vec Ideal S1280 .f32) : out0_4 X G B = arrS X G B := by
  unfold out0_4
  rw [View.canon_unit_zero zero3, View.ld_unit_zero zero3, View.ld_unit_zero zero1, View.ld_unit_zero zero1]
  funext i
  exact (congrArg _ (show i = ix3 (i 0) (i 1) (i 2) from funext fun x => by fin_cases x <;> rfl)).trans
    ((pay1_at _ (i 0) (i 1) (i 2)).trans (pay3_at X G B (i 0) (i 1)))

variable (m : (ℓ : Loc nD τ sig) → Buf (Elt Ideal) ℓ) (ρ : Dev nD → PrngReg)

theorem blk0 (c : Dev nD) (t : Fin cfg0.N) : (iblk m c 0 t : Vec Ideal S3x1500x1280 .bf16) = V m c main_arg0 := by
  funext i
  unfold iblk
  rw [View.read_apply]
  show V m c main_arg0 _ = V m c main_arg0 _
  congr 1; funext x; apply Fin.ext
  fin_cases x
  · show 0 * 3 + 1 * (i 0).val = (i 0).val; omega
  · show 0 * 1500 + 1 * (i 1).val = (i 1).val; omega
  · show 0 * 1280 + 1 * (i 2).val = (i 2).val; omega
theorem blk1 (c : Dev nD) (t : Fin cfg0.N) : (iblk m c 1 t : Vec Ideal S1280 .f32) = V m c main_arg1 := by
  funext i
  unfold iblk
  rw [View.read_apply]
  show V m c main_arg1 _ = V m c main_arg1 _
  congr 1; funext x; apply Fin.ext
  fin_cases x
  show 0 * 1280 + 1 * (i 0).val = (i 0).val; omega
theorem blk2 (c : Dev nD) (t : Fin cfg0.N) : (iblk m c 2 t : Vec Ideal S1280 .f32) = V m c main_arg2 := by
  funext i
  unfold iblk
  rw [View.read_apply]
  show V m c main_arg2 _ = V m c main_arg2 _
  congr 1; funext x; apply Fin.ext
  fin_cases x
  show 0 * 1280 + 1 * (i 0).val = (i 0).val; omega

/-- The codes and the scales of the operands in core `c`'s memory. -/
abbrev codesAt (c : Dev nD) := arrC (m ((c : Thread nD τ).loc main_arg0)) (m ((c : Thread nD τ).loc main_arg1)) (m ((c : Thread nD τ).loc main_arg2))
abbrev scalesAt (c : Dev nD) := arrS (m ((c : Thread nD τ).loc main_arg0)) (m ((c : Thread nD τ).loc main_arg1)) (m ((c : Thread nD τ).loc main_arg2))

theorem flushed3 (c : Dev nD) (t : Fin cfg0.N) : (dats m 0 c).flushed 3 t = ((cfg0.win 3).blk t).view.read (Elt Ideal) (codesAt m c : Buf (Elt Ideal) ((c : Thread nD τ).loc main_v0_0)) := by
  show (cfg0.win 3).cut (grid0.coords t) ((dats m 0 c).after 3 t) = _
  rw [after0_3, out3_eq, blk0 m c t, blk1 m c t, blk2 m c t]
  funext j
  rw [View.read_apply]
  refine congrArg (codesAt m c) (funext fun x => Fin.ext ?_)
  fin_cases x
  · show (j 0).val = 0 * 3 + 1 * (j 0).val; omega
  · show (j 1).val = 0 * 1500 + 1 * (j 1).val; omega
  · show (j 2).val = 0 * 1280 + 1 * (j 2).val; omega
theorem flushed4 (c : Dev nD) (t : Fin cfg0.N) : (dats m 0 c).flushed 4 t = ((cfg0.win 4).blk t).view.read (Elt Ideal) (scalesAt m c : Buf (Elt Ideal) ((c : Thread nD τ).loc main_v0_1)) := by
  show (cfg0.win 4).cut (grid0.coords t) ((dats m 0 c).after 4 t) = _
  rw [after0_4, out4_eq, blk0 m c t, blk1 m c t, blk2 m c t]
  funext j
  rw [View.read_apply]
  refine congrArg (scalesAt m c) (funext fun x => Fin.ext ?_)
  fin_cases x
  · show (j 0).val = 0 * 3 + 1 * (j 0).val; omega
  · show (j 1).val = 0 * 1500 + 1 * (j 1).val; omega
  · show (j 2).val = 0 * 1 + 1 * (j 2).val; omega

theorem final3 (c : Dev nD) : (dats m 0 c).arrAt 3 cfg0.N = (codesAt m c : Buf (Elt Ideal) ((c : Thread nD τ).loc main_v0_0)) :=
  (dats m 0 c).arrAt_eq_of_cover 3 _ (fun t _ => flushed3 m c t) fun i => ⟨t0_0, flush0_3 _, by
    show i ∈ ((View.whole main_v0_0).slice (win0_3.rect t0_0)).set
    rw [View.set_slice_whole, Rect.mem_set_unit]
    intro a
    fin_cases a
    · show 0 * 3 ≤ (i 0).val ∧ (i 0).val < 0 * 3 + 3
      have : (i 0).val < 3 := (i 0).isLt
      omega
    · show 0 * 1500 ≤ (i 1).val ∧ (i 1).val < 0 * 1500 + 1500
      have : (i 1).val < 1500 := (i 1).isLt
      omega
    · show 0 * 1280 ≤ (i 2).val ∧ (i 2).val < 0 * 1280 + 1280
      have : (i 2).val < 1280 := (i 2).isLt
      omega⟩
theorem final4 (c : Dev nD) : (dats m 0 c).arrAt 4 cfg0.N = (scalesAt m c : Buf (Elt Ideal) ((c : Thread nD τ).loc main_v0_1)) :=
  (dats m 0 c).arrAt_eq_of_cover 4 _ (fun t _ => flushed4 m c t) fun i => ⟨t0_0, flush0_4 _, by
    show i ∈ ((View.whole main_v0_1).slice (win0_4.rect t0_0)).set
    rw [View.set_slice_whole, Rect.mem_set_unit]
    intro a
    fin_cases a
    · show 0 * 3 ≤ (i 0).val ∧ (i 0).val < 0 * 3 + 3
      have : (i 0).val < 3 := (i 0).isLt
      omega
    · show 0 * 1500 ≤ (i 1).val ∧ (i 1).val < 0 * 1500 + 1500
      have : (i 1).val < 1500 := (i 1).isLt
      omega
    · show 0 * 1 ≤ (i 2).val ∧ (i 2).val < 0 * 1 + 1
      have : (i 2).val < 1 := (i 2).isLt
      omega⟩

/-- The run: the results are the codes and the scales of the operands, and the operands are unchanged. -/
theorem vals : θ_run defs (onTc (τ := τ) (main (F := Ideal))) ⟨m, fun _ => 0, ρ⟩ (fun r => ∀ c : Dev nD,
      r.2.mem ((c.tc : Thread nD τ).loc main_v0_0) = (codesAt m c : Buf (Elt Ideal) ((c.tc : Thread nD τ).loc main_v0_0))
      ∧ r.2.mem ((c.tc : Thread nD τ).loc main_v0_1) = (scalesAt m c : Buf (Elt Ideal) ((c.tc : Thread nD τ).loc main_v0_1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (final3 m c), ((h.1 c).1 4).trans (final4 m c), h.2 c⟩)
    (θ_run_and (run_main m ρ) (frame_of m ρ (dats m) (A_eq m) (run_main m ρ)))

end Cert.LnReferenceIdeal.Val

end
-- ==== Proof.LnAlg.lean ====
module

public import proofs.«01_k».proof.Defs
public import proofs.«01_k».proof.Proof.LnKerArr
public import proofs.«01_k».proof.Proof.LnRef

/-! # The layer norm kernel's results are its reference's -/

@[expose] public section

noncomputable section

namespace Cert.Proof

open Idealize.ShloMosaic Idealize.SL.Sem

theorem algebraic_ln : algebraic_LnIdeal_LnReferenceIdeal := by
  intro m g m' g' _ heq
  refine ⟨fun c => Cert.LnIdeal.Val.codesAt m c, fun c => Cert.LnIdeal.Val.scalesAt m c, Cert.LnIdeal.Val.vals m g, ?_⟩
  have hC : ∀ c, Cert.LnReferenceIdeal.Val.codesAt m' c = Cert.LnIdeal.Val.codesAt m c := fun c => by
    obtain ⟨h0, h1, h2⟩ := heq c
    unfold Cert.LnReferenceIdeal.Val.codesAt Cert.LnIdeal.Val.codesAt
    rw [h0, h1, h2]
  have hS : ∀ c, Cert.LnReferenceIdeal.Val.scalesAt m' c = Cert.LnIdeal.Val.scalesAt m c := fun c => by
    obtain ⟨h0, h1, h2⟩ := heq c
    unfold Cert.LnReferenceIdeal.Val.scalesAt Cert.LnIdeal.Val.scalesAt
    rw [h0, h1, h2]
  have h := Cert.LnReferenceIdeal.Val.vals m' g'
  simp only [hC, hS] at h
  exact h

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelRun
public import proofs.«01_k».proof.Proof.Gen.Pre_scales_nonneg
public import proofs.«01_k».proof.Proof.K.KernelRun
public import proofs.«01_k».proof.Proof.Alg
public import proofs.«01_k».proof.Proof.GaAlg
public import proofs.«01_k».proof.Proof.LnAlg
public import proofs.«01_k».proof.Proof.Gen.Ln
public import proofs.«01_k».proof.Proof.Gen.Ln.Skeleton
public import proofs.«01_k».proof.Proof.Gen.Ln.Launch
public import proofs.«01_k».proof.Proof.Gen.Ln.Points
public import proofs.«01_k».proof.Proof.Gen.Ln.Frame
public import proofs.«01_k».proof.Proof.Gen.LnIdeal
public import proofs.«01_k».proof.Proof.Gen.LnIdeal.Skeleton
public import proofs.«01_k».proof.Proof.Gen.LnIdeal.Launch
public import proofs.«01_k».proof.Proof.Gen.LnIdeal.Points
public import proofs.«01_k».proof.Proof.Gen.LnIdeal.Frame
public import proofs.«01_k».proof.Proof.Gen.LnReferenceIdeal
public import proofs.«01_k».proof.Proof.Gen.LnReferenceIdeal.Skeleton
public import proofs.«01_k».proof.Proof.Gen.LnReferenceIdeal.Launch
public import proofs.«01_k».proof.Proof.Gen.LnReferenceIdeal.Points
public import proofs.«01_k».proof.Proof.Gen.LnReferenceIdeal.Frame
public import proofs.«01_k».proof.Proof.Gen.Gather
public import proofs.«01_k».proof.Proof.Gen.Gather.Skeleton
public import proofs.«01_k».proof.Proof.Gen.Gather.Launch
public import proofs.«01_k».proof.Proof.Gen.Gather.Points
public import proofs.«01_k».proof.Proof.Gen.Gather.Frame
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherIdeal.Frame
public import proofs.«01_k».proof.Proof.Gen.GatherReferenceIdeal
public import proofs.«01_k».proof.Proof.Gen.GatherReferenceIdeal.Skeleton
public import proofs.«01_k».proof.Proof.Gen.GatherReferenceIdeal.Launch
public import proofs.«01_k».proof.Proof.Gen.GatherReferenceIdeal.Points
public import proofs.«01_k».proof.Proof.Gen.GatherReferenceIdeal.Frame
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Ln.Gen.facts, Cert.LnIdeal.Gen.facts, Cert.LnReferenceIdeal.Gen.facts, Cert.Gather.Gen.facts, Cert.GatherIdeal.Gen.facts, Cert.GatherReferenceIdeal.Gen.facts, Cert.Pre_scales_nonneg.Gen.facts,
    fun m ρ _ => Cert.Kernel.Roll.frame m ρ,
    fun m ρ _ => Cert.KernelIdeal.Roll.frame m ρ,
    fun m ρ _ => Cert.KernelIdeal.Roll.frame m ρ,
    fun m ρ _ => Cert.ReferenceIdeal.Gen.frame m ρ,
    fun m ρ _ => Cert.ReferenceIdeal.Gen.frame m ρ,
    fun m ρ _ => Cert.Ln.Gen.frame m ρ,
    fun m ρ _ => Cert.LnIdeal.Gen.frame m ρ,
    fun m ρ _ => Cert.LnReferenceIdeal.Gen.frame m ρ,
    fun m ρ _ => Cert.Gather.Gen.frame m ρ,
    fun m ρ _ => Cert.GatherIdeal.Gen.frame m ρ,
    fun m ρ _ => Cert.GatherReferenceIdeal.Gen.frame m ρ,
    trivial, algebraic, trivial, algebraic_ln, trivial, algebraic_gather⟩

end Cert.Proof

end
